-- ==== Defs.lean ====
def Pre_Kernel [hPre_plan_ok : Cert.Pre_plan_ok.Facts] (m : (ℓ : Loc Cert.Kernel.nD Cert.Kernel.τ Cert.Kernel.sig) → Buf (Elt Bits) ℓ) : Prop :=
  ∀ c : Dev Cert.Kernel.nD,
    (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_plan_ok : Cert.Pre_plan_ok.Facts] (m : (ℓ : Loc Cert.KernelIdeal.nD Cert.KernelIdeal.τ Cert.KernelIdeal.sig) → Buf (Elt Ideal) ℓ) : Prop :=
  ∀ c : Dev Cert.KernelIdeal.nD,
    (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plan_ok [hPre_plan_ok : Cert.Pre_plan_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RoutingIdeal (m : (ℓ : Loc Cert.RoutingIdeal.nD Cert.RoutingIdeal.τ Cert.RoutingIdeal.sig) → Buf (Elt Ideal) ℓ) : Prop :=
  True

def Pre_RoutingIdeal_finite [hPre_finite : Cert.Pre_finite.Facts] (m : (ℓ : Loc Cert.RoutingIdeal.nD Cert.RoutingIdeal.τ Cert.RoutingIdeal.sig) → Buf (Elt Ideal) ℓ) : Prop :=
  ∀ c : Dev Cert.RoutingIdeal.nD,
    (Cert.Pre_finite.fn (F := Ideal) (m ((c.tc : Thread Cert.RoutingIdeal.nD Cert.RoutingIdeal.τ).loc Cert.RoutingIdeal.main_arg0)) (m ((c.tc : Thread Cert.RoutingIdeal.nD Cert.RoutingIdeal.τ).loc Cert.RoutingIdeal.main_arg1))) = (fun _ => 1#1)

def quiescent_Kernel [hKernel : Cert.Kernel.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_plan_ok [hReferenceIdeal : Cert.ReferenceIdeal.Facts] [hPre_plan_ok : Cert.Pre_plan_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plan_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RoutingIdeal [hRoutingIdeal : Cert.RoutingIdeal.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal m →
    θ_run (Cert.RoutingIdeal.defs (F := Ideal)) (onTc (τ := Cert.RoutingIdeal.τ) (Cert.RoutingIdeal.main (F := Ideal))) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1))
      ∧ r.2.sem = fun _ => 0)

def quiescent_RoutingIdeal_pre_finite [hRoutingIdeal : Cert.RoutingIdeal.Facts] [hPre_finite : Cert.Pre_finite.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal_finite m →
    θ_run (Cert.RoutingIdeal.defs (F := Ideal)) (onTc (τ := Cert.RoutingIdeal.τ) (Cert.RoutingIdeal.main (F := Ideal))) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Router_RouterIdeal : Prop :=
  True

def algebraic_RouterIdeal_RoutingIdeal_pre_finite [hRouterIdeal : Cert.RouterIdeal.Facts] [hRoutingIdeal : Cert.RoutingIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RoutingIdeal.nD Cert.RoutingIdeal.τ Cert.RoutingIdeal.sig) → Buf (Elt Ideal) ℓ) (g' : Dev Cert.RoutingIdeal.nD → PrngReg), Pre_RouterIdeal_finite m →
    (∀ c : Dev Cert.RouterIdeal.nD,
      m' ((c.tc : Thread Cert.RoutingIdeal.nD Cert.RoutingIdeal.τ).loc Cert.RoutingIdeal.main_arg0) = m ((c.tc : Thread Cert.RouterIdeal.nD Cert.RouterIdeal.τ).loc Cert.RouterIdeal.main_arg0)
      ∧ m' ((c.tc : Thread Cert.RoutingIdeal.nD Cert.RoutingIdeal.τ).loc Cert.RoutingIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RoutingIdeal.defs (F := Ideal)) (onTc (τ := Cert.RoutingIdeal.τ) (Cert.RoutingIdeal.main (F := Ideal))) ⟨m', fun _ => 0, g'⟩ (fun r => ∀ c : Dev Cert.RoutingIdeal.nD,
          r.2.mem ((c.tc : Thread Cert.RoutingIdeal.nD Cert.RoutingIdeal.τ).loc Cert.RoutingIdeal.main_v17) = v0 c
          ∧ r.2.mem ((c.tc : Thread Cert.RoutingIdeal.nD Cert.RoutingIdeal.τ).loc Cert.RoutingIdeal.main_indices) = v1 c
          ∧ r.2.mem ((c.tc : Thread Cert.RoutingIdeal.nD Cert.RoutingIdeal.τ).loc Cert.RoutingIdeal.main_arg0) = m' ((c.tc : Thread Cert.RoutingIdeal.nD Cert.RoutingIdeal.τ).loc Cert.RoutingIdeal.main_arg0)
          ∧ r.2.mem ((c.tc : Thread Cert.RoutingIdeal.nD Cert.RoutingIdeal.τ).loc Cert.RoutingIdeal.main_arg1) = m' ((c.tc : Thread Cert.RoutingIdeal.nD Cert.RoutingIdeal.τ).loc Cert.RoutingIdeal.main_arg1))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hRoutingIdeal : Cert.RoutingIdeal.Facts) (hPre_plan_ok : Cert.Pre_plan_ok.Facts) (hPre_finite : Cert.Pre_finite.Facts),
    quiescent_Kernel (hKernel := hKernel) (hPre_plan_ok := hPre_plan_ok)
    ∧ quiescent_KernelIdeal (hKernelIdeal := hKernelIdeal) (hPre_plan_ok := hPre_plan_ok)
    ∧ quiescent_ReferenceIdeal (hReferenceIdeal := hReferenceIdeal)
    ∧ quiescent_ReferenceIdeal_pre_plan_ok (hReferenceIdeal := hReferenceIdeal) (hPre_plan_ok := hPre_plan_ok)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RoutingIdeal (hRoutingIdeal := hRoutingIdeal)
    ∧ quiescent_RoutingIdeal_pre_finite (hRoutingIdeal := hRoutingIdeal) (hPre_finite := hPre_finite)
    ∧ preserves_Kernel_KernelIdeal
    ∧ algebraic_KernelIdeal_ReferenceIdeal (hKernelIdeal := hKernelIdeal) (hReferenceIdeal := hReferenceIdeal) (hPre_plan_ok := hPre_plan_ok)
    ∧ preserves_Router_RouterIdeal
    ∧ algebraic_RouterIdeal_RoutingIdeal_pre_finite (hRouterIdeal := hRouterIdeal) (hRoutingIdeal := hRoutingIdeal) (hPre_finite := hPre_finite)
-- ==== Pre_finite.lean ====
abbrev S2x2048x1024 : Shape := ⟨3, ![2, 2048, 1024]⟩
abbrev S8x1024 : Shape := ⟨2, ![8, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2x2048x1024 .f32) (main_arg1 : FVec F S8x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Pre_plan_ok.lean ====
abbrev S2x2048x1024 : Shape := ⟨3, ![2, 2048, 1024]⟩
abbrev S4096x2 : Shape := ⟨2, ![4096, 2]⟩
abbrev S1x40 : Shape := ⟨2, ![1, 40]⟩
abbrev S1x1 : Shape := ⟨2, ![1, 1]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S40 : Shape := ⟨1, ![40]⟩
abbrev S_ : Shape := ⟨0, ![]⟩
abbrev S8192x40 : Shape := ⟨2, ![8192, 40]⟩
abbrev S4096x1 : Shape := ⟨2, ![4096, 1]⟩
abbrev S4096 : Shape := ⟨1, ![4096]⟩

class Facts : Prop where
  shapeCasts_S4096x2_S8192 : S4096x2.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S40_S1x40_1 : S40.BroadcastsInDim S1x40 (![1] : Fin 1 → Fin S1x40.rank)
  bcast_S_S1x40 : S_.BroadcastsInDim S1x40 (![] : Fin 0 → Fin S1x40.rank)
  bcast_S1x40_S8192x40_0_1 : S1x40.BroadcastsInDim S8192x40 (![0, 1] : Fin 2 → Fin S8192x40.rank)
  bcast_S8192x1_S8192x40_0_1 : S8192x1.BroadcastsInDim S8192x40 (![0, 1] : Fin 2 → Fin S8192x40.rank)
  bcast_S1x1_S1x40_0_1 : S1x1.BroadcastsInDim S1x40 (![0, 1] : Fin 2 → Fin S1x40.rank)
  bcast_S_S8192 : S_.BroadcastsInDim S8192 (![] : Fin 0 → Fin S8192.rank)
  reducesTo_S8192_S_d0 : S8192.ReducesTo [0] S_
  h_S_ : 0 < S_.numel
  reducesTo_S8192x8192_S_d0_1 : S8192x8192.ReducesTo [0, 1] S_
  reducesTo_S1x40_S_d0_1 : S1x40.ReducesTo [0, 1] S_
  slices_S4096x2_S4096x1_0_0 : S4096x2.Slices ![0, 0] S4096x1
  shapeCasts_S4096x1_S4096 : S4096x1.ShapeCasts S4096
  slices_S4096x2_S4096x1_0_1 : S4096x2.Slices ![0, 1] S4096x1
  reducesTo_S4096_S_d0 : S4096.ReducesTo [0] S_
  bcast_S_S8192x40 : S_.BroadcastsInDim S8192x40 (![] : Fin 0 → Fin S8192x40.rank)
  reducesTo_S8192x40_S_d0_1 : S8192x40.ReducesTo [0, 1] S_

variable [Facts]

def fn_where {F : FTy → Type} [FloatOps F] (arg0 : IVec S8192x40 1) (arg1 : IVec S8192x40 1) (arg2 : IVec S_ 1) : IVec S8192x40 1 :=
  let v0 : IVec S8192x40 1 := broadcastInDim S8192x40 ![] bcast_S_S8192x40 arg2
  let v1 : IVec S8192x40 1 := select arg0 arg1 v0
  v1

def fn_part3 {F : FTy → Type} [FloatOps F] (main_v30 : IVec S8192x40 1) (main_v38 : IVec S8192x40 1) (main_v54 : IVec S_ 1) (main_v60 : IVec S_ 1) : IVec S_ 1 :=
  let main_v61 : IVec S_ 1 := andi main_v54 main_v60
  let main_c_10 : IVec S_ 1 := constantI S_ 1 1#1
  let main_v62 : IVec S8192x40 1 := fn_where (F := F) main_v30 main_v38 main_c_10
  let main_c_11 : IVec S_ 1 := constantI S_ 1 1#1
  let main_v63 : IVec S_ 1 := (fun x v => Host.reduce IntOp.andi x v reducesTo_S8192x40_S_d0_1 h_S_) main_v62 main_c_11
  let main_v64 : IVec S_ 1 := andi main_v61 main_v63
  main_v64

def fn_part2 {F : FTy → Type} [FloatOps F] (main_arg2 : IVec S4096x2 32) (main_arg4 : IVec S1x40 32) (main_v6 : IVec S8192x8192 1) (main_v13 : IVec S8192x8192 1) (main_v30 : IVec S8192x40 1) (main_v38 : IVec S8192x40 1) (main_v40 : IVec S8192 1) (main_v42 : IVec S8192 1) : IVec S_ 1 :=
  let main_v43 : IVec S8192 1 := andi main_v40 main_v42
  let main_c_4 : IVec S_ 1 := constantI S_ 1 1#1
  let main_v44 : IVec S_ 1 := (fun x v => Host.reduce IntOp.andi x v reducesTo_S8192_S_d0 h_S_) main_v43 main_c_4
  let main_v45 : IVec S8192x8192 1 := cmpi .eq main_v6 main_v13
  let main_c_5 : IVec S_ 1 := constantI S_ 1 1#1
  let main_v46 : IVec S_ 1 := (fun x v => Host.reduce IntOp.andi x v reducesTo_S8192x8192_S_d0_1 h_S_) main_v45 main_c_5
  let main_v47 : IVec S_ 1 := andi main_v44 main_v46
  let main_c_6 : IVec S_ 32 := constantI S_ 32 0#32
  let main_v48 : IVec S1x40 32 := broadcastInDim S1x40 ![] bcast_S_S1x40 main_c_6
  let main_v49 : IVec S1x40 1 := cmpi .sge main_arg4 main_v48
  let main_c_7 : IVec S_ 32 := constantI S_ 32 8#32
  let main_v50 : IVec S1x40 32 := broadcastInDim S1x40 ![] bcast_S_S1x40 main_c_7
  let main_v51 : IVec S1x40 1 := cmpi .slt main_arg4 main_v50
  let main_v52 : IVec S1x40 1 := andi main_v49 main_v51
  let main_c_8 : IVec S_ 1 := constantI S_ 1 1#1
  let main_v53 : IVec S_ 1 := (fun x v => Host.reduce IntOp.andi x v reducesTo_S1x40_S_d0_1 h_S_) main_v52 main_c_8
  let main_v54 : IVec S_ 1 := andi main_v47 main_v53
  let main_v55 : IVec S4096x1 32 := (extractStridedSlice S4096x1 ![0, 0] · slices_S4096x2_S4096x1_0_0) main_arg2
  let main_v56 : IVec S4096 32 := shapeCast S4096 main_v55 shapeCasts_S4096x1_S4096
  let main_v57 : IVec S4096x1 32 := (extractStridedSlice S4096x1 ![0, 1] · slices_S4096x2_S4096x1_0_1) main_arg2
  let main_v58 : IVec S4096 32 := shapeCast S4096 main_v57 shapeCasts_S4096x1_S4096
  let main_v59 : IVec S4096 1 := cmpi .ne main_v56 main_v58
  let main_c_9 : IVec S_ 1 := constantI S_ 1 1#1
  let main_v60 : IVec S_ 1 := (fun x v => Host.reduce IntOp.andi x v reducesTo_S4096_S_d0 h_S_) main_v59 main_c_9
  fn_part3 (F := F) main_v30 main_v38 main_v54 main_v60

def fn_part1 {F : FTy → Type} [FloatOps F] (main_arg2 : IVec S4096x2 32) (main_arg4 : IVec S1x40 32) (main_arg5 : IVec S1x1 32) (main_v0 : IVec S8192 32) (main_v1 : IVec S8192 32) (main_v6 : IVec S8192x8192 1) (main_v13 : IVec S8192x8192 1) (main_v15 : IVec S1x40 32) (main_v21 : IVec S8192x40 1) (main_v22 : IVec S8192x1 32) : IVec S_ 1 :=
  let main_c_0 : IVec S_ 32 := constantI S_ 32 256#32
  let main_v23 : IVec S1x40 32 := broadcastInDim S1x40 ![] bcast_S_S1x40 main_c_0
  let main_v24 : IVec S1x40 32 := muli main_v15 main_v23
  let main_c_1 : IVec S_ 32 := constantI S_ 32 256#32
  let main_v25 : IVec S1x40 32 := broadcastInDim S1x40 ![] bcast_S_S1x40 main_c_1
  let main_v26 : IVec S1x40 32 := addi main_v24 main_v25
  let main_v27 : IVec S8192x40 32 := broadcastInDim S8192x40 ![0, 1] bcast_S8192x1_S8192x40_0_1 main_v22
  let main_v28 : IVec S8192x40 32 := broadcastInDim S8192x40 ![0, 1] bcast_S1x40_S8192x40_0_1 main_v26
  let main_v29 : IVec S8192x40 1 := cmpi .slt main_v27 main_v28
  let main_v30 : IVec S8192x40 1 := andi main_v21 main_v29
  let main_v31 : IVec S8192x1 32 := broadcastInDim S8192x1 ![0] bcast_S8192_S8192x1_0 main_v1
  let main_v32 : IVec S8192x40 32 := broadcastInDim S8192x40 ![0, 1] bcast_S1x40_S8192x40_0_1 main_arg4
  let main_v33 : IVec S8192x40 32 := broadcastInDim S8192x40 ![0, 1] bcast_S8192x1_S8192x40_0_1 main_v31
  let main_v34 : IVec S8192x40 1 := cmpi .eq main_v32 main_v33
  let main_v35 : IVec S1x40 32 := broadcastInDim S1x40 ![0, 1] bcast_S1x1_S1x40_0_1 main_arg5
  let main_v36 : IVec S1x40 1 := cmpi .slt main_v15 main_v35
  let main_v37 : IVec S8192x40 1 := broadcastInDim S8192x40 ![0, 1] bcast_S1x40_S8192x40_0_1 main_v36
  let main_v38 : IVec S8192x40 1 := andi main_v34 main_v37
  let main_c_2 : IVec S_ 32 := constantI S_ 32 0#32
  let main_v39 : IVec S8192 32 := broadcastInDim S8192 ![] bcast_S_S8192 main_c_2
  let main_v40 : IVec S8192 1 := cmpi .sge main_v0 main_v39
  let main_c_3 : IVec S_ 32 := constantI S_ 32 10240#32
  let main_v41 : IVec S8192 32 := broadcastInDim S8192 ![] bcast_S_S8192 main_c_3
  let main_v42 : IVec S8192 1 := cmpi .slt main_v0 main_v41
  fn_part2 (F := F) main_arg2 main_arg4 main_v6 main_v13 main_v30 main_v38 main_v40 main_v42

def fn {F : FTy → Type} [FloatOps F] (main_arg0 : FVec F S2x2048x1024 .f32) (main_arg1 : FVec F S4096x2 .f32) (main_arg2 : IVec S4096x2 32) (main_arg3 : IVec S4096x2 32) (main_arg4 : IVec S1x40 32) (main_arg5 : IVec S1x1 32) (main_arg6 : FVec F S8x4096x1024 .f32) (main_arg7 : FVec F S8x4096 .f32) (main_arg8 : FVec F S8x1024x4096 .f32) (main_arg9 : FVec F S8x1024 .f32) : IVec S_ 1 :=
  let main_v0 : IVec S8192 32 := shapeCast S8192 main_arg3 shapeCasts_S4096x2_S8192
  let main_v1 : IVec S8192 32 := shapeCast S8192 main_arg2 shapeCasts_S4096x2_S8192
  let main_v2 : IVec S8192x1 32 := broadcastInDim S8192x1 ![0] bcast_S8192_S8192x1_0 main_v0
  let main_v3 : IVec S1x8192 32 := broadcastInDim S1x8192 ![1] bcast_S8192_S1x8192_1 main_v0
  let main_v4 : IVec S8192x8192 32 := broadcastInDim S8192x8192 ![0, 1] bcast_S8192x1_S8192x8192_0_1 main_v2
  let main_v5 : IVec S8192x8192 32 := broadcastInDim S8192x8192 ![0, 1] bcast_S1x8192_S8192x8192_0_1 main_v3
  let main_v6 : IVec S8192x8192 1 := cmpi .eq main_v4 main_v5
  let main_v7 : IVec S8192 32 := iotaInDim S8192 32 0
  let main_v8 : IVec S8192x1 32 := broadcastInDim S8192x1 ![0] bcast_S8192_S8192x1_0 main_v7
  let main_v9 : IVec S8192 32 := iotaInDim S8192 32 0
  let main_v10 : IVec S1x8192 32 := broadcastInDim S1x8192 ![1] bcast_S8192_S1x8192_1 main_v9
  let main_v11 : IVec S8192x8192 32 := broadcastInDim S8192x8192 ![0, 1] bcast_S8192x1_S8192x8192_0_1 main_v8
  let main_v12 : IVec S8192x8192 32 := broadcastInDim S8192x8192 ![0, 1] bcast_S1x8192_S8192x8192_0_1 main_v10
  let main_v13 : IVec S8192x8192 1 := cmpi .eq main_v11 main_v12
  let main_v14 : IVec S40 32 := iotaInDim S40 32 0
  let main_v15 : IVec S1x40 32 := broadcastInDim S1x40 ![1] bcast_S40_S1x40_1 main_v14
  let main_c : IVec S_ 32 := constantI S_ 32 256#32
  let main_v16 : IVec S1x40 32 := broadcastInDim S1x40 ![] bcast_S_S1x40 main_c
  let main_v17 : IVec S1x40 32 := muli main_v15 main_v16
  let main_v18 : IVec S8192x1 32 := broadcastInDim S8192x1 ![0] bcast_S8192_S8192x1_0 main_v0
  let main_v19 : IVec S8192x40 32 := broadcastInDim S8192x40 ![0, 1] bcast_S1x40_S8192x40_0_1 main_v17
  let main_v20 : IVec S8192x40 32 := broadcastInDim S8192x40 ![0, 1] bcast_S8192x1_S8192x40_0_1 main_v18
  let main_v21 : IVec S8192x40 1 := cmpi .sle main_v19 main_v20
  let main_v22 : IVec S8192x1 32 := broadcastInDim S8192x1 ![0] bcast_S8192_S8192x1_0 main_v0
  fn_part1 (F := F) main_arg2 main_arg4 main_arg5 main_v0 main_v1 main_v6 main_v13 main_v15 main_v21 main_v22
-- ==== Kernel.lean ====
abbrev S2x2048x1024 : Shape := ⟨3, ![2, 2048, 1024]⟩
abbrev S4096x2 : Shape := ⟨2, ![4096, 2]⟩
abbrev S1x40 : Shape := ⟨2, ![1, 40]⟩
abbrev S1x1 : Shape := ⟨2, ![1, 1]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S4096x1024 : Shape := ⟨2, ![4096, 1024]⟩
abbrev S2x4096 : Shape := ⟨2, ![2, 4096]⟩
abbrev S4096x8x128 : Shape := ⟨3, ![4096, 8, 128]⟩
abbrev S10240x8x128 : Shape := ⟨3, ![10240, 8, 128]⟩
abbrev S2x128x2x128 : Shape := ⟨4, ![2, 128, 2, 128]⟩
abbrev S2 : Shape := ⟨1, ![2]⟩
abbrev S2x1x128 : Shape := ⟨3, ![2, 1, 128]⟩
abbrev S1x128x2x128 : Shape := ⟨4, ![1, 128, 2, 128]⟩
abbrev S128x2x128 : Shape := ⟨3, ![128, 2, 128]⟩
abbrev S1 : Shape := ⟨1, ![1]⟩
abbrev S_ : Shape := ⟨0, ![]⟩
abbrev S1x1x128 : Shape := ⟨3, ![1, 1, 128]⟩
abbrev S1x128 : Shape := ⟨2, ![1, 128]⟩
abbrev S128 : Shape := ⟨1, ![128]⟩
abbrev S10240x2x128 : Shape := ⟨3, ![10240, 2, 128]⟩
abbrev S10240x1024 : Shape := ⟨2, ![10240, 1024]⟩
abbrev S8x1x4096 : Shape := ⟨3, ![8, 1, 4096]⟩
abbrev S8x1x1024 : Shape := ⟨3, ![8, 1, 1024]⟩
abbrev S40 : Shape := ⟨1, ![40]⟩
abbrev S256x1024 : Shape := ⟨2, ![256, 1024]⟩
abbrev S1x4096x1024 : Shape := ⟨3, ![1, 4096, 1024]⟩
abbrev S1x1x4096 : Shape := ⟨3, ![1, 1, 4096]⟩
abbrev S1x1024x4096 : Shape := ⟨3, ![1, 1024, 4096]⟩
abbrev S1x1x1024 : Shape := ⟨3, ![1, 1, 1024]⟩
abbrev S1x512x1024 : Shape := ⟨3, ![1, 512, 1024]⟩
abbrev S512x1024 : Shape := ⟨2, ![512, 1024]⟩
abbrev S256x512 : Shape := ⟨2, ![256, 512]⟩
abbrev S1x1x512 : Shape := ⟨3, ![1, 1, 512]⟩
abbrev S512 : Shape := ⟨1, ![512]⟩
abbrev S1x512 : Shape := ⟨2, ![1, 512]⟩
abbrev S1x1024x512 : Shape := ⟨3, ![1, 1024, 512]⟩
abbrev S1024x512 : Shape := ⟨2, ![1024, 512]⟩
abbrev S1x1024 : Shape := ⟨2, ![1, 1024]⟩
abbrev S8192x8x128 : Shape := ⟨3, ![8192, 8, 128]⟩
abbrev S8192x1024 : Shape := ⟨2, ![8192, 1024]⟩
abbrev S1024x1024 : Shape := ⟨2, ![1024, 1024]⟩
abbrev S1024x2 : Shape := ⟨2, ![1024, 2]⟩
abbrev S1024x1 : Shape := ⟨2, ![1024, 1]⟩

abbrev nBuf : Table → Nat
  | .hbm => 25
  | .local .tc .vmem => 20
  | .local .tc .smem => 2
  | .local .scVector .vmem => 4
  | _ => 0

abbrev bufTy : (tb : Table) → Fin (nBuf tb) → BufTy
  | .hbm, ⟨0, _⟩ => ⟨S2x2048x1024, .f32⟩
  | .hbm, ⟨1, _⟩ => ⟨S4096x2, .f32⟩
  | .hbm, ⟨2, _⟩ => ⟨S4096x2, .i32⟩
  | .hbm, ⟨3, _⟩ => ⟨S4096x2, .i32⟩
  | .hbm, ⟨4, _⟩ => ⟨S1x40, .i32⟩
  | .hbm, ⟨5, _⟩ => ⟨S1x1, .i32⟩
  | .hbm, ⟨6, _⟩ => ⟨S8x4096x1024, .f32⟩
  | .hbm, ⟨7, _⟩ => ⟨S8x4096, .f32⟩
  | .hbm, ⟨8, _⟩ => ⟨S8x1024x4096, .f32⟩
  | .hbm, ⟨9, _⟩ => ⟨S8x1024, .f32⟩
  | .hbm, ⟨10, _⟩ => ⟨S4096x1024, .f32⟩
  | .hbm, ⟨11, _⟩ => ⟨S2x4096, .i32⟩
  | .hbm, ⟨12, _⟩ => ⟨S4096x8x128, .f32⟩
  | .hbm, ⟨13, _⟩ => ⟨S10240x8x128, .f32⟩
  | .hbm, ⟨14, _⟩ => ⟨S10240x1024, .f32⟩
  | .hbm, ⟨15, _⟩ => ⟨S8x4096x1024, .bf16⟩
  | .hbm, ⟨16, _⟩ => ⟨S8x1024x4096, .bf16⟩
  | .hbm, ⟨17, _⟩ => ⟨S8x1x4096, .f32⟩
  | .hbm, ⟨18, _⟩ => ⟨S8x1x1024, .f32⟩
  | .hbm, ⟨19, _⟩ => ⟨S10240x1024, .f32⟩
  | .hbm, ⟨20, _⟩ => ⟨S10240x8x128, .f32⟩
  | .hbm, ⟨21, _⟩ => ⟨S8192x8x128, .f32⟩
  | .hbm, ⟨22, _⟩ => ⟨S8192x1024, .f32⟩
  | .hbm, ⟨23, _⟩ => ⟨S4096x1024, .f32⟩
  | .hbm, ⟨24, _⟩ => ⟨S2x2048x1024, .f32⟩
  | .local .tc .vmem, ⟨0, _⟩ => ⟨S256x1024, .f32⟩
  | .local .tc .vmem, ⟨1, _⟩ => ⟨S256x1024, .f32⟩
  | .local .tc .vmem, ⟨2, _⟩ => ⟨S1x4096x1024, .bf16⟩
  | .local .tc .vmem, ⟨3, _⟩ => ⟨S1x4096x1024, .bf16⟩
  | .local .tc .vmem, ⟨4, _⟩ => ⟨S1x1x4096, .f32⟩
  | .local .tc .vmem, ⟨5, _⟩ => ⟨S1x1x4096, .f32⟩
  | .local .tc .vmem, ⟨6, _⟩ => ⟨S1x1024x4096, .bf16⟩
  | .local .tc .vmem, ⟨7, _⟩ => ⟨S1x1024x4096, .bf16⟩
  | .local .tc .vmem, ⟨8, _⟩ => ⟨S1x1x1024, .f32⟩
  | .local .tc .vmem, ⟨9, _⟩ => ⟨S1x1x1024, .f32⟩
  | .local .tc .vmem, ⟨10, _⟩ => ⟨S256x1024, .f32⟩
  | .local .tc .vmem, ⟨11, _⟩ => ⟨S256x1024, .f32⟩
  | .local .tc .vmem, ⟨12, _⟩ => ⟨S1024x1024, .f32⟩
  | .local .tc .vmem, ⟨13, _⟩ => ⟨S1024x1024, .f32⟩
  | .local .tc .vmem, ⟨14, _⟩ => ⟨S1024x1024, .f32⟩
  | .local .tc .vmem, ⟨15, _⟩ => ⟨S1024x1024, .f32⟩
  | .local .tc .vmem, ⟨16, _⟩ => ⟨S1024x2, .f32⟩
  | .local .tc .vmem, ⟨17, _⟩ => ⟨S1024x2, .f32⟩
  | .local .tc .vmem, ⟨18, _⟩ => ⟨S1024x1024, .f32⟩
  | .local .tc .vmem, ⟨19, _⟩ => ⟨S1024x1024, .f32⟩
  | .local .tc .smem, ⟨0, _⟩ => ⟨S40, .i32⟩
  | .local .tc .smem, ⟨1, _⟩ => ⟨S1, .i32⟩
  | .local .scVector .vmem, ⟨0, _⟩ => ⟨S2x128x2x128, .f32⟩
  | .local .scVector .vmem, ⟨1, _⟩ => ⟨S2x1x128, .i32⟩
  | .local .scVector .vmem, ⟨2, _⟩ => ⟨S2x1x128, .i32⟩
  | .local .scVector .vmem, ⟨3, _⟩ => ⟨S2x128x2x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v9 : Ref sig .tc := ⟨.smem, 0, rfl⟩
abbrev main_v10 : Ref sig .tc := ⟨.smem, 1, rfl⟩
abbrev main_v2_scv : Ref sig .scVector := ⟨.hbm, 12, rfl⟩
abbrev main_v1_scv : Ref sig .scVector := ⟨.hbm, 11, rfl⟩
abbrev main_v3_scv : Ref sig .scVector := ⟨.hbm, 13, rfl⟩
abbrev main_v12_scv : Ref sig .scVector := ⟨.hbm, 20, rfl⟩
abbrev main_v13_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 4 → Nat :=
  let c0_i32_44_r0 : BitVec 32 := 0#32
  let c2_i32_45_r0 : BitVec 32 := 2#32
  let v46_r0 : BitVec 32 := Scalar.remui c0_i32_44_r0 c2_i32_45_r0
  let c0_i32_46_r0 : BitVec 32 := 0#32
  let c0_i32_47_r0 : BitVec 32 := 0#32
  let c0_i32_48_r0 : BitVec 32 := 0#32
  ![v46_r0.toNat, 0, 0, 0]
def k0_off2 (i : grid0.Coords) : Fin 3 → Nat :=
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v47_r0 : BitVec 32 := Scalar.muli c128_i32_r0 v7_r0
  let c0_i32_49_r0 : BitVec 32 := 0#32
  let c0_i32_50_r0 : BitVec 32 := 0#32
  ![v47_r0.toNat, 0, 0]
def k0_off3 : Fin 1 → Nat :=
  let c0_i32_44_r0 : BitVec 32 := 0#32
  let c2_i32_45_r0 : BitVec 32 := 2#32
  let v46_r0 : BitVec 32 := Scalar.remui c0_i32_44_r0 c2_i32_45_r0
  ![v46_r0.toNat]
def k0_off4 : Fin 3 → Nat :=
  let c0_i32_58_r0 : BitVec 32 := 0#32
  let c2_i32_59_r0 : BitVec 32 := 2#32
  let v57_r0 : BitVec 32 := Scalar.remui c0_i32_58_r0 c2_i32_59_r0
  let c0_i32_61_r0 : BitVec 32 := 0#32
  let c0_i32_62_r0 : BitVec 32 := 0#32
  ![v57_r0.toNat, 0, 0]
def k0_off5 (i : grid0.Coords) : Fin 2 → Nat :=
  let c0_i32_63_r0 : BitVec 32 := 0#32
  let c128_i32_60_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v58_r0 : BitVec 32 := Scalar.muli c128_i32_60_r0 v7_r0
  ![0, v58_r0.toNat]
@[reducible] def k0_t1_loop : Scf.Loop 32 :=
  let c0_i32_74_r0 : BitVec 32 := 0#32
  let c8_i32_r0 : BitVec 32 := 8#32
  let v68_r0 : BitVec 32 := Scalar.addi c0_i32_74_r0 c8_i32_r0
  let c1_i32_75_r0 : BitVec 32 := 1#32
  ⟨c0_i32_74_r0, v68_r0, c1_i32_75_r0⟩
def k0_off6 (arg6_r0 : BitVec 32) : Fin 4 → Nat :=
  let c2_i32_221_r0 : BitVec 32 := 2#32
  let v270_r0 : BitVec 32 := Scalar.remui arg6_r0 c2_i32_221_r0
  let c0_i32_224_r0 : BitVec 32 := 0#32
  let c0_i32_225_r0 : BitVec 32 := 0#32
  let c0_i32_226_r0 : BitVec 32 := 0#32
  ![v270_r0.toNat, 0, 0, 0]
def k0_cond1 (i : grid0.Coords) (k0_t1 : Fin k0_t1_loop.trips) (arg12_r0 : BitVec 32) : BitVec 1 :=
  let c0_i32_134_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v130_r0 : BitVec 32 := Scalar.addi c0_i32_134_r0 v4
  let c0_i32_162_r0 : BitVec 32 := 0#32
  let v158_r0 : BitVec 32 := Scalar.addi c0_i32_162_r0 v4
  let v174_r0 : BitVec 1 := Scalar.cmpi .ne v130_r0 v158_r0
  let c0_i32_135_r0 : BitVec 32 := 0#32
  let v131_r0 : BitVec 32 := Scalar.addi arg12_r0 c0_i32_135_r0
  let true_151_r0 : BitVec 1 := 1#1
  let c1_i32_150_r0 : BitVec 32 := 1#32
  let v146_r0 : BitVec 32 := Scalar.addi arg12_r0 c1_i32_150_r0
  let v147_r0 : BitVec 32 := Scalar.select true_151_r0 v146_r0 arg12_r0
  let c4_i32_152_r0 : BitVec 32 := 4#32
  let v148_r0 : BitVec 1 := Scalar.cmpi .eq v147_r0 c4_i32_152_r0
  let c0_i32_153_r0 : BitVec 32 := 0#32
  let v149_r0 : BitVec 32 := Scalar.select v148_r0 c0_i32_153_r0 v147_r0
  let c0_i32_163_r0 : BitVec 32 := 0#32
  let v159_r0 : BitVec 32 := Scalar.addi v149_r0 c0_i32_163_r0
  let v175_r0 : BitVec 1 := Scalar.cmpi .ne v131_r0 v159_r0
  let v176_r0 : BitVec 1 := Scalar.ori v174_r0 v175_r0
  let c0_i32_74_r0 : BitVec 32 := 0#32
  let c1_i32_75_r0 : BitVec 32 := 1#32
  let arg5_r0 : BitVec 32 := Scf.iv c0_i32_74_r0 c1_i32_75_r0 k0_t1
  let c7_i32_178_r0 : BitVec 32 := 7#32
  let v177_r0 : BitVec 1 := Scalar.cmpi .sge arg5_r0 c7_i32_178_r0
  let true_179_r0 : BitVec 1 := 1#1
  let v178_r0 : BitVec 1 := Scalar.xori v177_r0 true_179_r0
  let v179_r0 : BitVec 1 := Scalar.andi v176_r0 v178_r0
  let true_180_r0 : BitVec 1 := 1#1
  let v180_r0 : BitVec 1 := Scalar.andi v179_r0 true_180_r0
  let v181_r0 : BitVec 32 := Scalar.extui v180_r0
  let c0_i32_181_r0 : BitVec 32 := 0#32
  let v182_r0 : BitVec 1 := Scalar.cmpi .ne v181_r0 c0_i32_181_r0
  v182_r0

def k0_off7 (i : grid0.Coords) (arg12_r0 : BitVec 32) : Fin 3 → Nat :=
  let c128_i32_222_r0 : BitVec 32 := 128#32
  let c0_i32_162_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v158_r0 : BitVec 32 := Scalar.addi c0_i32_162_r0 v4
  let v271_r0 : BitVec 32 := Scalar.muli c128_i32_222_r0 v158_r0
  let c2_i32_223_r0 : BitVec 32 := 2#32
  let true_151_r0 : BitVec 1 := 1#1
  let c1_i32_150_r0 : BitVec 32 := 1#32
  let v146_r0 : BitVec 32 := Scalar.addi arg12_r0 c1_i32_150_r0
  let v147_r0 : BitVec 32 := Scalar.select true_151_r0 v146_r0 arg12_r0
  let c4_i32_152_r0 : BitVec 32 := 4#32
  let v148_r0 : BitVec 1 := Scalar.cmpi .eq v147_r0 c4_i32_152_r0
  let c0_i32_153_r0 : BitVec 32 := 0#32
  let v149_r0 : BitVec 32 := Scalar.select v148_r0 c0_i32_153_r0 v147_r0
  let c0_i32_163_r0 : BitVec 32 := 0#32
  let v159_r0 : BitVec 32 := Scalar.addi v149_r0 c0_i32_163_r0
  let v272_r0 : BitVec 32 := Scalar.muli c2_i32_223_r0 v159_r0
  let c0_i32_227_r0 : BitVec 32 := 0#32
  ![v271_r0.toNat, v272_r0.toNat, 0]
def k0_off8 (arg6_r0 : BitVec 32) : Fin 1 → Nat :=
  let c2_i32_221_r0 : BitVec 32 := 2#32
  let v270_r0 : BitVec 32 := Scalar.remui arg6_r0 c2_i32_221_r0
  ![v270_r0.toNat]
def k0_off9 (arg8_r0 : BitVec 32) : Fin 3 → Nat :=
  let c2_i32_221_r0 : BitVec 32 := 2#32
  let v270_r0 : BitVec 32 := Scalar.remui arg8_r0 c2_i32_221_r0
  let c0_i32_224_r0 : BitVec 32 := 0#32
  let c0_i32_225_r0 : BitVec 32 := 0#32
  ![v270_r0.toNat, 0, 0]
def k0_cond2 (i : grid0.Coords) (k0_t1 : Fin k0_t1_loop.trips) (arg10_r0 : BitVec 32) (arg12_r0 : BitVec 32) : BitVec 1 :=
  let c0_i32_133_r0 : BitVec 32 := 0#32
  let v129_r0 : BitVec 32 := Scalar.addi arg10_r0 c0_i32_133_r0
  let true_151_r0 : BitVec 1 := 1#1
  let c1_i32_150_r0 : BitVec 32 := 1#32
  let v146_r0 : BitVec 32 := Scalar.addi arg12_r0 c1_i32_150_r0
  let v147_r0 : BitVec 32 := Scalar.select true_151_r0 v146_r0 arg12_r0
  let c4_i32_152_r0 : BitVec 32 := 4#32
  let v148_r0 : BitVec 1 := Scalar.cmpi .eq v147_r0 c4_i32_152_r0
  let c1_i32_155_r0 : BitVec 32 := 1#32
  let c0_i32_154_r0 : BitVec 32 := 0#32
  let v150_r0 : BitVec 32 := Scalar.select v148_r0 c1_i32_155_r0 c0_i32_154_r0
  let c1_i32_156_r0 : BitVec 32 := 1#32
  let v151_r0 : BitVec 1 := Scalar.cmpi .eq v150_r0 c1_i32_156_r0
  let c1_i32_158_r0 : BitVec 32 := 1#32
  let v153_r0 : BitVec 32 := Scalar.addi arg10_r0 c1_i32_158_r0
  let v154_r0 : BitVec 32 := Scalar.select v151_r0 v153_r0 arg10_r0
  let c2_i32_159_r0 : BitVec 32 := 2#32
  let v155_r0 : BitVec 1 := Scalar.cmpi .eq v154_r0 c2_i32_159_r0
  let c0_i32_160_r0 : BitVec 32 := 0#32
  let v156_r0 : BitVec 32 := Scalar.select v155_r0 c0_i32_160_r0 v154_r0
  let c0_i32_161_r0 : BitVec 32 := 0#32
  let v157_r0 : BitVec 32 := Scalar.addi v156_r0 c0_i32_161_r0
  let v186_r0 : BitVec 1 := Scalar.cmpi .ne v129_r0 v157_r0
  let c0_i32_134_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v130_r0 : BitVec 32 := Scalar.addi c0_i32_134_r0 v4
  let c0_i32_162_r0 : BitVec 32 := 0#32
  let v158_r0 : BitVec 32 := Scalar.addi c0_i32_162_r0 v4
  let v187_r0 : BitVec 1 := Scalar.cmpi .ne v130_r0 v158_r0
  let v188_r0 : BitVec 1 := Scalar.ori v186_r0 v187_r0
  let c0_i32_74_r0 : BitVec 32 := 0#32
  let c1_i32_75_r0 : BitVec 32 := 1#32
  let arg5_r0 : BitVec 32 := Scf.iv c0_i32_74_r0 c1_i32_75_r0 k0_t1
  let c7_i32_184_r0 : BitVec 32 := 7#32
  let v189_r0 : BitVec 1 := Scalar.cmpi .sge arg5_r0 c7_i32_184_r0
  let true_185_r0 : BitVec 1 := 1#1
  let v190_r0 : BitVec 1 := Scalar.xori v189_r0 true_185_r0
  let v191_r0 : BitVec 1 := Scalar.andi v188_r0 v190_r0
  let true_186_r0 : BitVec 1 := 1#1
  let v192_r0 : BitVec 1 := Scalar.andi v191_r0 true_186_r0
  let v193_r0 : BitVec 32 := Scalar.extui v192_r0
  let c0_i32_187_r0 : BitVec 32 := 0#32
  let v194_r0 : BitVec 1 := Scalar.cmpi .ne v193_r0 c0_i32_187_r0
  v194_r0

def k0_off10 (i : grid0.Coords) (arg10_r0 : BitVec 32) (arg12_r0 : BitVec 32) : Fin 2 → Nat :=
  let c1_i32_222_r0 : BitVec 32 := 1#32
  let true_151_r0 : BitVec 1 := 1#1
  let c1_i32_150_r0 : BitVec 32 := 1#32
  let v146_r0 : BitVec 32 := Scalar.addi arg12_r0 c1_i32_150_r0
  let v147_r0 : BitVec 32 := Scalar.select true_151_r0 v146_r0 arg12_r0
  let c4_i32_152_r0 : BitVec 32 := 4#32
  let v148_r0 : BitVec 1 := Scalar.cmpi .eq v147_r0 c4_i32_152_r0
  let c1_i32_155_r0 : BitVec 32 := 1#32
  let c0_i32_154_r0 : BitVec 32 := 0#32
  let v150_r0 : BitVec 32 := Scalar.select v148_r0 c1_i32_155_r0 c0_i32_154_r0
  let c1_i32_156_r0 : BitVec 32 := 1#32
  let v151_r0 : BitVec 1 := Scalar.cmpi .eq v150_r0 c1_i32_156_r0
  let c1_i32_158_r0 : BitVec 32 := 1#32
  let v153_r0 : BitVec 32 := Scalar.addi arg10_r0 c1_i32_158_r0
  let v154_r0 : BitVec 32 := Scalar.select v151_r0 v153_r0 arg10_r0
  let c2_i32_159_r0 : BitVec 32 := 2#32
  let v155_r0 : BitVec 1 := Scalar.cmpi .eq v154_r0 c2_i32_159_r0
  let c0_i32_160_r0 : BitVec 32 := 0#32
  let v156_r0 : BitVec 32 := Scalar.select v155_r0 c0_i32_160_r0 v154_r0
  let c0_i32_161_r0 : BitVec 32 := 0#32
  let v157_r0 : BitVec 32 := Scalar.addi v156_r0 c0_i32_161_r0
  let v271_r0 : BitVec 32 := Scalar.muli c1_i32_222_r0 v157_r0
  let c128_i32_223_r0 : BitVec 32 := 128#32
  let c0_i32_162_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v158_r0 : BitVec 32 := Scalar.addi c0_i32_162_r0 v4
  let v272_r0 : BitVec 32 := Scalar.muli c128_i32_223_r0 v158_r0
  ![v271_r0.toNat, v272_r0.toNat]
def k0_off11 (arg8_r0 : BitVec 32) : Fin 1 → Nat :=
  let c2_i32_221_r0 : BitVec 32 := 2#32
  let v270_r0 : BitVec 32 := Scalar.remui arg8_r0 c2_i32_221_r0
  ![v270_r0.toNat]
def k0_off12 (arg7_r0 : BitVec 32) : Fin 4 → Nat :=
  let c2_i32_223_r0 : BitVec 32 := 2#32
  let v272_r0 : BitVec 32 := Scalar.remui arg7_r0 c2_i32_223_r0
  let c0_i32_224_r0 : BitVec 32 := 0#32
  let c0_i32_225_r0 : BitVec 32 := 0#32
  let c0_i32_226_r0 : BitVec 32 := 0#32
  ![v272_r0.toNat, 0, 0, 0]
def k0_cond3 (i : grid0.Coords) (k0_t1 : Fin k0_t1_loop.trips) (arg12_r0 : BitVec 32) : BitVec 1 :=
  let c0_i32_134_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v130_r0 : BitVec 32 := Scalar.addi c0_i32_134_r0 v4
  let c0_i32_148_r0 : BitVec 32 := 0#32
  let v144_r0 : BitVec 32 := Scalar.addi c0_i32_148_r0 v4
  let v198_r0 : BitVec 1 := Scalar.cmpi .ne v130_r0 v144_r0
  let c0_i32_135_r0 : BitVec 32 := 0#32
  let v131_r0 : BitVec 32 := Scalar.addi arg12_r0 c0_i32_135_r0
  let true_137_r0 : BitVec 1 := 1#1
  let c1_i32_136_r0 : BitVec 32 := 1#32
  let v132_r0 : BitVec 32 := Scalar.subi arg12_r0 c1_i32_136_r0
  let v133_r0 : BitVec 32 := Scalar.select true_137_r0 v132_r0 arg12_r0
  let c_m1_i32_138_r0 : BitVec 32 := 4294967295#32
  let v134_r0 : BitVec 1 := Scalar.cmpi .eq v133_r0 c_m1_i32_138_r0
  let c3_i32_139_r0 : BitVec 32 := 3#32
  let v135_r0 : BitVec 32 := Scalar.select v134_r0 c3_i32_139_r0 v133_r0
  let c0_i32_149_r0 : BitVec 32 := 0#32
  let v145_r0 : BitVec 32 := Scalar.addi v135_r0 c0_i32_149_r0
  let v199_r0 : BitVec 1 := Scalar.cmpi .ne v131_r0 v145_r0
  let v200_r0 : BitVec 1 := Scalar.ori v198_r0 v199_r0
  let c0_i32_74_r0 : BitVec 32 := 0#32
  let c1_i32_75_r0 : BitVec 32 := 1#32
  let arg5_r0 : BitVec 32 := Scf.iv c0_i32_74_r0 c1_i32_75_r0 k0_t1
  let c0_i32_132_r0 : BitVec 32 := 0#32
  let v127_r0 : BitVec 1 := Scalar.cmpi .eq arg5_r0 c0_i32_132_r0
  let v201_r0 : BitVec 1 := Scalar.ori v200_r0 v127_r0
  let c0_i32_190_r0 : BitVec 32 := 0#32
  let v202_r0 : BitVec 1 := Scalar.cmpi .sge arg5_r0 c0_i32_190_r0
  let v203_r0 : BitVec 1 := Scalar.andi v201_r0 v202_r0
  let v204_r0 : BitVec 32 := Scalar.extui v203_r0
  let c0_i32_191_r0 : BitVec 32 := 0#32
  let v205_r0 : BitVec 1 := Scalar.cmpi .ne v204_r0 c0_i32_191_r0
  v205_r0

def k0_off13 (i : grid0.Coords) (arg12_r0 : BitVec 32) : Fin 3 → Nat :=
  let c128_i32_221_r0 : BitVec 32 := 128#32
  let c0_i32_134_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v130_r0 : BitVec 32 := Scalar.addi c0_i32_134_r0 v4
  let v270_r0 : BitVec 32 := Scalar.muli c128_i32_221_r0 v130_r0
  let c2_i32_222_r0 : BitVec 32 := 2#32
  let c0_i32_135_r0 : BitVec 32 := 0#32
  let v131_r0 : BitVec 32 := Scalar.addi arg12_r0 c0_i32_135_r0
  let v271_r0 : BitVec 32 := Scalar.muli c2_i32_222_r0 v131_r0
  let c0_i32_227_r0 : BitVec 32 := 0#32
  ![v270_r0.toNat, v271_r0.toNat, 0]
def k0_off14 (arg7_r0 : BitVec 32) : Fin 1 → Nat :=
  let c2_i32_223_r0 : BitVec 32 := 2#32
  let v272_r0 : BitVec 32 := Scalar.remui arg7_r0 c2_i32_223_r0
  ![v272_r0.toNat]
def k0_off15 (arg9_r0 : BitVec 32) : Fin 3 → Nat :=
  let c2_i32_223_r0 : BitVec 32 := 2#32
  let v272_r0 : BitVec 32 := Scalar.remui arg9_r0 c2_i32_223_r0
  let c0_i32_224_r0 : BitVec 32 := 0#32
  let c0_i32_225_r0 : BitVec 32 := 0#32
  ![v272_r0.toNat, 0, 0]
def k0_cond4 (i : grid0.Coords) (k0_t1 : Fin k0_t1_loop.trips) (arg10_r0 : BitVec 32) (arg12_r0 : BitVec 32) : BitVec 1 :=
  let c0_i32_133_r0 : BitVec 32 := 0#32
  let v129_r0 : BitVec 32 := Scalar.addi arg10_r0 c0_i32_133_r0
  let true_137_r0 : BitVec 1 := 1#1
  let c1_i32_136_r0 : BitVec 32 := 1#32
  let v132_r0 : BitVec 32 := Scalar.subi arg12_r0 c1_i32_136_r0
  let v133_r0 : BitVec 32 := Scalar.select true_137_r0 v132_r0 arg12_r0
  let c_m1_i32_138_r0 : BitVec 32 := 4294967295#32
  let v134_r0 : BitVec 1 := Scalar.cmpi .eq v133_r0 c_m1_i32_138_r0
  let c_m1_i32_141_r0 : BitVec 32 := 4294967295#32
  let c0_i32_140_r0 : BitVec 32 := 0#32
  let v136_r0 : BitVec 32 := Scalar.select v134_r0 c_m1_i32_141_r0 c0_i32_140_r0
  let c_m1_i32_142_r0 : BitVec 32 := 4294967295#32
  let v137_r0 : BitVec 1 := Scalar.cmpi .eq v136_r0 c_m1_i32_142_r0
  let c1_i32_144_r0 : BitVec 32 := 1#32
  let v139_r0 : BitVec 32 := Scalar.subi arg10_r0 c1_i32_144_r0
  let v140_r0 : BitVec 32 := Scalar.select v137_r0 v139_r0 arg10_r0
  let c_m1_i32_145_r0 : BitVec 32 := 4294967295#32
  let v141_r0 : BitVec 1 := Scalar.cmpi .eq v140_r0 c_m1_i32_145_r0
  let c1_i32_146_r0 : BitVec 32 := 1#32
  let v142_r0 : BitVec 32 := Scalar.select v141_r0 c1_i32_146_r0 v140_r0
  let c0_i32_147_r0 : BitVec 32 := 0#32
  let v143_r0 : BitVec 32 := Scalar.addi v142_r0 c0_i32_147_r0
  let v206_r0 : BitVec 1 := Scalar.cmpi .ne v129_r0 v143_r0
  let c0_i32_134_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v130_r0 : BitVec 32 := Scalar.addi c0_i32_134_r0 v4
  let c0_i32_148_r0 : BitVec 32 := 0#32
  let v144_r0 : BitVec 32 := Scalar.addi c0_i32_148_r0 v4
  let v207_r0 : BitVec 1 := Scalar.cmpi .ne v130_r0 v144_r0
  let v208_r0 : BitVec 1 := Scalar.ori v206_r0 v207_r0
  let c0_i32_74_r0 : BitVec 32 := 0#32
  let c1_i32_75_r0 : BitVec 32 := 1#32
  let arg5_r0 : BitVec 32 := Scf.iv c0_i32_74_r0 c1_i32_75_r0 k0_t1
  let c0_i32_132_r0 : BitVec 32 := 0#32
  let v127_r0 : BitVec 1 := Scalar.cmpi .eq arg5_r0 c0_i32_132_r0
  let v209_r0 : BitVec 1 := Scalar.ori v208_r0 v127_r0
  let c0_i32_192_r0 : BitVec 32 := 0#32
  let v210_r0 : BitVec 1 := Scalar.cmpi .sge arg5_r0 c0_i32_192_r0
  let v211_r0 : BitVec 1 := Scalar.andi v209_r0 v210_r0
  let v212_r0 : BitVec 32 := Scalar.extui v211_r0
  let c0_i32_193_r0 : BitVec 32 := 0#32
  let v213_r0 : BitVec 1 := Scalar.cmpi .ne v212_r0 c0_i32_193_r0
  v213_r0

def k0_off16 (i : grid0.Coords) (arg10_r0 : BitVec 32) : Fin 2 → Nat :=
  let c1_i32_221_r0 : BitVec 32 := 1#32
  let c0_i32_133_r0 : BitVec 32 := 0#32
  let v129_r0 : BitVec 32 := Scalar.addi arg10_r0 c0_i32_133_r0
  let v270_r0 : BitVec 32 := Scalar.muli c1_i32_221_r0 v129_r0
  let c128_i32_222_r0 : BitVec 32 := 128#32
  let c0_i32_134_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v130_r0 : BitVec 32 := Scalar.addi c0_i32_134_r0 v4
  let v271_r0 : BitVec 32 := Scalar.muli c128_i32_222_r0 v130_r0
  ![v270_r0.toNat, v271_r0.toNat]
def k0_off17 (arg9_r0 : BitVec 32) : Fin 1 → Nat :=
  let c2_i32_223_r0 : BitVec 32 := 2#32
  let v272_r0 : BitVec 32 := Scalar.remui arg9_r0 c2_i32_223_r0
  ![v272_r0.toNat]
def k0_off18 (arg7_r0 : BitVec 32) : Fin 4 → Nat :=
  let c2_i32_194_r0 : BitVec 32 := 2#32
  let v214_r0 : BitVec 32 := Scalar.remui arg7_r0 c2_i32_194_r0
  let c0_i32_221_r1 : BitVec 32 := 0#32
  let c0_i32_222_r1 : BitVec 32 := 0#32
  let c0_i32_223_r1 : BitVec 32 := 0#32
  ![v214_r0.toNat, 0, 0, 0]

def k0_chk2 (arg7_r0 : BitVec 32) : Prop :=
  (∀ a, (k0_off18 arg7_r0) a + S1x128x2x128.size a ≤ S2x128x2x128.size a)
theorem k0_off18_inb : ∀ (arg7_r0 : BitVec 32) (k0_hw2 : k0_chk2 arg7_r0), ∀ a, (k0_off18 arg7_r0) a + S1x128x2x128.size a ≤ S2x128x2x128.size a := fun arg7_r0 k0_hw2 => k0_hw2

def k0_off19 (arg9_r0 : BitVec 32) : Fin 3 → Nat :=
  let c2_i32_195_r0 : BitVec 32 := 2#32
  let v215_r0 : BitVec 32 := Scalar.remui arg9_r0 c2_i32_195_r0
  let c0_i32_224_r1 : BitVec 32 := 0#32
  let c0_i32_225_r1 : BitVec 32 := 0#32
  ![v215_r0.toNat, 0, 0]

def k0_chk3 (arg9_r0 : BitVec 32) : Prop :=
  (∀ a, (k0_off19 arg9_r0) a + S1x1x128.size a ≤ S2x1x128.size a)
theorem k0_off19_inb : ∀ (arg9_r0 : BitVec 32) (k0_hw3 : k0_chk3 arg9_r0), ∀ a, (k0_off19 arg9_r0) a + S1x1x128.size a ≤ S2x1x128.size a := fun arg9_r0 k0_hw3 => k0_hw3

def k0_off20 (arg12_r0 : BitVec 32) : Fin 3 → Nat :=
  let c0_i32_227_r1 : BitVec 32 := 0#32
  let c0_i32_135_r0 : BitVec 32 := 0#32
  let v131_r0 : BitVec 32 := Scalar.addi arg12_r0 c0_i32_135_r0
  let c2_i32_196_r0 : BitVec 32 := 2#32
  let v216_r0 : BitVec 32 := Scalar.muli v131_r0 c2_i32_196_r0
  let c0_i32_228_r1 : BitVec 32 := 0#32
  ![0, v216_r0.toNat, 0]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) : Prop :=
  (∀ (k0_h1 : k0_cond1 i k0_t1 arg12_r0 = 1#1), ∀ a, (k0_off6 arg6_r0) a + S1x128x2x128.size a ≤ S2x128x2x128.size a) ∧
  (∀ (k0_h1 : k0_cond1 i k0_t1 arg12_r0 = 1#1), ∀ a, (k0_off7 i arg12_r0) a + S128x2x128.size a ≤ S4096x8x128.size a) ∧
  (∀ (k0_h1 : k0_cond1 i k0_t1 arg12_r0 = 1#1), ∀ a, (k0_off8 arg6_r0) a + S1.size a ≤ S2.size a) ∧
  (∀ (k0_h2 : k0_cond2 i k0_t1 arg10_r0 arg12_r0 = 1#1), ∀ a, (k0_off9 arg8_r0) a + S1x1x128.size a ≤ S2x1x128.size a) ∧
  (∀ (k0_h2 : k0_cond2 i k0_t1 arg10_r0 arg12_r0 = 1#1), ∀ a, (k0_off10 i arg10_r0 arg12_r0) a + S1x128.size a ≤ S2x4096.size a) ∧
  (∀ (k0_h2 : k0_cond2 i k0_t1 arg10_r0 arg12_r0 = 1#1), ∀ a, (k0_off11 arg8_r0) a + S1.size a ≤ S2.size a) ∧
  (∀ (k0_h3 : k0_cond3 i k0_t1 arg12_r0 = 1#1), ∀ a, (k0_off12 arg7_r0) a + S1x128x2x128.size a ≤ S2x128x2x128.size a) ∧
  (∀ (k0_h3 : k0_cond3 i k0_t1 arg12_r0 = 1#1), ∀ a, (k0_off13 i arg12_r0) a + S128x2x128.size a ≤ S4096x8x128.size a) ∧
  (∀ (k0_h3 : k0_cond3 i k0_t1 arg12_r0 = 1#1), ∀ a, (k0_off14 arg7_r0) a + S1.size a ≤ S2.size a) ∧
  (∀ (k0_h4 : k0_cond4 i k0_t1 arg10_r0 arg12_r0 = 1#1), ∀ a, (k0_off15 arg9_r0) a + S1x1x128.size a ≤ S2x1x128.size a) ∧
  (∀ (k0_h4 : k0_cond4 i k0_t1 arg10_r0 arg12_r0 = 1#1), ∀ a, (k0_off16 i arg10_r0) a + S1x128.size a ≤ S2x4096.size a) ∧
  (∀ (k0_h4 : k0_cond4 i k0_t1 arg10_r0 arg12_r0 = 1#1), ∀ a, (k0_off17 arg9_r0) a + S1.size a ≤ S2.size a) ∧
  (∀ a, (k0_off20 arg12_r0) a + S10240x2x128.size a ≤ S10240x8x128.size a)
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h1 : k0_cond1 i k0_t1 arg12_r0 = 1#1), ∀ a, (k0_off6 arg6_r0) a + S1x128x2x128.size a ≤ S2x128x2x128.size a := fun i k0_t1 arg6_r0 arg7_r0 arg8_r0 arg9_r0 arg10_r0 arg12_r0 k0_hw1 k0_h1 => k0_hw1.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h1 : k0_cond1 i k0_t1 arg12_r0 = 1#1), ∀ a, (k0_off7 i arg12_r0) a + S128x2x128.size a ≤ S4096x8x128.size a := fun i k0_t1 arg6_r0 arg7_r0 arg8_r0 arg9_r0 arg10_r0 arg12_r0 k0_hw1 k0_h1 => k0_hw1.2.1 k0_h1
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h1 : k0_cond1 i k0_t1 arg12_r0 = 1#1), ∀ a, (k0_off8 arg6_r0) a + S1.size a ≤ S2.size a := fun i k0_t1 arg6_r0 arg7_r0 arg8_r0 arg9_r0 arg10_r0 arg12_r0 k0_hw1 k0_h1 => k0_hw1.2.2.1 k0_h1
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h2 : k0_cond2 i k0_t1 arg10_r0 arg12_r0 = 1#1), ∀ a, (k0_off9 arg8_r0) a + S1x1x128.size a ≤ S2x1x128.size a := fun i k0_t1 arg6_r0 arg7_r0 arg8_r0 arg9_r0 arg10_r0 arg12_r0 k0_hw1 k0_h2 => k0_hw1.2.2.2.1 k0_h2
theorem k0_off10_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h2 : k0_cond2 i k0_t1 arg10_r0 arg12_r0 = 1#1), ∀ a, (k0_off10 i arg10_r0 arg12_r0) a + S1x128.size a ≤ S2x4096.size a := fun i k0_t1 arg6_r0 arg7_r0 arg8_r0 arg9_r0 arg10_r0 arg12_r0 k0_hw1 k0_h2 => k0_hw1.2.2.2.2.1 k0_h2
theorem k0_off11_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h2 : k0_cond2 i k0_t1 arg10_r0 arg12_r0 = 1#1), ∀ a, (k0_off11 arg8_r0) a + S1.size a ≤ S2.size a := fun i k0_t1 arg6_r0 arg7_r0 arg8_r0 arg9_r0 arg10_r0 arg12_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h3 : k0_cond3 i k0_t1 arg12_r0 = 1#1), ∀ a, (k0_off12 arg7_r0) a + S1x128x2x128.size a ≤ S2x128x2x128.size a := fun i k0_t1 arg6_r0 arg7_r0 arg8_r0 arg9_r0 arg10_r0 arg12_r0 k0_hw1 k0_h3 => k0_hw1.2.2.2.2.2.2.1 k0_h3
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h3 : k0_cond3 i k0_t1 arg12_r0 = 1#1), ∀ a, (k0_off13 i arg12_r0) a + S128x2x128.size a ≤ S4096x8x128.size a := fun i k0_t1 arg6_r0 arg7_r0 arg8_r0 arg9_r0 arg10_r0 arg12_r0 k0_hw1 k0_h3 => k0_hw1.2.2.2.2.2.2.2.1 k0_h3
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h3 : k0_cond3 i k0_t1 arg12_r0 = 1#1), ∀ a, (k0_off14 arg7_r0) a + S1.size a ≤ S2.size a := fun i k0_t1 arg6_r0 arg7_r0 arg8_r0 arg9_r0 arg10_r0 arg12_r0 k0_hw1 k0_h3 => k0_hw1.2.2.2.2.2.2.2.2.1 k0_h3
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h4 : k0_cond4 i k0_t1 arg10_r0 arg12_r0 = 1#1), ∀ a, (k0_off15 arg9_r0) a + S1x1x128.size a ≤ S2x1x128.size a := fun i k0_t1 arg6_r0 arg7_r0 arg8_r0 arg9_r0 arg10_r0 arg12_r0 k0_hw1 k0_h4 => k0_hw1.2.2.2.2.2.2.2.2.2.1 k0_h4
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h4 : k0_cond4 i k0_t1 arg10_r0 arg12_r0 = 1#1), ∀ a, (k0_off16 i arg10_r0) a + S1x128.size a ≤ S2x4096.size a := fun i k0_t1 arg6_r0 arg7_r0 arg8_r0 arg9_r0 arg10_r0 arg12_r0 k0_hw1 k0_h4 => k0_hw1.2.2.2.2.2.2.2.2.2.2.1 k0_h4
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ (k0_h4 : k0_cond4 i k0_t1 arg10_r0 arg12_r0 = 1#1), ∀ a, (k0_off17 arg9_r0) a + S1.size a ≤ S2.size a := fun i k0_t1 arg6_r0 arg7_r0 arg8_r0 arg9_r0 arg10_r0 arg12_r0 k0_hw1 k0_h4 => k0_hw1.2.2.2.2.2.2.2.2.2.2.2.1 k0_h4
theorem k0_off20_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg12_r0 : BitVec 32) (k0_hw1 : k0_chk1 i k0_t1 arg6_r0 arg7_r0 arg8_r0 arg9_r0 arg10_r0 arg12_r0), ∀ a, (k0_off20 arg12_r0) a + S10240x2x128.size a ≤ S10240x8x128.size a := fun i k0_t1 arg6_r0 arg7_r0 arg8_r0 arg9_r0 arg10_r0 arg12_r0 k0_hw1 => k0_hw1.2.2.2.2.2.2.2.2.2.2.2.2

abbrev grid1 : Pipeline.Grid := ⟨1, ![40], ![false]⟩

abbrev pre1 : Pipeline.Prefetch sig := ⟨2, ![main_v9.idx, main_v10.idx], fun | 0 => main_v9.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 : Fin 3 → Nat :=
  let c0_i32_44_r0 : BitVec 32 := 0#32
  let c2_i32_45_r0 : BitVec 32 := 2#32
  let v46_r0 : BitVec 32 := Scalar.remui c0_i32_44_r0 c2_i32_45_r0
  let c0_i32_46_r0 : BitVec 32 := 0#32
  let c0_i32_47_r0 : BitVec 32 := 0#32
  ![v46_r0.toNat, 0, 0]
def k2_off2 (i : grid2.Coords) : Fin 2 → Nat :=
  let c0_i32_48_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v47_r0 : BitVec 32 := Scalar.muli c128_i32_r0 v7_r0
  ![0, v47_r0.toNat]
def k2_off3 : Fin 1 → Nat :=
  let c0_i32_44_r0 : BitVec 32 := 0#32
  let c2_i32_45_r0 : BitVec 32 := 2#32
  let v46_r0 : BitVec 32 := Scalar.remui c0_i32_44_r0 c2_i32_45_r0
  ![v46_r0.toNat]
@[reducible] def k2_t1_loop : Scf.Loop 32 :=
  let c0_i32_60_r0 : BitVec 32 := 0#32
  let c8_i32_r0 : BitVec 32 := 8#32
  let v57_r0 : BitVec 32 := Scalar.addi c0_i32_60_r0 c8_i32_r0
  let c1_i32_61_r0 : BitVec 32 := 1#32
  ⟨c0_i32_60_r0, v57_r0, c1_i32_61_r0⟩
def k2_off4 (arg6_r0 : BitVec 32) : Fin 3 → Nat :=
  let c2_i32_218_r0 : BitVec 32 := 2#32
  let v270_r0 : BitVec 32 := Scalar.remui arg6_r0 c2_i32_218_r0
  let c0_i32_221_r0 : BitVec 32 := 0#32
  let c0_i32_222_r0 : BitVec 32 := 0#32
  ![v270_r0.toNat, 0, 0]
def k2_cond1 (i : grid2.Coords) (k2_t1 : Fin k2_t1_loop.trips) (arg10_r0 : BitVec 32) (arg12_r0 : BitVec 32) : BitVec 1 :=
  let c0_i32_130_r0 : BitVec 32 := 0#32
  let v131_r0 : BitVec 32 := Scalar.addi arg10_r0 c0_i32_130_r0
  let true_148_r0 : BitVec 1 := 1#1
  let c1_i32_147_r0 : BitVec 32 := 1#32
  let v148_r0 : BitVec 32 := Scalar.addi arg12_r0 c1_i32_147_r0
  let v149_r0 : BitVec 32 := Scalar.select true_148_r0 v148_r0 arg12_r0
  let c4_i32_149_r0 : BitVec 32 := 4#32
  let v150_r0 : BitVec 1 := Scalar.cmpi .eq v149_r0 c4_i32_149_r0
  let c1_i32_152_r0 : BitVec 32 := 1#32
  let c0_i32_151_r0 : BitVec 32 := 0#32
  let v152_r0 : BitVec 32 := Scalar.select v150_r0 c1_i32_152_r0 c0_i32_151_r0
  let c1_i32_153_r0 : BitVec 32 := 1#32
  let v153_r0 : BitVec 1 := Scalar.cmpi .eq v152_r0 c1_i32_153_r0
  let c1_i32_155_r0 : BitVec 32 := 1#32
  let v155_r0 : BitVec 32 := Scalar.addi arg10_r0 c1_i32_155_r0
  let v156_r0 : BitVec 32 := Scalar.select v153_r0 v155_r0 arg10_r0
  let c2_i32_156_r0 : BitVec 32 := 2#32
  let v157_r0 : BitVec 1 := Scalar.cmpi .eq v156_r0 c2_i32_156_r0
  let c0_i32_157_r0 : BitVec 32 := 0#32
  let v158_r0 : BitVec 32 := Scalar.select v157_r0 c0_i32_157_r0 v156_r0
  let c0_i32_158_r0 : BitVec 32 := 0#32
  let v159_r0 : BitVec 32 := Scalar.addi v158_r0 c0_i32_158_r0
  let v176_r0 : BitVec 1 := Scalar.cmpi .ne v131_r0 v159_r0
  let c0_i32_131_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v132_r0 : BitVec 32 := Scalar.addi c0_i32_131_r0 v4
  let c0_i32_159_r0 : BitVec 32 := 0#32
  let v160_r0 : BitVec 32 := Scalar.addi c0_i32_159_r0 v4
  let v177_r0 : BitVec 1 := Scalar.cmpi .ne v132_r0 v160_r0
  let v178_r0 : BitVec 1 := Scalar.ori v176_r0 v177_r0
  let c0_i32_60_r0 : BitVec 32 := 0#32
  let c1_i32_61_r0 : BitVec 32 := 1#32
  let arg5_r0 : BitVec 32 := Scf.iv c0_i32_60_r0 c1_i32_61_r0 k2_t1
  let c7_i32_175_r0 : BitVec 32 := 7#32
  let v179_r0 : BitVec 1 := Scalar.cmpi .sge arg5_r0 c7_i32_175_r0
  let true_176_r0 : BitVec 1 := 1#1
  let v180_r0 : BitVec 1 := Scalar.xori v179_r0 true_176_r0
  let v181_r0 : BitVec 1 := Scalar.andi v178_r0 v180_r0
  let true_177_r0 : BitVec 1 := 1#1
  let v182_r0 : BitVec 1 := Scalar.andi v181_r0 true_177_r0
  let v183_r0 : BitVec 32 := Scalar.extui v182_r0
  let c0_i32_178_r0 : BitVec 32 := 0#32
  let v184_r0 : BitVec 1 := Scalar.cmpi .ne v183_r0 c0_i32_178_r0
  v184_r0

def k2_off5 (i : grid2.Coords) (arg10_r0 : BitVec 32) (arg12_r0 : BitVec 32) : Fin 2 → Nat :=
  let c1_i32_219_r0 : BitVec 32 := 1#32
  let true_148_r0 : BitVec 1 := 1#1
  let c1_i32_147_r0 : BitVec 32 := 1#32
  let v148_r0 : BitVec 32 := Scalar.addi arg12_r0 c1_i32_147_r0
  let v149_r0 : BitVec 32 := Scalar.select true_148_r0 v148_r0 arg12_r0
  let c4_i32_149_r0 : BitVec 32 := 4#32
  let v150_r0 : BitVec 1 := Scalar.cmpi .eq v149_r0 c4_i32_149_r0
  let c1_i32_152_r0 : BitVec 32 := 1#32
  let c0_i32_151_r0 : BitVec 32 := 0#32
  let v152_r0 : BitVec 32 := Scalar.select v150_r0 c1_i32_152_r0 c0_i32_151_r0
  let c1_i32_153_r0 : BitVec 32 := 1#32
  let v153_r0 : BitVec 1 := Scalar.cmpi .eq v152_r0 c1_i32_153_r0
  let c1_i32_155_r0 : BitVec 32 := 1#32
  let v155_r0 : BitVec 32 := Scalar.addi arg10_r0 c1_i32_155_r0
  let v156_r0 : BitVec 32 := Scalar.select v153_r0 v155_r0 arg10_r0
  let c2_i32_156_r0 : BitVec 32 := 2#32
  let v157_r0 : BitVec 1 := Scalar.cmpi .eq v156_r0 c2_i32_156_r0
  let c0_i32_157_r0 : BitVec 32 := 0#32
  let v158_r0 : BitVec 32 := Scalar.select v157_r0 c0_i32_157_r0 v156_r0
  let c0_i32_158_r0 : BitVec 32 := 0#32
  let v159_r0 : BitVec 32 := Scalar.addi v158_r0 c0_i32_158_r0
  let v271_r0 : BitVec 32 := Scalar.muli c1_i32_219_r0 v159_r0
  let c128_i32_220_r0 : BitVec 32 := 128#32
  let c0_i32_159_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v160_r0 : BitVec 32 := Scalar.addi c0_i32_159_r0 v4
  let v272_r0 : BitVec 32 := Scalar.muli c128_i32_220_r0 v160_r0
  ![v271_r0.toNat, v272_r0.toNat]
def k2_off6 (arg6_r0 : BitVec 32) : Fin 1 → Nat :=
  let c2_i32_218_r0 : BitVec 32 := 2#32
  let v270_r0 : BitVec 32 := Scalar.remui arg6_r0 c2_i32_218_r0
  ![v270_r0.toNat]
def k2_off7 (arg7_r0 : BitVec 32) : Fin 3 → Nat :=
  let c2_i32_220_r0 : BitVec 32 := 2#32
  let v272_r0 : BitVec 32 := Scalar.remui arg7_r0 c2_i32_220_r0
  let c0_i32_221_r0 : BitVec 32 := 0#32
  let c0_i32_222_r0 : BitVec 32 := 0#32
  ![v272_r0.toNat, 0, 0]
def k2_cond2 (i : grid2.Coords) (k2_t1 : Fin k2_t1_loop.trips) (arg10_r0 : BitVec 32) (arg12_r0 : BitVec 32) : BitVec 1 :=
  let c0_i32_130_r0 : BitVec 32 := 0#32
  let v131_r0 : BitVec 32 := Scalar.addi arg10_r0 c0_i32_130_r0
  let true_134_r0 : BitVec 1 := 1#1
  let c1_i32_133_r0 : BitVec 32 := 1#32
  let v134_r0 : BitVec 32 := Scalar.subi arg12_r0 c1_i32_133_r0
  let v135_r0 : BitVec 32 := Scalar.select true_134_r0 v134_r0 arg12_r0
  let c_m1_i32_135_r0 : BitVec 32 := 4294967295#32
  let v136_r0 : BitVec 1 := Scalar.cmpi .eq v135_r0 c_m1_i32_135_r0
  let c_m1_i32_138_r0 : BitVec 32 := 4294967295#32
  let c0_i32_137_r0 : BitVec 32 := 0#32
  let v138_r0 : BitVec 32 := Scalar.select v136_r0 c_m1_i32_138_r0 c0_i32_137_r0
  let c_m1_i32_139_r0 : BitVec 32 := 4294967295#32
  let v139_r0 : BitVec 1 := Scalar.cmpi .eq v138_r0 c_m1_i32_139_r0
  let c1_i32_141_r0 : BitVec 32 := 1#32
  let v141_r0 : BitVec 32 := Scalar.subi arg10_r0 c1_i32_141_r0
  let v142_r0 : BitVec 32 := Scalar.select v139_r0 v141_r0 arg10_r0
  let c_m1_i32_142_r0 : BitVec 32 := 4294967295#32
  let v143_r0 : BitVec 1 := Scalar.cmpi .eq v142_r0 c_m1_i32_142_r0
  let c1_i32_143_r0 : BitVec 32 := 1#32
  let v144_r0 : BitVec 32 := Scalar.select v143_r0 c1_i32_143_r0 v142_r0
  let c0_i32_144_r0 : BitVec 32 := 0#32
  let v145_r0 : BitVec 32 := Scalar.addi v144_r0 c0_i32_144_r0
  let v198_r0 : BitVec 1 := Scalar.cmpi .ne v131_r0 v145_r0
  let c0_i32_131_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v132_r0 : BitVec 32 := Scalar.addi c0_i32_131_r0 v4
  let c0_i32_145_r0 : BitVec 32 := 0#32
  let v146_r0 : BitVec 32 := Scalar.addi c0_i32_145_r0 v4
  let v199_r0 : BitVec 1 := Scalar.cmpi .ne v132_r0 v146_r0
  let v200_r0 : BitVec 1 := Scalar.ori v198_r0 v199_r0
  let c0_i32_60_r0 : BitVec 32 := 0#32
  let c1_i32_61_r0 : BitVec 32 := 1#32
  let arg5_r0 : BitVec 32 := Scf.iv c0_i32_60_r0 c1_i32_61_r0 k2_t1
  let c0_i32_129_r0 : BitVec 32 := 0#32
  let v129_r0 : BitVec 1 := Scalar.cmpi .eq arg5_r0 c0_i32_129_r0
  let v201_r0 : BitVec 1 := Scalar.ori v200_r0 v129_r0
  let c0_i32_185_r0 : BitVec 32 := 0#32
  let v202_r0 : BitVec 1 := Scalar.cmpi .sge arg5_r0 c0_i32_185_r0
  let v203_r0 : BitVec 1 := Scalar.andi v201_r0 v202_r0
  let v204_r0 : BitVec 32 := Scalar.extui v203_r0
  let c0_i32_186_r0 : BitVec 32 := 0#32
  let v205_r0 : BitVec 1 := Scalar.cmpi .ne v204_r0 c0_i32_186_r0
  v205_r0

def k2_off8 (i : grid2.Coords) (arg10_r0 : BitVec 32) : Fin 2 → Nat :=
  let c1_i32_218_r0 : BitVec 32 := 1#32
  let c0_i32_130_r0 : BitVec 32 := 0#32
  let v131_r0 : BitVec 32 := Scalar.addi arg10_r0 c0_i32_130_r0
  let v270_r0 : BitVec 32 := Scalar.muli c1_i32_218_r0 v131_r0
  let c128_i32_219_r0 : BitVec 32 := 128#32
  let c0_i32_131_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v132_r0 : BitVec 32 := Scalar.addi c0_i32_131_r0 v4
  let v271_r0 : BitVec 32 := Scalar.muli c128_i32_219_r0 v132_r0
  ![v270_r0.toNat, v271_r0.toNat]
def k2_off9 (arg7_r0 : BitVec 32) : Fin 1 → Nat :=
  let c2_i32_220_r0 : BitVec 32 := 2#32
  let v272_r0 : BitVec 32 := Scalar.remui arg7_r0 c2_i32_220_r0
  ![v272_r0.toNat]
def k2_off10 (arg8_r0 : BitVec 32) : Fin 4 → Nat :=
  let c2_i32_191_r0 : BitVec 32 := 2#32
  let v217_r0 : BitVec 32 := Scalar.remui arg8_r0 c2_i32_191_r0
  let c0_i32_218_r1 : BitVec 32 := 0#32
  let c0_i32_219_r1 : BitVec 32 := 0#32
  let c0_i32_220_r1 : BitVec 32 := 0#32
  ![v217_r0.toNat, 0, 0, 0]

def k2_chk2 (arg8_r0 : BitVec 32) : Prop :=
  (∀ a, (k2_off10 arg8_r0) a + S1x128x2x128.size a ≤ S2x128x2x128.size a)
theorem k2_off10_inb : ∀ (arg8_r0 : BitVec 32) (k2_hw2 : k2_chk2 arg8_r0), ∀ a, (k2_off10 arg8_r0) a + S1x128x2x128.size a ≤ S2x128x2x128.size a := fun arg8_r0 k2_hw2 => k2_hw2

def k2_off11 (arg7_r0 : BitVec 32) : Fin 3 → Nat :=
  let c2_i32_190_r0 : BitVec 32 := 2#32
  let v216_r0 : BitVec 32 := Scalar.remui arg7_r0 c2_i32_190_r0
  let c0_i32_221_r1 : BitVec 32 := 0#32
  let c0_i32_222_r1 : BitVec 32 := 0#32
  ![v216_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg12_r0 : BitVec 32) : Fin 3 → Nat :=
  let c0_i32_224_r1 : BitVec 32 := 0#32
  let c0_i32_132_r0 : BitVec 32 := 0#32
  let v133_r0 : BitVec 32 := Scalar.addi arg12_r0 c0_i32_132_r0
  let c2_i32_192_r0 : BitVec 32 := 2#32
  let v218_r0 : BitVec 32 := Scalar.muli v133_r0 c2_i32_192_r0
  let c0_i32_225_r1 : BitVec 32 := 0#32
  ![0, v218_r0.toNat, 0]
def k2_off13 (arg8_r0 : BitVec 32) : Fin 4 → Nat :=
  let c2_i32_218_r0 : BitVec 32 := 2#32
  let v270_r0 : BitVec 32 := Scalar.remui arg8_r0 c2_i32_218_r0
  let c0_i32_222_r0 : BitVec 32 := 0#32
  let c0_i32_223_r0 : BitVec 32 := 0#32
  let c0_i32_224_r0 : BitVec 32 := 0#32
  ![v270_r0.toNat, 0, 0, 0]
def k2_cond5 (i : grid2.Coords) (k2_t1 : Fin k2_t1_loop.trips) (arg10_r0 : BitVec 32) (arg12_r0 : BitVec 32) : BitVec 1 :=
  let c0_i32_130_r0 : BitVec 32 := 0#32
  let v131_r0 : BitVec 32 := Scalar.addi arg10_r0 c0_i32_130_r0
  let c32_i32_181_r0 : BitVec 32 := 32#32
  let v188_r0 : BitVec 32 := Scalar.muli v131_r0 c32_i32_181_r0
  let c0_i32_131_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v132_r0 : BitVec 32 := Scalar.addi c0_i32_131_r0 v4
  let v189_r0 : BitVec 32 := Scalar.addi v188_r0 v132_r0
  let true_148_r0 : BitVec 1 := 1#1
  let c1_i32_147_r0 : BitVec 32 := 1#32
  let v148_r0 : BitVec 32 := Scalar.addi arg12_r0 c1_i32_147_r0
  let v149_r0 : BitVec 32 := Scalar.select true_148_r0 v148_r0 arg12_r0
  let c4_i32_149_r0 : BitVec 32 := 4#32
  let v150_r0 : BitVec 1 := Scalar.cmpi .eq v149_r0 c4_i32_149_r0
  let c1_i32_152_r0 : BitVec 32 := 1#32
  let c0_i32_151_r0 : BitVec 32 := 0#32
  let v152_r0 : BitVec 32 := Scalar.select v150_r0 c1_i32_152_r0 c0_i32_151_r0
  let c1_i32_153_r0 : BitVec 32 := 1#32
  let v153_r0 : BitVec 1 := Scalar.cmpi .eq v152_r0 c1_i32_153_r0
  let c1_i32_155_r0 : BitVec 32 := 1#32
  let v155_r0 : BitVec 32 := Scalar.addi arg10_r0 c1_i32_155_r0
  let v156_r0 : BitVec 32 := Scalar.select v153_r0 v155_r0 arg10_r0
  let c2_i32_156_r0 : BitVec 32 := 2#32
  let v157_r0 : BitVec 1 := Scalar.cmpi .eq v156_r0 c2_i32_156_r0
  let c0_i32_157_r0 : BitVec 32 := 0#32
  let v158_r0 : BitVec 32 := Scalar.select v157_r0 c0_i32_157_r0 v156_r0
  let c0_i32_158_r0 : BitVec 32 := 0#32
  let v159_r0 : BitVec 32 := Scalar.addi v158_r0 c0_i32_158_r0
  let c32_i32_182_r0 : BitVec 32 := 32#32
  let v190_r0 : BitVec 32 := Scalar.muli v159_r0 c32_i32_182_r0
  let c0_i32_159_r0 : BitVec 32 := 0#32
  let v160_r0 : BitVec 32 := Scalar.addi c0_i32_159_r0 v4
  let v191_r0 : BitVec 32 := Scalar.addi v190_r0 v160_r0
  let v226_r0 : BitVec 1 := Scalar.cmpi .ne v189_r0 v191_r0
  let c0_i32_132_r0 : BitVec 32 := 0#32
  let v133_r0 : BitVec 32 := Scalar.addi arg12_r0 c0_i32_132_r0
  let c0_i32_150_r0 : BitVec 32 := 0#32
  let v151_r0 : BitVec 32 := Scalar.select v150_r0 c0_i32_150_r0 v149_r0
  let c0_i32_160_r0 : BitVec 32 := 0#32
  let v161_r0 : BitVec 32 := Scalar.addi v151_r0 c0_i32_160_r0
  let v227_r0 : BitVec 1 := Scalar.cmpi .ne v133_r0 v161_r0
  let v228_r0 : BitVec 1 := Scalar.ori v226_r0 v227_r0
  let c0_i32_60_r0 : BitVec 32 := 0#32
  let c1_i32_61_r0 : BitVec 32 := 1#32
  let arg5_r0 : BitVec 32 := Scf.iv c0_i32_60_r0 c1_i32_61_r0 k2_t1
  let c7_i32_r0 : BitVec 32 := 7#32
  let v130_r0 : BitVec 1 := Scalar.cmpi .eq arg5_r0 c7_i32_r0
  let v229_r0 : BitVec 1 := Scalar.ori v228_r0 v130_r0
  let v230_r0 : BitVec 32 := Scalar.extui v229_r0
  let c0_i32_195_r0 : BitVec 32 := 0#32
  let v231_r0 : BitVec 1 := Scalar.cmpi .ne v230_r0 c0_i32_195_r0
  v231_r0

def k2_off14 (i : grid2.Coords) (arg10_r0 : BitVec 32) (arg12_r0 : BitVec 32) : Fin 3 → Nat :=
  let c128_i32_220_r0 : BitVec 32 := 128#32
  let c0_i32_130_r0 : BitVec 32 := 0#32
  let v131_r0 : BitVec 32 := Scalar.addi arg10_r0 c0_i32_130_r0
  let c32_i32_219_r0 : BitVec 32 := 32#32
  let v271_r0 : BitVec 32 := Scalar.muli v131_r0 c32_i32_219_r0
  let c0_i32_131_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v132_r0 : BitVec 32 := Scalar.addi c0_i32_131_r0 v4
  let v272_r0 : BitVec 32 := Scalar.addi v271_r0 v132_r0
  let v273_r0 : BitVec 32 := Scalar.muli c128_i32_220_r0 v272_r0
  let c2_i32_221_r0 : BitVec 32 := 2#32
  let c0_i32_132_r0 : BitVec 32 := 0#32
  let v133_r0 : BitVec 32 := Scalar.addi arg12_r0 c0_i32_132_r0
  let v274_r0 : BitVec 32 := Scalar.muli c2_i32_221_r0 v133_r0
  let c0_i32_225_r0 : BitVec 32 := 0#32
  ![v273_r0.toNat, v274_r0.toNat, 0]
def k2_off15 (arg8_r0 : BitVec 32) : Fin 1 → Nat :=
  let c2_i32_218_r0 : BitVec 32 := 2#32
  let v270_r0 : BitVec 32 := Scalar.remui arg8_r0 c2_i32_218_r0
  ![v270_r0.toNat]
def k2_off16 (arg9_r0 : BitVec 32) : Fin 4 → Nat :=
  let c2_i32_218_r0 : BitVec 32 := 2#32
  let v270_r0 : BitVec 32 := Scalar.remui arg9_r0 c2_i32_218_r0
  let c0_i32_222_r0 : BitVec 32 := 0#32
  let c0_i32_223_r0 : BitVec 32 := 0#32
  let c0_i32_224_r0 : BitVec 32 := 0#32
  ![v270_r0.toNat, 0, 0, 0]
def k2_cond7 (i : grid2.Coords) (k2_t1 : Fin k2_t1_loop.trips) (arg10_r0 : BitVec 32) (arg12_r0 : BitVec 32) : BitVec 1 :=
  let c0_i32_130_r0 : BitVec 32 := 0#32
  let v131_r0 : BitVec 32 := Scalar.addi arg10_r0 c0_i32_130_r0
  let c32_i32_181_r0 : BitVec 32 := 32#32
  let v188_r0 : BitVec 32 := Scalar.muli v131_r0 c32_i32_181_r0
  let c0_i32_131_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v132_r0 : BitVec 32 := Scalar.addi c0_i32_131_r0 v4
  let v189_r0 : BitVec 32 := Scalar.addi v188_r0 v132_r0
  let true_134_r0 : BitVec 1 := 1#1
  let c1_i32_133_r0 : BitVec 32 := 1#32
  let v134_r0 : BitVec 32 := Scalar.subi arg12_r0 c1_i32_133_r0
  let v135_r0 : BitVec 32 := Scalar.select true_134_r0 v134_r0 arg12_r0
  let c_m1_i32_135_r0 : BitVec 32 := 4294967295#32
  let v136_r0 : BitVec 1 := Scalar.cmpi .eq v135_r0 c_m1_i32_135_r0
  let c_m1_i32_138_r0 : BitVec 32 := 4294967295#32
  let c0_i32_137_r0 : BitVec 32 := 0#32
  let v138_r0 : BitVec 32 := Scalar.select v136_r0 c_m1_i32_138_r0 c0_i32_137_r0
  let c_m1_i32_139_r0 : BitVec 32 := 4294967295#32
  let v139_r0 : BitVec 1 := Scalar.cmpi .eq v138_r0 c_m1_i32_139_r0
  let c1_i32_141_r0 : BitVec 32 := 1#32
  let v141_r0 : BitVec 32 := Scalar.subi arg10_r0 c1_i32_141_r0
  let v142_r0 : BitVec 32 := Scalar.select v139_r0 v141_r0 arg10_r0
  let c_m1_i32_142_r0 : BitVec 32 := 4294967295#32
  let v143_r0 : BitVec 1 := Scalar.cmpi .eq v142_r0 c_m1_i32_142_r0
  let c1_i32_143_r0 : BitVec 32 := 1#32
  let v144_r0 : BitVec 32 := Scalar.select v143_r0 c1_i32_143_r0 v142_r0
  let c0_i32_144_r0 : BitVec 32 := 0#32
  let v145_r0 : BitVec 32 := Scalar.addi v144_r0 c0_i32_144_r0
  let c32_i32_187_r0 : BitVec 32 := 32#32
  let v206_r0 : BitVec 32 := Scalar.muli v145_r0 c32_i32_187_r0
  let c0_i32_145_r0 : BitVec 32 := 0#32
  let v146_r0 : BitVec 32 := Scalar.addi c0_i32_145_r0 v4
  let v207_r0 : BitVec 32 := Scalar.addi v206_r0 v146_r0
  let v243_r0 : BitVec 1 := Scalar.cmpi .ne v189_r0 v207_r0
  let c0_i32_132_r0 : BitVec 32 := 0#32
  let v133_r0 : BitVec 32 := Scalar.addi arg12_r0 c0_i32_132_r0
  let c3_i32_136_r0 : BitVec 32 := 3#32
  let v137_r0 : BitVec 32 := Scalar.select v136_r0 c3_i32_136_r0 v135_r0
  let c0_i32_146_r0 : BitVec 32 := 0#32
  let v147_r0 : BitVec 32 := Scalar.addi v137_r0 c0_i32_146_r0
  let v244_r0 : BitVec 1 := Scalar.cmpi .ne v133_r0 v147_r0
  let v245_r0 : BitVec 1 := Scalar.ori v243_r0 v244_r0
  let c0_i32_60_r0 : BitVec 32 := 0#32
  let c1_i32_61_r0 : BitVec 32 := 1#32
  let arg5_r0 : BitVec 32 := Scf.iv c0_i32_60_r0 c1_i32_61_r0 k2_t1
  let c0_i32_129_r0 : BitVec 32 := 0#32
  let v129_r0 : BitVec 1 := Scalar.cmpi .eq arg5_r0 c0_i32_129_r0
  let true_201_r0 : BitVec 1 := 1#1
  let v246_r0 : BitVec 1 := Scalar.xori v129_r0 true_201_r0
  let v247_r0 : BitVec 1 := Scalar.andi v245_r0 v246_r0
  let v248_r0 : BitVec 32 := Scalar.extui v247_r0
  let c0_i32_202_r0 : BitVec 32 := 0#32
  let v249_r0 : BitVec 1 := Scalar.cmpi .ne v248_r0 c0_i32_202_r0
  v249_r0

def k2_off17 (i : grid2.Coords) (arg10_r0 : BitVec 32) (arg12_r0 : BitVec 32) : Fin 3 → Nat :=
  let c128_i32_220_r0 : BitVec 32 := 128#32
  let true_134_r0 : BitVec 1 := 1#1
  let c1_i32_133_r0 : BitVec 32 := 1#32
  let v134_r0 : BitVec 32 := Scalar.subi arg12_r0 c1_i32_133_r0
  let v135_r0 : BitVec 32 := Scalar.select true_134_r0 v134_r0 arg12_r0
  let c_m1_i32_135_r0 : BitVec 32 := 4294967295#32
  let v136_r0 : BitVec 1 := Scalar.cmpi .eq v135_r0 c_m1_i32_135_r0
  let c_m1_i32_138_r0 : BitVec 32 := 4294967295#32
  let c0_i32_137_r0 : BitVec 32 := 0#32
  let v138_r0 : BitVec 32 := Scalar.select v136_r0 c_m1_i32_138_r0 c0_i32_137_r0
  let c_m1_i32_139_r0 : BitVec 32 := 4294967295#32
  let v139_r0 : BitVec 1 := Scalar.cmpi .eq v138_r0 c_m1_i32_139_r0
  let c1_i32_141_r0 : BitVec 32 := 1#32
  let v141_r0 : BitVec 32 := Scalar.subi arg10_r0 c1_i32_141_r0
  let v142_r0 : BitVec 32 := Scalar.select v139_r0 v141_r0 arg10_r0
  let c_m1_i32_142_r0 : BitVec 32 := 4294967295#32
  let v143_r0 : BitVec 1 := Scalar.cmpi .eq v142_r0 c_m1_i32_142_r0
  let c1_i32_143_r0 : BitVec 32 := 1#32
  let v144_r0 : BitVec 32 := Scalar.select v143_r0 c1_i32_143_r0 v142_r0
  let c0_i32_144_r0 : BitVec 32 := 0#32
  let v145_r0 : BitVec 32 := Scalar.addi v144_r0 c0_i32_144_r0
  let c32_i32_219_r0 : BitVec 32 := 32#32
  let v271_r0 : BitVec 32 := Scalar.muli v145_r0 c32_i32_219_r0
  let c0_i32_145_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v146_r0 : BitVec 32 := Scalar.addi c0_i32_145_r0 v4
  let v272_r0 : BitVec 32 := Scalar.addi v271_r0 v146_r0
  let v273_r0 : BitVec 32 := Scalar.muli c128_i32_220_r0 v272_r0
  let c2_i32_221_r0 : BitVec 32 := 2#32
  let c3_i32_136_r0 : BitVec 32 := 3#32
  let v137_r0 : BitVec 32 := Scalar.select v136_r0 c3_i32_136_r0 v135_r0
  let c0_i32_146_r0 : BitVec 32 := 0#32
  let v147_r0 : BitVec 32 := Scalar.addi v137_r0 c0_i32_146_r0
  let v274_r0 : BitVec 32 := Scalar.muli c2_i32_221_r0 v147_r0
  let c0_i32_225_r0 : BitVec 32 := 0#32
  ![v273_r0.toNat, v274_r0.toNat, 0]
def k2_off18 (arg9_r0 : BitVec 32) : Fin 1 → Nat :=
  let c2_i32_218_r0 : BitVec 32 := 2#32
  let v270_r0 : BitVec 32 := Scalar.remui arg9_r0 c2_i32_218_r0
  ![v270_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) : Prop :=
  (∀ (k2_h1 : k2_cond1 i k2_t1 arg10_r0 arg12_r0 = 1#1), ∀ a, (k2_off4 arg6_r0) a + S1x1x128.size a ≤ S2x1x128.size a) ∧
  (∀ (k2_h1 : k2_cond1 i k2_t1 arg10_r0 arg12_r0 = 1#1), ∀ a, (k2_off5 i arg10_r0 arg12_r0) a + S1x128.size a ≤ S2x4096.size a) ∧
  (∀ (k2_h1 : k2_cond1 i k2_t1 arg10_r0 arg12_r0 = 1#1), ∀ a, (k2_off6 arg6_r0) a + S1.size a ≤ S2.size a) ∧
  (∀ (k2_h2 : k2_cond2 i k2_t1 arg10_r0 arg12_r0 = 1#1), ∀ a, (k2_off7 arg7_r0) a + S1x1x128.size a ≤ S2x1x128.size a) ∧
  (∀ (k2_h2 : k2_cond2 i k2_t1 arg10_r0 arg12_r0 = 1#1), ∀ a, (k2_off8 i arg10_r0) a + S1x128.size a ≤ S2x4096.size a) ∧
  (∀ (k2_h2 : k2_cond2 i k2_t1 arg10_r0 arg12_r0 = 1#1), ∀ a, (k2_off9 arg7_r0) a + S1.size a ≤ S2.size a) ∧
  (∀ a, (k2_off12 arg12_r0) a + S10240x2x128.size a ≤ S10240x8x128.size a) ∧
  (∀ (k2_h5 : k2_cond5 i k2_t1 arg10_r0 arg12_r0 = 1#1), ∀ a, (k2_off13 arg8_r0) a + S1x128x2x128.size a ≤ S2x128x2x128.size a) ∧
  (∀ (k2_h5 : k2_cond5 i k2_t1 arg10_r0 arg12_r0 = 1#1), ∀ a, (k2_off14 i arg10_r0 arg12_r0) a + S128x2x128.size a ≤ S8192x8x128.size a) ∧
  (∀ (k2_h5 : k2_cond5 i k2_t1 arg10_r0 arg12_r0 = 1#1), ∀ a, (k2_off15 arg8_r0) a + S1.size a ≤ S2.size a) ∧
  (∀ (k2_h7 : k2_cond7 i k2_t1 arg10_r0 arg12_r0 = 1#1), ∀ a, (k2_off16 arg9_r0) a + S1x128x2x128.size a ≤ S2x128x2x128.size a) ∧
  (∀ (k2_h7 : k2_cond7 i k2_t1 arg10_r0 arg12_r0 = 1#1), ∀ a, (k2_off17 i arg10_r0 arg12_r0) a + S128x2x128.size a ≤ S8192x8x128.size a) ∧
  (∀ (k2_h7 : k2_cond7 i k2_t1 arg10_r0 arg12_r0 = 1#1), ∀ a, (k2_off18 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h1 : k2_cond1 i k2_t1 arg10_r0 arg12_r0 = 1#1), ∀ a, (k2_off4 arg6_r0) a + S1x1x128.size a ≤ S2x1x128.size a := fun i k2_t1 arg6_r0 arg7_r0 arg8_r0 arg9_r0 arg10_r0 arg12_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h1 : k2_cond1 i k2_t1 arg10_r0 arg12_r0 = 1#1), ∀ a, (k2_off5 i arg10_r0 arg12_r0) a + S1x128.size a ≤ S2x4096.size a := fun i k2_t1 arg6_r0 arg7_r0 arg8_r0 arg9_r0 arg10_r0 arg12_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h1 : k2_cond1 i k2_t1 arg10_r0 arg12_r0 = 1#1), ∀ a, (k2_off6 arg6_r0) a + S1.size a ≤ S2.size a := fun i k2_t1 arg6_r0 arg7_r0 arg8_r0 arg9_r0 arg10_r0 arg12_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h2 : k2_cond2 i k2_t1 arg10_r0 arg12_r0 = 1#1), ∀ a, (k2_off7 arg7_r0) a + S1x1x128.size a ≤ S2x1x128.size a := fun i k2_t1 arg6_r0 arg7_r0 arg8_r0 arg9_r0 arg10_r0 arg12_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h2 : k2_cond2 i k2_t1 arg10_r0 arg12_r0 = 1#1), ∀ a, (k2_off8 i arg10_r0) a + S1x128.size a ≤ S2x4096.size a := fun i k2_t1 arg6_r0 arg7_r0 arg8_r0 arg9_r0 arg10_r0 arg12_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h2 : k2_cond2 i k2_t1 arg10_r0 arg12_r0 = 1#1), ∀ a, (k2_off9 arg7_r0) a + S1.size a ≤ S2.size a := fun i k2_t1 arg6_r0 arg7_r0 arg8_r0 arg9_r0 arg10_r0 arg12_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ a, (k2_off12 arg12_r0) a + S10240x2x128.size a ≤ S10240x8x128.size a := fun i k2_t1 arg6_r0 arg7_r0 arg8_r0 arg9_r0 arg10_r0 arg12_r0 k2_hw1 => k2_hw1.2.2.2.2.2.2.1
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h5 : k2_cond5 i k2_t1 arg10_r0 arg12_r0 = 1#1), ∀ a, (k2_off13 arg8_r0) a + S1x128x2x128.size a ≤ S2x128x2x128.size a := fun i k2_t1 arg6_r0 arg7_r0 arg8_r0 arg9_r0 arg10_r0 arg12_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h5 : k2_cond5 i k2_t1 arg10_r0 arg12_r0 = 1#1), ∀ a, (k2_off14 i arg10_r0 arg12_r0) a + S128x2x128.size a ≤ S8192x8x128.size a := fun i k2_t1 arg6_r0 arg7_r0 arg8_r0 arg9_r0 arg10_r0 arg12_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h5 : k2_cond5 i k2_t1 arg10_r0 arg12_r0 = 1#1), ∀ a, (k2_off15 arg8_r0) a + S1.size a ≤ S2.size a := fun i k2_t1 arg6_r0 arg7_r0 arg8_r0 arg9_r0 arg10_r0 arg12_r0 k2_hw1 k2_h5 => k2_hw1.2.2.2.2.2.2.2.2.2.1 k2_h5
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h7 : k2_cond7 i k2_t1 arg10_r0 arg12_r0 = 1#1), ∀ a, (k2_off16 arg9_r0) a + S1x128x2x128.size a ≤ S2x128x2x128.size a := fun i k2_t1 arg6_r0 arg7_r0 arg8_r0 arg9_r0 arg10_r0 arg12_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h7 : k2_cond7 i k2_t1 arg10_r0 arg12_r0 = 1#1), ∀ a, (k2_off17 i arg10_r0 arg12_r0) a + S128x2x128.size a ≤ S8192x8x128.size a := fun i k2_t1 arg6_r0 arg7_r0 arg8_r0 arg9_r0 arg10_r0 arg12_r0 k2_hw1 k2_h7 => k2_hw1.2.2.2.2.2.2.2.2.2.2.2.1 k2_h7
theorem k2_off18_inb : ∀ (i : grid2.Coords) (k2_t1 : Fin k2_t1_loop.trips) (arg6_r0 : BitVec 32) (arg7_r0 : BitVec 32) (arg8_r0 : BitVec 32) (arg9_r0 : BitVec 32) (arg10_r0 : BitVec 32) (arg12_r0 : BitVec 32) (k2_hw1 : k2_chk1 i k2_t1 arg6_r0 arg7_r0 arg8_r0 arg9_r0 arg10_r0 arg12_r0), ∀ (k2_h7 : k2_cond7 i k2_t1 arg10_r0 arg12_r0 = 1#1), ∀ a, (k2_off18 arg9_r0) a + S1.size a ≤ S2.size a := fun i k2_t1 arg6_r0 arg7_r0 arg8_r0 arg9_r0 arg10_r0 arg12_r0 k2_hw1 k2_h7 => k2_hw1.2.2.2.2.2.2.2.2.2.2.2.2 k2_h7

def k2_off19 (v58_3_r0 : BitVec 32) : Fin 4 → Nat :=
  let c2_i32_118_r0 : BitVec 32 := 2#32
  let v116_r0 : BitVec 32 := Scalar.remui v58_3_r0 c2_i32_118_r0
  let c0_i32_121_r0 : BitVec 32 := 0#32
  let c0_i32_122_r0 : BitVec 32 := 0#32
  let c0_i32_123_r0 : BitVec 32 := 0#32
  ![v116_r0.toNat, 0, 0, 0]

def k2_off20 (i : grid2.Coords) (v58_6_r0 : BitVec 32) (v58_5_r0 : BitVec 32) (v58_4_r0 : BitVec 32) : Fin 3 → Nat :=
  let c128_i32_119_r0 : BitVec 32 := 128#32
  let true_64_r0 : BitVec 1 := 1#1
  let c1_i32_63_r0 : BitVec 32 := 1#32
  let v59_r0 : BitVec 32 := Scalar.subi v58_6_r0 c1_i32_63_r0
  let v60_r0 : BitVec 32 := Scalar.select true_64_r0 v59_r0 v58_6_r0
  let c_m1_i32_65_r0 : BitVec 32 := 4294967295#32
  let v61_r0 : BitVec 1 := Scalar.cmpi .eq v60_r0 c_m1_i32_65_r0
  let c1_i32_67_r0 : BitVec 32 := 1#32
  let v63_r0 : BitVec 32 := Scalar.subi v58_5_r0 c1_i32_67_r0
  let v64_r0 : BitVec 32 := Scalar.select v61_r0 v63_r0 v58_5_r0
  let c_m1_i32_68_r0 : BitVec 32 := 4294967295#32
  let v65_r0 : BitVec 1 := Scalar.cmpi .eq v64_r0 c_m1_i32_68_r0
  let c1_i32_70_r0 : BitVec 32 := 1#32
  let v67_r0 : BitVec 32 := Scalar.subi v58_4_r0 c1_i32_70_r0
  let v68_r0 : BitVec 32 := Scalar.select v65_r0 v67_r0 v58_4_r0
  let c_m1_i32_71_r0 : BitVec 32 := 4294967295#32
  let v69_r0 : BitVec 1 := Scalar.cmpi .eq v68_r0 c_m1_i32_71_r0
  let c1_i32_72_r0 : BitVec 32 := 1#32
  let v70_r0 : BitVec 32 := Scalar.select v69_r0 c1_i32_72_r0 v68_r0
  let c0_i32_73_r0 : BitVec 32 := 0#32
  let v71_r0 : BitVec 32 := Scalar.addi v70_r0 c0_i32_73_r0
  let c32_i32_r0 : BitVec 32 := 32#32
  let v117_r0 : BitVec 32 := Scalar.muli v71_r0 c32_i32_r0
  let c0_i32_74_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v72_r0 : BitVec 32 := Scalar.addi c0_i32_74_r0 v4
  let v118_r0 : BitVec 32 := Scalar.addi v117_r0 v72_r0
  let v119_r0 : BitVec 32 := Scalar.muli c128_i32_119_r0 v118_r0
  let c2_i32_120_r0 : BitVec 32 := 2#32
  let c3_i32_66_r0 : BitVec 32 := 3#32
  let v62_r0 : BitVec 32 := Scalar.select v61_r0 c3_i32_66_r0 v60_r0
  let c0_i32_75_r0 : BitVec 32 := 0#32
  let v73_r0 : BitVec 32 := Scalar.addi v62_r0 c0_i32_75_r0
  let v120_r0 : BitVec 32 := Scalar.muli c2_i32_120_r0 v73_r0
  let c0_i32_124_r0 : BitVec 32 := 0#32
  ![v119_r0.toNat, v120_r0.toNat, 0]

def k2_chk5 (i : grid2.Coords) (v58_6_r0 : BitVec 32) (v58_5_r0 : BitVec 32) (v58_4_r0 : BitVec 32) : Prop :=
  (∀ a, (k2_off20 i v58_6_r0 v58_5_r0 v58_4_r0) a + S128x2x128.size a ≤ S8192x8x128.size a)
theorem k2_off20_inb : ∀ (i : grid2.Coords) (v58_6_r0 : BitVec 32) (v58_5_r0 : BitVec 32) (v58_4_r0 : BitVec 32) (k2_hw5 : k2_chk5 i v58_6_r0 v58_5_r0 v58_4_r0), ∀ a, (k2_off20 i v58_6_r0 v58_5_r0 v58_4_r0) a + S128x2x128.size a ≤ S8192x8x128.size a := fun i v58_6_r0 v58_5_r0 v58_4_r0 k2_hw5 => k2_hw5

def k2_off21 (v58_3_r0 : BitVec 32) : Fin 1 → Nat :=
  let c2_i32_118_r0 : BitVec 32 := 2#32
  let v116_r0 : BitVec 32 := Scalar.remui v58_3_r0 c2_i32_118_r0
  ![v116_r0.toNat]
def k2_off22 (v58_3_r0 : BitVec 32) : Fin 4 → Nat :=
  let c2_i32_118_r0 : BitVec 32 := 2#32
  let v116_r0 : BitVec 32 := Scalar.remui v58_3_r0 c2_i32_118_r0
  let c0_i32_126_r0 : BitVec 32 := 0#32
  let c0_i32_127_r0 : BitVec 32 := 0#32
  let c0_i32_128_r0 : BitVec 32 := 0#32
  ![v116_r0.toNat, 0, 0, 0]

def k2_chk4 (v58_3_r0 : BitVec 32) : Prop :=
  (∀ a, (k2_off19 v58_3_r0) a + S1x128x2x128.size a ≤ S2x128x2x128.size a) ∧
  (∀ a, (k2_off21 v58_3_r0) a + S1.size a ≤ S2.size a) ∧
  (∀ a, (k2_off22 v58_3_r0) a + S1x128x2x128.size a ≤ S2x128x2x128.size a)
theorem k2_off19_inb : ∀ (v58_3_r0 : BitVec 32) (k2_hw4 : k2_chk4 v58_3_r0), ∀ a, (k2_off19 v58_3_r0) a + S1x128x2x128.size a ≤ S2x128x2x128.size a := fun v58_3_r0 k2_hw4 => k2_hw4.1
theorem k2_off21_inb : ∀ (v58_3_r0 : BitVec 32) (k2_hw4 : k2_chk4 v58_3_r0), ∀ a, (k2_off21 v58_3_r0) a + S1.size a ≤ S2.size a := fun v58_3_r0 k2_hw4 => k2_hw4.2.1
theorem k2_off22_inb : ∀ (v58_3_r0 : BitVec 32) (k2_hw4 : k2_chk4 v58_3_r0), ∀ a, (k2_off22 v58_3_r0) a + S1x128x2x128.size a ≤ S2x128x2x128.size a := fun v58_3_r0 k2_hw4 => k2_hw4.2.2

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2x2048x1024 : Shape := ⟨3, ![2, 2048, 1024]⟩
abbrev S4096x2 : Shape := ⟨2, ![4096, 2]⟩
abbrev S1x40 : Shape := ⟨2, ![1, 40]⟩
abbrev S1x1 : Shape := ⟨2, ![1, 1]⟩
abbrev S8x4096x1024 : Shape := ⟨3, ![8, 4096, 1024]⟩
abbrev S8x4096 : Shape := ⟨2, ![8, 4096]⟩
abbrev S8x1024x4096 : Shape := ⟨3, ![8, 1024, 4096]⟩
abbrev S8x1024 : Shape := ⟨2, ![8, 1024]⟩
abbrev S4096x1024 : Shape := ⟨2, ![4096, 1024]⟩
abbrev S_ : Shape := ⟨0, ![]⟩
abbrev S4096 : Shape := ⟨1, ![4096]⟩
abbrev S1x4096x1024 : Shape := ⟨3, ![1, 4096, 1024]⟩
abbrev S1024x4096 : Shape := ⟨2, ![1024, 4096]⟩
abbrev S4096x4096 : Shape := ⟨2, ![4096, 4096]⟩
abbrev S1x4096 : Shape := ⟨2, ![1, 4096]⟩
abbrev S1x1024x4096 : Shape := ⟨3, ![1, 1024, 4096]⟩
abbrev S1x1024 : Shape := ⟨2, ![1, 1024]⟩
abbrev S1024 : Shape := ⟨1, ![1024]⟩
abbrev S4096x1 : Shape := ⟨2, ![4096, 1]⟩

abbrev nBuf : Space → Nat
  | .hbm => 334
  | .vmem => 0
  | .smem => 0
  | _ => 0

abbrev hbmTy0_0 (i : Nat) : BufTy := match i % 128 with
  | 0 => ⟨S2x2048x1024, .f32⟩
  | 1 => ⟨S4096x2, .f32⟩
  | 2 => ⟨S4096x2, .i32⟩
  | 3 => ⟨S4096x2, .i32⟩
  | 4 => ⟨S1x40, .i32⟩
  | 5 => ⟨S1x1, .i32⟩
  | 6 => ⟨S8x4096x1024, .f32⟩
  | 7 => ⟨S8x4096, .f32⟩
  | 8 => ⟨S8x1024x4096, .f32⟩
  | 9 => ⟨S8x1024, .f32⟩
  | 10 => ⟨S4096x1024, .f32⟩
  | 11 => ⟨S_, .f32⟩
  | 12 => ⟨S4096x1024, .f32⟩
  | 13 => ⟨S_, .i32⟩
  | 14 => ⟨S4096x2, .i32⟩
  | 15 => ⟨S4096x2, .i1⟩
  | 16 => ⟨S_, .f32⟩
  | 17 => ⟨S_, .f32⟩
  | 18 => ⟨S4096x2, .f32⟩
  | 19 => ⟨S4096x2, .f32⟩
  | 20 => ⟨S_, .f32⟩
  | 21 => ⟨S4096, .f32⟩
  | 22 => ⟨S1x4096x1024, .f32⟩
  | 23 => ⟨S4096x1024, .f32⟩
  | 24 => ⟨S1024x4096, .f32⟩
  | 25 => ⟨S4096x4096, .f32⟩
  | 26 => ⟨S1x4096, .f32⟩
  | 27 => ⟨S4096, .f32⟩
  | 28 => ⟨S1x4096, .f32⟩
  | 29 => ⟨S4096x4096, .f32⟩
  | 30 => ⟨S4096x4096, .f32⟩
  | 31 => ⟨S_, .f32⟩
  | 32 => ⟨S4096x4096, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .f32⟩
  | 39 => ⟨S4096x4096, .f32⟩
  | 40 => ⟨S1x1024x4096, .f32⟩
  | 41 => ⟨S1024x4096, .f32⟩
  | 42 => ⟨S4096x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1, .f32⟩
  | 50 => ⟨S4096x1024, .f32⟩
  | 51 => ⟨S4096x1024, .f32⟩
  | 52 => ⟨S4096x1024, .f32⟩
  | 53 => ⟨S_, .i32⟩
  | 54 => ⟨S4096x2, .i32⟩
  | 55 => ⟨S4096x2, .i1⟩
  | 56 => ⟨S_, .f32⟩
  | 57 => ⟨S_, .f32⟩
  | 58 => ⟨S4096x2, .f32⟩
  | 59 => ⟨S4096x2, .f32⟩
  | 60 => ⟨S_, .f32⟩
  | 61 => ⟨S4096, .f32⟩
  | 62 => ⟨S1x4096x1024, .f32⟩
  | 63 => ⟨S4096x1024, .f32⟩
  | 64 => ⟨S1024x4096, .f32⟩
  | 65 => ⟨S4096x4096, .f32⟩
  | 66 => ⟨S1x4096, .f32⟩
  | 67 => ⟨S4096, .f32⟩
  | 68 => ⟨S1x4096, .f32⟩
  | 69 => ⟨S4096x4096, .f32⟩
  | 70 => ⟨S4096x4096, .f32⟩
  | 71 => ⟨S_, .f32⟩
  | 72 => ⟨S4096x4096, .f32⟩
  | 73 => ⟨S4096x4096, .f32⟩
  | 74 => ⟨S4096x4096, .f32⟩
  | 75 => ⟨S_, .f32⟩
  | 76 => ⟨S4096x4096, .f32⟩
  | 77 => ⟨S4096x4096, .f32⟩
  | 78 => ⟨S4096x4096, .f32⟩
  | 79 => ⟨S4096x4096, .f32⟩
  | 80 => ⟨S1x1024x4096, .f32⟩
  | 81 => ⟨S1024x4096, .f32⟩
  | 82 => ⟨S4096x1024, .f32⟩
  | 83 => ⟨S4096x1024, .f32⟩
  | 84 => ⟨S1x1024, .f32⟩
  | 85 => ⟨S1024, .f32⟩
  | 86 => ⟨S1x1024, .f32⟩
  | 87 => ⟨S4096x1024, .f32⟩
  | 88 => ⟨S4096x1024, .f32⟩
  | 89 => ⟨S4096x1, .f32⟩
  | 90 => ⟨S4096x1024, .f32⟩
  | 91 => ⟨S4096x1024, .f32⟩
  | 92 => ⟨S4096x1024, .f32⟩
  | 93 => ⟨S_, .i32⟩
  | 94 => ⟨S4096x2, .i32⟩
  | 95 => ⟨S4096x2, .i1⟩
  | 96 => ⟨S_, .f32⟩
  | 97 => ⟨S_, .f32⟩
  | 98 => ⟨S4096x2, .f32⟩
  | 99 => ⟨S4096x2, .f32⟩
  | 100 => ⟨S_, .f32⟩
  | 101 => ⟨S4096, .f32⟩
  | 102 => ⟨S1x4096x1024, .f32⟩
  | 103 => ⟨S4096x1024, .f32⟩
  | 104 => ⟨S1024x4096, .f32⟩
  | 105 => ⟨S4096x4096, .f32⟩
  | 106 => ⟨S1x4096, .f32⟩
  | 107 => ⟨S4096, .f32⟩
  | 108 => ⟨S1x4096, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x4096, .f32⟩
  | 115 => ⟨S_, .f32⟩
  | 116 => ⟨S4096x4096, .f32⟩
  | 117 => ⟨S4096x4096, .f32⟩
  | 118 => ⟨S4096x4096, .f32⟩
  | 119 => ⟨S4096x4096, .f32⟩
  | 120 => ⟨S1x1024x4096, .f32⟩
  | 121 => ⟨S1024x4096, .f32⟩
  | 122 => ⟨S4096x1024, .f32⟩
  | 123 => ⟨S4096x1024, .f32⟩
  | 124 => ⟨S1x1024, .f32⟩
  | 125 => ⟨S1024, .f32⟩
  | 126 => ⟨S1x1024, .f32⟩
  | 127 => ⟨S4096x1024, .f32⟩
  | _ => ⟨S2x2048x1024, .f32⟩

abbrev hbmTy0_1 (i : Nat) : BufTy := match i % 128 with
  | 0 => ⟨S4096x1024, .f32⟩
  | 1 => ⟨S4096x1, .f32⟩
  | 2 => ⟨S4096x1024, .f32⟩
  | 3 => ⟨S4096x1024, .f32⟩
  | 4 => ⟨S4096x1024, .f32⟩
  | 5 => ⟨S_, .i32⟩
  | 6 => ⟨S4096x2, .i32⟩
  | 7 => ⟨S4096x2, .i1⟩
  | 8 => ⟨S_, .f32⟩
  | 9 => ⟨S_, .f32⟩
  | 10 => ⟨S4096x2, .f32⟩
  | 11 => ⟨S4096x2, .f32⟩
  | 12 => ⟨S_, .f32⟩
  | 13 => ⟨S4096, .f32⟩
  | 14 => ⟨S1x4096x1024, .f32⟩
  | 15 => ⟨S4096x1024, .f32⟩
  | 16 => ⟨S1024x4096, .f32⟩
  | 17 => ⟨S4096x4096, .f32⟩
  | 18 => ⟨S1x4096, .f32⟩
  | 19 => ⟨S4096, .f32⟩
  | 20 => ⟨S1x4096, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S_, .f32⟩
  | 28 => ⟨S4096x4096, .f32⟩
  | 29 => ⟨S4096x4096, .f32⟩
  | 30 => ⟨S4096x4096, .f32⟩
  | 31 => ⟨S4096x4096, .f32⟩
  | 32 => ⟨S1x1024x4096, .f32⟩
  | 33 => ⟨S1024x4096, .f32⟩
  | 34 => ⟨S4096x1024, .f32⟩
  | 35 => ⟨S4096x1024, .f32⟩
  | 36 => ⟨S1x1024, .f32⟩
  | 37 => ⟨S1024, .f32⟩
  | 38 => ⟨S1x1024, .f32⟩
  | 39 => ⟨S4096x1024, .f32⟩
  | 40 => ⟨S4096x1024, .f32⟩
  | 41 => ⟨S4096x1, .f32⟩
  | 42 => ⟨S4096x1024, .f32⟩
  | 43 => ⟨S4096x1024, .f32⟩
  | 44 => ⟨S4096x1024, .f32⟩
  | 45 => ⟨S_, .i32⟩
  | 46 => ⟨S4096x2, .i32⟩
  | 47 => ⟨S4096x2, .i1⟩
  | 48 => ⟨S_, .f32⟩
  | 49 => ⟨S_, .f32⟩
  | 50 => ⟨S4096x2, .f32⟩
  | 51 => ⟨S4096x2, .f32⟩
  | 52 => ⟨S_, .f32⟩
  | 53 => ⟨S4096, .f32⟩
  | 54 => ⟨S1x4096x1024, .f32⟩
  | 55 => ⟨S4096x1024, .f32⟩
  | 56 => ⟨S1024x4096, .f32⟩
  | 57 => ⟨S4096x4096, .f32⟩
  | 58 => ⟨S1x4096, .f32⟩
  | 59 => ⟨S4096, .f32⟩
  | 60 => ⟨S1x4096, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S4096x4096, .f32⟩
  | 67 => ⟨S_, .f32⟩
  | 68 => ⟨S4096x4096, .f32⟩
  | 69 => ⟨S4096x4096, .f32⟩
  | 70 => ⟨S4096x4096, .f32⟩
  | 71 => ⟨S4096x4096, .f32⟩
  | 72 => ⟨S1x1024x4096, .f32⟩
  | 73 => ⟨S1024x4096, .f32⟩
  | 74 => ⟨S4096x1024, .f32⟩
  | 75 => ⟨S4096x1024, .f32⟩
  | 76 => ⟨S1x1024, .f32⟩
  | 77 => ⟨S1024, .f32⟩
  | 78 => ⟨S1x1024, .f32⟩
  | 79 => ⟨S4096x1024, .f32⟩
  | 80 => ⟨S4096x1024, .f32⟩
  | 81 => ⟨S4096x1, .f32⟩
  | 82 => ⟨S4096x1024, .f32⟩
  | 83 => ⟨S4096x1024, .f32⟩
  | 84 => ⟨S4096x1024, .f32⟩
  | 85 => ⟨S_, .i32⟩
  | 86 => ⟨S4096x2, .i32⟩
  | 87 => ⟨S4096x2, .i1⟩
  | 88 => ⟨S_, .f32⟩
  | 89 => ⟨S_, .f32⟩
  | 90 => ⟨S4096x2, .f32⟩
  | 91 => ⟨S4096x2, .f32⟩
  | 92 => ⟨S_, .f32⟩
  | 93 => ⟨S4096, .f32⟩
  | 94 => ⟨S1x4096x1024, .f32⟩
  | 95 => ⟨S4096x1024, .f32⟩
  | 96 => ⟨S1024x4096, .f32⟩
  | 97 => ⟨S4096x4096, .f32⟩
  | 98 => ⟨S1x4096, .f32⟩
  | 99 => ⟨S4096, .f32⟩
  | 100 => ⟨S1x4096, .f32⟩
  | 101 => ⟨S4096x4096, .f32⟩
  | 102 => ⟨S4096x4096, .f32⟩
  | 103 => ⟨S_, .f32⟩
  | 104 => ⟨S4096x4096, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x4096, .f32⟩
  | 111 => ⟨S4096x4096, .f32⟩
  | 112 => ⟨S1x1024x4096, .f32⟩
  | 113 => ⟨S1024x4096, .f32⟩
  | 114 => ⟨S4096x1024, .f32⟩
  | 115 => ⟨S4096x1024, .f32⟩
  | 116 => ⟨S1x1024, .f32⟩
  | 117 => ⟨S1024, .f32⟩
  | 118 => ⟨S1x1024, .f32⟩
  | 119 => ⟨S4096x1024, .f32⟩
  | 120 => ⟨S4096x1024, .f32⟩
  | 121 => ⟨S4096x1, .f32⟩
  | 122 => ⟨S4096x1024, .f32⟩
  | 123 => ⟨S4096x1024, .f32⟩
  | 124 => ⟨S4096x1024, .f32⟩
  | 125 => ⟨S_, .i32⟩
  | 126 => ⟨S4096x2, .i32⟩
  | 127 => ⟨S4096x2, .i1⟩
  | _ => ⟨S2x2048x1024, .f32⟩

abbrev hbmTy0_2 (i : Nat) : BufTy := match i % 128 with
  | 0 => ⟨S_, .f32⟩
  | 1 => ⟨S_, .f32⟩
  | 2 => ⟨S4096x2, .f32⟩
  | 3 => ⟨S4096x2, .f32⟩
  | 4 => ⟨S_, .f32⟩
  | 5 => ⟨S4096, .f32⟩
  | 6 => ⟨S1x4096x1024, .f32⟩
  | 7 => ⟨S4096x1024, .f32⟩
  | 8 => ⟨S1024x4096, .f32⟩
  | 9 => ⟨S4096x4096, .f32⟩
  | 10 => ⟨S1x4096, .f32⟩
  | 11 => ⟨S4096, .f32⟩
  | 12 => ⟨S1x4096, .f32⟩
  | 13 => ⟨S4096x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S4096x4096, .f32⟩
  | 23 => ⟨S4096x4096, .f32⟩
  | 24 => ⟨S1x1024x4096, .f32⟩
  | 25 => ⟨S1024x4096, .f32⟩
  | 26 => ⟨S4096x1024, .f32⟩
  | 27 => ⟨S4096x1024, .f32⟩
  | 28 => ⟨S1x1024, .f32⟩
  | 29 => ⟨S1024, .f32⟩
  | 30 => ⟨S1x1024, .f32⟩
  | 31 => ⟨S4096x1024, .f32⟩
  | 32 => ⟨S4096x1024, .f32⟩
  | 33 => ⟨S4096x1, .f32⟩
  | 34 => ⟨S4096x1024, .f32⟩
  | 35 => ⟨S4096x1024, .f32⟩
  | 36 => ⟨S4096x1024, .f32⟩
  | 37 => ⟨S_, .i32⟩
  | 38 => ⟨S4096x2, .i32⟩
  | 39 => ⟨S4096x2, .i1⟩
  | 40 => ⟨S_, .f32⟩
  | 41 => ⟨S_, .f32⟩
  | 42 => ⟨S4096x2, .f32⟩
  | 43 => ⟨S4096x2, .f32⟩
  | 44 => ⟨S_, .f32⟩
  | 45 => ⟨S4096, .f32⟩
  | 46 => ⟨S1x4096x1024, .f32⟩
  | 47 => ⟨S4096x1024, .f32⟩
  | 48 => ⟨S1024x4096, .f32⟩
  | 49 => ⟨S4096x4096, .f32⟩
  | 50 => ⟨S1x4096, .f32⟩
  | 51 => ⟨S4096, .f32⟩
  | 52 => ⟨S1x4096, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S4096x4096, .f32⟩
  | 63 => ⟨S4096x4096, .f32⟩
  | 64 => ⟨S1x1024x4096, .f32⟩
  | 65 => ⟨S1024x4096, .f32⟩
  | 66 => ⟨S4096x1024, .f32⟩
  | 67 => ⟨S4096x1024, .f32⟩
  | 68 => ⟨S1x1024, .f32⟩
  | 69 => ⟨S1024, .f32⟩
  | 70 => ⟨S1x1024, .f32⟩
  | 71 => ⟨S4096x1024, .f32⟩
  | 72 => ⟨S4096x1024, .f32⟩
  | 73 => ⟨S4096x1, .f32⟩
  | 74 => ⟨S4096x1024, .f32⟩
  | 75 => ⟨S4096x1024, .f32⟩
  | 76 => ⟨S4096x1024, .f32⟩
  | 77 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_9 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_call2_v0 : Ref sig .tc := ⟨.hbm, 97, rfl⟩
abbrev main_call2_v1 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_14 : Ref sig .tc := ⟨.hbm, 133, rfl⟩
abbrev main_v101 : Ref sig .tc := ⟨.hbm, 134, rfl⟩
abbrev main_v102 : Ref sig .tc := ⟨.hbm, 135, rfl⟩
abbrev main_cst_15 : Ref sig .tc := ⟨.hbm, 136, rfl⟩
abbrev main_call3_v0 : Ref sig .tc := ⟨.hbm, 137, rfl⟩
abbrev main_call3_v1 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_17 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_18 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_19 : Ref sig .tc := ⟨.hbm, 173, rfl⟩
abbrev main_v134 : Ref sig .tc := ⟨.hbm, 174, rfl⟩
abbrev main_v135 : Ref sig .tc := ⟨.hbm, 175, rfl⟩
abbrev main_cst_20 : Ref sig .tc := ⟨.hbm, 176, rfl⟩
abbrev main_call4_v0 : Ref sig .tc := ⟨.hbm, 177, rfl⟩
abbrev main_call4_v1 : Ref sig .tc := ⟨.hbm, 178, rfl⟩
abbrev main_v136 : Ref sig .tc := ⟨.hbm, 179, rfl⟩
abbrev main_cst_21 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_22 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_23 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_c_24 : Ref sig .tc := ⟨.hbm, 213, rfl⟩
abbrev main_v167 : Ref sig .tc := ⟨.hbm, 214, rfl⟩
abbrev main_v168 : Ref sig .tc := ⟨.hbm, 215, rfl⟩
abbrev main_cst_25 : Ref sig .tc := ⟨.hbm, 216, rfl⟩
abbrev main_call5_v0 : Ref sig .tc := ⟨.hbm, 217, rfl⟩
abbrev main_call5_v1 : Ref sig .tc := ⟨.hbm, 218, rfl⟩
abbrev main_v169 : Ref sig .tc := ⟨.hbm, 219, rfl⟩
abbrev main_cst_26 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_27 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_cst_28 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_c_29 : Ref sig .tc := ⟨.hbm, 253, rfl⟩
abbrev main_v200 : Ref sig .tc := ⟨.hbm, 254, rfl⟩
abbrev main_v201 : Ref sig .tc := ⟨.hbm, 255, rfl⟩
abbrev main_cst_30 : Ref sig .tc := ⟨.hbm, 256, rfl⟩
abbrev main_call6_v0 : Ref sig .tc := ⟨.hbm, 257, rfl⟩
abbrev main_call6_v1 : Ref sig .tc := ⟨.hbm, 258, rfl⟩
abbrev main_v202 : Ref sig .tc := ⟨.hbm, 259, rfl⟩
abbrev main_cst_31 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_cst_32 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_cst_33 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_c_34 : Ref sig .tc := ⟨.hbm, 293, rfl⟩
abbrev main_v233 : Ref sig .tc := ⟨.hbm, 294, rfl⟩
abbrev main_v234 : Ref sig .tc := ⟨.hbm, 295, rfl⟩
abbrev main_cst_35 : Ref sig .tc := ⟨.hbm, 296, rfl⟩
abbrev main_call7_v0 : Ref sig .tc := ⟨.hbm, 297, rfl⟩
abbrev main_call7_v1 : Ref sig .tc := ⟨.hbm, 298, rfl⟩
abbrev main_v235 : Ref sig .tc := ⟨.hbm, 299, rfl⟩
abbrev main_cst_36 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_cst_37 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_cst_38 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩

abbrev nD : Nat := 1
abbrev τ : Topo := Topo.v7x

variable {F : FTy → Type} [FloatOps F]
-- ==== Router.lean ====
abbrev S2x2048x1024 : Shape := ⟨3, ![2, 2048, 1024]⟩
abbrev S8x1024 : Shape := ⟨2, ![8, 1024]⟩
abbrev S4096x1024 : Shape := ⟨2, ![4096, 1024]⟩
abbrev S4096x2 : Shape := ⟨2, ![4096, 2]⟩
abbrev S4096x8 : Shape := ⟨2, ![4096, 8]⟩
abbrev S1x8 : Shape := ⟨2, ![1, 8]⟩
abbrev S1024x1024 : Shape := ⟨2, ![1024, 1024]⟩
abbrev S1024x2 : Shape := ⟨2, ![1024, 2]⟩
abbrev S1024x8 : Shape := ⟨2, ![1024, 8]⟩
abbrev S1024 : Shape := ⟨1, ![1024]⟩
abbrev S1024x1 : Shape := ⟨2, ![1024, 1]⟩
abbrev S8 : Shape := ⟨1, ![8]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S4096x1024, .f32⟩
  | .hbm, ⟨3, _⟩ => ⟨S4096x2, .f32⟩
  | .hbm, ⟨4, _⟩ => ⟨S4096x2, .i32⟩
  | .hbm, ⟨5, _⟩ => ⟨S4096x8, .f32⟩
  | .hbm, ⟨6, _⟩ => ⟨S1x8, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1024x2, .f32⟩
  | .local _ .vmem, ⟨4, _⟩ => ⟨S1024x2, .f32⟩
  | .local _ .vmem, ⟨5, _⟩ => ⟨S1024x2, .i32⟩
  | .local _ .vmem, ⟨6, _⟩ => ⟨S1024x2, .i32⟩
  | .local _ .vmem, ⟨7, _⟩ => ⟨S1024x8, .f32⟩
  | .local _ .vmem, ⟨8, _⟩ => ⟨S1024x8, .f32⟩
  | .local _ .vmem, ⟨9, _⟩ => ⟨S1x8, .f32⟩
  | .local _ .vmem, ⟨10, _⟩ => ⟨S1x8, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RoutingIdeal.lean ====
abbrev S2x2048x1024 : Shape := ⟨3, ![2, 2048, 1024]⟩
abbrev S8x1024 : Shape := ⟨2, ![8, 1024]⟩
abbrev S4096x1024 : Shape := ⟨2, ![4096, 1024]⟩
abbrev S1024x8 : Shape := ⟨2, ![1024, 8]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2 : Shape := ⟨2, ![4096, 2]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S4096x1024, .f32⟩
  | .hbm, ⟨3, _⟩ => ⟨S1024x8, .f32⟩
  | .hbm, ⟨4, _⟩ => ⟨S4096x8, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096x1, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x8, .f32⟩
  | .hbm, ⟨18, _⟩ => ⟨S4096x8, .f32⟩
  | .hbm, ⟨19, _⟩ => ⟨S4096x2, .f32⟩
  | .hbm, ⟨20, _⟩ => ⟨S4096x2, .i32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x2, .f32⟩
  | .hbm, ⟨25, _⟩ => ⟨S4096x2, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Common.lean ====
/-
  The launch's set-up: the program as the launch theorem sees it, the resource algebra (the handshakes' rounds, the
  pipelines' rounds, the transfers' counters), small helpers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 2) fun p => (pcfgs (F := F) p).Adm
abbrev K : SparseCore.Cfg τ sig (ΛP (F := F)) 2 := sc (F := F)
theorem nSub_eq (q : Fin 2) : (K (F := F)).nSub q = 16 := by fin_cases q <;> rfl
theorem nCore_eq (q : Fin 2) : (K (F := F)).nCore q = 2 := by fin_cases q <;> rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The pipelines' cells. -/
def EP : Emb UP (MT nD τ sig (HIx 2) (Elt F) ℕ UU ℕ) :=
  ((Emb.inl : Emb UP (UP × Counters)).trans (Emb.inr : Emb (UP × Counters) UU)).trans
    (uEmb (nD := nD) (τ := τ) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- A conditional statement with the rest in both branches: the branch to one assertion, the rest from it. -/
theorem wp_ite_join {Λ : Labels} {c : Thread nD τ} {defs : Defs nD τ sig (Elt F) Λ} {𝒱' : Variants} {bd : Option 𝒱'.V}
    {p : Prop} [Decidable p] {α : Type} {A : p → Prog (TpuEff nD τ sig (Elt F) Λ c.2) α} {B : Prog (TpuEff nD τ sig (Elt F) Λ c.2) α}
    {Q : α → sProp 𝕄} {P R : sProp 𝕄}
    (hA : ∀ h, P ⊢ iprop((R -∗ wp frame (wpE defs 𝒱' c bd) Set.univ B Q) -∗ wp frame (wpE defs 𝒱' c bd) Set.univ (A h) Q))
    (hB : ¬p → P ⊢ R) :
    P ⊢ iprop((R -∗ wp frame (wpE defs 𝒱' c bd) Set.univ B Q) -∗ wp frame (wpE defs 𝒱' c bd) Set.univ (dite p A (fun _ => B)) Q) := by
  by_cases h : p
  · rw [dif_pos h]; exact hA h
  · rw [dif_neg h]
    iintro HP Hk
    iapply Hk; iapply (hB h); iexact HP

/-- The slot a running count addresses. -/
def slot (n : ℕ) : Fin 2 := ⟨n % 2, Nat.mod_lt _ (by norm_num)⟩

end Cert.Proof.Moe
-- ==== Proof.FFNRun.lean ====
/-
  The feed-forward network's call: its body's run on one block of rows.
-/
module

public import proofs.«01_k».proof.Proof.Common
public import proofs.«01_k».proof.Proof.Gen.KernelIdeal.Launch
public import Idealize.ShloMosaic.Lib.Pipeline.Regions
public import Idealize.ShloMosaic.Lib.Pipeline.TableIdle
public import Idealize.ShloMosaic.Lib.Pipeline.FrameBody
public import Idealize.ShloMosaic.Lib.WritesUnit

@[expose] public section

noncomputable section

namespace Cert.Proof.Moe

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace FFN

open Idealize.ShloMosaic.TcCoe

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- A load through a window of what a buffer holds. -/
abbrev ld {S : Shape} {e : EltTy} (r : LoadRect S) (X : S.Idx → Elt F e) : r.shape.Idx → Elt F e := fun x => X (r.idx x)

/-- The block the body stores, from the blocks it is handed. -/
def pay (X0 : S256x1024.Idx → Elt F .f32) (X1 : S1x4096x1024.Idx → Elt F .bf16) (X2 : S1x1x4096.Idx → Elt F .f32) (X3 : S1x1024x4096.Idx → Elt F .bf16) (X4 : S1x1x1024.Idx → Elt F .f32) : FVec F S256x1024 .f32 :=
  k1_pay14 (k1_pay1 (ld (Rect.unit (s := S256x1024) ![0, 0] ![256, 1024] inb_S256x1024_S256x1024_0_0).toLoadRect X0)) (k1_pay10 (k1_pay1 (ld (Rect.unit (s := S256x1024) ![0, 0] ![256, 1024] inb_S256x1024_S256x1024_0_0).toLoadRect X0)) (k1_pay7 (k1_pay5 (k1_pay1 (ld (Rect.unit (s := S256x1024) ![0, 0] ![256, 1024] inb_S256x1024_S256x1024_0_0).toLoadRect X0)) (k1_pay2 (ld (Rect.unit (s := S256x1024) ![0, 0] ![256, 1024] inb_S256x1024_S256x1024_0_0).toLoadRect X0) (ld (Rect.unit (s := S1x4096x1024) ![0, 0, 0] ![1, 512, 1024] inb_S1x4096x1024_S1x512x1024_0_0_0).toLoadRect X1) (ld (Rect.unit (s := S1x1x4096) ![0, 0, 0] ![1, 1, 512] inb_S1x1x4096_S1x1x512_0_0_0).toLoadRect X2) (ld (Rect.unit (s := S1x1024x4096) ![0, 0, 0] ![1, 1024, 512] inb_S1x1024x4096_S1x1024x512_0_0_0).toLoadRect X3)) (k1_pay3 (ld (Rect.unit (s := S256x1024) ![0, 0] ![256, 1024] inb_S256x1024_S256x1024_0_0).toLoadRect X0) (ld (Rect.unit (s := S1x4096x1024) ![0, 512, 0] ![1, 512, 1024] inb_S1x4096x1024_S1x512x1024_0_512_0).toLoadRect X1) (ld (Rect.unit (s := S1x1x4096) ![0, 0, 512] ![1, 1, 512] inb_S1x1x4096_S1x1x512_0_0_512).toLoadRect X2)) (k1_pay4 (ld (Rect.unit (s := S256x1024) ![0, 0] ![256, 1024] inb_S256x1024_S256x1024_0_0).toLoadRect X0) (ld (Rect.unit (s := S1x4096x1024) ![0, 512, 0] ![1, 512, 1024] inb_S1x4096x1024_S1x512x1024_0_512_0).toLoadRect X1) (ld (Rect.unit (s := S1x1x4096) ![0, 0, 512] ![1, 1, 512] inb_S1x1x4096_S1x1x512_0_0_512).toLoadRect X2)) (ld (Rect.unit (s := S1x1024x4096) ![0, 0, 512] ![1, 1024, 512] inb_S1x1024x4096_S1x1024x512_0_0_512).toLoadRect X3) (ld (Rect.unit (s := S1x4096x1024) ![0, 1024, 0] ![1, 512, 1024] inb_S1x4096x1024_S1x512x1024_0_1024_0).toLoadRect X1) (ld (Rect.unit (s := S1x1x4096) ![0, 0, 1024] ![1, 1, 512] inb_S1x1x4096_S1x1x512_0_0_1024).toLoadRect X2) (ld (Rect.unit (s := S1x1024x4096) ![0, 0, 1024] ![1, 1024, 512] inb_S1x1024x4096_S1x1024x512_0_0_1024).toLoadRect X3)) (k1_pay6 (k1_pay1 (ld (Rect.unit (s := S256x1024) ![0, 0] ![256, 1024] inb_S256x1024_S256x1024_0_0).toLoadRect X0)) (ld (Rect.unit (s := S1x4096x1024) ![0, 1536, 0] ![1, 512, 1024] inb_S1x4096x1024_S1x512x1024_0_1536_0).toLoadRect X1)) (ld (Rect.unit (s := S1x1x4096) ![0, 0, 1536] ![1, 1, 512] inb_S1x1x4096_S1x1x512_0_0_1536).toLoadRect X2) (ld (Rect.unit (s := S1x1024x4096) ![0, 0, 1536] ![1, 1024, 512] inb_S1x1024x4096_S1x1024x512_0_0_1536).toLoadRect X3)) (k1_pay8 (k1_pay1 (ld (Rect.unit (s := S256x1024) ![0, 0] ![256, 1024] inb_S256x1024_S256x1024_0_0).toLoadRect X0)) (ld (Rect.unit (s := S1x4096x1024) ![0, 2048, 0] ![1, 512, 1024] inb_S1x4096x1024_S1x512x1024_0_2048_0).toLoadRect X1) (ld (Rect.unit (s := S1x1x4096) ![0, 0, 2048] ![1, 1, 512] inb_S1x1x4096_S1x1x512_0_0_2048).toLoadRect X2)) (k1_pay9 (ld (Rect.unit (s := S1x1024x4096) ![0, 0, 2048] ![1, 1024, 512] inb_S1x1024x4096_S1x1024x512_0_0_2048).toLoadRect X3)) (constant S256x1024 .f32 0x00000000#32) (ld (Rect.unit (s := S1x4096x1024) ![0, 2560, 0] ![1, 512, 1024] inb_S1x4096x1024_S1x512x1024_0_2560_0).toLoadRect X1) (ld (Rect.unit (s := S1x1x4096) ![0, 0, 2560] ![1, 1, 512] inb_S1x1x4096_S1x1x512_0_0_2560).toLoadRect X2) (ld (Rect.unit (s := S1x1024x4096) ![0, 0, 2560] ![1, 1024, 512] inb_S1x1024x4096_S1x1024x512_0_0_2560).toLoadRect X3)) (k1_pay12 (k1_pay1 (ld (Rect.unit (s := S256x1024) ![0, 0] ![256, 1024] inb_S256x1024_S256x1024_0_0).toLoadRect X0)) (ld (Rect.unit (s := S1x4096x1024) ![0, 3072, 0] ![1, 512, 1024] inb_S1x4096x1024_S1x512x1024_0_3072_0).toLoadRect X1) (ld (Rect.unit (s := S1x1x4096) ![0, 0, 3072] ![1, 1, 512] inb_S1x1x4096_S1x1x512_0_0_3072).toLoadRect X2)) (k1_pay13 (k1_pay1 (ld (Rect.unit (s := S256x1024) ![0, 0] ![256, 1024] inb_S256x1024_S256x1024_0_0).toLoadRect X0)) (ld (Rect.unit (s := S1x4096x1024) ![0, 3072, 0] ![1, 512, 1024] inb_S1x4096x1024_S1x512x1024_0_3072_0).toLoadRect X1) (ld (Rect.unit (s := S1x1x4096) ![0, 0, 3072] ![1, 1, 512] inb_S1x1x4096_S1x1x512_0_0_3072).toLoadRect X2)) (Scalar.ofBits .f32 0x3F800000#32) (ld (Rect.unit (s := S1x1024x4096) ![0, 0, 3072] ![1, 1024, 512] inb_S1x1024x4096_S1x1024x512_0_0_3072).toLoadRect X3) (ld (Rect.unit (s := S1x4096x1024) ![0, 3584, 0] ![1, 512, 1024] inb_S1x4096x1024_S1x512x1024_0_3584_0).toLoadRect X1) (ld (Rect.unit (s := S1x1x4096) ![0, 0, 3584] ![1, 1, 512] inb_S1x1x4096_S1x1x512_0_0_3584).toLoadRect X2) (ld (Rect.unit (s := S1x1024x4096) ![0, 0, 3584] ![1, 1024, 512] inb_S1x1024x4096_S1x1024x512_0_0_3584).toLoadRect X3) (ld (Rect.unit (s := S1x1x1024) ![0, 0, 0] ![1, 1, 1024] inb_S1x1x1024_S1x1x1024_0_0_0).toLoadRect X4)

/-- The word the body compares its point with. -/
abbrev nuW (n : S1.Idx → BitVec 32) : BitVec 32 := n (fun | (0 : Fin 1) => (⟨0, Nat.zero_lt_one⟩ : Fin 1))

set_option maxHeartbeats 400000 in
theorem body (c : Dev nD) (i : grid1.Coords) (nv : S1.Idx → BitVec 32)
    (M0 : Memref sig .tc .vmem S256x1024 .f32) (h0 : M0.IsWhole) (M1 : Memref sig .tc .vmem S1x4096x1024 .bf16) (h1 : M1.IsWhole)
    (M2 : Memref sig .tc .vmem S1x1x4096 .f32) (h2 : M2.IsWhole) (M3 : Memref sig .tc .vmem S1x1024x4096 .bf16) (h3 : M3.IsWhole)
    (M4 : Memref sig .tc .vmem S1x1x1024 .f32) (h4 : M4.IsWhole) (M5 : Memref sig .tc .vmem S256x1024 .f32) (h5 : M5.IsWhole)
    (X0 : S256x1024.Idx → Elt F .f32) (X1 : S1x4096x1024.Idx → Elt F .bf16) (X2 : S1x1x4096.Idx → Elt F .f32) (X3 : S1x1024x4096.Idx → Elt F .bf16) (X4 : S1x1x1024.Idx → Elt F .f32)
    (X5 : S256x1024.Idx → Elt F .f32) :
    iprop((((c : Thread nD τ).loc main_v10) ↦{fullShare} nv) ∗ owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5)
      ⊢ (wp frame (wpE (defs₀ (F := F)) 𝒱₀ (c : Thread nD τ) none) Set.univ
          (cc1__ffn_body i (Memref.whole main_v9) (Memref.isWhole_whole _) (Memref.whole main_v10) (Memref.isWhole_whole _) M0 h0 M1 h1 M2 h2 M3 h3 M4 h4 M5 h5)
          fun _ => iprop((((c : Thread nD τ).loc main_v10) ↦{fullShare} nv) ∗ owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4
            ∗ ∃ X, ⌜k1_cond1 i (nuW nv) = 1#1 → X = pay X0 X1 X2 X3 X4⌝ ∗ owns (c : Thread nD τ) M5 fullShare X) : sProp 𝕄) := by
  rw [cc1__ffn_body_eq_skeleton]
  unfold cc1__ffn_body_skel owns
  iintro ⟨Hn, ⟨%f0, %e0, H0⟩, ⟨%f1, %e1, H1⟩, ⟨%f2, %e2, H2⟩, ⟨%f3, %e3, H3⟩, ⟨%f4, %e4, H4⟩, ⟨%f5, %e5, H5⟩⟩
  subst e0 e1 e2 e3 e4
  ihave Hn := (Entails.of_eq (show (((c : Thread nD τ).loc main_v10) ↦{fullShare} nv : sProp 𝕄) = ((Memref.whole main_v10).view.loc (c : Thread nD τ) ↦{fullShare} nv) from rfl)) $$ Hn
  sl_exec
  simp only [wp_ret]
  imodintro
  isplitl [Hn]; · iexact Hn
  isplitl [H0]; · iexists f0; isplitr; · (ipureintro; rfl)
                  iexact H0
  isplitl [H1]; · iexists f1; isplitr; · (ipureintro; rfl)
                  iexact H1
  isplitl [H2]; · iexists f2; isplitr; · (ipureintro; rfl)
                  iexact H2
  isplitl [H3]; · iexists f3; isplitr; · (ipureintro; rfl)
                  iexact H3
  isplitl [H4]; · iexists f4; isplitr; · (ipureintro; rfl)
                  iexact H4
  iexists _
  isplitr; swap
  · iexists _; isplitr; swap
    · iexact H5
    · ipureintro; rfl
  ipureintro
  intro hc
  have hw : body.sl.r (F := F) nv = nuW nv := by
    show nv _ = nv _
    congr 1
    funext a
    match a with
    | 0 => rfl
  rw [hw, dif_pos hc]
  funext y
  refine (View.read_writes_cons_unit_of_mem (off' := ![0, 0]) _ _ _ _ [] y y rfl fun a => ?_).trans ?_
  · match a with
    | 0 => exact (Nat.zero_add _).symm
    | 1 => exact (Nat.zero_add _).symm
  rfl

end FFN
end Cert.Proof.Moe
-- ==== Proof.CombineRun.lean ====
/-
  The weighted sum's call: its body's run on one block of rows.
-/
module

public import proofs.«01_k».proof.Proof.FFNRun

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Combine

open Idealize.ShloMosaic.TcCoe
open FFN (Bf pt ld)

/-- The rows' weighted sum: from the blocks of the two rows and of the weights. -/
def pay (X0 X1 : S1024x1024.Idx → Elt F .f32) (X2 : S1024x2.Idx → Elt F .f32) : FVec F S1024x1024 .f32 :=
  k3_pay1 (ld (Rect.unit (s := S1024x2) ![0, 0] S1024x2.size inb_S1024x2_S1024x2_0_0).toLoadRect X2)
    (ld (Rect.unit (s := S1024x1024) ![0, 0] S1024x1024.size inb_S1024x1024_S1024x1024_0_0).toLoadRect X0)
    (ld (Rect.unit (s := S1024x1024) ![0, 0] S1024x1024.size inb_S1024x1024_S1024x1024_0_0).toLoadRect X1)

set_option maxHeartbeats 400000 in
/-- The body's run: the two blocks of rows and the weights kept, the output's block their weighted sum. -/
theorem body (c : Dev nD) (i : grid3.Coords)
    (M0 : Memref sig .tc .vmem S1024x1024 .f32) (h0 : M0.IsWhole) (M1 : Memref sig .tc .vmem S1024x1024 .f32) (h1 : M1.IsWhole)
    (M2 : Memref sig .tc .vmem S1024x2 .f32) (h2 : M2.IsWhole) (M3 : Memref sig .tc .vmem S1024x1024 .f32) (h3 : M3.IsWhole)
    (X0 X1 : S1024x1024.Idx → Elt F .f32) (X2 : S1024x2.Idx → Elt F .f32) (X3 : S1024x1024.Idx → Elt F .f32) :
    iprop(owns (c : Thread nD τ) M0 fullShare X0 ∗ owns (c : Thread nD τ) M1 fullShare X1 ∗ owns (c : Thread nD τ) M2 fullShare X2
        ∗ owns (c : Thread nD τ) M3 fullShare X3)
      ⊢ (wp frame (wpE (defs₀ (F := F)) 𝒱₀ (c : Thread nD τ) none) Set.univ (cc3__combine_body i M0 h0 M1 h1 M2 h2 M3 h3)
          fun _ => iprop(owns (c : Thread nD τ) M0 fullShare X0 ∗ owns (c : Thread nD τ) M1 fullShare X1 ∗ owns (c : Thread nD τ) M2 fullShare X2
            ∗ owns (c : Thread nD τ) M3 fullShare (pay X0 X1 X2)) : sProp 𝕄) := by
  rw [cc3__combine_body_eq_skeleton]
  unfold cc3__combine_body_skel owns
  iintro ⟨⟨%f0, %e0, H0⟩, ⟨%f1, %e1, H1⟩, ⟨%f2, %e2, H2⟩, ⟨%f3, %e3, H3⟩⟩
  subst e0 e1 e2
  sl_exec
  simp only [wp_ret]
  imodintro
  isplitl [H0]; · iexists f0; isplitr; · (ipureintro; rfl)
                  iexact H0
  isplitl [H1]; · iexists f1; isplitr; · (ipureintro; rfl)
                  iexact H1
  isplitl [H2]; · iexists f2; isplitr; · (ipureintro; rfl)
                  iexact H2
  iexists _
  isplitr; swap
  · iexact H3
  ipureintro
  funext y
  refine (View.read_writes_cons_unit_of_mem (off' := ![0, 0]) _ _ _ _ [] y y rfl fun a => ?_).trans ?_
  · match a with
    | 0 => exact (Nat.zero_add _).symm
    | 1 => exact (Nat.zero_add _).symm
  rfl

end Combine

end Cert.Proof.Moe
-- ==== Proof.Regions.lean ====
/-
  The two pipelined calls as regions of the program: what their bodies find and leave, at every block.
-/
module

public import proofs.«01_k».proof.Proof.CombineRun
public import Idealize.ShloMosaic.Lib.ShareLeaves

@[expose] public section

noncomputable section

namespace Cert.Proof.Moe

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe

variable (a : (p : Fin 2) → (pcfgs (F := F) p).Adm) (V : (c : Dev nD) → (b : Ref sig .tc) → Buf (Elt F) ((c : Thread nD τ).loc b))
  (O : Dev nD → CellTallies nD τ sig (HIx 2)) (B : Dev nD → Set (SemLoc sig × HIx 2))

namespace FFN

/-- The configuration at the launch's tables. -/
abbrev cfg := Pipeline.pin (pcfgs (F := F)) a 0

/-- The windows' arrays at entry. -/
def A (c : Dev nD) : (w : Fin 6) → Buf (Elt F) (((cfg a).win w).arr.view.loc (c : Thread nD τ))
  | 0 => V c main_v4
  | 1 => V c main_v5
  | 2 => V c main_v7
  | 3 => V c main_v6
  | 4 => V c main_v8
  | 5 => V c main_v11
  | ⟨_ + 6, h⟩ => absurd h (Nat.not_lt.2 (Nat.le_add_left _ _))

/-- The block of window `w`'s array at point `t`. -/
def blkv (c : Dev nD) (w : Fin 6) (t : Fin grid1.N) : (((cfg a).win w).xblock (grid1.coords t)).Idx → Elt F ((cfg a).win w).elt :=
  (((cfg a).win w).blk t).view.read (Elt F) (A a V c w)

/-- What the block's run leaves in the output's block. -/
def outv (c : Dev nD) (t : Fin grid1.N) : FVec F S256x1024 .f32 :=
  pay (blkv a V c (0 : Fin 6) t) (blkv a V c (1 : Fin 6) t) (blkv a V c (2 : Fin 6) t) (blkv a V c (3 : Fin 6) t) (blkv a V c (4 : Fin 6) t)

/-- Whether point `t` computes. -/
def live (t : Fin grid1.N) : Prop := k1_cond1 (grid1.coords t) (nuW ((a 0).1 (1 : Fin 2))) = 1#1

def rd (c : Dev nD) : Pipeline.RDat τ (Elt F) (HIx 2) ℕ UU ℕ (cfg a) c where
  A := A a V c
  after := fun
    | 0 => fun _ Y X => X = Y
    | 1 => fun _ Y X => X = Y
    | 2 => fun _ Y X => X = Y
    | 3 => fun _ Y X => X = Y
    | 4 => fun _ Y X => X = Y
    | 5 => fun t _ X => live a t → X = outv a V c t
    | ⟨_ + 6, h⟩ => absurd h (Nat.not_lt.2 (Nat.le_add_left _ _))
  Φ := fun _ => iprop(Pipeline.prefHeld pre1 c (fun _ => fullShare) (a 0).1 ∗ Pipeline.scopedRest spec1 c)
  q := fun _ => fullShare
  owed := fun _ => O c
  recorded := fun _ => B c

theorem prefHeld_eq (c : Dev nD) (f : pre1.Contents (Elt F)) : (Pipeline.prefHeld pre1 c (fun _ => fullShare) f : sProp 𝕄)
    = iprop(((c : Thread nD τ).loc main_v9 ↦{fullShare} f (0 : Fin 2)) ∗ ((c : Thread nD τ).loc main_v10 ↦{fullShare} f (1 : Fin 2))) :=
  BI.bigSep_fin_two fun k : Fin 2 => (((c : Thread nD τ).loc (pre1.ref k)) ↦{fullShare} f k : sProp 𝕄)

/-- An input's staging buffer holds its block, whenever the body runs. -/
theorem finds_in (c : Dev nD) (w : Fin 6) (hw : ((cfg a).win w).isOut = false)
    (hk : ∀ t Y X, (rd a V O B c).after w t Y X → X = Y) (t : Fin grid1.N) (Y) (h : (rd a V O B c).Finds w t Y) :
    ∃ d, Y = (rd a V O B c).fetched w t d :=
  (rd a V O B c).finds_in_eq_fetched w hw (fun _ _ _ => rfl) hk t Y h

set_option maxHeartbeats 400000 in
theorem body_obligation (c : Dev nD) : (rd a V O B c).BodyObligation defs₀ 𝒱₀ none Set.univ := by
  intro t Y hY
  have e0 : Y (0 : Fin 6) = blkv a V c (0 : Fin 6) t := by
    obtain ⟨d, hd⟩ := finds_in a V O B c 0 rfl (fun _ _ _ h => h) t _ (hY (0 : Fin 6)); exact hd.trans rfl
  have e1 : Y (1 : Fin 6) = blkv a V c (1 : Fin 6) t := by
    obtain ⟨d, hd⟩ := finds_in a V O B c 1 rfl (fun _ _ _ h => h) t _ (hY (1 : Fin 6)); exact hd.trans rfl
  have e2 : Y (2 : Fin 6) = blkv a V c (2 : Fin 6) t := by
    obtain ⟨d, hd⟩ := finds_in a V O B c 2 rfl (fun _ _ _ h => h) t _ (hY (2 : Fin 6)); exact hd.trans rfl
  have e3 : Y (3 : Fin 6) = blkv a V c (3 : Fin 6) t := by
    obtain ⟨d, hd⟩ := finds_in a V O B c 3 rfl (fun _ _ _ h => h) t _ (hY (3 : Fin 6)); exact hd.trans rfl
  have e4 : Y (4 : Fin 6) = blkv a V c (4 : Fin 6) t := by
    obtain ⟨d, hd⟩ := finds_in a V O B c 4 rfl (fun _ _ _ h => h) t _ (hY (4 : Fin 6)); exact hd.trans rfl
  have hb := body (F := F) c (grid1.coords t) ((a 0).1 (1 : Fin 2))
    (spec1_0.stage ((cfg a).slots t (0 : Fin 6))) (hstage1_0 (((cfg a).slots t (0 : Fin 6)).cast nbuf1_0))
    (spec1_1.stage ((cfg a).slots t (1 : Fin 6))) (hstage1_1 (((cfg a).slots t (1 : Fin 6)).cast nbuf1_1))
    (spec1_2.stage ((cfg a).slots t (2 : Fin 6))) (hstage1_2 (((cfg a).slots t (2 : Fin 6)).cast nbuf1_2))
    (spec1_3.stage ((cfg a).slots t (3 : Fin 6))) (hstage1_3 (((cfg a).slots t (3 : Fin 6)).cast nbuf1_3))
    (spec1_4.stage ((cfg a).slots t (4 : Fin 6))) (hstage1_4 (((cfg a).slots t (4 : Fin 6)).cast nbuf1_4))
    (spec1_5.stage ((cfg a).slots t (5 : Fin 6))) (hstage1_5 (((cfg a).slots t (5 : Fin 6)).cast nbuf1_5))
    (blkv a V c (0 : Fin 6) t) (blkv a V c (1 : Fin 6) t) (blkv a V c (2 : Fin 6) t) (blkv a V c (3 : Fin 6) t) (blkv a V c (4 : Fin 6) t) (Y (5 : Fin 6))
  have hpost : ∀ X : FVec F S256x1024 .f32, (k1_cond1 (grid1.coords t) (nuW ((a 0).1 (1 : Fin 2))) = 1#1 → X = pay (blkv a V c (0 : Fin 6) t) (blkv a V c (1 : Fin 6) t) (blkv a V c (2 : Fin 6) t) (blkv a V c (3 : Fin 6) t) (blkv a V c (4 : Fin 6) t)) →
      (rd a V O B c).after (5 : Fin 6) t (Y (5 : Fin 6)) X := fun X h => h
  rw [show (rd a V O B c).Φ t.castSucc = iprop(Pipeline.prefHeld pre1 c (fun _ => fullShare) (a 0).1 ∗ Pipeline.scopedRest spec1 c) from rfl,
    show (rd a V O B c).Φ t.succ = iprop(Pipeline.prefHeld pre1 c (fun _ => fullShare) (a 0).1 ∗ Pipeline.scopedRest spec1 c) from rfl,
    show (rd a V O B c).owesAt none t.succ = (rd a V O B c).owesAt none t.castSucc from rfl]
  have hfr := (sep_mono_left (Q := iprop(((c : Thread nD τ).loc main_v9 ↦{fullShare} (a 0).1 (0 : Fin 2)) ∗ Pipeline.scopedRest spec1 c ∗ (rd a V O B c).owesAt none t.castSucc)) hb).trans (wp_frame_r frame _ Set.univ)
  refine BIBase.Entails.trans (sep_mono_right (sep_mono_right (Entails.of_eq (bigSep_W1 _)))) ?_
  refine BIBase.Entails.trans ?_ (hfr.trans (wp_mono frame _ _ fun _ => BIBase.Entails.trans ?_ (sep_mono_right (sep_mono_right (Entails.of_eq (bigSep_W1 _).symm)))))
  · rw [e0, e1, e2, e3, e4, prefHeld_eq]
    iintro ⟨⟨⟨Hp0, Hp1⟩, Hs⟩, HO, H0, H1, H2, H3, H4, H5⟩
    isplitl [Hp1 H0 H1 H2 H3 H4 H5]
    · isplitl [Hp1]; · iexact Hp1
      isplitl [H0]; · iexact H0
      isplitl [H1]; · iexact H1
      isplitl [H2]; · iexact H2
      isplitl [H3]; · iexact H3
      isplitl [H4]; · iexact H4
      iexact H5
    isplitl [Hp0]; · iexact Hp0
    isplitl [Hs]; · iexact Hs
    iexact HO
  · rw [e0, e1, e2, e3, e4, prefHeld_eq]
    iintro ⟨⟨Hp1, H0, H1, H2, H3, H4, ⟨%X, %hX, H5⟩⟩, Hp0, Hs, HO⟩
    isplitl [Hp0 Hp1 Hs]
    · isplitl [Hp0 Hp1]
      · isplitl [Hp0]; · iexact Hp0
        iexact Hp1
      iexact Hs
    isplitl [HO]; · iexact HO
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]; · iexists _; isplitr; swap; (· iexact H4); ipureintro; rfl
    iexists X; isplitr; swap; (· iexact H5); ipureintro; exact hpost X hX

end FFN

namespace Combine

/-- The configuration at the launch's tables (this call has none). -/
abbrev cfg := Pipeline.pin (pcfgs (F := F)) a 1

/-- The windows' arrays at entry. -/
def A (c : Dev nD) : (w : Fin 4) → Buf (Elt F) (((cfg a).win w).arr.view.loc (c : Thread nD τ))
  | 0 => V c main_v14
  | 1 => V c main_v14
  | 2 => V c main_arg1
  | 3 => V c main_v15
  | ⟨_ + 4, h⟩ => absurd h (Nat.not_lt.2 (Nat.le_add_left _ _))

/-- The block of window `w`'s array at point `t`. -/
def blkv (c : Dev nD) (w : Fin 4) (t : Fin grid3.N) : (((cfg a).win w).xblock (grid3.coords t)).Idx → Elt F ((cfg a).win w).elt :=
  (((cfg a).win w).blk t).view.read (Elt F) (A a V c w)

/-- What the block's run leaves in the output's block. -/
def outv (c : Dev nD) (t : Fin grid3.N) : FVec F S1024x1024 .f32 :=
  pay (blkv a V c (0 : Fin 4) t) (blkv a V c (1 : Fin 4) t) (blkv a V c (2 : Fin 4) t)

/-- The shares of the inputs: the two windows on one array have a half each. -/
def q : Fin 4 → PosShare TreeShare
  | 0 => ShareLeaves.leaf 1 fullShare 0
  | 1 => ShareLeaves.leaf 1 fullShare 1
  | 2 => fullShare
  | 3 => fullShare
  | ⟨_ + 4, h⟩ => absurd h (Nat.not_lt.2 (Nat.le_add_left _ _))

def rd (c : Dev nD) : Pipeline.RDat τ (Elt F) (HIx 2) ℕ UU ℕ (cfg a) c where
  A := A a V c
  after := fun
    | 0 => fun _ Y X => X = Y
    | 1 => fun _ Y X => X = Y
    | 2 => fun _ Y X => X = Y
    | 3 => fun t _ X => X = outv a V c t
    | ⟨_ + 4, h⟩ => absurd h (Nat.not_lt.2 (Nat.le_add_left _ _))
  Φ := fun _ => Pipeline.scopedRest spec3 c
  q := q
  owed := fun _ => O c
  recorded := fun _ => B c

/-- An input's staging buffer holds its block, whenever the body runs. -/
theorem finds_in (c : Dev nD) (w : Fin 4) (hw : ((cfg a).win w).isOut = false)
    (hk : ∀ t Y X, (rd a V O B c).after w t Y X → X = Y) (t : Fin grid3.N) (Y) (h : (rd a V O B c).Finds w t Y) :
    ∃ d, Y = (rd a V O B c).fetched w t d :=
  (rd a V O B c).finds_in_eq_fetched w hw (fun _ _ _ => by revert w; intro w; fin_cases w <;> intros <;> rfl) hk t Y h

set_option maxHeartbeats 400000 in
theorem body_obligation (c : Dev nD) : (rd a V O B c).BodyObligation defs₀ 𝒱₀ none Set.univ := by
  intro t Y hY
  have e0 : Y (0 : Fin 4) = blkv a V c (0 : Fin 4) t := by
    obtain ⟨d, hd⟩ := finds_in a V O B c 0 rfl (fun _ _ _ h => h) t _ (hY (0 : Fin 4)); exact hd.trans rfl
  have e1 : Y (1 : Fin 4) = blkv a V c (1 : Fin 4) t := by
    obtain ⟨d, hd⟩ := finds_in a V O B c 1 rfl (fun _ _ _ h => h) t _ (hY (1 : Fin 4)); exact hd.trans rfl
  have e2 : Y (2 : Fin 4) = blkv a V c (2 : Fin 4) t := by
    obtain ⟨d, hd⟩ := finds_in a V O B c 2 rfl (fun _ _ _ h => h) t _ (hY (2 : Fin 4)); exact hd.trans rfl
  have hb := body (F := F) c (grid3.coords t)
    (win3_0.stage ((cfg a).slots t (0 : Fin 4))) (hstage3_0 (((cfg a).slots t (0 : Fin 4)).cast nbuf3_0))
    (win3_1.stage ((cfg a).slots t (1 : Fin 4))) (hstage3_1 (((cfg a).slots t (1 : Fin 4)).cast nbuf3_1))
    (win3_2.stage ((cfg a).slots t (2 : Fin 4))) (hstage3_2 (((cfg a).slots t (2 : Fin 4)).cast nbuf3_2))
    (win3_3.stage ((cfg a).slots t (3 : Fin 4))) (hstage3_3 (((cfg a).slots t (3 : Fin 4)).cast nbuf3_3))
    (blkv a V c (0 : Fin 4) t) (blkv a V c (1 : Fin 4) t) (blkv a V c (2 : Fin 4) t) (Y (3 : Fin 4))
  rw [show (rd a V O B c).Φ t.castSucc = Pipeline.scopedRest spec3 c from rfl, show (rd a V O B c).Φ t.succ = Pipeline.scopedRest spec3 c from rfl,
    show (rd a V O B c).owesAt none t.succ = (rd a V O B c).owesAt none t.castSucc from rfl]
  have hfr := (sep_mono_left (Q := iprop(Pipeline.scopedRest spec3 c ∗ (rd a V O B c).owesAt none t.castSucc)) hb).trans (wp_frame_r frame _ Set.univ)
  refine BIBase.Entails.trans (sep_mono_right (sep_mono_right (Entails.of_eq (bigSep_W3 _)))) ?_
  refine BIBase.Entails.trans ?_ (hfr.trans (wp_mono frame _ _ fun _ => BIBase.Entails.trans ?_ (sep_mono_right (sep_mono_right (Entails.of_eq (bigSep_W3 _).symm)))))
  · rw [e0, e1, e2]
    iintro ⟨Hs, HO, H0, H1, H2, H3⟩
    isplitl [H0 H1 H2 H3]
    · isplitl [H0]; · iexact H0
      isplitl [H1]; · iexact H1
      isplitl [H2]; · iexact H2
      iexact H3
    isplitl [Hs]; · iexact Hs
    iexact HO
  · rw [e0, e1, e2]
    iintro ⟨⟨H0, H1, H2, H3⟩, Hs, HO⟩
    isplitl [Hs]; · iexact Hs
    isplitl [HO]; · iexact HO
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    iexists _; isplitr; swap; (· iexact H3); ipureintro; rfl

end Combine

/-- The two calls' proof data as one family. -/
def fam : (p : Fin 2) → (c : Dev nD) → Pipeline.RDat τ (Elt F) (HIx 2) ℕ UU ℕ (Pipeline.pin (pcfgs (F := F)) a p) c
  | 0 => FFN.rd a V O B
  | 1 => Combine.rd a V O B

theorem fam_waits (p : Fin 2) (hp : ∀ c t, (fam a V O B p c).owed t = O c) (hO : ∀ c g, O c g none = 0) (c : Dev nD) :
    (levAts (K (F := F)).L (K (F := F)).lev : sProp 𝕄) ⊢ Pipeline.RDat.cellsWaits (Pipeline.pin (pcfgs (F := F)) a) (fam a V O B) none p c :=
  Pipeline.RDat.cellsWaits_intro _ _ _ _ _ fun w s t => by rw [hp c t]; exact (K (F := F)).mayWait_none _ (hO c)

namespace FFN

def reg (hO : ∀ c g, O c g none = 0) :
    Pipeline.RDat.RegionSeg (pcfgs (F := F)) a (fam a V O B) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := body_obligation a V O B c
  hwaits c := fam_waits a V O B 0 (fun _ _ => rfl) hO c
  pre c := iprop((rd a V O B c).arrays (A a V c) ∗ Pipeline.prefHeld pre1 c (fun _ => fullShare) (a 0).1 ∗ (rd a V O B c).owesAt none 0)
  post c := iprop((rd a V O B c).arraysAt grid1.N ∗ Pipeline.prefHeld pre1 c (fun _ => fullShare) (a 0).1 ∗ (rd a V O B c).owesAt none (Fin.last _))
  X _ := BI.emp
  Y c := Pipeline.prefHeld pre1 c (fun _ => fullShare) (a 0).1
  Z _ := BI.emp
  hentry c := by
    rw [Pipeline.ownSems0_none]
    iintro ⟨⟨Ha, Hp, HO⟩, -, -⟩
    imodintro
    isplitl [Ha]; · iexact Ha
    isplitl [Hp]; · iexact Hp
    isplitl [HO]; · iexact HO
    isplitr <;> iempintro
  hin c := by
    rw [show (fam a V O B 0 c).Φ 0 = iprop(Pipeline.prefHeld pre1 c (fun _ => fullShare) (a 0).1 ∗ Pipeline.scopedRest spec1 c) from rfl]
    iintro ⟨-, Hp, Hr⟩
    isplitl [Hp]; · iexact Hp
    iexact Hr
  hout c := by
    rw [Pipeline.ownSems0_none, show (fam a V O B 0 c).Φ (Fin.last _) = iprop(Pipeline.prefHeld pre1 c (fun _ => fullShare) (a 0).1 ∗ Pipeline.scopedRest spec1 c) from rfl]
    iintro ⟨Hp, Hr⟩
    isplitl [Hp]; · iexact Hp
    isplitr; · iempintro
    iexact Hr
  hexit c := by
    iintro ⟨Ha, HO, Hp, -⟩
    imodintro
    isplitl [Ha]; · iexact Ha
    isplitl [Hp]; · iexact Hp
    iexact HO

end FFN

namespace Combine

def reg (hO : ∀ c g, O c g none = 0) :
    Pipeline.RDat.RegionSeg (pcfgs (F := F)) a (fam a V O B) none defs₀ 𝒱₀ (K (F := F)).L (K (F := F)).lev 1 where
  win := winFacts₀3
  block_pos := block_pos3
  stage_whole := stage_whole3
  K := PEmpty
  osem k := k.elim
  ho := Pipeline.OwnSemFacts.none _
  hbody c := body_obligation a V O B c
  hwaits c := fam_waits a V O B 1 (fun _ _ => rfl) hO c
  pre c := iprop((rd a V O B c).arrays (A a V c) ∗ (rd a V O B c).owesAt none 0)
  post c := iprop((rd a V O B c).arraysAt grid3.N ∗ (rd a V O B c).owesAt none (Fin.last _))
  X _ := BI.emp
  Y _ := BI.emp
  Z _ := BI.emp
  hentry c := by
    rw [Pipeline.ownSems0_none]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (fam a V O B 1 c).Φ 0 = Pipeline.scopedRest spec3 c from rfl]
    iintro ⟨-, -, Hr⟩
    iexact Hr
  hout c := by
    rw [Pipeline.ownSems0_none, show (fam a V O B 1 c).Φ (Fin.last _) = Pipeline.scopedRest spec3 c from rfl]
    iintro Hr
    isplitr; · iempintro
    isplitr; · iempintro
    iexact Hr
  hexit c := by
    iintro ⟨Ha, HO, -, -⟩
    imodintro
    isplitl [Ha]; · iexact Ha
    iexact HO

end Combine

end Cert.Proof.Moe
-- ==== Proof.Blocks.lean ====
/-
  What the two pipelined calls leave in their output arrays, block by block, and the prefetched tables' side condition.
-/
module

public import proofs.«01_k».proof.Proof.Regions
public import proofs.«01_k».proof.Proof.Gen.KernelIdeal.Points

@[expose] public section

noncomputable section

namespace Cert.Proof.Moe

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe

instance : ∀ e, Nonempty (Elt F e) := inferInstance

/-- An array whose blocks are all written back, and pairwise apart, holds at the end what the body left at each. -/
theorem arr_blocks {cfg : Pipeline.Cfg sig Λ₀} {c : Dev nD} (rd : Pipeline.RDat τ (Elt F) (HIx 2) ℕ UU ℕ cfg c) (w : Fin cfg.W)
    (hfl : ∀ t, (cfg.win w).flush t = true) (hdis : ∀ t t', t ≠ t' → Disjoint ((cfg.win w).blk t).view.set ((cfg.win w).blk t').view.set) :
    ∀ (n : ℕ), n ≤ cfg.N → ∀ G, rd.ArrAt w n G → ∀ t : Fin cfg.N, t.val < n → ∃ X, rd.Leaves w t X ∧
      ((cfg.win w).blk t).view.read (Elt F) G = (cfg.win w).cut (cfg.grid.coords t) X
  | 0, _, _, _, t, ht => absurd ht (Nat.not_lt_zero _)
  | n + 1, hn, G, hG, t, ht => by
    have e := rd.ArrAt_succ w ⟨n, hn⟩
    rw [if_pos (hfl _)] at e
    have hG' : rd.ArrStep w ⟨n, hn⟩ (rd.ArrAt w n) G := by rw [← e]; exact hG
    obtain ⟨G₀, X, h0, hX, rfl⟩ := hG'
    by_cases htn : t = ⟨n, hn⟩
    · subst htn
      exact ⟨X, hX, View.read_write_univ _ _⟩
    · obtain ⟨X', hX', hr⟩ := arr_blocks rd w hfl hdis n (by omega) G₀ h0 t (by
        have : t.val ≠ n := fun h => htn (Fin.ext h)
        omega)
      refine ⟨X', hX', Eq.trans ?_ hr⟩
      funext y
      rw [View.read_apply, View.read_apply]
      congr 1
      refine View.write_of_not_mem _ _ _ (fun h => ?_)
      rw [View.setOn_univ] at h
      exact Finset.disjoint_left.mp (hdis t ⟨n, hn⟩ htn) (Finset.mem_map_of_mem _ (Finset.mem_univ y)) h

variable (a : (p : Fin 2) → (pcfgs (F := F) p).Adm) (V : (c : Dev nD) → (b : Ref sig .tc) → Buf (Elt F) ((c : Thread nD τ).loc b))
  (O : Dev nD → CellTallies nD τ sig (HIx 2)) (B : Dev nD → Set (SemLoc sig × HIx 2))

namespace FFN

theorem coords_eq (t t' : Fin grid1.N) (h : grid1.coords t 0 = grid1.coords t' 0) : t = t' := by
  have h := congrArg Fin.val h
  have e : ∀ u : Fin grid1.N, (grid1.coords u 0).val = u.val := by decide +kernel
  rw [e, e] at h
  exact Fin.ext h

theorem index5_ne (t t' : Fin grid1.N) (h : t ≠ t') : ((cfg a).win (5 : Fin 6)).index t ≠ ((cfg a).win (5 : Fin 6)).index t' :=
  fun e => h (coords_eq t t' (Pipeline.Window.sep_of_coord (G := grid1) cc1_transform_5 0 0 (fun _ => rfl) (by decide) _ _ e))

theorem flush5 (t : Fin grid1.N) : ((cfg a).win (5 : Fin 6)).flush t = true :=
  (Pipeline.Window.flush_reads (G := grid1) ((cfg a).win (5 : Fin 6)) rfl 0 (by decide) rfl
    (Pipeline.Window.sep_of_coord (G := grid1) cc1_transform_5 0 0 (fun _ => rfl) (by decide)) (P := 1) (m := 0) (by decide) rfl t).mpr (Nat.mod_one _)

/-- The output array's block at a point that computes. -/
theorem out_block (c : Dev nD) (G) (hG : (rd a V O B c).ArrAt (5 : Fin 6) grid1.N G) (t : Fin grid1.N) (ht : live a t) :
    (((cfg a).win (5 : Fin 6)).blk t).view.read (Elt F) G = outv a V c t := by
  obtain ⟨X, ⟨Y, _, hX⟩, hr⟩ := arr_blocks (rd a V O B c) (5 : Fin 6) (flush5 a)
    (fun t t' h => Pipeline.Window.disjoint_blk _ (index5_ne a t t' h)) grid1.N le_rfl G hG t t.isLt
  have hX' : X = outv a V c t := hX ht
  rw [hr, hX']; rfl

end FFN

namespace Combine

theorem coords_eq (t t' : Fin grid3.N) (h : grid3.coords t 0 = grid3.coords t' 0) : t = t' := by
  have h := congrArg Fin.val h
  have e : ∀ u : Fin grid3.N, (grid3.coords u 0).val = u.val := by decide +kernel
  rw [e, e] at h
  exact Fin.ext h

theorem index3_ne (t t' : Fin grid3.N) (h : t ≠ t') : win3_3.index t ≠ win3_3.index t' :=
  fun e => h (coords_eq t t' (Pipeline.Window.sep_of_coord (G := grid3) cc3_transform_3 0 0 (fun _ => rfl) (by decide) _ _ e))

/-- The output array's block at every point. -/
theorem out_block (c : Dev nD) (G) (hG : (rd a V O B c).ArrAt (3 : Fin 4) grid3.N G) (t : Fin grid3.N) :
    (((cfg a).win (3 : Fin 4)).blk t).view.read (Elt F) G = outv a V c t := by
  obtain ⟨X, ⟨Y, _, hX⟩, hr⟩ := arr_blocks (rd a V O B c) (3 : Fin 4) (fun t => flush3_3 t)
    (fun t t' h => Pipeline.Window.disjoint_blk _ (index3_ne t t' h)) grid3.N le_rfl G hG t t.isLt
  have hX' : X = outv a V c t := hX
  rw [hr, hX']; rfl

end Combine

/-! ## The tables -/

theorem ok1_of (pf : pre1.Contents (Elt F)) (h : ∀ j : S40.Idx, (pf (0 : Fin 2) j : BitVec 32).toNat < 8) : ok1 pf := by
  refine ⟨fun i => ⟨fun a => ?_, Or.inr (Or.inr ⟨by decide, rfl, Nat.zero_mul _, rfl⟩)⟩, fun i => ⟨fun a => ?_, Or.inl rfl⟩,
    fun i => ⟨fun a => ?_, Or.inr (Or.inr ⟨by decide, rfl, Nat.zero_mul _, rfl⟩)⟩, fun i => ⟨fun a => ?_, Or.inl rfl⟩⟩
  all_goals
    match a with
    | 0 => exact (Nat.mul_one _).le.trans (Nat.succ_le_of_lt (h _))
    | 1 => exact Nat.le_of_eq (Nat.one_mul _)
    | 2 => exact Nat.le_of_eq (Nat.one_mul _)

def adm (pf : pre1.Contents (Elt F)) (h : ok1 pf) : (p : Fin 2) → (pcfgs (F := F) p).Adm
  | 0 => ⟨pf, h⟩
  | 1 => ⟨fun k => k.elim0, trivial⟩

end Cert.Proof.Moe
-- ==== Proof.CollectWords.lean ====
/-
  The collect's loop words in closed form: trip `t` handles top-k slot `t / 4` and column pair `t % 4`.
-/
module

public import proofs.«01_k».proof.Proof.Common

@[expose] public section

noncomputable section

namespace Cert.Proof.Moe

open Cert.KernelIdeal Cert.KernelIdeal.Gen Idealize.ShloMosaic

/-! The words the loop carries before trip `t`: index blocks issued, index blocks read, row blocks issued, row blocks
waited for, the top-k slot, the column pair. -/
def cw6 (t : ℕ) : BitVec 32 := if t ≤ 3 then 1#32 else 2#32
def cw7 (t : ℕ) : BitVec 32 := BitVec.ofNat 32 (t / 4)
def cw8 (t : ℕ) : BitVec 32 := BitVec.ofNat 32 t
def cw9 (t : ℕ) : BitVec 32 := BitVec.ofNat 32 (t - 1)
def cw10 (t : ℕ) : BitVec 32 := BitVec.ofNat 32 (t / 4 % 2)
def cw12 (t : ℕ) : BitVec 32 := BitVec.ofNat 32 (t % 4)

/-- The first row of the tile's stretch. -/
def wid (i : grid2.Coords) : ℕ := 128 * (i 1).val + 2048 * (i 0).val
/-- Trip `t` as a block, and its column pair. -/
def jt (t : Fin k2_t1_loop.trips) : Fin 8 := ⟨t.val, by have := t.isLt; exact this⟩
def ct (t : Fin k2_t1_loop.trips) : Fin 4 := ⟨t.val % 4, Nat.mod_lt _ (by norm_num)⟩

abbrev cTrips : k2_t1_loop.trips = 8 := by decide

theorem c_cond1 : ∀ (i : grid2.Coords) (t : Fin k2_t1_loop.trips), k2_cond1 i t (cw10 t) (cw12 t) = 1#1 ↔ t.val = 3 := by decide +kernel
theorem c_cond2 : ∀ (i : grid2.Coords) (t : Fin k2_t1_loop.trips), k2_cond2 i t (cw10 t) (cw12 t) = 1#1 ↔ (t.val = 0 ∨ t.val = 4) := by decide +kernel
theorem c_cond5 : ∀ (i : grid2.Coords) (t : Fin k2_t1_loop.trips), k2_cond5 i t (cw10 t) (cw12 t) = 1#1 := by decide +kernel
theorem c_cond7 : ∀ (i : grid2.Coords) (t : Fin k2_t1_loop.trips), k2_cond7 i t (cw10 t) (cw12 t) = 1#1 ↔ 0 < t.val := by decide +kernel
theorem c_chk3 : ∀ (t : Fin k2_t1_loop.trips), k2_chk3 (cw7 t) := by unfold k2_chk3; decide +kernel
theorem c_chk2 : ∀ (t : Fin k2_t1_loop.trips), k2_chk2 (cw8 t) := by unfold k2_chk2; decide +kernel
set_option maxRecDepth 65536 in
theorem c_chk1 : ∀ (i : grid2.Coords) (t : Fin k2_t1_loop.trips), k2_chk1 i t (cw6 t) (cw7 t) (cw8 t) (cw9 t) (cw10 t) (cw12 t) := by
  unfold k2_chk1; decide +kernel
theorem c_chk4 : k2_chk4 (cw9 8) := by unfold k2_chk4; decide +kernel
theorem c_chk5 : ∀ (i : grid2.Coords), k2_chk5 i (cw12 8) 0#32 (cw10 8) := by unfold k2_chk5; decide +kernel

/-! ## Offsets in closed form -/

theorem c_off4 : ∀ (t : Fin k2_t1_loop.trips), t.val = 3 → k2_off4 (cw6 t) = ![(1 : Fin 2).val, 0, 0] := by decide +kernel
theorem c_off5 : ∀ (i : grid2.Coords) (t : Fin k2_t1_loop.trips), t.val = 3 → k2_off5 i (cw10 t) (cw12 t) = ![(1 : Fin 2).val, wid i] := by decide +kernel
theorem c_off6 : ∀ (t : Fin k2_t1_loop.trips), t.val = 3 → k2_off6 (cw6 t) = ![(1 : Fin 2).val] := by decide +kernel
theorem c_off7 : ∀ (t : Fin k2_t1_loop.trips), k2_off7 (cw7 t) = ![(slot (t.val / 4)).val, 0, 0] := by decide +kernel
theorem c_off8 : ∀ (i : grid2.Coords) (t : Fin k2_t1_loop.trips), k2_off8 i (cw10 t) = ![(slot (t.val / 4)).val, wid i] := by decide +kernel
theorem c_off9 : ∀ (t : Fin k2_t1_loop.trips), k2_off9 (cw7 t) = ![(slot (t.val / 4)).val] := by decide +kernel
theorem c_off10 : ∀ (t : Fin k2_t1_loop.trips), k2_off10 (cw8 t) = ![(slot t.val).val, 0, 0, 0] := by decide +kernel
theorem c_off11 : ∀ (t : Fin k2_t1_loop.trips), k2_off11 (cw7 t) = ![(slot (t.val / 4)).val, 0, 0] := by decide +kernel
theorem c_off12 : ∀ (t : Fin k2_t1_loop.trips), k2_off12 (cw12 t) = ![0, 2 * (ct t).val, 0] := by decide +kernel
theorem c_off13 : ∀ (t : Fin k2_t1_loop.trips), k2_off13 (cw8 t) = ![(slot t.val).val, 0, 0, 0] := by decide +kernel
theorem c_off14 : ∀ (i : grid2.Coords) (t : Fin k2_t1_loop.trips), k2_off14 i (cw10 t) (cw12 t)
    = ![4096 * ((jt t).val / 4) + wid i, 2 * ((jt t).val % 4), 0] := by decide +kernel
theorem c_off15 : ∀ (t : Fin k2_t1_loop.trips), k2_off15 (cw8 t) = ![(slot t.val).val] := by decide +kernel
theorem c_off16 : ∀ (t : Fin k2_t1_loop.trips), 0 < t.val → k2_off16 (cw9 t) = ![(slot (t.val + 1)).val, 0, 0, 0] := by decide +kernel
theorem c_off18 : ∀ (t : Fin k2_t1_loop.trips), 0 < t.val → k2_off18 (cw9 t) = ![(slot (t.val + 1)).val] := by decide +kernel
theorem c_off21 : k2_off21 (cw9 8) = ![(1 : Fin 2).val] := by decide +kernel
theorem c_off22 : k2_off22 (cw9 8) = ![(1 : Fin 2).val, 0, 0, 0] := by decide +kernel

end Cert.Proof.Moe
-- ==== Proof.CollectDefs.lean ====
/-
  The collect's buffers as its tiles address them, what it computes, and the value of one gathered block.
-/
module

public import proofs.«01_k».proof.Proof.CollectWords

@[expose] public section

noncomputable section

namespace Cert.Proof.Moe

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

namespace Collect

theorem wid_le (i : grid2.Coords) : wid i + 128 ≤ 4096 := by
  have h0 : (i 0).val < 2 := (i 0).isLt
  have h1 : (i 1).val < 16 := (i 1).isLt
  unfold wid; omega

/-! ## The memory references -/

abbrev iS (s : Fin 2) : Memref sig .scVector .vmem S1x128 .i32 :=
  ((Memref.whole cc2_scoped0).slice (Rect.unit (s := S2x1x128) ![s.val, 0, 0] S1x1x128.size (by revert s; decide)) (fun _ => rfl)).squeeze S1x128 squeezes_S1x1x128_S1x128
/-- The slot as the gather's list. -/
abbrev iL (s : Fin 2) : Memref sig .scVector .vmem S128 .i32 :=
  ((iS s).slice (Rect.unit (s := S1x128) ![0, 0] S1x128.size inb_S1x128_S1x128_0_0) (fun _ => rfl)).squeeze S128 squeezes_S1x128_S128
abbrev iB (i : grid2.Coords) (k : Fin 2) : Memref sig .scVector .hbm S1x128 .i32 :=
  (Memref.whole main_v1_scv).slice (Rect.unit (s := S2x4096) ![k.val, wid i] S1x128.size
    (by have h := wid_le i; have := k.isLt; intro a; match a with | 0 => simp; omega | 1 => simpa using h)) (fun _ => rfl)
abbrev oS (s : Fin 2) : Memref sig .scVector .vmem S128x2x128 .f32 :=
  ((Memref.whole cc2_scoped2).slice (Rect.unit (s := S2x128x2x128) ![s.val, 0, 0, 0] S1x128x2x128.size (by revert s; decide)) (fun _ => rfl)).squeeze S128x2x128 squeezes_S1x128x2x128_S128x2x128
abbrev yS (c : Fin 4) : Memref sig .scVector .hbm S10240x2x128 .f32 :=
  (Memref.whole main_v12_scv).slice (Rect.unit (s := S10240x8x128) ![0, 2 * c.val, 0] S10240x2x128.size (by revert c; decide)) (fun _ => rfl)
abbrev oB (i : grid2.Coords) (j : Fin 8) : Memref sig .scVector .hbm S128x2x128 .f32 :=
  (Memref.whole main_v13_scv).slice (Rect.unit (s := S8192x8x128) ![4096 * (j.val / 4) + wid i, 2 * (j.val % 4), 0] S128x2x128.size
    (by have := wid_le i; have := j.isLt; intro a; match a with | 0 => simp; omega | 1 => simp; omega | 2 => simp)) (fun _ => rfl)
abbrev iSem (s : Fin 2) : DmaSem sig :=
  ((cc2_scoped1.slice (Rect.unit (s := S2) ![s.val] S1.size (by revert s; decide))).squeeze S_ squeezes_S1_S_).sem
abbrev oSem (s : Fin 2) : DmaSem sig :=
  ((cc2_scoped3.slice (Rect.unit (s := S2) ![s.val] S1.size (by revert s; decide))).squeeze S_ squeezes_S1_S_).sem

/-! ## What it computes -/

/-- Row `r` of the result is the row of `y` that position `r / 4096`, `r % 4096` names. -/
def pIdx (x : S8192x8x128.Idx) : S2x4096.Idx := fun
  | 0 => ⟨(x 0).val / 4096, by have : (x 0).val < 8192 := (x 0).isLt; show _ < 2; omega⟩
  | 1 => ⟨(x 0).val % 4096, Nat.mod_lt _ (by norm_num)⟩
def yIdx (pv : S2x4096.Idx → BitVec 32) (x : S8192x8x128.Idx) : S10240x8x128.Idx := fun
  | 0 => ⟨(pv (pIdx x)).toNat % 10240, Nat.mod_lt _ (by norm_num)⟩
  | 1 => x 1
  | 2 => x 2
def collected (yv : S10240x8x128.Idx → F .f32) (pv : S2x4096.Idx → BitVec 32) : S8192x8x128.Idx → F .f32 := fun x => yv (yIdx pv x)

theorem iL_emb (s : Fin 2) (y : S128.Idx) : ((iL s).view.emb y) = (iS s).view.emb (fun | 0 => ⟨0, by decide⟩ | 1 => y 0) := by
  revert s y; decide +kernel

/-- The list a tile reads for block `j` is its stretch of the positions. -/
theorem list_read (i : grid2.Coords) (s k : Fin 2) (pv : S2x4096.Idx → BitVec 32) (f : (iS s).view.ty.Contents (Elt F))
    (hf : (iS s).view.read (Elt F) f = (iB i k).view.read (Elt F) pv) (y : S128.Idx) :
    (iL s).view.read (Elt F) f y = pv (fun | 0 => k | 1 => ⟨wid i + (y 0).val, by have := wid_le i; have : (y 0).val < 128 := (y 0).isLt; show _ < 4096; omega⟩) := by
  have h1 : (iL s).view.read (Elt F) f y = (iS s).view.read (Elt F) f (fun | 0 => ⟨0, by decide⟩ | 1 => y 0) := by
    rw [View.read_apply, View.read_apply]
    exact congrArg (fun z => cast _ (f z)) (iL_emb s y)
  rw [h1, hf]
  show pv _ = pv _
  congr 1
  funext a
  match a with
  | 0 => exact Fin.ext (by show k.val + 1 * 0 = k.val; omega)
  | 1 => exact Fin.ext (by show wid i + 1 * (y 0).val = wid i + (y 0).val; omega)

/-- What the gather of block `j` lands. -/
theorem gather_value (i : grid2.Coords) (j : Fin 8) (s k : Fin 2) (hk : k.val = j.val / 4) (c : Fin 4) (hc : c.val = j.val % 4)
    (yv : S10240x8x128.Idx → F .f32) (pv : S2x4096.Idx → BitVec 32) (f : (iS s).view.ty.Contents (Elt F))
    (hf : (iS s).view.read (Elt F) f = (iB i k).view.read (Elt F) pv) (hn)
    (hin : ∀ x, ((iL s).view.read (Elt F) f x).toNat < S10240x2x128.size gathers_S10240x2x128_S128x2x128.axis) (x : S128x2x128.Idx) :
    SparseCore.gatherPayload gathers_S10240x2x128_S128x2x128 ((yS c).view.read (Elt F) yv) (SparseCore.rows ((iL s).view.read (Elt F) f) hn hin) x
      = collected yv pv ((oB i j).view.emb x) := by
  unfold SparseCore.gatherPayload collected
  show yv _ = yv _
  congr 1
  have hx0 : (x 0).val < 128 := (x 0).isLt
  have hx1 : (x 1).val < 2 := (x 1).isLt
  have hw := wid_le i
  have hj := j.isLt
  have e0 : ((oB i j).view.emb x 0).val = 4096 * (j.val / 4) + wid i + (x 0).val := by
    show _ + 1 * _ = _
    simp
  have e1 : ((oB i j).view.emb x 1).val = 2 * (j.val % 4) + (x 1).val := by
    show _ + 1 * _ = _
    simp
  have e2 : ((oB i j).view.emb x 2).val = (x 2).val := by
    show _ + 1 * _ = _
    simp
  have hrow : ((iL s).view.read (Elt F) f (S128.rowMajor.symm ((x gathers_S10240x2x128_S128x2x128.axis').cast hn.symm)))
      = pv (pIdx ((oB i j).view.emb x)) := by
    rw [list_read i s k pv f hf]
    have hy : ((S128.rowMajor.symm ((x gathers_S10240x2x128_S128x2x128.axis').cast hn.symm)) 0).val = (x 0).val := by
      have := Shape.rowMajor_val_one (d := S128.size) (S128.rowMajor.symm ((x gathers_S10240x2x128_S128x2x128.axis').cast hn.symm))
      rw [Equiv.apply_symm_apply] at this
      exact this.symm
    congr 1
    funext a
    match a with
    | 0 => exact Fin.ext (by show k.val = ((oB i j).view.emb x 0).val / 4096; rw [e0]; omega)
    | 1 => exact Fin.ext (by show wid i + _ = ((oB i j).view.emb x 0).val % 4096; rw [e0, hy]; omega)
  funext a
  match a with
  | 0 =>
    refine Fin.ext ?_
    show 0 + 1 * ((gathers_S10240x2x128_S128x2x128.idx (SparseCore.rows ((iL s).view.read (Elt F) f) hn hin) x) gathers_S10240x2x128_S128x2x128.axis).val
      = (pv (pIdx ((oB i j).view.emb x))).toNat % 10240
    rw [Shape.Gathers.idx_axis, ← hrow, zero_add, one_mul]
    exact (Nat.mod_eq_of_lt (hin _)).symm
  | 1 =>
    refine Fin.ext ?_
    show 2 * c.val + 1 * ((gathers_S10240x2x128_S128x2x128.idx (SparseCore.rows ((iL s).view.read (Elt F) f) hn hin) x) 1).val = ((oB i j).view.emb x 1).val
    rw [Shape.Gathers.idx_of_ne _ _ _ _ (by decide), e1, hc, one_mul]
    rfl
  | 2 =>
    refine Fin.ext ?_
    show 0 + 1 * ((gathers_S10240x2x128_S128x2x128.idx (SparseCore.rows ((iL s).view.read (Elt F) f) hn hin) x) 2).val = ((oB i j).view.emb x 2).val
    rw [Shape.Gathers.idx_of_ne _ _ _ _ (by decide), e2, zero_add, one_mul]
    rfl

end Collect
end Cert.Proof.Moe
-- ==== Proof.CollectStages.lean ====
/-
  The stages of one tile's run of the collect, at a symbolic tile: the index blocks and the row blocks of its two-slot
  pipelines as states of their slots, and each copy, gather and wait as a step between those states.
-/
module

public import proofs.«01_k».proof.Proof.CollectDefs

@[expose] public section

noncomputable section

namespace Cert.Proof.Moe

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Collect

abbrev thr (d : Dev nD) (L : grid2.Coords) : Thread nD τ := V d ((L 0).castLE hcore2) ((L 1).castLE hsub2)

variable (d : Dev nD) (L : grid2.Coords)
variable (yv : S10240x8x128.Idx → F .f32) (pv : S2x4096.Idx → BitVec 32) (ov : S8192x8x128.Idx → F .f32)
variable (qy q : PosShare TreeShare)

/-- Token `k` of the positions. -/
def tok (q : PosShare TreeShare) (k : Fin 2) : PosShare TreeShare := if k = 0 then q.left else q.right

/-! ## The states of a slot -/

abbrev iPts (s : Fin 2) (f : (iS s).view.ty.Contents (Elt F)) : sProp 𝕄 := (iS s).view.loc (thr d L) ↦[(iS s).view.set]{fullShare} f
abbrev oPts (s : Fin 2) (f : (oS s).view.ty.Contents (Elt F)) : sProp 𝕄 := (oS s).view.loc (thr d L) ↦[(oS s).view.set]{fullShare} f
abbrev iSrc (k : Fin 2) : sProp 𝕄 := (iB L k).view.loc (thr d L) ↦[(iB L k).view.set]{tok q k} pv
abbrev oDone (j : Fin 8) : sProp 𝕄 := (oB L j).view.loc (thr d L) ↦[(oB L j).view.set]{fullShare} (collected yv pv)
abbrev oTodo (j : Fin 8) : sProp 𝕄 := (oB L j).view.loc (thr d L) ↦[(oB L j).view.set]{fullShare} ov

def iFree (s : Fin 2) : sProp 𝕄 := iprop((∃ f, iPts d L s f) ∗ semVal (thr d L, SemLoc.dma (iSem s)) 0 ∗ iSrc d L pv q s)
/-- Holds block `s` of the positions. -/
def iHeld (s : Fin 2) : sProp 𝕄 :=
  iprop(∃ f, ⌜(iS s).view.read (Elt F) f = (iB L s).view.read (Elt F) pv⌝ ∗ iPts d L s f ∗ semVal (thr d L, SemLoc.dma (iSem s)) 0)
def iFly (s : Fin 2) : sProp 𝕄 :=
  Transfers.Flight countersEmb (thr d L) (.dma (iSem s)) (default : HIx 2) (iS s).view.dmaCredit
    iprop(∃ f, ⌜(iS s).view.read (Elt F) f = (iB L s).view.read (Elt F) pv⌝ ∗ iPts d L s f)
def iSt (s : Fin 2) : ℕ → sProp 𝕄
  | 0 => iFree d L pv q s
  | 1 => iFly d L pv s
  | _ => iHeld d L pv s
/-- The stage of slot 0 and of slot 1 before trip `t`, and of slot 1 after the trip's fetch. -/
def st0 (t : ℕ) : ℕ := if t = 0 then 1 else 2
def st1 (t : ℕ) : ℕ := if t ≤ 3 then 0 else if t = 4 then 1 else 2
def st1m (t : ℕ) : ℕ := if t ≤ 2 then 0 else if t ≤ 4 then 1 else 2

def oFree (s : Fin 2) : sProp 𝕄 := iprop((∃ f, oPts d L s f) ∗ semVal (thr d L, SemLoc.dma (oSem s)) 0)
def oFly (s : Fin 2) (j : Fin 8) : sProp 𝕄 :=
  Transfers.Flight countersEmb (thr d L) (.dma (oSem s)) (default : HIx 2) (oB L j).view.dmaCredit
    iprop(oDone d L yv pv j ∗ ∃ f, oPts d L s f)
/-- Slot `t + 1` before trip `t`: the last trip's copy-out in flight. -/
def oPrev (t : ℕ) : sProp 𝕄 :=
  if h : 0 < t ∧ t ≤ 8 then oFly d L yv pv (slot (t + 1)) ⟨t - 1, by omega⟩ else oFree d L (slot (t + 1))
def oBlocks (t : ℕ) : sProp 𝕄 :=
  iprop((bigSep (Finset.univ.filter fun j : Fin 8 => j.val + 1 < t) fun j => oDone d L yv pv j)
    ∗ bigSep (Finset.univ.filter fun j : Fin 8 => t ≤ j.val) fun j => oTodo d L ov j)

/-! ## The stages of a trip -/

variable (O : CellTallies nD τ sig (HIx 2)) (W : Waits sig (HIx 2))

abbrev Ow : sProp 𝕄 := iprop(∃ W', ⌜∀ p ∈ W', p ∈ W ∨ p.2 = none⌝ ∗ owes (thr d L) O W')

local notation "WP" => wp frame (wpE (defs₀ (F := F)) 𝒱₀ (thr d L) none) Set.univ

theorem slot_step (t : ℕ) : slot (t + 1 + 1) = slot t := by unfold slot; apply Fin.ext; show (t + 1 + 1) % 2 = t % 2; omega

theorem fetch_idx {α : Type} (s : Fin 2) {o1 : Fin 2 → ℕ} {o2 : Fin 3 → ℕ} {o3 : Fin 1 → ℕ} {b1 : ∀ a, o1 a + S1x128.size a ≤ S2x4096.size a} {b2 : ∀ a, o2 a + S1x1x128.size a ≤ S2x1x128.size a} {b3 : ∀ a, o3 a + S1.size a ≤ S2.size a}
    (e1 : o1 = ![s.val, wid L]) (e2 : o2 = ![s.val, 0, 0]) (e3 : o3 = ![s.val]) {h1 h2 h3}
    {k : PUnit → Prog (TpuEff nD τ sig (Elt F) Λ₀ (thr d L).2) α} {Q : α → sProp 𝕄} :
    iFree d L pv q s ⊢ iprop((iFly d L pv s -∗ WP (k ⟨⟩) Q) -∗ WP (Prog.lift (.enqueueDma ((Memref.whole main_v1_scv : Memref sig .scVector .hbm S2x4096 .i32).slice (Rect.unit (s := S2x4096) o1 S1x128.size b1) (fun _ => rfl))
      (.here (((Memref.whole cc2_scoped0 : Memref sig .scVector .vmem S2x1x128 .i32).slice (Rect.unit (s := S2x1x128) o2 S1x1x128.size b2) (fun _ => rfl)).squeeze S1x128 squeezes_S1x1x128_S1x128)) (.dma ((cc2_scoped1.slice (Rect.unit (s := S2) o3 S1.size b3)).squeeze S_ squeezes_S1_S_).sem) h1 h2 h3) >>= k) Q) := by
  subst e1 e2 e3
  unfold iFree
  iintro ⟨⟨%f, Hd⟩, Hv, Hs⟩ Hk
  iapply (Transfers.wp_dmaLocal countersEmb 𝒱₀ (thr d L) none (default : HIx 2) (iS s).view.dmaCredit rfl (View.dmaCredit_pos _ (by decide)) (Finset.Subset.refl _)) $$ [Hs Hd Hv]
  · isplitl [Hs]; · iexact Hs
    isplitl [Hd]; · iexact Hd
    iexact Hv
  iintro Hfl
  iapply Hk
  unfold iFly
  iapply (Transfers.Flight_mono (EC := countersEmb) (c := thr d L) ?_) $$ Hfl
  iintro ⟨Hd, -⟩
  iexists _; isplitr
  swap; · iexact Hd
  ipureintro
  rw [View.read_write_univ]

/-- A wait of an index block. -/
theorem wait_idx {α : Type} (s : Fin 2) {o1 : Fin 2 → ℕ} {o2 : Fin 3 → ℕ} {o3 : Fin 1 → ℕ} {b1 : ∀ a, o1 a + S1x128.size a ≤ S2x4096.size a} {b2 : ∀ a, o2 a + S1x1x128.size a ≤ S2x1x128.size a} {b3 : ∀ a, o3 a + S1.size a ≤ S2.size a}
    (e2 : o2 = ![s.val, 0, 0]) (e3 : o3 = ![s.val]) {h1 h2}
    {k : PUnit → Prog (TpuEff nD τ sig (Elt F) Λ₀ (thr d L).2) α} {Q : α → sProp 𝕄} :
    iprop(iFly d L pv s ∗ Ow d L O W ∗ Transfers.MayWaits (thr d L) (default : HIx 2) O)
      ⊢ iprop((iprop(iHeld d L pv s ∗ Ow d L O W) -∗ WP (k ⟨⟩) Q) -∗ WP (Prog.lift (.waitDma2 ((cc2_scoped1.slice (Rect.unit (s := S2) o3 S1.size b3)).squeeze S_ squeezes_S1_S_).sem ((Memref.whole main_v1_scv : Memref sig .scVector .hbm S2x4096 .i32).slice (Rect.unit (s := S2x4096) o1 S1x128.size b1) (fun _ => rfl))
        (((Memref.whole cc2_scoped0 : Memref sig .scVector .vmem S2x1x128 .i32).slice (Rect.unit (s := S2x1x128) o2 S1x1x128.size b2) (fun _ => rfl)).squeeze S1x128 squeezes_S1x1x128_S1x128) h1 h2) >>= k) Q) := by
  subst e2 e3
  unfold iFly
  iintro ⟨Hfl, ⟨%W', %hW', HO⟩, #Hmw⟩ Hk
  iapply (Transfers.wp_waitLocalO countersEmb 𝒱₀ (thr d L) none (default : HIx 2) rfl) $$ [Hfl HO]
  · isplitl [Hfl]; · iexact Hfl
    isplitl [HO]; · iexact HO
    iapply (Transfers.MayWaits.elim (SemLoc.dma (iSem s))) $$ Hmw
  iintro ⟨⟨%f, %hf, Hd⟩, Hv, HO⟩
  iapply Hk
  isplitl [Hd Hv]
  · unfold iHeld
    iexists f; isplitr; · ipureintro; exact hf
    isplitl [Hd] <;> iassumption
  · iexists _; isplitr
    swap; · iexact HO
    ipureintro; intro p hp
    rcases Finset.mem_insert.mp hp with hp | hp; · exact .inr (hp ▸ rfl)
    exact hW' p hp

theorem iL_set (s : Fin 2) : (iL s).view.set = (iS s).view.set := by
  show ((((iS s).view.slice (Rect.unit (s := S1x128) ![0, 0] S1x128.size inb_S1x128_S1x128_0_0)).reshape S128 _)).set = _
  rw [View.set_reshape, View.set_slice, Rect.set_eq_univ_of_whole]
  · rfl
  · intro a; match a with | 0 => exact ⟨rfl, rfl, rfl⟩ | 1 => exact ⟨rfl, rfl, rfl⟩

abbrev yAll : sProp 𝕄 := ((Memref.whole main_v12_scv : Memref sig .scVector _ _ _).view.loc (thr d L)) ↦{qy} yv

/-- Slot `s` holds the rows of block `j`. -/
def oGot (s : Fin 2) (j : Fin 8) : sProp 𝕄 :=
  iprop((∃ f, ⌜(oS s).view.read (Elt F) f = fun x => collected yv pv ((oB L j).view.emb x)⌝ ∗ oPts d L s f) ∗ semVal (thr d L, SemLoc.dma (oSem s)) 0)

/-- The gather of block `j` in flight, and what it hands back. -/
def gFly (s k : Fin 2) (j : Fin 8) (c : Fin 4) : sProp 𝕄 :=
  iprop(Transfers.Flight countersEmb (thr d L) (.dma cc2_scoped4.sem) (default : HIx 2) (oS s).view.dmaCredit
      iprop((∃ f, ⌜(oS s).view.read (Elt F) f = fun x => collected yv pv ((oB L j).view.emb x)⌝ ∗ oPts d L s f)
        ∗ ((yS c).view.loc (thr d L) ↦[(yS c).view.set]{qy} yv) ∗ ∃ f, ⌜(iS k).view.read (Elt F) f = (iB L k).view.read (Elt F) pv⌝ ∗ iPts d L k f)
    ∗ semVal (thr d L, SemLoc.dma (oSem s)) 0 ∗ semVal (thr d L, SemLoc.dma (iSem k)) 0
    ∗ ((yS c).view.loc (thr d L) ↦[Finset.univ \ (yS c).view.set]{qy} yv))

theorem oS_amounts : ∀ (s : Fin 2) (h : S10240x2x128.Gathers 0 S128x2x128), ∑ j, ((oS s).slice (S128x2x128.rowRect h.axis' j) (S128x2x128.stride_rowRect h.axis' j)).view.dmaCredit
    = (oS s).view.dmaCredit := by decide +kernel

theorem gather {α : Type} (s k : Fin 2) (j : Fin 8) (c : Fin 4) (hk : k.val = j.val / 4) (hc : c.val = j.val % 4) (hpv : ∀ x, (pv x).toNat < 10240)
    {o1 : Fin 3 → ℕ} {o2 : Fin 4 → ℕ} {o3 : Fin 3 → ℕ} {b1 : ∀ a, o1 a + S10240x2x128.size a ≤ S10240x8x128.size a}
    {b2 : ∀ a, o2 a + S1x128x2x128.size a ≤ S2x128x2x128.size a} {b3 : ∀ a, o3 a + S1x1x128.size a ≤ S2x1x128.size a}
    (e1 : o1 = ![0, 2 * c.val, 0]) (e2 : o2 = ![s.val, 0, 0, 0]) (e3 : o3 = ![k.val, 0, 0]) {h1 h2 h3 h4 h5 h6}
    {kk : PUnit → Prog (TpuEff nD τ sig (Elt F) Λ₀ (thr d L).2) α} {Q : α → sProp 𝕄} :
    iprop(oFree d L s ∗ iHeld d L pv k ∗ yAll d L yv qy ∗ semVal (thr d L, SemLoc.dma cc2_scoped4.sem) 0)
      ⊢ iprop((gFly d L yv pv qy s k j c -∗ WP (kk ⟨⟩) Q) -∗ WP (SparseCore.enqueueIndirectGather h1
        ((Memref.whole main_v12_scv : Memref sig .scVector .hbm S10240x8x128 .f32).slice (Rect.unit (s := S10240x8x128) o1 S10240x2x128.size b1) (fun _ => rfl))
        (((Memref.whole cc2_scoped2 : Memref sig .scVector .vmem S2x128x2x128 .f32).slice (Rect.unit (s := S2x128x2x128) o2 S1x128x2x128.size b2) (fun _ => rfl)).squeeze S128x2x128 squeezes_S1x128x2x128_S128x2x128)
        gathers_S10240x2x128_S128x2x128
        (((((Memref.whole cc2_scoped0 : Memref sig .scVector .vmem S2x1x128 .i32).slice (Rect.unit (s := S2x1x128) o3 S1x1x128.size b3) (fun _ => rfl)).squeeze S1x128 squeezes_S1x1x128_S1x128).slice
          (Rect.unit (s := S1x128) ![0, 0] S1x128.size inb_S1x128_S1x128_0_0) (fun _ => rfl)).squeeze S128 squeezes_S1x128_S128)
        h2 cc2_scoped4.sem h3 h4 h5 h6 >>= kk) Q) := by
  subst e1 e2 e3
  unfold oFree iHeld
  iintro ⟨⟨⟨%fd, Hd⟩, Hv⟩, ⟨%fi, %hf, Hi, Hvi⟩, Hy, Hg⟩ Hk
  ihave Hys := (pointsTo_split_subset (q := qy) (f := yv) (S := Finset.univ) (Finset.subset_univ (yS c).view.set)).1 $$ Hy
  icases Hys with ⟨Hys, Hyr⟩
  ihave Hi' := (Entails.of_eq (show iPts d L k fi = ((iL k).view.loc (thr d L) ↦[(iL k).view.set]{fullShare} fi : sProp 𝕄) by rw [iL_set])) $$ Hi
  have hin : ∀ x, ((iL k).view.read (Elt F) fi x).toNat < S10240x2x128.size gathers_S10240x2x128_S128x2x128.axis := by
    intro x; rw [list_read L k k pv fi hf]; exact hpv _
  iapply (SparseCore.wp_indirectGatherLocal countersEmb 𝒱₀ (thr d L) none (hg := gathers_S10240x2x128_S128x2x128) (default : HIx 2)
      (oS s).view.dmaCredit (oS_amounts s _) (by decide) hin) $$ [Hys Hd Hi' Hg]
  · isplitl [Hys]; · iexact Hys
    isplitl [Hd]; · iexact Hd
    isplitl [Hi']; · iexact Hi'
    iexact Hg
  iintro Hfl
  iapply Hk
  unfold gFly
  isplitl [Hfl]
  swap
  · isplitl [Hv]; · iexact Hv
    isplitl [Hvi] <;> iassumption
  iapply (Transfers.Flight_mono (EC := countersEmb) (c := thr d L) ?_) $$ Hfl
  iintro ⟨Hd, Hys, Hi⟩
  isplitl [Hd]
  · iexists _; isplitr
    swap; · iexact Hd
    ipureintro
    rw [View.read_write_univ]
    funext x
    exact gather_value L j k k hk c hc yv pv fi hf _ hin x
  isplitl [Hys]; · iexact Hys
  · iexists fi; isplitr; · ipureintro; exact hf
    iapply (Entails.of_eq (show ((iL k).view.loc (thr d L) ↦[(iL k).view.set]{fullShare} fi : sProp 𝕄) = iPts d L k fi by rw [iL_set])) $$ Hi

theorem wait_gather {α : Type} (s k : Fin 2) (j : Fin 8) (c : Fin 4)
    {o1 : Fin 3 → ℕ} {o2 : Fin 4 → ℕ} {b1 : ∀ a, o1 a + S10240x2x128.size a ≤ S10240x8x128.size a}
    {b2 : ∀ a, o2 a + S1x128x2x128.size a ≤ S2x128x2x128.size a} {h1 h2}
    {kk : PUnit → Prog (TpuEff nD τ sig (Elt F) Λ₀ (thr d L).2) α} {Q : α → sProp 𝕄} :
    iprop(gFly d L yv pv qy s k j c ∗ Ow d L O W ∗ Transfers.MayWaits (thr d L) (default : HIx 2) O)
      ⊢ iprop((iprop(oGot d L yv pv s j ∗ iHeld d L pv k ∗ yAll d L yv qy ∗ semVal (thr d L, SemLoc.dma cc2_scoped4.sem) 0 ∗ Ow d L O W) -∗ WP (kk ⟨⟩) Q)
        -∗ WP (SparseCore.waitIndirectGather cc2_scoped4.sem ((Memref.whole main_v12_scv : Memref sig .scVector .hbm S10240x8x128 .f32).slice (Rect.unit (s := S10240x8x128) o1 S10240x2x128.size b1) (fun _ => rfl))
        (((Memref.whole cc2_scoped2 : Memref sig .scVector .vmem S2x128x2x128 .f32).slice (Rect.unit (s := S2x128x2x128) o2 S1x128x2x128.size b2) (fun _ => rfl)).squeeze S128x2x128 squeezes_S1x128x2x128_S128x2x128) h1 h2 >>= kk) Q) := by
  unfold gFly
  iintro ⟨⟨Hfl, Hv, Hvi, Hyr⟩, ⟨%W', %hW', HO⟩, #Hmw⟩ Hk
  iapply (Transfers.wp_waitLocalO countersEmb 𝒱₀ (thr d L) none (default : HIx 2) rfl) $$ [Hfl HO]
  · isplitl [Hfl]; · iexact Hfl
    isplitl [HO]; · iexact HO
    iapply (Transfers.MayWaits.elim (SemLoc.dma cc2_scoped4.sem)) $$ Hmw
  iintro ⟨⟨Hd, Hys, %fi, %hf, Hi⟩, Hg, HO⟩
  iapply Hk
  isplitl [Hd Hv]
  · unfold oGot
    isplitl [Hd] <;> iassumption
  isplitl [Hi Hvi]
  · unfold iHeld
    iexists fi; isplitr; · ipureintro; exact hf
    isplitl [Hi] <;> iassumption
  isplitl [Hys Hyr]
  · iapply (pointsTo_split_subset (q := qy) (f := yv) (S := Finset.univ) (Finset.subset_univ (yS c).view.set)).2
    isplitl [Hys] <;> iassumption
  isplitl [Hg]; · iexact Hg
  iexists _; isplitr
  swap; · iexact HO
  ipureintro; intro p hp
  rcases Finset.mem_insert.mp hp with hp | hp; · exact .inr (hp ▸ rfl)
  exact hW' p hp

/-- A copy-out. -/
theorem put {α : Type} (s : Fin 2) (j : Fin 8) {o1 : Fin 4 → ℕ} {o2 : Fin 3 → ℕ} {o3 : Fin 1 → ℕ}
    {b1 : ∀ a, o1 a + S1x128x2x128.size a ≤ S2x128x2x128.size a} {b2 : ∀ a, o2 a + S128x2x128.size a ≤ S8192x8x128.size a} {b3 : ∀ a, o3 a + S1.size a ≤ S2.size a}
    (e1 : o1 = ![s.val, 0, 0, 0]) (e2 : o2 = ![4096 * (j.val / 4) + wid L, 2 * (j.val % 4), 0]) (e3 : o3 = ![s.val]) {h1 h2 h3}
    {k : PUnit → Prog (TpuEff nD τ sig (Elt F) Λ₀ (thr d L).2) α} {Q : α → sProp 𝕄} :
    iprop(oGot d L yv pv s j ∗ oTodo d L ov j) ⊢ iprop((oFly d L yv pv s j -∗ WP (k ⟨⟩) Q) -∗ WP (Prog.lift (.enqueueDma
      (((Memref.whole cc2_scoped2 : Memref sig .scVector .vmem S2x128x2x128 .f32).slice (Rect.unit (s := S2x128x2x128) o1 S1x128x2x128.size b1) (fun _ => rfl)).squeeze S128x2x128 squeezes_S1x128x2x128_S128x2x128)
      (.here ((Memref.whole main_v13_scv : Memref sig .scVector .hbm S8192x8x128 .f32).slice (Rect.unit (s := S8192x8x128) o2 S128x2x128.size b2) (fun _ => rfl)))
      (.dma ((cc2_scoped3.slice (Rect.unit (s := S2) o3 S1.size b3)).squeeze S_ squeezes_S1_S_).sem) h1 h2 h3) >>= k) Q) := by
  subst e1 e2 e3
  unfold oGot
  iintro ⟨⟨⟨%f, %hf, Hs⟩, Hv⟩, Hd⟩ Hk
  iapply (Transfers.wp_dmaLocal countersEmb 𝒱₀ (thr d L) none (default : HIx 2) (oB L j).view.dmaCredit rfl (View.dmaCredit_pos _ (by decide)) (Finset.Subset.refl _)) $$ [Hs Hd Hv]
  · isplitl [Hs]; · iexact Hs
    isplitl [Hd]; · iexact Hd
    iexact Hv
  iintro Hfl
  iapply Hk
  unfold oFly
  iapply (Transfers.Flight_mono (EC := countersEmb) (c := thr d L) ?_) $$ Hfl
  iintro ⟨Hd, Hs⟩
  isplitl [Hd]
  · iapply (Entails.of_eq (pointsTo_congr ?_)) $$ Hd
    intro x hx
    obtain ⟨y, -, rfl⟩ := Finset.mem_map.mp hx
    rw [View.write_emb_of_mem _ _ (Finset.mem_univ y)]
    exact congrFun hf y
  · iexists f; iexact Hs

/-- A wait of a copy-out. -/
theorem wait_put {α : Type} (s : Fin 2) (j : Fin 8) {o1 : Fin 4 → ℕ} {o2 : Fin 3 → ℕ} {o3 : Fin 1 → ℕ}
    {b1 : ∀ a, o1 a + S1x128x2x128.size a ≤ S2x128x2x128.size a} {b2 : ∀ a, o2 a + S128x2x128.size a ≤ S8192x8x128.size a} {b3 : ∀ a, o3 a + S1.size a ≤ S2.size a}
    (e3 : o3 = ![s.val]) {h1 h2}
    {k : PUnit → Prog (TpuEff nD τ sig (Elt F) Λ₀ (thr d L).2) α} {Q : α → sProp 𝕄} :
    iprop(oFly d L yv pv s j ∗ Ow d L O W ∗ Transfers.MayWaits (thr d L) (default : HIx 2) O)
      ⊢ iprop((iprop((oFree d L s ∗ oDone d L yv pv j) ∗ Ow d L O W) -∗ WP (k ⟨⟩) Q) -∗ WP (Prog.lift (.waitDma2
        ((cc2_scoped3.slice (Rect.unit (s := S2) o3 S1.size b3)).squeeze S_ squeezes_S1_S_).sem
        (((Memref.whole cc2_scoped2 : Memref sig .scVector .vmem S2x128x2x128 .f32).slice (Rect.unit (s := S2x128x2x128) o1 S1x128x2x128.size b1) (fun _ => rfl)).squeeze S128x2x128 squeezes_S1x128x2x128_S128x2x128)
        ((Memref.whole main_v13_scv : Memref sig .scVector .hbm S8192x8x128 .f32).slice (Rect.unit (s := S8192x8x128) o2 S128x2x128.size b2) (fun _ => rfl)) h1 h2) >>= k) Q) := by
  subst e3
  unfold oFly
  iintro ⟨Hfl, ⟨%W', %hW', HO⟩, #Hmw⟩ Hk
  iapply (Transfers.wp_waitLocalO countersEmb 𝒱₀ (thr d L) none (default : HIx 2) rfl) $$ [Hfl HO]
  · isplitl [Hfl]; · iexact Hfl
    isplitl [HO]; · iexact HO
    iapply (Transfers.MayWaits.elim (SemLoc.dma (oSem s))) $$ Hmw
  iintro ⟨⟨Hd, %f, Hs⟩, Hv, HO⟩
  iapply Hk
  isplitl [Hd Hs Hv]
  · isplitr [Hd]
    · unfold oFree
      isplitl [Hs]; · iexists f; iexact Hs
      iexact Hv
    · iexact Hd
  · iexists _; isplitr
    swap; · iexact HO
    ipureintro; intro p hp
    rcases Finset.mem_insert.mp hp with hp | hp; · exact .inr (hp ▸ rfl)
    exact hW' p hp

end Collect
end Cert.Proof.Moe
-- ==== Proof.Collect.lean ====
/-
  One tile's run of the collect, at a symbolic tile: one trip, the loop, the whole body.
-/
module

public import proofs.«01_k».proof.Proof.CollectStages

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Collect

variable (d : Dev nD) (L : grid2.Coords)
variable (yv : S10240x8x128.Idx → F .f32) (pv : S2x4096.Idx → BitVec 32) (ov : S8192x8x128.Idx → F .f32)
variable (qy q : PosShare TreeShare)
variable (O : CellTallies nD τ sig (HIx 2)) (W : Waits sig (HIx 2))

local notation "WP" => wp frame (wpE (defs₀ (F := F)) 𝒱₀ (thr d L) none) Set.univ

/-- The tile's number as the body's word. -/
def cv4 (i : grid2.Coords) : BitVec 32 := BitVec.ofNat 32 ((i 1).val + 16 * (i 0).val)

/-- Before trip `t`. -/
def inv (t : ℕ) : sProp 𝕄 :=
  iprop((iSt d L pv q 0 (st0 t) ∗ iSt d L pv q 1 (st1 t)) ∗ (oFree d L (slot t) ∗ oPrev d L yv pv t) ∗ oBlocks d L yv pv ov t
    ∗ yAll d L yv qy ∗ semVal (thr d L, SemLoc.dma cc2_scoped4.sem) 0 ∗ Ow d L O W)

theorem jt_k : ∀ t : Fin k2_t1_loop.trips, (slot (t.val / 4)).val = (jt t).val / 4 := by decide +kernel
theorem jt_c : ∀ t : Fin k2_t1_loop.trips, (ct t).val = (jt t).val % 4 := by decide +kernel

/-- The slot a trip's gather reads holds its block. -/
theorem iSt_held (t : Fin k2_t1_loop.trips) : iprop(iSt (F := F) d L pv q 0 2 ∗ iSt (F := F) d L pv q 1 (st1 (t.val + 1)))
    ⊢ iprop(iHeld (F := F) d L pv (slot (t.val / 4)) ∗ (iHeld (F := F) d L pv (slot (t.val / 4)) -∗ iprop(iSt (F := F) d L pv q 0 2 ∗ iSt (F := F) d L pv q 1 (st1 (t.val + 1))))) := by
  have ht := t.isLt
  simp only [cTrips] at ht
  by_cases h : t.val < 4
  · rw [show slot (t.val / 4) = 0 from by rw [Nat.div_eq_of_lt h]; rfl]
    unfold iSt
    iintro ⟨Hi0, Hi1⟩
    isplitl [Hi0]; · iexact Hi0
    iintro Hi0
    isplitl [Hi0] <;> iassumption
  · rw [show slot (t.val / 4) = 1 from by rw [show t.val / 4 = 1 by omega]; rfl, show st1 (t.val + 1) = 2 from by unfold st1; split_ifs <;> omega]
    unfold iSt
    iintro ⟨Hi0, Hi1⟩
    isplitl [Hi1]; · iexact Hi1
    iintro Hi1
    isplitl [Hi0] <;> iassumption

/-- Trip `t` takes block `t`. -/
theorem oBlocks_take (t : Fin k2_t1_loop.trips) : (oBlocks d L yv pv ov t.val : sProp 𝕄)
    ⊢ iprop((bigSep (Finset.univ.filter fun j : Fin 8 => j.val + 1 < t.val) fun j => oDone d L yv pv j) ∗ oTodo d L ov (jt t)
      ∗ bigSep (Finset.univ.filter fun j : Fin 8 => t.val + 1 ≤ j.val) fun j => oTodo d L ov j) := by
  unfold oBlocks
  have e : (Finset.univ.filter fun j : Fin 8 => t.val ≤ j.val) = insert (jt t) (Finset.univ.filter fun j : Fin 8 => t.val + 1 ≤ j.val) := by
    revert t; decide +kernel
  have hn : jt t ∉ (Finset.univ.filter fun j : Fin 8 => t.val + 1 ≤ j.val) := by revert t; decide +kernel
  rw [e, bigSep_insert hn]
  exact Entails.rfl

/-- The blocks before the next trip. -/
theorem oBlocks_next (t : Fin k2_t1_loop.trips) (h : 0 < t.val) :
    iprop((bigSep (Finset.univ.filter fun j : Fin 8 => j.val + 1 < t.val) fun j => oDone d L yv pv j) ∗ oDone d L yv pv ⟨t.val - 1, by have := t.isLt; simp only [cTrips] at this; omega⟩
      ∗ bigSep (Finset.univ.filter fun j : Fin 8 => t.val + 1 ≤ j.val) fun j => oTodo d L ov j) ⊢ (oBlocks d L yv pv ov (t.val + 1) : sProp 𝕄) := by
  unfold oBlocks
  have e : ∀ (t : Fin k2_t1_loop.trips) (_ : 0 < t.val) (hh : t.val - 1 < 8), (Finset.univ.filter fun j : Fin 8 => j.val + 1 < t.val + 1) = insert ⟨t.val - 1, hh⟩ (Finset.univ.filter fun j : Fin 8 => j.val + 1 < t.val) := by
    decide +kernel
  have hn : ∀ (t : Fin k2_t1_loop.trips) (_ : 0 < t.val) (hh : t.val - 1 < 8), (⟨t.val - 1, hh⟩ : Fin 8) ∉ (Finset.univ.filter fun j : Fin 8 => j.val + 1 < t.val) := by decide +kernel
  rw [e t h (by have := t.isLt; simp only [cTrips] at this; omega), bigSep_insert (hn t h _)]
  show _ ⊢ iprop((oDone d L yv pv _ ∗ bigSep (Finset.univ.filter fun j : Fin 8 => j.val + 1 < t.val) fun j => oDone d L yv pv j) ∗ _)
  iintro ⟨H1, H2, H3⟩
  isplitr [H3]
  · isplitl [H2] <;> iassumption
  · iexact H3
theorem oBlocks_next0 (t : Fin k2_t1_loop.trips) (h : t.val = 0) :
    iprop((bigSep (Finset.univ.filter fun j : Fin 8 => j.val + 1 < t.val) fun j => oDone d L yv pv j)
      ∗ bigSep (Finset.univ.filter fun j : Fin 8 => t.val + 1 ≤ j.val) fun j => oTodo d L ov j) ⊢ (oBlocks d L yv pv ov (t.val + 1) : sProp 𝕄) := by
  unfold oBlocks
  rw [show (Finset.univ.filter fun j : Fin 8 => j.val + 1 < t.val + 1) = (Finset.univ.filter fun j : Fin 8 => j.val + 1 < t.val) from by rw [h]; decide]
theorem oPrev_pos (t : Fin k2_t1_loop.trips) (h : 0 < t.val) : (oPrev d L yv pv t.val : sProp 𝕄)
    = oFly d L yv pv (slot (t.val + 1)) ⟨t.val - 1, by have := t.isLt; simp only [cTrips] at this; omega⟩ := by
  have ht := t.isLt
  simp only [cTrips] at ht
  unfold oPrev
  rw [dif_pos ⟨h, by omega⟩]
theorem oPrev_zero : (oPrev d L yv pv 0 : sProp 𝕄) = oFree d L (slot 1) := by unfold oPrev; rw [dif_neg (by omega)]
theorem oPrev_next (t : Fin k2_t1_loop.trips) : (oPrev d L yv pv (t.val + 1) : sProp 𝕄) = oFly d L yv pv (slot t.val) (jt t) := by
  have ht := t.isLt
  simp only [cTrips] at ht
  unfold oPrev
  rw [dif_pos ⟨by omega, by omega⟩, slot_step]
  rfl

set_option maxHeartbeats 400000 in
theorem trip (v56 : BitVec 32) (t : Fin k2_t1_loop.trips) (hpv : ∀ x, (pv x).toNat < 10240) :
    iprop(inv d L yv pv ov qy q O W t.val ∗ Transfers.MayWaits (thr d L) (default : HIx 2) O)
      ⊢ WP (k2_t1_body L (Memref.whole main_v12_scv) (Memref.isWhole_whole _) (Memref.whole main_v1_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4 (cv4 L) v56
          t (cw6 t, cw7 t, cw8 t, cw9 t, cw10 t, 0#32, cw12 t))
        fun acc => iprop(⌜acc = (cw6 (t.val + 1), cw7 (t.val + 1), cw8 (t.val + 1), cw9 (t.val + 1), cw10 (t.val + 1), 0#32, cw12 (t.val + 1))⌝ ∗ inv d L yv pv ov qy q O W (t.val + 1)) := by
  have k1 := c_chk1 L t
  have k2 := c_chk2 t
  have k3 := c_chk3 t
  have h5 := c_cond5 L t
  unfold k2_t1_body
  simp only [k2_part1_eq_skeleton, k2_part2_eq_skeleton, k2_part3_eq_skeleton, k2_part4_eq_skeleton]
  unfold k2_part1_skel
  unfold inv
  iintro ⟨⟨⟨Hi0, Hi1⟩, ⟨Hof, Hop⟩, Hob, Hy, Hg, HO⟩, #Hmw⟩
  sl_exec
  iapply (wp_ite_join (P := iSt d L pv q 1 (st1 t.val)) (R := iSt d L pv q 1 (st1m t.val)) ?_ ?_) $$ Hi1
  · intro hc
    have ht := (c_cond1 L t).1 hc
    rw [show st1 t.val = 0 by rw [ht]; rfl, show st1m t.val = 1 by rw [ht]; rfl]
    unfold iSt
    dsimp only
    iintro Hi Hk
    iapply (fetch_idx d L pv q 1 (c_off5 L t ht) (c_off4 t ht) (c_off6 t ht)) $$ Hi
    iintro Hi
    iapply Hk
    iexact Hi
  · intro hc
    have ht : ¬ t.val = 3 := fun e => hc ((c_cond1 L t).2 e)
    rw [show st1m t.val = st1 t.val from by have := t.isLt; unfold st1 st1m; simp only [cTrips] at this; split_ifs <;> omega]
  iintro Hi1
  sl_exec
  iapply (wp_ite_join (P := iprop((iSt d L pv q 0 (st0 t.val) ∗ iSt d L pv q 1 (st1m t.val)) ∗ Ow d L O W ∗ Transfers.MayWaits (thr d L) (default : HIx 2) O))
      (R := iprop((iSt d L pv q 0 2 ∗ iSt d L pv q 1 (st1 (t.val + 1))) ∗ Ow d L O W)) ?_ ?_) $$ [Hi0 Hi1 HO]
  · intro hc
    rcases (c_cond2 L t).1 hc with ht | ht
    · rw [show st0 t.val = 1 by rw [ht]; rfl, show st1m t.val = 0 by rw [ht]; rfl, show st1 (t.val + 1) = 0 by rw [ht]; rfl]
      unfold iSt
      dsimp only
      iintro ⟨⟨Hi0, Hi1⟩, HO, #Hmw⟩ Hk
      iapply (wait_idx d L pv O W 0 (show k2_off7 (cw7 t) = ![(0 : Fin 2).val, 0, 0] from by rw [c_off7, ht]; rfl) (show k2_off9 (cw7 t) = ![(0 : Fin 2).val] from by rw [c_off9, ht]; rfl)) $$ [Hi0 HO]
      · isplitl [Hi0]; · iexact Hi0
        isplitl [HO]; · iexact HO
        iexact Hmw
      iintro ⟨Hi0, HO⟩
      iapply Hk
      isplitr [HO]
      · isplitl [Hi0] <;> iassumption
      · iexact HO
    · rw [show st0 t.val = 2 by rw [ht]; rfl, show st1m t.val = 1 by rw [ht]; rfl, show st1 (t.val + 1) = 2 by rw [ht]; rfl]
      unfold iSt
      dsimp only
      iintro ⟨⟨Hi0, Hi1⟩, HO, #Hmw⟩ Hk
      iapply (wait_idx d L pv O W 1 (show k2_off7 (cw7 t) = ![(1 : Fin 2).val, 0, 0] from by rw [c_off7, ht]; rfl) (show k2_off9 (cw7 t) = ![(1 : Fin 2).val] from by rw [c_off9, ht]; rfl)) $$ [Hi1 HO]
      · isplitl [Hi1]; · iexact Hi1
        isplitl [HO]; · iexact HO
        iexact Hmw
      iintro ⟨Hi1, HO⟩
      iapply Hk
      isplitr [HO]
      · isplitl [Hi0] <;> iassumption
      · iexact HO
  · intro hc
    have ht : ¬ (t.val = 0 ∨ t.val = 4) := fun e => hc ((c_cond2 L t).2 e)
    rw [show st0 t.val = 2 from by have := t.isLt; unfold st0; simp only [cTrips] at this; split_ifs <;> omega,
      show st1 (t.val + 1) = st1m t.val from by have := t.isLt; unfold st1 st1m; simp only [cTrips] at this; split_ifs <;> omega]
    iintro ⟨Hi, HO, -⟩
    isplitl [Hi] <;> iassumption
  · isplitl [Hi0 Hi1]
    · isplitl [Hi0] <;> iassumption
    isplitl [HO]; · iexact HO
    iexact Hmw
  iintro ⟨⟨Hi0, Hi1⟩, HO⟩
  sl_exec
  ihave Hi := (iSt_held d L pv q t) $$ [Hi0 Hi1]
  · isplitl [Hi0] <;> iassumption
  icases Hi with ⟨Hi, Hir⟩
  iapply (gather d L yv pv qy (slot t.val) (slot (t.val / 4)) (jt t) (ct t) (jt_k t) (jt_c t) hpv (c_off12 t) (c_off10 t) (c_off11 t)) $$ [Hof Hi Hy Hg]
  · isplitl [Hof]; · iexact Hof
    isplitl [Hi]; · iexact Hi
    isplitl [Hy] <;> iassumption
  iintro Hfl
  rw [wp_pure]
  unfold k2_part4_skel
  dsimp only
  rw [Prog.bind_assoc]
  imodintro
  iapply (wait_gather d L yv pv qy O W (slot t.val) (slot (t.val / 4)) (jt t) (ct t)) $$ [Hfl HO]
  · isplitl [Hfl]; · iexact Hfl
    isplitl [HO]; · iexact HO
    iexact Hmw
  iintro ⟨Hgot, Hi, Hy, Hg, HO⟩
  ihave Hi := Hir $$ Hi
  simp only [ite_self, dif_pos h5]
  ihave Hb := (oBlocks_take d L yv pv ov t) $$ Hob
  icases Hb with ⟨Hdone, Htodo, Hrest⟩
  rw [Prog.bind_assoc]
  iapply (put d L yv pv ov (slot t.val) (jt t) (c_off13 t) (c_off14 L t) (c_off15 t)) $$ [Hgot Htodo]
  · isplitl [Hgot] <;> iassumption
  iintro Hof
  by_cases h7 : k2_cond7 L t (cw10 t) (cw12 t) = 1#1
  · have ht := (c_cond7 L t).1 h7
    simp only [dif_pos h7]
    rw [Prog.bind_assoc]
    ihave Hop := (Entails.of_eq (oPrev_pos d L yv pv t ht)) $$ Hop
    iapply (wait_put d L yv pv O W (slot (t.val + 1)) ⟨t.val - 1, by have := t.isLt; simp only [cTrips] at this; omega⟩ (c_off18 t ht)) $$ [Hop HO]
    · isplitl [Hop]; · iexact Hop
      isplitl [HO]; · iexact HO
      iexact Hmw
    iintro ⟨⟨Hos, Hd⟩, HO⟩
    ihave Hob := (oBlocks_next d L yv pv ov t ht) $$ [Hdone Hd Hrest]
    · isplitl [Hdone]; · iexact Hdone
      isplitl [Hd] <;> iassumption
    simp only [LawfulMonad.pure_bind, wp_pure]
    imodintro
    rw [oPrev_next]
    isplitr
    · ipureintro
      clear h5 h7 ht
      revert k1 k2 k3
      clear hpv
      revert t
      revert L
      decide +kernel
    isplitl [Hi]; · iexact Hi
    isplitl [Hos Hof]
    · isplitl [Hos]; · iexact Hos
      iexact Hof
    isplitl [Hob]; · iexact Hob
    isplitl [Hy]; · iexact Hy
    isplitl [Hg]; · iexact Hg
    iexact HO
  · have ht : t.val = 0 := by have := mt (c_cond7 L t).2 h7; omega
    simp only [dif_neg h7]
    ihave Hop := (Entails.of_eq (show (oPrev d L yv pv t.val : sProp 𝕄) = oFree d L (slot (t.val + 1)) by rw [ht]; exact oPrev_zero d L yv pv)) $$ Hop
    ihave Hob := (oBlocks_next0 d L yv pv ov t ht) $$ [Hdone Hrest]
    · isplitl [Hdone] <;> iassumption
    simp only [LawfulMonad.pure_bind, wp_pure]
    imodintro
    rw [oPrev_next]
    isplitr
    · ipureintro
      clear h5 h7 ht
      revert k1 k2 k3
      clear hpv
      revert t
      revert L
      decide +kernel
    isplitl [Hi]; · iexact Hi
    isplitl [Hop Hof]
    · isplitl [Hop]; · iexact Hop
      iexact Hof
    isplitl [Hob]; · iexact Hob
    isplitl [Hy]; · iexact Hy
    isplitl [Hg]; · iexact Hg
    iexact HO

end Collect
end Cert.Proof.Moe
-- ==== Proof.CollectRun.lean ====
/-
  One tile's run of the collect, at a symbolic tile: the loop and the whole body.
-/
module

public import proofs.«01_k».proof.Proof.Collect

@[expose] public section

noncomputable section

namespace Cert.Proof.Moe

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Collect

variable (d : Dev nD) (L : grid2.Coords)
variable (yv : S10240x8x128.Idx → F .f32) (pv : S2x4096.Idx → BitVec 32) (ov : S8192x8x128.Idx → F .f32)
variable (qy q : PosShare TreeShare)
variable (O : CellTallies nD τ sig (HIx 2)) (W : Waits sig (HIx 2))

local notation "WP" => wp frame (wpE (defs₀ (F := F)) 𝒱₀ (thr d L) none) Set.univ

theorem c_off1 : k2_off1 = ![(0 : Fin 2).val, 0, 0] := by decide +kernel
theorem c_off2 : ∀ i : grid2.Coords, k2_off2 i = ![(0 : Fin 2).val, wid i] := by decide +kernel
theorem c_off3 : k2_off3 = ![(0 : Fin 2).val] := by decide +kernel

theorem oBlocks_end : iprop(oBlocks d L yv pv ov 8 ∗ oDone d L yv pv 7) ⊢ ((bigSep (Finset.univ : Finset (Fin 8)) fun j => oDone d L yv pv j) : sProp 𝕄) := by
  unfold oBlocks
  have e : insert (7 : Fin 8) (Finset.univ.filter fun j : Fin 8 => j.val + 1 < 8) = Finset.univ := by decide
  refine BIBase.Entails.trans ?_ (Entails.of_eq (congrArg (fun S => bigSep S fun j => oDone d L yv pv j) e))
  rw [bigSep_insert (by decide)]
  iintro ⟨⟨Hob, -⟩, Hd⟩
  iapply (show iprop(oDone d L yv pv 7 ∗ bigSep (Finset.univ.filter fun j : Fin 8 => j.val + 1 < 8) fun j => oDone d L yv pv j) ⊢ _ from Entails.rfl)
  isplitl [Hd] <;> iassumption

/-- The loop's invariant: the words, the buffers, and the waits' evidence. -/
def loopInv (t : ℕ) (acc : BitVec 32 × BitVec 32 × BitVec 32 × BitVec 32 × BitVec 32 × BitVec 32 × BitVec 32) : sProp 𝕄 :=
  iprop(⌜acc = (cw6 t, cw7 t, cw8 t, cw9 t, cw10 t, 0#32, cw12 t)⌝ ∗ inv d L yv pv ov qy q O W t ∗ Transfers.MayWaits (thr d L) (default : HIx 2) O)
theorem loop_step (v56 : BitVec 32) (hpv : ∀ x, (pv x).toNat < 10240) (t : Fin k2_t1_loop.trips) (acc) :
    loopInv d L yv pv ov qy q O W t.val acc
      ⊢ WP (k2_t1_body L (Memref.whole main_v12_scv) (Memref.isWhole_whole _) (Memref.whole main_v1_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4 (cv4 L) v56
          t acc) (loopInv d L yv pv ov qy q O W (t.val + 1)) := by
  unfold loopInv
  iintro ⟨%h, Hinv, #Hmw⟩
  subst h
  iapply (wp_wand) $$ [Hinv]
  · iapply (trip d L yv pv ov qy q O W v56 t hpv)
    isplitl [Hinv]; · iexact Hinv
    iexact Hmw
  iintro %a ⟨%ha, Hinv⟩
  isplitr; · ipureintro; exact ha
  isplitl [Hinv]; · iexact Hinv
  iexact Hmw

set_option maxHeartbeats 400000 in
/-- The whole body: the blocks of the result come back gathered. -/
theorem run (hpv : ∀ x, (pv x).toNat < 10240) :
    iprop(((iFree d L pv q 0 ∗ iFree d L pv q 1) ∗ (oFree d L 0 ∗ oFree d L 1) ∗ (bigSep (Finset.univ : Finset (Fin 8)) fun j => oTodo d L ov j) ∗ yAll d L yv qy
        ∗ semVal (thr d L, SemLoc.dma cc2_scoped4.sem) 0 ∗ Ow d L O W) ∗ Transfers.MayWaits (thr d L) (default : HIx 2) O)
      ⊢ WP (cc2_collect L (Memref.whole main_v12_scv) (Memref.isWhole_whole _) (Memref.whole main_v1_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4)
        fun _ => iprop((bigSep (Finset.univ : Finset (Fin 8)) fun j => oDone d L yv pv j) ∗ (iHeld d L pv 0 ∗ iHeld d L pv 1) ∗ (oFree d L 0 ∗ oFree d L 1)
          ∗ semVal (thr d L, SemLoc.dma cc2_scoped4.sem) 0 ∗ Ow d L O W) := by
  rw [cc2_collect_eq_skeleton]
  unfold cc2_collect_skel
  simp only [k2_part5_eq_skeleton, k2_part6_eq_skeleton, k2_part7_eq_skeleton, k2_part8_eq_skeleton]
  iintro ⟨⟨⟨Hi0, Hi1⟩, ⟨Ho0, Ho1⟩, Hob, Hy, Hg, HO⟩, #Hmw⟩
  sl_exec
  iapply (fetch_idx d L pv q 0 (c_off2 L) c_off1 c_off3) $$ Hi0
  iintro Hi0
  simp only [wp_pure]
  imodintro
  unfold k2_part7_skel
  dsimp only
  rw [Prog.bind_assoc]
  have e4 : run.sl.v4 L = cv4 L := by revert L; decide +kernel
  rw [e4]
  iapply (Scf.wp_for_bind frame (wpE (defs₀ (F := F)) 𝒱₀ (thr d L) none) Set.univ _ _ _ k2_t1_ok _ _ (loopInv d L yv pv ov qy q O W)
    (loop_step d L yv pv ov qy q O W _ hpv)) $$ [Hi0 Hi1 Ho0 Ho1 Hob Hy Hg HO]
  · unfold loopInv inv
    isplitr; · ipureintro; decide +kernel
    isplitl [Hi0 Hi1 Ho0 Ho1 Hob Hy Hg HO]
    · isplitl [Hi0 Hi1]; · rw [show st0 0 = 1 from rfl, show st1 0 = 0 from rfl]; unfold iSt; isplitl [Hi0] <;> iassumption
      isplitl [Ho0 Ho1]
      · rw [oPrev_zero, show slot 0 = 0 from rfl, show slot 1 = 1 from rfl]; isplitl [Ho0] <;> iassumption
      isplitl [Hob]
      · unfold oBlocks
        rw [show (Finset.univ.filter fun j : Fin 8 => j.val + 1 < 0) = ∅ from by decide, show (Finset.univ.filter fun j : Fin 8 => 0 ≤ j.val) = Finset.univ from by decide, bigSep_empty]
        isplitr; · iempintro
        iexact Hob
      isplitl [Hy]; · iexact Hy
      isplitl [Hg]; · iexact Hg
      iexact HO
    · iexact Hmw
  iintro %acc Hacc
  unfold loopInv inv
  rw [show Scf.trips k2_t1_loop.lb k2_t1_loop.ub k2_t1_loop.st = 8 from cTrips]
  icases Hacc with ⟨%hacc, ⟨⟨Hi0, Hi1⟩, ⟨Ho0, Hop⟩, Hob, Hy, Hg, HO⟩, -⟩
  subst hacc
  have k5 := c_chk5 L
  have k4 := c_chk4
  have hop : (oPrev d L yv pv 8 : sProp 𝕄) = oFly d L yv pv 1 7 := by unfold oPrev; rw [dif_pos (by omega)]; rfl
  ihave Hop := (Entails.of_eq hop) $$ Hop
  ihave Ho0 := (Entails.of_eq (show (oFree d L (slot 8) : sProp 𝕄) = oFree d L 0 from rfl)) $$ Ho0
  ihave Hi0 := (Entails.of_eq (show (iSt d L pv q 0 (st0 8) : sProp 𝕄) = iHeld d L pv 0 from rfl)) $$ Hi0
  ihave Hi1 := (Entails.of_eq (show (iSt d L pv q 1 (st1 8) : sProp 𝕄) = iHeld d L pv 1 from rfl)) $$ Hi1
  sl_exec
  iapply (wait_put d L yv pv O W 1 7 c_off21) $$ [Hop HO]
  · isplitl [Hop]; · iexact Hop
    isplitl [HO]; · iexact HO
    iexact Hmw
  iintro ⟨⟨Ho1, Hd⟩, HO⟩
  simp only [wp_pure]
  imodintro
  isplitl [Hob Hd]
  · iapply (oBlocks_end d L yv pv ov)
    isplitl [Hob] <;> iassumption
  isplitl [Hi0 Hi1]; · isplitl [Hi0] <;> iassumption
  isplitl [Ho0 Ho1]; · isplitl [Ho0] <;> iassumption
  isplitl [Hg]; · iexact Hg
  iexact HO

end Collect
end Cert.Proof.Moe
-- ==== Proof.DispatchWords.lean ====
/-
  The dispatch's loop words in closed form: trip `t` handles top-k slot `t / 4` and column pair `t % 4`.
-/
module

public import proofs.«01_k».proof.Proof.CollectWords

@[expose] public section

noncomputable section

namespace Cert.Proof.Moe

open Cert.KernelIdeal Cert.KernelIdeal.Gen Idealize.ShloMosaic

/-! The words the loop carries before trip `t`: those of the collect, and the row blocks issued. -/
def dw6 (t : ℕ) : BitVec 32 := if t ≤ 6 then BitVec.ofNat 32 (t + 1) else 8#32

/-- Trip `t` as a block, and its column pair. -/
def dj (t : Fin k0_t1_loop.trips) : Fin 8 := ⟨t.val, by have := t.isLt; exact this⟩
def dc (t : ℕ) : Fin 4 := ⟨t % 4, Nat.mod_lt _ (by norm_num)⟩

abbrev dTrips : k0_t1_loop.trips = 8 := by decide

theorem d_chk3 : ∀ (t : Fin k0_t1_loop.trips), k0_chk3 (cw7 t) := by unfold k0_chk3; decide +kernel
theorem d_chk2 : ∀ (t : Fin k0_t1_loop.trips), k0_chk2 (cw8 t) := by unfold k0_chk2; decide +kernel
set_option maxRecDepth 65536 in
theorem d_chk1 : ∀ (i : grid0.Coords) (t : Fin k0_t1_loop.trips), k0_chk1 i t (dw6 t) (cw8 t) (cw6 t) (cw7 t) (cw10 t) (cw12 t) := by
  unfold k0_chk1; decide +kernel
theorem d_off1 : k0_off1 = ![(0 : Fin 2).val, 0, 0, 0] := by decide +kernel
theorem d_off2 : ∀ (i : grid0.Coords), k0_off2 i = ![wid i, 2 * (dc 0).val, 0] := by decide +kernel
theorem d_off3 : k0_off3 = ![(0 : Fin 2).val] := by decide +kernel
theorem d_off4 : k0_off4 = ![(0 : Fin 2).val, 0, 0] := by decide +kernel
theorem d_off5 : ∀ (i : grid0.Coords), k0_off5 i = ![(0 : Fin 2).val, wid i] := by decide +kernel
theorem d_off6 : ∀ (t : Fin k0_t1_loop.trips), t.val < 7 → k0_off6 (dw6 t) = ![(slot (t.val + 1)).val, 0, 0, 0] := by decide +kernel
theorem d_off7 : ∀ (i : grid0.Coords) (t : Fin k0_t1_loop.trips), t.val < 7 → k0_off7 i (cw12 t) = ![wid i, 2 * (dc (t.val + 1)).val, 0] := by decide +kernel
theorem d_off8 : ∀ (t : Fin k0_t1_loop.trips), t.val < 7 → k0_off8 (dw6 t) = ![(slot (t.val + 1)).val] := by decide +kernel
theorem d_off9 : ∀ (t : Fin k0_t1_loop.trips), t.val = 3 → k0_off9 (cw6 t) = ![(1 : Fin 2).val, 0, 0] := by decide +kernel
theorem d_off10 : ∀ (i : grid0.Coords) (t : Fin k0_t1_loop.trips), t.val = 3 → k0_off10 i (cw10 t) (cw12 t) = ![(1 : Fin 2).val, wid i] := by decide +kernel
theorem d_off11 : ∀ (t : Fin k0_t1_loop.trips), t.val = 3 → k0_off11 (cw6 t) = ![(1 : Fin 2).val] := by decide +kernel
theorem d_off12 : ∀ (t : Fin k0_t1_loop.trips), k0_off12 (cw8 t) = ![(slot t.val).val, 0, 0, 0] := by decide +kernel
theorem d_off13 : ∀ (i : grid0.Coords) (t : Fin k0_t1_loop.trips), k0_off13 i (cw12 t) = ![wid i, 2 * (dc t.val).val, 0] := by decide +kernel
theorem d_off14 : ∀ (t : Fin k0_t1_loop.trips), k0_off14 (cw8 t) = ![(slot t.val).val] := by decide +kernel
theorem d_off15 : ∀ (t : Fin k0_t1_loop.trips), k0_off15 (cw7 t) = ![(slot (t.val / 4)).val, 0, 0] := by decide +kernel
theorem d_off17 : ∀ (t : Fin k0_t1_loop.trips), k0_off17 (cw7 t) = ![(slot (t.val / 4)).val] := by decide +kernel
theorem d_off18 : ∀ (t : Fin k0_t1_loop.trips), k0_off18 (cw8 t) = ![(slot t.val).val, 0, 0, 0] := by decide +kernel
theorem d_off19 : ∀ (t : Fin k0_t1_loop.trips), k0_off19 (cw7 t) = ![(slot (t.val / 4)).val, 0, 0] := by decide +kernel
theorem d_off20 : ∀ (t : Fin k0_t1_loop.trips), k0_off20 (cw12 t) = ![0, 2 * (dc t.val).val, 0] := by decide +kernel
theorem d_cond4 : ∀ (i : grid0.Coords) (t : Fin k0_t1_loop.trips), k0_cond4 i t (cw10 t) (cw12 t) = 1#1 ↔ (t.val = 0 ∨ t.val = 4) := by decide +kernel
theorem d_cond3 : ∀ (i : grid0.Coords) (t : Fin k0_t1_loop.trips), k0_cond3 i t (cw12 t) = 1#1 := by decide +kernel
theorem d_cond2 : ∀ (i : grid0.Coords) (t : Fin k0_t1_loop.trips), k0_cond2 i t (cw10 t) (cw12 t) = 1#1 ↔ t.val = 3 := by decide +kernel
theorem d_cond1 : ∀ (i : grid0.Coords) (t : Fin k0_t1_loop.trips), k0_cond1 i t (cw12 t) = 1#1 ↔ t.val < 7 := by decide +kernel

end Cert.Proof.Moe
-- ==== Proof.DispatchDefs.lean ====
/-
  The dispatch's buffers as its tiles address them, what it computes, and the value of one scattered block.
-/
module

public import proofs.«01_k».proof.Proof.DispatchWords
public import proofs.«01_k».proof.Proof.CollectDefs

@[expose] public section

noncomputable section

namespace Cert.Proof.Moe

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem

variable {F : FTy → Type} [FloatOps F]

namespace Dispatch

open Collect (wid_le)

/-! ## The memory references -/

abbrev xS (s : Fin 2) : Memref sig .scVector .vmem S128x2x128 .f32 :=
  ((Memref.whole cc0_scoped0).slice (Rect.unit (s := S2x128x2x128) ![s.val, 0, 0, 0] S1x128x2x128.size (by revert s; decide)) (fun _ => rfl)).squeeze S128x2x128 squeezes_S1x128x2x128_S128x2x128
abbrev iS (s : Fin 2) : Memref sig .scVector .vmem S1x128 .i32 :=
  ((Memref.whole cc0_scoped2).slice (Rect.unit (s := S2x1x128) ![s.val, 0, 0] S1x1x128.size (by revert s; decide)) (fun _ => rfl)).squeeze S1x128 squeezes_S1x1x128_S1x128
/-- The slot as the scatter's list. -/
abbrev iL (s : Fin 2) : Memref sig .scVector .vmem S128 .i32 :=
  ((iS s).slice (Rect.unit (s := S1x128) ![0, 0] S1x128.size inb_S1x128_S1x128_0_0) (fun _ => rfl)).squeeze S128 squeezes_S1x128_S128
abbrev iB (i : grid0.Coords) (k : Fin 2) : Memref sig .scVector .hbm S1x128 .i32 :=
  (Memref.whole main_v1_scv).slice (Rect.unit (s := S2x4096) ![k.val, wid i] S1x128.size
    (by have h := wid_le i; have := k.isLt; intro a; match a with | 0 => simp; omega | 1 => simpa using h)) (fun _ => rfl)
abbrev xB (i : grid0.Coords) (c : Fin 4) : Memref sig .scVector .hbm S128x2x128 .f32 :=
  (Memref.whole main_v2_scv).slice (Rect.unit (s := S4096x8x128) ![wid i, 2 * c.val, 0] S128x2x128.size
    (by have := wid_le i; have := c.isLt; intro a; match a with | 0 => simpa using wid_le i | 1 => simp; omega | 2 => simp)) (fun _ => rfl)
abbrev oX (c : Fin 4) : Memref sig .scVector .hbm S10240x2x128 .f32 :=
  (Memref.whole main_v3_scv).slice (Rect.unit (s := S10240x8x128) ![0, 2 * c.val, 0] S10240x2x128.size (by revert c; decide)) (fun _ => rfl)
abbrev xSem (s : Fin 2) : DmaSem sig :=
  ((cc0_scoped1.slice (Rect.unit (s := S2) ![s.val] S1.size (by revert s; decide))).squeeze S_ squeezes_S1_S_).sem
abbrev iSem (s : Fin 2) : DmaSem sig :=
  ((cc0_scoped3.slice (Rect.unit (s := S2) ![s.val] S1.size (by revert s; decide))).squeeze S_ squeezes_S1_S_).sem

/-! ## What it computes -/

/-- The place of one of the tile's positions. -/
def pAt (i : grid0.Coords) (k : Fin 2) (y : Fin 128) : S2x4096.Idx := fun
  | 0 => k
  | 1 => ⟨wid i + y.val, by have := wid_le i; have := y.isLt; show _ < 4096; omega⟩
def xAt (p : S2x4096.Idx) (o : S10240x8x128.Idx) : S4096x8x128.Idx := fun
  | 0 => ⟨(p 1).val, (p 1).isLt⟩
  | 1 => o 1
  | 2 => o 2
open scoped Classical in
/-- A row that a position names holds that token's row of `x`; any other is as before. -/
def dispatched (xv : S4096x8x128.Idx → F .f32) (pv : S2x4096.Idx → BitVec 32) (f0 : S10240x8x128.Idx → F .f32) : S10240x8x128.Idx → F .f32 :=
  fun o => if h : ∃ p, (pv p).toNat = (o 0).val then xv (xAt h.choose o) else f0 o
/-- The elements block `j` of a tile writes. -/
def named (i : grid0.Coords) (pv : S2x4096.Idx → BitVec 32) (j : Fin 8) : Finset S10240x8x128.Idx :=
  Finset.univ.filter fun o => (o 1).val / 2 = j.val % 4 ∧ ∃ y : Fin 128, (pv (pAt i ⟨j.val / 4, by omega⟩ y)).toNat = (o 0).val

theorem iL_emb (s : Fin 2) (y : S128.Idx) : ((iL s).view.emb y) = (iS s).view.emb (fun | 0 => ⟨0, by decide⟩ | 1 => y 0) := by
  revert s y; decide +kernel

theorem list_read (i : grid0.Coords) (s k : Fin 2) (pv : S2x4096.Idx → BitVec 32) (f : (iS s).view.ty.Contents (Elt F))
    (hf : (iS s).view.read (Elt F) f = (iB i k).view.read (Elt F) pv) (y : S128.Idx) :
    (iL s).view.read (Elt F) f y = pv (pAt i k (y 0)) := by
  have h1 : (iL s).view.read (Elt F) f y = (iS s).view.read (Elt F) f (fun | 0 => ⟨0, by decide⟩ | 1 => y 0) := by
    rw [View.read_apply, View.read_apply]
    exact congrArg (fun z => cast _ (f z)) (iL_emb s y)
  rw [h1, hf]
  show pv _ = pv _
  congr 1
  funext a
  match a with
  | 0 => exact Fin.ext (by show k.val + 1 * 0 = k.val; omega)
  | 1 => exact Fin.ext (by show wid i + 1 * (y 0).val = wid i + (y 0).val; omega)

abbrev hG := gathers_S10240x2x128_S128x2x128

theorem rows_val (i : grid0.Coords) (s k : Fin 2) (pv : S2x4096.Idx → BitVec 32) (f : (iS s).view.ty.Contents (Elt F))
    (hf : (iS s).view.read (Elt F) f = (iB i k).view.read (Elt F) pv) (hn : S128.numel = S128x2x128.size hG.axis')
    (hin : ∀ x, ((iL s).view.read (Elt F) f x).toNat < S10240x2x128.size hG.axis) (y : Fin (S128x2x128.size hG.axis')) :
    (SparseCore.rows ((iL s).view.read (Elt F) f) hn hin y).val = (pv (pAt i k y)).toNat := by
  show ((iL s).view.read (Elt F) f (S128.rowMajor.symm (y.cast hn.symm))).toNat = _
  rw [list_read i s k pv f hf]
  congr 3
  have := Shape.rowMajor_val_one (d := S128.size) (S128.rowMajor.symm (y.cast hn.symm))
  rw [Equiv.apply_symm_apply] at this
  exact Fin.ext this.symm

/-- An element of one of the target's rows. -/
theorem mem_row (c : Fin 4) (r : Fin (S10240x2x128.size hG.axis)) (o : S10240x8x128.Idx) :
    o ∈ ((oX c).view.slice (S10240x2x128.rowRect hG.axis r)).set ↔ (o 0).val = r.val ∧ (o 1).val / 2 = c.val := by
  rw [View.set_slice]
  constructor
  · intro h
    obtain ⟨z, hz, rfl⟩ := Finset.mem_map.mp h
    have hz' := Rect.mem_set_unit.mp hz
    have h0 := hz' 0
    have e0 : ((oX c).view.emb z 0).val = (z 0).val := by show 0 + 1 * _ = _; omega
    have e1 : ((oX c).view.emb z 1).val = 2 * c.val + (z 1).val := by show 2 * c.val + 1 * _ = _; omega
    have hz1 : (z 1).val < 2 := (z 1).isLt
    refine ⟨?_, ?_⟩
    · rw [e0]
      have h1 : r.val ≤ (z 0).val ∧ (z 0).val < r.val + 1 := h0
      omega
    · rw [e1]; omega
  · rintro ⟨h0, h1⟩
    have ho0 : (o 0).val < 10240 := (o 0).isLt
    have ho2 : (o 2).val < 128 := (o 2).isLt
    refine Finset.mem_map.mpr ⟨fun | 0 => ⟨(o 0).val, ho0⟩ | 1 => ⟨(o 1).val % 2, Nat.mod_lt _ (by norm_num)⟩ | 2 => ⟨(o 2).val, ho2⟩, ?_, ?_⟩
    · refine Rect.mem_set_unit.mpr (fun a => ?_)
      match a with
      | 0 => show r.val ≤ (o 0).val ∧ (o 0).val < r.val + 1; omega
      | 1 => show 0 ≤ (o 1).val % 2 ∧ (o 1).val % 2 < 0 + 2; omega
      | 2 => show 0 ≤ (o 2).val ∧ (o 2).val < 0 + 128; omega
    · funext a
      match a with
      | 0 => exact Fin.ext (by show 0 + 1 * (o 0).val = _; omega)
      | 1 => exact Fin.ext (by show 2 * c.val + 1 * ((o 1).val % 2) = _; omega)
      | 2 => exact Fin.ext (by show 0 + 1 * (o 2).val = _; omega)

abbrev thr (d : Dev nD) (L : grid0.Coords) : Thread nD τ := V d ((L 0).castLE hcore0) ((L 1).castLE hsub0)

theorem named_eq (d : Dev nD) (i : grid0.Coords) (j : Fin 8) (s k : Fin 2) (hk : k.val = j.val / 4) (c : Fin 4) (hc : c.val = j.val % 4)
    (pv : S2x4096.Idx → BitVec 32) (f : (iS s).view.ty.Contents (Elt F))
    (hf : (iS s).view.read (Elt F) f = (iB i k).view.read (Elt F) pv) (hn : S128.numel = S128x2x128.size hG.axis')
    (hin : ∀ x, ((iL s).view.read (Elt F) f x).toNat < S10240x2x128.size hG.axis) :
    SparseCore.namedRows (thr d i) (oX c).view hG.axis (SparseCore.rows ((iL s).view.read (Elt F) f) hn hin) = named i pv j := by
  have hkk : k = ⟨j.val / 4, by omega⟩ := Fin.ext hk
  rw [SparseCore.namedRows_eq]
  ext o
  refine Iff.trans Finset.mem_biUnion (Iff.trans ?_ (Finset.mem_filter (s := Finset.univ) (p := fun o : S10240x8x128.Idx => (o 1).val / 2 = j.val % 4 ∧ ∃ y : Fin 128, (pv (pAt i ⟨j.val / 4, by omega⟩ y)).toNat = (o 0).val)).symm)
  constructor
  · rintro ⟨y, _, hy⟩
    have := (mem_row c _ o).mp hy
    exact ⟨Finset.mem_univ _, this.2.trans hc, y, by rw [← hkk]; exact ((rows_val i s k pv f hf hn hin y).symm.trans this.1.symm)⟩
  · rintro ⟨_, h1, y, hy⟩
    refine ⟨y, Finset.mem_univ _, (mem_row c _ o).mpr ⟨?_, h1.trans hc.symm⟩⟩
    rw [← hkk] at hy
    exact hy.symm.trans (rows_val i s k pv f hf hn hin y).symm

theorem rows_inj (i : grid0.Coords) (s k : Fin 2) (pv : S2x4096.Idx → BitVec 32) (hd : ∀ p p', (pv p).toNat = (pv p').toNat → p = p')
    (f : (iS s).view.ty.Contents (Elt F))
    (hf : (iS s).view.read (Elt F) f = (iB i k).view.read (Elt F) pv) (hn : S128.numel = S128x2x128.size hG.axis')
    (hin : ∀ x, ((iL s).view.read (Elt F) f x).toNat < S10240x2x128.size hG.axis) :
    Function.Injective (SparseCore.rows ((iL s).view.read (Elt F) f) hn hin) := by
  intro y y' h
  have h' := congrArg Fin.val h
  rw [rows_val i s k pv f hf, rows_val i s k pv f hf] at h'
  have h1 := congrArg Fin.val (congrFun (hd _ _ h') 1)
  refine Fin.ext ?_
  have h2 : wid i + y.val = wid i + y'.val := h1
  omega

theorem idxEquiv_val {f g : Fin 3 → ℕ} (h : (⟨3, f⟩ : Shape) = ⟨3, g⟩) (z : Shape.Idx ⟨3, g⟩) (a : Fin 3) :
    ((Shape.idxEquiv h).symm z a).val = (z a).val := by
  cases h; rfl

/-- An element of a scattered row, in the source. -/
theorem row_payload (d : Dev nD) (i : grid0.Coords) (b : Fin 2) (c : Fin 4) (xv : S4096x8x128.Idx → F .f32) (fs : (xS b).view.ty.Contents (Elt F))
    (hfs : (xS b).view.read (Elt F) fs = (xB i c).view.read (Elt F) xv) (y : Fin (S128x2x128.size hG.axis')) (z : (S10240x2x128.rowShape hG.axis).Idx)
    (w : S4096x8x128.Idx) (h0 : (w 0).val = wid i + y.val) (h1 : (w 1).val = 2 * c.val + (z (1 : Fin 3)).val) (h2 : (w 2).val = (z (2 : Fin 3)).val) :
    SparseCore.scatterRowPayload (F := F) (thr d i) (xS b) hG fs y z = xv w := by
  let z' : (S128x2x128.rowShape hG.axis').Idx := (Shape.idxEquiv hG.rowShape_eq).symm z
  have hz' : ∀ a : Fin 3, (z' a).val = (z a).val := fun a => idxEquiv_val hG.rowShape_eq z a
  have e : SparseCore.scatterRowPayload (F := F) (thr d i) (xS b) hG fs y z = (xS b).view.read (Elt F) fs ((S128x2x128.rowRect hG.axis' y).emb z') := rfl
  rw [e, hfs]
  show xv _ = xv _
  congr 1
  funext a
  match a with
  | 0 =>
    refine Fin.ext (Eq.trans ?_ h0.symm)
    have h0 : (z' (0 : Fin 3)).val < 1 := (z' (0 : Fin 3)).isLt
    show wid i + 1 * (y.val + 1 * (z' (0 : Fin 3)).val) = wid i + y.val
    omega
  | 1 =>
    refine Fin.ext (Eq.trans ?_ h1.symm)
    show 2 * c.val + 1 * (0 + 1 * (z' (1 : Fin 3)).val) = 2 * c.val + (z (1 : Fin 3)).val
    rw [hz' 1]; omega
  | 2 =>
    refine Fin.ext (Eq.trans ?_ h2.symm)
    show 0 + 1 * (0 + 1 * (z' (2 : Fin 3)).val) = (z (2 : Fin 3)).val
    rw [hz' 2]; omega

theorem scatter_value (d : Dev nD) (i : grid0.Coords) (j : Fin 8) (s k : Fin 2) (hk : k.val = j.val / 4) (b : Fin 2) (c : Fin 4) (hc : c.val = j.val % 4)
    (pv : S2x4096.Idx → BitVec 32) (hd : ∀ p p', (pv p).toNat = (pv p').toNat → p = p') (f : (iS s).view.ty.Contents (Elt F))
    (hf : (iS s).view.read (Elt F) f = (iB i k).view.read (Elt F) pv) (hn : S128.numel = S128x2x128.size hG.axis')
    (hin : ∀ x, ((iL s).view.read (Elt F) f x).toNat < S10240x2x128.size hG.axis)
    (xv : S4096x8x128.Idx → F .f32) (f0 : S10240x8x128.Idx → F .f32) (fs : (xS b).view.ty.Contents (Elt F))
    (hfs : (xS b).view.read (Elt F) fs = (xB i c).view.read (Elt F) xv) (o : S10240x8x128.Idx) (ho : o ∈ named i pv j) :
    SparseCore.scatterBuf (F := F) (thr d i) (oX c).view hG.axis (SparseCore.rows ((iL s).view.read (Elt F) f) hn hin)
      (SparseCore.scatterRowPayload (thr d i) (xS b) hG fs) f0 o = dispatched xv pv f0 o := by
  have hkk : k = ⟨j.val / 4, by omega⟩ := Fin.ext hk
  obtain ⟨_, h1, y, hy⟩ := (Finset.mem_filter (s := Finset.univ) (p := fun o : S10240x8x128.Idx => (o 1).val / 2 = j.val % 4 ∧ ∃ y : Fin 128, (pv (pAt i ⟨j.val / 4, by omega⟩ y)).toNat = (o 0).val)).mp ho
  rw [← hkk] at hy
  obtain ⟨y, rfl⟩ : ∃ y' : Fin (S128x2x128.size hG.axis'), y' = y := ⟨y, rfl⟩
  have hmem : o ∈ ((oX c).view.slice (S10240x2x128.rowRect hG.axis (SparseCore.rows ((iL s).view.read (Elt F) f) hn hin y))).set :=
    (mem_row c _ o).mpr ⟨hy.symm.trans (rows_val i s k pv f hf hn hin y).symm, h1.trans hc.symm⟩
  rw [SparseCore.scatterBuf_of_mem (thr d i) (oX c).view hG.axis _ (rows_inj i s k pv hd f hf hn hin) _ f0 hmem]
  obtain ⟨z, _, rfl⟩ := Finset.mem_map.mp hmem
  refine (View.write_emb_of_mem (Val := Elt F) (v := (oX c).view.slice (S10240x2x128.rowRect hG.axis (SparseCore.rows ((iL s).view.read (Elt F) f) hn hin y))) _ _ (Finset.mem_univ z)).trans ?_
  have hex : ∃ p, (pv p).toNat = ((((oX c).view.slice (S10240x2x128.rowRect hG.axis (SparseCore.rows ((iL s).view.read (Elt F) f) hn hin y))).emb z) 0).val := ⟨_, hy⟩
  unfold dispatched
  rw [dif_pos hex]
  have hch := hd _ _ (hex.choose_spec.trans hy.symm)
  rw [hch]
  refine row_payload d i b c xv fs hfs y z _ rfl ?_ ?_
  · show 2 * c.val + 1 * (0 + 1 * (z (1 : Fin 3)).val) = 2 * c.val + (z (1 : Fin 3)).val
    omega
  · show 0 + 1 * (0 + 1 * (z (2 : Fin 3)).val) = (z (2 : Fin 3)).val
    omega

end Dispatch
end Cert.Proof.Moe
-- ==== Proof.DispatchStages.lean ====
/-
  The stages of one tile's run of the dispatch, at a symbolic tile: the index blocks and the row blocks of its two-slot
  pipelines as states of their slots, and each copy, scatter and wait as a step between those states.
-/
module

public import proofs.«01_k».proof.Proof.DispatchDefs

@[expose] public section

noncomputable section

namespace Cert.Proof.Moe

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Dispatch

variable (d : Dev nD) (L : grid0.Coords)
variable (xv : S4096x8x128.Idx → F .f32) (pv : S2x4096.Idx → BitVec 32) (f0 : S10240x8x128.Idx → F .f32)
variable (qx q : PosShare TreeShare)

/-- Token `k` of a share. -/
def tok (q : PosShare TreeShare) (k : Fin 2) : PosShare TreeShare := if k = 0 then q.left else q.right

/-! ## The index blocks -/

abbrev iPts (s : Fin 2) (f : (iS s).view.ty.Contents (Elt F)) : sProp 𝕄 := (iS s).view.loc (thr d L) ↦[(iS s).view.set]{fullShare} f
abbrev iSrc (k : Fin 2) : sProp 𝕄 := (iB L k).view.loc (thr d L) ↦[(iB L k).view.set]{tok q k} pv

def iFree (s : Fin 2) : sProp 𝕄 := iprop((∃ f, iPts d L s f) ∗ semVal (thr d L, SemLoc.dma (iSem s)) 0 ∗ iSrc d L pv q s)
/-- Holds block `s` of the positions. -/
def iHeld (s : Fin 2) : sProp 𝕄 :=
  iprop(∃ f, ⌜(iS s).view.read (Elt F) f = (iB L s).view.read (Elt F) pv⌝ ∗ iPts d L s f ∗ semVal (thr d L, SemLoc.dma (iSem s)) 0)
def iFly (s : Fin 2) : sProp 𝕄 :=
  Transfers.Flight countersEmb (thr d L) (.dma (iSem s)) (default : HIx 2) (iS s).view.dmaCredit
    iprop(∃ f, ⌜(iS s).view.read (Elt F) f = (iB L s).view.read (Elt F) pv⌝ ∗ iPts d L s f)
def iSt (s : Fin 2) : ℕ → sProp 𝕄
  | 0 => iFree d L pv q s
  | 1 => iFly d L pv s
  | _ => iHeld d L pv s
/-- The stage of slot 0 and of slot 1 before trip `t`, and of slot 1 after the trip's fetch. -/
def st0 (t : ℕ) : ℕ := if t = 0 then 1 else 2
def st1 (t : ℕ) : ℕ := if t ≤ 3 then 0 else if t = 4 then 1 else 2
def st1m (t : ℕ) : ℕ := if t ≤ 2 then 0 else if t ≤ 4 then 1 else 2

/-! ## The row blocks -/

abbrev xPts (s : Fin 2) (f : (xS s).view.ty.Contents (Elt F)) : sProp 𝕄 := (xS s).view.loc (thr d L) ↦[(xS s).view.set]{fullShare} f
abbrev xAll (s : Fin 2) : sProp 𝕄 := ((Memref.whole main_v2_scv : Memref sig .scVector _ _ _).view.loc (thr d L)) ↦{tok qx s} xv
abbrev xBlk (s : Fin 2) (c : Fin 4) : sProp 𝕄 := (xB L c).view.loc (thr d L) ↦[(xB L c).view.set]{tok qx s} xv
abbrev xRest (s : Fin 2) (c : Fin 4) : sProp 𝕄 := (xB L c).view.loc (thr d L) ↦[Finset.univ \ (xB L c).view.set]{tok qx s} xv
/-- Slot `s` holds block `c` of the rows. -/
def xGot (s : Fin 2) (c : Fin 4) : sProp 𝕄 := iprop(∃ f, ⌜(xS s).view.read (Elt F) f = (xB L c).view.read (Elt F) xv⌝ ∗ xPts d L s f)
def xFree (s : Fin 2) : sProp 𝕄 := iprop((∃ f, xPts d L s f) ∗ semVal (thr d L, SemLoc.dma (xSem s)) 0 ∗ xAll d L xv qx s)
def xFly (s : Fin 2) (c : Fin 4) : sProp 𝕄 :=
  iprop(Transfers.Flight countersEmb (thr d L) (.dma (xSem s)) (default : HIx 2) (xS s).view.dmaCredit
    iprop(xGot d L xv s c ∗ xBlk d L xv qx s c) ∗ xRest d L xv qx s c)
def xHeld (s : Fin 2) (c : Fin 4) : sProp 𝕄 := iprop(xGot d L xv s c ∗ semVal (thr d L, SemLoc.dma (xSem s)) 0 ∗ xAll d L xv qx s)
/-- Slot `t` before trip `t`: its block is on the way. -/
def xCur (t : ℕ) : sProp 𝕄 := if t < 8 then xFly d L xv qx (slot t) (dc t) else xFree d L xv qx (slot t)

/-! ## The target's rows -/

abbrev oLoc : Memref sig .scVector .hbm S10240x8x128 .f32 := Memref.whole main_v3_scv
abbrev oTodo (j : Fin 8) : sProp 𝕄 := oLoc.view.loc (thr d L) ↦[named L pv j]{fullShare} f0
abbrev oDone (j : Fin 8) : sProp 𝕄 := oLoc.view.loc (thr d L) ↦[named L pv j]{fullShare} (dispatched xv pv f0)
def oBlocks (t : ℕ) : sProp 𝕄 :=
  iprop((bigSep (Finset.univ.filter fun j : Fin 8 => j.val < t) fun j => oDone d L xv pv f0 j)
    ∗ bigSep (Finset.univ.filter fun j : Fin 8 => t ≤ j.val) fun j => oTodo d L pv f0 j)

/-! ## The stages of a trip -/

variable (O : CellTallies nD τ sig (HIx 2)) (W : Waits sig (HIx 2))

abbrev Ow : sProp 𝕄 := iprop(∃ W', ⌜∀ p ∈ W', p ∈ W ∨ p.2 = none⌝ ∗ owes (thr d L) O W')

local notation "WP" => wp frame (wpE (defs₀ (F := F)) 𝒱₀ (thr d L) none) Set.univ

theorem fetch_idx {α : Type} (s : Fin 2) {o1 : Fin 2 → ℕ} {o2 : Fin 3 → ℕ} {o3 : Fin 1 → ℕ} {b1 : ∀ a, o1 a + S1x128.size a ≤ S2x4096.size a} {b2 : ∀ a, o2 a + S1x1x128.size a ≤ S2x1x128.size a} {b3 : ∀ a, o3 a + S1.size a ≤ S2.size a}
    (e1 : o1 = ![s.val, wid L]) (e2 : o2 = ![s.val, 0, 0]) (e3 : o3 = ![s.val]) {h1 h2 h3}
    {k : PUnit → Prog (TpuEff nD τ sig (Elt F) Λ₀ (thr d L).2) α} {Q : α → sProp 𝕄} :
    iFree d L pv q s ⊢ iprop((iFly d L pv s -∗ WP (k ⟨⟩) Q) -∗ WP (Prog.lift (.enqueueDma ((Memref.whole main_v1_scv : Memref sig .scVector .hbm S2x4096 .i32).slice (Rect.unit (s := S2x4096) o1 S1x128.size b1) (fun _ => rfl))
      (.here (((Memref.whole cc0_scoped2 : Memref sig .scVector .vmem S2x1x128 .i32).slice (Rect.unit (s := S2x1x128) o2 S1x1x128.size b2) (fun _ => rfl)).squeeze S1x128 squeezes_S1x1x128_S1x128)) (.dma ((cc0_scoped3.slice (Rect.unit (s := S2) o3 S1.size b3)).squeeze S_ squeezes_S1_S_).sem) h1 h2 h3) >>= k) Q) := by
  subst e1 e2 e3
  unfold iFree
  iintro ⟨⟨%f, Hd⟩, Hv, Hs⟩ Hk
  iapply (Transfers.wp_dmaLocal countersEmb 𝒱₀ (thr d L) none (default : HIx 2) (iS s).view.dmaCredit rfl (View.dmaCredit_pos _ (by decide)) (Finset.Subset.refl _)) $$ [Hs Hd Hv]
  · isplitl [Hs]; · iexact Hs
    isplitl [Hd]; · iexact Hd
    iexact Hv
  iintro Hfl
  iapply Hk
  unfold iFly
  iapply (Transfers.Flight_mono (EC := countersEmb) (c := thr d L) ?_) $$ Hfl
  iintro ⟨Hd, -⟩
  iexists _; isplitr
  swap; · iexact Hd
  ipureintro
  rw [View.read_write_univ]

/-- A wait of an index block. -/
theorem wait_idx {α : Type} (s : Fin 2) {o1 : Fin 2 → ℕ} {o2 : Fin 3 → ℕ} {o3 : Fin 1 → ℕ} {b1 : ∀ a, o1 a + S1x128.size a ≤ S2x4096.size a} {b2 : ∀ a, o2 a + S1x1x128.size a ≤ S2x1x128.size a} {b3 : ∀ a, o3 a + S1.size a ≤ S2.size a}
    (e2 : o2 = ![s.val, 0, 0]) (e3 : o3 = ![s.val]) {h1 h2}
    {k : PUnit → Prog (TpuEff nD τ sig (Elt F) Λ₀ (thr d L).2) α} {Q : α → sProp 𝕄} :
    iprop(iFly d L pv s ∗ Ow d L O W ∗ Transfers.MayWaits (thr d L) (default : HIx 2) O)
      ⊢ iprop((iprop(iHeld d L pv s ∗ Ow d L O W) -∗ WP (k ⟨⟩) Q) -∗ WP (Prog.lift (.waitDma2 ((cc0_scoped3.slice (Rect.unit (s := S2) o3 S1.size b3)).squeeze S_ squeezes_S1_S_).sem ((Memref.whole main_v1_scv : Memref sig .scVector .hbm S2x4096 .i32).slice (Rect.unit (s := S2x4096) o1 S1x128.size b1) (fun _ => rfl))
        (((Memref.whole cc0_scoped2 : Memref sig .scVector .vmem S2x1x128 .i32).slice (Rect.unit (s := S2x1x128) o2 S1x1x128.size b2) (fun _ => rfl)).squeeze S1x128 squeezes_S1x1x128_S1x128) h1 h2) >>= k) Q) := by
  subst e2 e3
  unfold iFly
  iintro ⟨Hfl, ⟨%W', %hW', HO⟩, #Hmw⟩ Hk
  iapply (Transfers.wp_waitLocalO countersEmb 𝒱₀ (thr d L) none (default : HIx 2) rfl) $$ [Hfl HO]
  · isplitl [Hfl]; · iexact Hfl
    isplitl [HO]; · iexact HO
    iapply (Transfers.MayWaits.elim (SemLoc.dma (iSem s))) $$ Hmw
  iintro ⟨⟨%f, %hf, Hd⟩, Hv, HO⟩
  iapply Hk
  isplitl [Hd Hv]
  · unfold iHeld
    iexists f; isplitr; · ipureintro; exact hf
    isplitl [Hd] <;> iassumption
  · iexists _; isplitr
    swap; · iexact HO
    ipureintro; intro p hp
    rcases Finset.mem_insert.mp hp with hp | hp; · exact .inr (hp ▸ rfl)
    exact hW' p hp

theorem iL_set (s : Fin 2) : (iL s).view.set = (iS s).view.set := by
  show ((((iS s).view.slice (Rect.unit (s := S1x128) ![0, 0] S1x128.size inb_S1x128_S1x128_0_0)).reshape S128 _)).set = _
  rw [View.set_reshape, View.set_slice, Rect.set_eq_univ_of_whole]
  · rfl
  · intro a; match a with | 0 => exact ⟨rfl, rfl, rfl⟩ | 1 => exact ⟨rfl, rfl, rfl⟩

theorem fetch_x {α : Type} (s : Fin 2) (c : Fin 4) {o1 : Fin 3 → ℕ} {o2 : Fin 4 → ℕ} {o3 : Fin 1 → ℕ} {b1 : ∀ a, o1 a + S128x2x128.size a ≤ S4096x8x128.size a}
    {b2 : ∀ a, o2 a + S1x128x2x128.size a ≤ S2x128x2x128.size a} {b3 : ∀ a, o3 a + S1.size a ≤ S2.size a}
    (e1 : o1 = ![wid L, 2 * c.val, 0]) (e2 : o2 = ![s.val, 0, 0, 0]) (e3 : o3 = ![s.val]) {h1 h2 h3}
    {k : PUnit → Prog (TpuEff nD τ sig (Elt F) Λ₀ (thr d L).2) α} {Q : α → sProp 𝕄} :
    xFree d L xv qx s ⊢ iprop((xFly d L xv qx s c -∗ WP (k ⟨⟩) Q) -∗ WP (Prog.lift (.enqueueDma ((Memref.whole main_v2_scv : Memref sig .scVector .hbm S4096x8x128 .f32).slice (Rect.unit (s := S4096x8x128) o1 S128x2x128.size b1) (fun _ => rfl))
      (.here (((Memref.whole cc0_scoped0 : Memref sig .scVector .vmem S2x128x2x128 .f32).slice (Rect.unit (s := S2x128x2x128) o2 S1x128x2x128.size b2) (fun _ => rfl)).squeeze S128x2x128 squeezes_S1x128x2x128_S128x2x128)) (.dma ((cc0_scoped1.slice (Rect.unit (s := S2) o3 S1.size b3)).squeeze S_ squeezes_S1_S_).sem) h1 h2 h3) >>= k) Q) := by
  subst e1 e2 e3
  unfold xFree
  iintro ⟨⟨%f, Hd⟩, Hv, Hx⟩ Hk
  ihave Hxs := (pointsTo_split_subset (q := tok qx s) (f := xv) (S := Finset.univ) (Finset.subset_univ (xB L c).view.set)).1 $$ Hx
  icases Hxs with ⟨Hs, Hr⟩
  iapply (Transfers.wp_dmaLocal countersEmb 𝒱₀ (thr d L) none (default : HIx 2) (xS s).view.dmaCredit rfl (View.dmaCredit_pos _ (by decide)) (Finset.Subset.refl _)) $$ [Hs Hd Hv]
  · isplitl [Hs]; · iexact Hs
    isplitl [Hd]; · iexact Hd
    iexact Hv
  iintro Hfl
  iapply Hk
  unfold xFly
  isplitl [Hfl]
  swap; · iexact Hr
  iapply (Transfers.Flight_mono (EC := countersEmb) (c := thr d L) ?_) $$ Hfl
  iintro ⟨Hd, Hs⟩
  isplitl [Hd]
  · unfold xGot
    iexists _; isplitr
    swap; · iexact Hd
    ipureintro
    rw [View.read_write_univ]
  · iexact Hs

theorem wait_x {α : Type} (s : Fin 2) (c : Fin 4) {o1 : Fin 3 → ℕ} {o2 : Fin 4 → ℕ} {o3 : Fin 1 → ℕ} {b1 : ∀ a, o1 a + S128x2x128.size a ≤ S4096x8x128.size a}
    {b2 : ∀ a, o2 a + S1x128x2x128.size a ≤ S2x128x2x128.size a} {b3 : ∀ a, o3 a + S1.size a ≤ S2.size a}
    (e3 : o3 = ![s.val]) {h1 h2}
    {k : PUnit → Prog (TpuEff nD τ sig (Elt F) Λ₀ (thr d L).2) α} {Q : α → sProp 𝕄} :
    iprop(xFly d L xv qx s c ∗ Ow d L O W ∗ Transfers.MayWaits (thr d L) (default : HIx 2) O)
      ⊢ iprop((iprop(xHeld d L xv qx s c ∗ Ow d L O W) -∗ WP (k ⟨⟩) Q) -∗ WP (Prog.lift (.waitDma2 ((cc0_scoped1.slice (Rect.unit (s := S2) o3 S1.size b3)).squeeze S_ squeezes_S1_S_).sem ((Memref.whole main_v2_scv : Memref sig .scVector .hbm S4096x8x128 .f32).slice (Rect.unit (s := S4096x8x128) o1 S128x2x128.size b1) (fun _ => rfl))
      (((Memref.whole cc0_scoped0 : Memref sig .scVector .vmem S2x128x2x128 .f32).slice (Rect.unit (s := S2x128x2x128) o2 S1x128x2x128.size b2) (fun _ => rfl)).squeeze S128x2x128 squeezes_S1x128x2x128_S128x2x128) h1 h2) >>= k) Q) := by
  subst e3
  unfold xFly
  iintro ⟨⟨Hfl, Hr⟩, ⟨%W', %hW', HO⟩, #Hmw⟩ Hk
  iapply (Transfers.wp_waitLocalO countersEmb 𝒱₀ (thr d L) none (default : HIx 2) rfl) $$ [Hfl HO]
  · isplitl [Hfl]; · iexact Hfl
    isplitl [HO]; · iexact HO
    iapply (Transfers.MayWaits.elim (SemLoc.dma (xSem s))) $$ Hmw
  iintro ⟨⟨Hd, Hs⟩, Hv, HO⟩
  iapply Hk
  isplitl [Hd Hv Hs Hr]
  · unfold xHeld
    isplitl [Hd]; · iexact Hd
    isplitl [Hv]; · iexact Hv
    iapply (pointsTo_split_subset (q := tok qx s) (f := xv) (S := Finset.univ) (Finset.subset_univ (xB L c).view.set)).2
    isplitl [Hs] <;> iassumption
  · iexists _; isplitr
    swap; · iexact HO
    ipureintro; intro p hp
    rcases Finset.mem_insert.mp hp with hp | hp; · exact .inr (hp ▸ rfl)
    exact hW' p hp

/-- The scatter of block `j` in flight, and what it hands back. -/
def sFly (s k : Fin 2) (j : Fin 8) : sProp 𝕄 :=
  iprop(Transfers.Flight countersEmb (thr d L) (.dma cc0_scoped4.sem) (default : HIx 2) (xS s).view.dmaCredit
      iprop(oDone d L xv pv f0 j ∗ (∃ f, xPts d L s f) ∗ ∃ f, ⌜(iS k).view.read (Elt F) f = (iB L k).view.read (Elt F) pv⌝ ∗ iPts d L k f)
    ∗ semVal (thr d L, SemLoc.dma (xSem s)) 0 ∗ xAll d L xv qx s ∗ semVal (thr d L, SemLoc.dma (iSem k)) 0)

theorem scatter {α : Type} (s k : Fin 2) (j : Fin 8) (c : Fin 4) (hk : k.val = j.val / 4) (hc : c.val = j.val % 4) (hpv : ∀ x, (pv x).toNat < 10240)
    (hd : ∀ p p', (pv p).toNat = (pv p').toNat → p = p')
    {o1 : Fin 3 → ℕ} {o2 : Fin 4 → ℕ} {o3 : Fin 3 → ℕ} {b1 : ∀ a, o1 a + S10240x2x128.size a ≤ S10240x8x128.size a}
    {b2 : ∀ a, o2 a + S1x128x2x128.size a ≤ S2x128x2x128.size a} {b3 : ∀ a, o3 a + S1x1x128.size a ≤ S2x1x128.size a}
    (e1 : o1 = ![0, 2 * c.val, 0]) (e2 : o2 = ![s.val, 0, 0, 0]) (e3 : o3 = ![k.val, 0, 0]) {h1 h2 h3 h4 h5}
    {kk : PUnit → Prog (TpuEff nD τ sig (Elt F) Λ₀ (thr d L).2) α} {Q : α → sProp 𝕄} :
    iprop(xHeld d L xv qx s c ∗ iHeld d L pv k ∗ oTodo d L pv f0 j ∗ semVal (thr d L, SemLoc.dma cc0_scoped4.sem) 0)
      ⊢ iprop((sFly d L xv pv f0 qx s k j -∗ WP (kk ⟨⟩) Q) -∗ WP (SparseCore.enqueueIndirectScatter h1
        (((Memref.whole cc0_scoped0 : Memref sig .scVector .vmem S2x128x2x128 .f32).slice (Rect.unit (s := S2x128x2x128) o2 S1x128x2x128.size b2) (fun _ => rfl)).squeeze S128x2x128 squeezes_S1x128x2x128_S128x2x128)
        ((Memref.whole main_v3_scv : Memref sig .scVector .hbm S10240x8x128 .f32).slice (Rect.unit (s := S10240x8x128) o1 S10240x2x128.size b1) (fun _ => rfl))
        gathers_S10240x2x128_S128x2x128
        (((((Memref.whole cc0_scoped2 : Memref sig .scVector .vmem S2x1x128 .i32).slice (Rect.unit (s := S2x1x128) o3 S1x1x128.size b3) (fun _ => rfl)).squeeze S1x128 squeezes_S1x1x128_S1x128).slice
          (Rect.unit (s := S1x128) ![0, 0] S1x128.size inb_S1x128_S1x128_0_0) (fun _ => rfl)).squeeze S128 squeezes_S1x128_S128)
        h2 cc0_scoped4.sem h3 h4 h5 >>= kk) Q) := by
  subst e1 e2 e3
  unfold xHeld iHeld xGot
  iintro ⟨⟨⟨%fs, %hfs, Hx⟩, Hv, Hxa⟩, ⟨%fi, %hf, Hi, Hvi⟩, Ho, Hg⟩ Hk
  ihave Hi' := (Entails.of_eq (show iPts d L k fi = ((iL k).view.loc (thr d L) ↦[(iL k).view.set]{fullShare} fi : sProp 𝕄) by rw [iL_set])) $$ Hi
  have hin : ∀ x, ((iL k).view.read (Elt F) fi x).toNat < S10240x2x128.size gathers_S10240x2x128_S128x2x128.axis := by
    intro x; rw [list_read L k k pv fi hf]; exact hpv _
  have hne := named_eq d L j k k hk c hc pv fi hf h2 hin
  ihave Ho' := (Entails.of_eq (show oTodo d L pv f0 j = ((oX c).view.loc (thr d L) ↦[SparseCore.namedRows (thr d L) (oX c).view hG.axis (SparseCore.rows ((iL k).view.read (Elt F) fi) h2 hin)]{fullShare} f0 : sProp 𝕄) by rw [hne])) $$ Ho
  iapply (SparseCore.wp_indirectScatterLocal countersEmb 𝒱₀ (thr d L) none (hg := gathers_S10240x2x128_S128x2x128) (default : HIx 2)
      (xS s).view.dmaCredit (by decide) hin (rows_inj L k k pv hd fi hf h2 hin) (SparseCore.sum_scatterCredit_eq_srcCredit (c := thr d L) (xS s) (oX c) hG rfl _ (fun _ => rfl) (fun _ => rfl))) $$ [Hx Ho' Hi' Hg]
  · isplitl [Hx]; · iexact Hx
    isplitl [Ho']; · iexact Ho'
    isplitl [Hi']; · iexact Hi'
    iexact Hg
  iintro Hfl
  iapply Hk
  unfold sFly
  isplitl [Hfl]
  swap
  · isplitl [Hv]; · iexact Hv
    isplitl [Hxa] <;> iassumption
  iapply (Transfers.Flight_mono (EC := countersEmb) (c := thr d L) ?_) $$ Hfl
  iintro ⟨Ho, Hx, Hi⟩
  isplitl [Ho]
  · ihave Ho2 := (Entails.of_eq (show ((oX c).view.loc (thr d L) ↦[SparseCore.namedRows (thr d L) (oX c).view hG.axis (SparseCore.rows ((iL k).view.read (Elt F) fi) h2 hin)]{fullShare}
        (SparseCore.scatterBuf (thr d L) (oX c).view hG.axis (SparseCore.rows ((iL k).view.read (Elt F) fi) h2 hin) (SparseCore.scatterRowPayload (thr d L) (xS s) hG fs) f0) : sProp 𝕄)
        = oDone d L xv pv f0 j by
          rw [hne]
          exact pointsTo_congr fun o ho => scatter_value d L j k k hk s c hc pv hd fi hf h2 hin xv f0 fs hfs o ho)) $$ Ho
    iexact Ho2
  isplitl [Hx]; · iexists fs; iexact Hx
  · iexists fi; isplitr; · ipureintro; exact hf
    iapply (Entails.of_eq (show ((iL k).view.loc (thr d L) ↦[(iL k).view.set]{fullShare} fi : sProp 𝕄) = iPts d L k fi by rw [iL_set])) $$ Hi

theorem wait_scatter {α : Type} (s k : Fin 2) (j : Fin 8)
    {o1 : Fin 3 → ℕ} {o2 : Fin 4 → ℕ} {b1 : ∀ a, o1 a + S10240x2x128.size a ≤ S10240x8x128.size a}
    {b2 : ∀ a, o2 a + S1x128x2x128.size a ≤ S2x128x2x128.size a} {h1 h2}
    {kk : PUnit → Prog (TpuEff nD τ sig (Elt F) Λ₀ (thr d L).2) α} {Q : α → sProp 𝕄} :
    iprop(sFly d L xv pv f0 qx s k j ∗ Ow d L O W ∗ Transfers.MayWaits (thr d L) (default : HIx 2) O)
      ⊢ iprop((iprop(xFree d L xv qx s ∗ iHeld d L pv k ∗ oDone d L xv pv f0 j ∗ semVal (thr d L, SemLoc.dma cc0_scoped4.sem) 0 ∗ Ow d L O W) -∗ WP (kk ⟨⟩) Q)
        -∗ WP (SparseCore.waitIndirectScatter cc0_scoped4.sem (((Memref.whole cc0_scoped0 : Memref sig .scVector .vmem S2x128x2x128 .f32).slice (Rect.unit (s := S2x128x2x128) o2 S1x128x2x128.size b2) (fun _ => rfl)).squeeze S128x2x128 squeezes_S1x128x2x128_S128x2x128)
        ((Memref.whole main_v3_scv : Memref sig .scVector .hbm S10240x8x128 .f32).slice (Rect.unit (s := S10240x8x128) o1 S10240x2x128.size b1) (fun _ => rfl)) h1 h2 >>= kk) Q) := by
  unfold sFly
  iintro ⟨⟨Hfl, Hv, Hxa, Hvi⟩, ⟨%W', %hW', HO⟩, #Hmw⟩ Hk
  iapply (Transfers.wp_waitLocalO countersEmb 𝒱₀ (thr d L) none (default : HIx 2) rfl) $$ [Hfl HO]
  · isplitl [Hfl]; · iexact Hfl
    isplitl [HO]; · iexact HO
    iapply (Transfers.MayWaits.elim (SemLoc.dma cc0_scoped4.sem)) $$ Hmw
  iintro ⟨⟨Ho, Hx, %fi, %hf, Hi⟩, Hg, HO⟩
  iapply Hk
  isplitl [Hx Hv Hxa]
  · unfold xFree
    isplitl [Hx]; · iexact Hx
    isplitl [Hv] <;> iassumption
  isplitl [Hi Hvi]
  · unfold iHeld
    iexists fi; isplitr; · ipureintro; exact hf
    isplitl [Hi] <;> iassumption
  isplitl [Ho]; · iexact Ho
  isplitl [Hg]; · iexact Hg
  iexists _; isplitr
  swap; · iexact HO
  ipureintro; intro p hp
  rcases Finset.mem_insert.mp hp with hp | hp; · exact .inr (hp ▸ rfl)
  exact hW' p hp

end Dispatch
end Cert.Proof.Moe
-- ==== Proof.Dispatch.lean ====
/-
  One trip of a tile's loop in the dispatch, at a symbolic tile and a symbolic trip.
-/
module

public import proofs.«01_k».proof.Proof.DispatchStages

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Dispatch

variable (d : Dev nD) (L : grid0.Coords)
variable (xv : S4096x8x128.Idx → F .f32) (pv : S2x4096.Idx → BitVec 32) (f0 : S10240x8x128.Idx → F .f32)
variable (qx q : PosShare TreeShare)
variable (O : CellTallies nD τ sig (HIx 2)) (W : Waits sig (HIx 2))

local notation "WP" => wp frame (wpE (defs₀ (F := F)) 𝒱₀ (thr d L) none) Set.univ

/-- The tile's number as the body's word. -/
def dv4 (i : grid0.Coords) : BitVec 32 := BitVec.ofNat 32 ((i 1).val + 16 * (i 0).val)

/-- Before trip `t`. -/
def inv (t : ℕ) : sProp 𝕄 :=
  iprop((iSt d L pv q 0 (st0 t) ∗ iSt d L pv q 1 (st1 t)) ∗ (xCur d L xv qx t ∗ xFree d L xv qx (slot (t + 1))) ∗ oBlocks d L xv pv f0 t
    ∗ semVal (thr d L, SemLoc.dma cc0_scoped4.sem) 0 ∗ Ow d L O W)

theorem dj_k : ∀ t : Fin k0_t1_loop.trips, (slot (t.val / 4)).val = (dj t).val / 4 := by decide +kernel
theorem dj_c : ∀ t : Fin k0_t1_loop.trips, (dc t.val).val = (dj t).val % 4 := by decide +kernel

/-- The slot a trip's scatter reads holds its block. -/
theorem iSt_held (t : Fin k0_t1_loop.trips) : iprop(iSt (F := F) d L pv q 0 2 ∗ iSt (F := F) d L pv q 1 (st1 (t.val + 1)))
    ⊢ iprop(iHeld (F := F) d L pv (slot (t.val / 4)) ∗ (iHeld (F := F) d L pv (slot (t.val / 4)) -∗ iprop(iSt (F := F) d L pv q 0 2 ∗ iSt (F := F) d L pv q 1 (st1 (t.val + 1))))) := by
  have ht := t.isLt
  simp only [dTrips] at ht
  by_cases h : t.val < 4
  · rw [show slot (t.val / 4) = 0 from by rw [Nat.div_eq_of_lt h]; rfl]
    unfold iSt
    iintro ⟨Hi0, Hi1⟩
    isplitl [Hi0]; · iexact Hi0
    iintro Hi0
    isplitl [Hi0] <;> iassumption
  · rw [show slot (t.val / 4) = 1 from by rw [show t.val / 4 = 1 by omega]; rfl, show st1 (t.val + 1) = 2 from by unfold st1; split_ifs <;> omega]
    unfold iSt
    iintro ⟨Hi0, Hi1⟩
    isplitl [Hi1]; · iexact Hi1
    iintro Hi1
    isplitl [Hi0] <;> iassumption

/-- Trip `t` takes block `t`. -/
theorem oBlocks_take (t : Fin k0_t1_loop.trips) : (oBlocks d L xv pv f0 t.val : sProp 𝕄)
    ⊢ iprop(oTodo d L pv f0 (dj t) ∗ (oDone d L xv pv f0 (dj t) -∗ oBlocks d L xv pv f0 (t.val + 1))) := by
  unfold oBlocks
  have e : (Finset.univ.filter fun j : Fin 8 => t.val ≤ j.val) = insert (dj t) (Finset.univ.filter fun j : Fin 8 => t.val + 1 ≤ j.val) := by
    revert t; decide +kernel
  have hn : dj t ∉ (Finset.univ.filter fun j : Fin 8 => t.val + 1 ≤ j.val) := by revert t; decide +kernel
  have e' : (Finset.univ.filter fun j : Fin 8 => j.val < t.val + 1) = insert (dj t) (Finset.univ.filter fun j : Fin 8 => j.val < t.val) := by
    revert t; decide +kernel
  have hn' : dj t ∉ (Finset.univ.filter fun j : Fin 8 => j.val < t.val) := by revert t; decide +kernel
  rw [e, bigSep_insert hn, e', bigSep_insert hn']
  show iprop(_ ∗ oTodo d L pv f0 (dj t) ∗ _) ⊢ iprop(_ ∗ (_ -∗ iprop((_ ∗ _) ∗ _)))
  iintro ⟨H1, H2, H3⟩
  isplitl [H2]; · iexact H2
  iintro H
  isplitr [H3]
  · isplitl [H] <;> iassumption
  · iexact H3

theorem slot_step (t : ℕ) : slot (t + 1 + 1) = slot t := by unfold slot; apply Fin.ext; show (t + 1 + 1) % 2 = t % 2; omega

theorem xCur_lt {t : ℕ} (h : t < 8) : (xCur d L xv qx t : sProp 𝕄) = xFly d L xv qx (slot t) (dc t) := by unfold xCur; rw [if_pos h]
theorem xCur_ge {t : ℕ} (h : ¬ t < 8) : (xCur d L xv qx t : sProp 𝕄) = xFree d L xv qx (slot t) := by unfold xCur; rw [if_neg h]

set_option maxHeartbeats 400000 in
theorem trip (v7 : BitVec 32) (t : Fin k0_t1_loop.trips) (hpv : ∀ x, (pv x).toNat < 10240) (hd : ∀ p p', (pv p).toNat = (pv p').toNat → p = p') :
    iprop(inv d L xv pv f0 qx q O W t.val ∗ Transfers.MayWaits (thr d L) (default : HIx 2) O)
      ⊢ WP (k0_t1_body L (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4 (dv4 L) v7
          t (dw6 t, cw8 t, cw6 t, cw7 t, cw10 t, 0#32, cw12 t))
        fun acc => iprop(⌜acc = (dw6 (t.val + 1), cw8 (t.val + 1), cw6 (t.val + 1), cw7 (t.val + 1), cw10 (t.val + 1), 0#32, cw12 (t.val + 1))⌝ ∗ inv d L xv pv f0 qx q O W (t.val + 1)) := by
  have k1 := d_chk1 L t
  have k2 := d_chk2 t
  have k3 := d_chk3 t
  have ht8 : t.val < 8 := t.isLt
  unfold k0_t1_body
  simp only [k0_part1_eq_skeleton, k0_part2_eq_skeleton, k0_part3_eq_skeleton, k0_part4_eq_skeleton]
  unfold k0_part1_skel
  unfold inv
  iintro ⟨⟨⟨Hi0, Hi1⟩, ⟨Hxc, Hxf⟩, Hob, Hg, HO⟩, #Hmw⟩
  sl_exec
  iapply (wp_ite_join (P := xFree d L xv qx (slot (t.val + 1))) (R := xCur d L xv qx (t.val + 1)) ?_ ?_) $$ Hxf
  · intro hc
    have ht := (d_cond1 L t).1 hc
    rw [xCur_lt d L xv qx (show t.val + 1 < 8 by omega)]
    iintro Hx Hk
    iapply (fetch_x d L xv qx (slot (t.val + 1)) (dc (t.val + 1)) (d_off7 L t ht) (d_off6 t ht) (d_off8 t ht)) $$ Hx
    iintro Hx
    iapply Hk
    iexact Hx
  · intro hc
    have ht : ¬ t.val + 1 < 8 := fun e => hc ((d_cond1 L t).2 (by omega))
    rw [xCur_ge d L xv qx ht]
  iintro Hxn
  sl_exec
  iapply (wp_ite_join (P := iSt d L pv q 1 (st1 t.val)) (R := iSt d L pv q 1 (st1m t.val)) ?_ ?_) $$ Hi1
  · intro hc
    have ht := (d_cond2 L t).1 hc
    rw [show st1 t.val = 0 by rw [ht]; rfl, show st1m t.val = 1 by rw [ht]; rfl]
    unfold iSt
    dsimp only
    iintro Hi Hk
    iapply (fetch_idx d L pv q 1 (d_off10 L t ht) (d_off9 t ht) (d_off11 t ht)) $$ Hi
    iintro Hi
    iapply Hk
    iexact Hi
  · intro hc
    have ht : ¬ t.val = 3 := fun e => hc ((d_cond2 L t).2 e)
    rw [show st1m t.val = st1 t.val from by unfold st1 st1m; split_ifs <;> omega]
  iintro Hi1
  sl_exec
  iapply (wp_ite_join (P := iprop(xCur d L xv qx t.val ∗ Ow d L O W ∗ Transfers.MayWaits (thr d L) (default : HIx 2) O))
      (R := iprop(xHeld d L xv qx (slot t.val) (dc t.val) ∗ Ow d L O W)) ?_ ?_) $$ [Hxc HO]
  · intro hc
    rw [xCur_lt d L xv qx ht8]
    iintro ⟨Hx, HO, #Hmw⟩ Hk
    iapply (wait_x d L xv qx O W (slot t.val) (dc t.val) (d_off14 t)) $$ [Hx HO]
    · isplitl [Hx]; · iexact Hx
      isplitl [HO]; · iexact HO
      iexact Hmw
    iintro ⟨Hx, HO⟩
    iapply Hk
    isplitl [Hx] <;> iassumption
  · intro hc
    exact absurd (d_cond3 L t) hc
  · isplitl [Hxc]; · iexact Hxc
    isplitl [HO]; · iexact HO
    iexact Hmw
  iintro ⟨Hx, HO⟩
  sl_exec
  iapply (wp_ite_join (P := iprop((iSt d L pv q 0 (st0 t.val) ∗ iSt d L pv q 1 (st1m t.val)) ∗ Ow d L O W ∗ Transfers.MayWaits (thr d L) (default : HIx 2) O))
      (R := iprop((iSt d L pv q 0 2 ∗ iSt d L pv q 1 (st1 (t.val + 1))) ∗ Ow d L O W)) ?_ ?_) $$ [Hi0 Hi1 HO]
  · intro hc
    rcases (d_cond4 L t).1 hc with ht | ht
    · rw [show st0 t.val = 1 by rw [ht]; rfl, show st1m t.val = 0 by rw [ht]; rfl, show st1 (t.val + 1) = 0 by rw [ht]; rfl]
      unfold iSt
      dsimp only
      iintro ⟨⟨Hi0, Hi1⟩, HO, #Hmw⟩ Hk
      iapply (wait_idx d L pv O W 0 (show k0_off15 (cw7 t) = ![(0 : Fin 2).val, 0, 0] from by rw [d_off15, ht]; rfl) (show k0_off17 (cw7 t) = ![(0 : Fin 2).val] from by rw [d_off17, ht]; rfl)) $$ [Hi0 HO]
      · isplitl [Hi0]; · iexact Hi0
        isplitl [HO]; · iexact HO
        iexact Hmw
      iintro ⟨Hi0, HO⟩
      iapply Hk
      isplitr [HO]
      · isplitl [Hi0] <;> iassumption
      · iexact HO
    · rw [show st0 t.val = 2 by rw [ht]; rfl, show st1m t.val = 1 by rw [ht]; rfl, show st1 (t.val + 1) = 2 by rw [ht]; rfl]
      unfold iSt
      dsimp only
      iintro ⟨⟨Hi0, Hi1⟩, HO, #Hmw⟩ Hk
      iapply (wait_idx d L pv O W 1 (show k0_off15 (cw7 t) = ![(1 : Fin 2).val, 0, 0] from by rw [d_off15, ht]; rfl) (show k0_off17 (cw7 t) = ![(1 : Fin 2).val] from by rw [d_off17, ht]; rfl)) $$ [Hi1 HO]
      · isplitl [Hi1]; · iexact Hi1
        isplitl [HO]; · iexact HO
        iexact Hmw
      iintro ⟨Hi1, HO⟩
      iapply Hk
      isplitr [HO]
      · isplitl [Hi0] <;> iassumption
      · iexact HO
  · intro hc
    have ht : ¬ (t.val = 0 ∨ t.val = 4) := fun e => hc ((d_cond4 L t).2 e)
    rw [show st0 t.val = 2 from by have := t.isLt; unfold st0; simp only [dTrips] at this; split_ifs <;> omega,
      show st1 (t.val + 1) = st1m t.val from by have := t.isLt; unfold st1 st1m; simp only [dTrips] at this; split_ifs <;> omega]
    iintro ⟨Hi, HO, -⟩
    isplitl [Hi] <;> iassumption
  · isplitl [Hi0 Hi1]
    · isplitl [Hi0] <;> iassumption
    isplitl [HO]; · iexact HO
    iexact Hmw
  iintro ⟨⟨Hi0, Hi1⟩, HO⟩
  sl_exec
  ihave Hi := (iSt_held d L pv q t) $$ [Hi0 Hi1]
  · isplitl [Hi0] <;> iassumption
  icases Hi with ⟨Hi, Hir⟩
  ihave Hb := (oBlocks_take d L xv pv f0 t) $$ Hob
  icases Hb with ⟨Hto, Hob⟩
  iapply (scatter d L xv pv f0 qx (slot t.val) (slot (t.val / 4)) (dj t) (dc t.val) (dj_k t) (dj_c t) hpv hd (d_off20 t) (d_off18 t) (d_off19 t)) $$ [Hx Hi Hto Hg]
  · isplitl [Hx]; · iexact Hx
    isplitl [Hi]; · iexact Hi
    isplitl [Hto] <;> iassumption
  iintro Hfl
  iapply (wait_scatter d L xv pv f0 qx O W (slot t.val) (slot (t.val / 4)) (dj t)) $$ [Hfl HO]
  · isplitl [Hfl]; · iexact Hfl
    isplitl [HO]; · iexact HO
    iexact Hmw
  iintro ⟨Hx, Hi, Ho, Hg, HO⟩
  ihave Hi := Hir $$ Hi
  ihave Hob := Hob $$ Ho
  simp only [ite_self, LawfulMonad.pure_bind, wp_pure]
  imodintro
  imodintro
  isplitr
  · ipureintro
    clear ht8
    revert k1 k2 k3
    clear hpv hd
    revert t
    revert L
    decide +kernel
  isplitl [Hi]; · iexact Hi
  isplitl [Hxn Hx]
  · isplitl [Hxn]; · iexact Hxn
    ihave Hx := (Entails.of_eq (show (xFree d L xv qx (slot t.val) : sProp 𝕄) = xFree d L xv qx (slot (t.val + 1 + 1)) by rw [slot_step])) $$ Hx
    iexact Hx
  isplitl [Hob]; · iexact Hob
  isplitl [Hg]; · iexact Hg
  iexact HO

end Dispatch
end Cert.Proof.Moe
-- ==== Proof.DispatchRun.lean ====
/-
  One tile's whole run of the dispatch: the prologue's copies, and the loop by its trips.
-/
module

public import proofs.«01_k».proof.Proof.Dispatch

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Dispatch

variable (d : Dev nD) (L : grid0.Coords)
variable (xv : S4096x8x128.Idx → F .f32) (pv : S2x4096.Idx → BitVec 32) (f0 : S10240x8x128.Idx → F .f32)
variable (qx q : PosShare TreeShare)
variable (O : CellTallies nD τ sig (HIx 2)) (W : Waits sig (HIx 2))

local notation "WP" => wp frame (wpE (defs₀ (F := F)) 𝒱₀ (thr d L) none) Set.univ

theorem oBlocks_end : oBlocks d L xv pv f0 8 ⊢ ((bigSep (Finset.univ : Finset (Fin 8)) fun j => oDone d L xv pv f0 j) : sProp 𝕄) := by
  unfold oBlocks
  rw [show (Finset.univ.filter fun j : Fin 8 => j.val < 8) = Finset.univ from by decide]
  iintro ⟨Hob, -⟩
  iexact Hob

/-- The loop's invariant: the words, the buffers, and the waits' evidence. -/
def loopInv (t : ℕ) (acc : BitVec 32 × BitVec 32 × BitVec 32 × BitVec 32 × BitVec 32 × BitVec 32 × BitVec 32) : sProp 𝕄 :=
  iprop(⌜acc = (dw6 t, cw8 t, cw6 t, cw7 t, cw10 t, 0#32, cw12 t)⌝ ∗ inv d L xv pv f0 qx q O W t ∗ Transfers.MayWaits (thr d L) (default : HIx 2) O)
theorem loop_step (v7 : BitVec 32) (hpv : ∀ x, (pv x).toNat < 10240) (hd : ∀ p p', (pv p).toNat = (pv p').toNat → p = p') (t : Fin k0_t1_loop.trips) (acc) :
    loopInv d L xv pv f0 qx q O W t.val acc
      ⊢ WP (k0_t1_body L (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4 (dv4 L) v7
          t acc) (loopInv d L xv pv f0 qx q O W (t.val + 1)) := by
  unfold loopInv
  iintro ⟨%h, Hinv, #Hmw⟩
  subst h
  iapply (wp_wand) $$ [Hinv]
  · iapply (trip d L xv pv f0 qx q O W v7 t hpv hd)
    isplitl [Hinv]; · iexact Hinv
    iexact Hmw
  iintro %a ⟨%ha, Hinv⟩
  isplitr; · ipureintro; exact ha
  isplitl [Hinv]; · iexact Hinv
  iexact Hmw

set_option maxHeartbeats 400000 in
/-- The whole body: the rows the tile's positions name come back written. -/
theorem run (hpv : ∀ x, (pv x).toNat < 10240) (hd : ∀ p p', (pv p).toNat = (pv p').toNat → p = p') :
    iprop(((iFree d L pv q 0 ∗ iFree d L pv q 1) ∗ (xFree d L xv qx 0 ∗ xFree d L xv qx 1) ∗ (bigSep (Finset.univ : Finset (Fin 8)) fun j => oTodo d L pv f0 j)
        ∗ semVal (thr d L, SemLoc.dma cc0_scoped4.sem) 0 ∗ Ow d L O W) ∗ Transfers.MayWaits (thr d L) (default : HIx 2) O)
      ⊢ WP (cc0_dispatch L (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4)
        fun _ => iprop((bigSep (Finset.univ : Finset (Fin 8)) fun j => oDone d L xv pv f0 j) ∗ (iHeld d L pv 0 ∗ iHeld d L pv 1) ∗ (xFree d L xv qx 0 ∗ xFree d L xv qx 1)
          ∗ semVal (thr d L, SemLoc.dma cc0_scoped4.sem) 0 ∗ Ow d L O W) := by
  rw [cc0_dispatch_eq_skeleton]
  unfold cc0_dispatch_skel
  simp only [k0_part5_eq_skeleton, k0_part6_eq_skeleton, k0_part7_eq_skeleton, k0_part8_eq_skeleton]
  iintro ⟨⟨⟨Hi0, Hi1⟩, ⟨Hx0, Hx1⟩, Hob, Hg, HO⟩, #Hmw⟩
  sl_exec
  iapply (fetch_x d L xv qx 0 (dc 0) (d_off2 L) d_off1 d_off3) $$ Hx0
  iintro Hx0
  iapply (fetch_idx d L pv q 0 (d_off5 L) d_off4 d_off3) $$ Hi0
  iintro Hi0
  have e4 : run.sl.v4 L = dv4 L := by revert L; decide +kernel
  rw [e4]
  iapply (Scf.wp_for_bind frame (wpE (defs₀ (F := F)) 𝒱₀ (thr d L) none) Set.univ _ _ _ k0_t1_ok _ _ (loopInv d L xv pv f0 qx q O W)
    (loop_step d L xv pv f0 qx q O W _ hpv hd)) $$ [Hi0 Hi1 Hx0 Hx1 Hob Hg HO]
  · unfold loopInv inv
    isplitr; · ipureintro; decide +kernel
    isplitl [Hi0 Hi1 Hx0 Hx1 Hob Hg HO]
    · isplitl [Hi0 Hi1]; · rw [show st0 0 = 1 from rfl, show st1 0 = 0 from rfl]; unfold iSt; isplitl [Hi0] <;> iassumption
      isplitl [Hx0 Hx1]
      · rw [xCur_lt d L xv qx (by decide : 0 < 8), show slot 0 = 0 from rfl, show slot (0 + 1) = 1 from rfl]; isplitl [Hx0] <;> iassumption
      isplitl [Hob]
      · unfold oBlocks
        rw [show (Finset.univ.filter fun j : Fin 8 => j.val < 0) = ∅ from by decide, show (Finset.univ.filter fun j : Fin 8 => 0 ≤ j.val) = Finset.univ from by decide, bigSep_empty]
        isplitr; · iempintro
        iexact Hob
      isplitl [Hg]; · iexact Hg
      iexact HO
    · iexact Hmw
  iintro %acc Hacc
  unfold loopInv inv
  rw [show Scf.trips k0_t1_loop.lb k0_t1_loop.ub k0_t1_loop.st = 8 from dTrips]
  icases Hacc with ⟨%hacc, ⟨⟨Hi0, Hi1⟩, ⟨Hx0, Hx1⟩, Hob, Hg, HO⟩, -⟩
  subst hacc
  ihave Hx0 := (Entails.of_eq (show (xCur d L xv qx 8 : sProp 𝕄) = xFree d L xv qx 0 from xCur_ge d L xv qx (by decide))) $$ Hx0
  ihave Hx1 := (Entails.of_eq (show (xFree d L xv qx (slot (8 + 1)) : sProp 𝕄) = xFree d L xv qx 1 from rfl)) $$ Hx1
  ihave Hi0 := (Entails.of_eq (show (iSt d L pv q 0 (st0 8) : sProp 𝕄) = iHeld d L pv 0 from rfl)) $$ Hi0
  ihave Hi1 := (Entails.of_eq (show (iSt d L pv q 1 (st1 8) : sProp 𝕄) = iHeld d L pv 1 from rfl)) $$ Hi1
  sl_exec
  simp only [wp_ret]
  imodintro
  isplitl [Hob]
  · iapply (oBlocks_end d L xv pv f0)
    iexact Hob
  isplitl [Hi0 Hi1]; · isplitl [Hi0] <;> iassumption
  isplitl [Hx0 Hx1]; · isplitl [Hx0] <;> iassumption
  isplitl [Hg]; · iexact Hg
  iexact HO

end Dispatch
end Cert.Proof.Moe
-- ==== Proof.Tiles.lean ====
/-
  A tile's task of each SparseCore call, from the tile's own scratch and semaphores and its part of the call's operands.
-/
module

public import proofs.«01_k».proof.Proof.CollectRun
public import proofs.«01_k».proof.Proof.DispatchRun
public import Idealize.ShloMosaic.Lib.ShareLeaves

@[expose] public section

noncomputable section

namespace Cert.Proof.Moe

open Cert.KernelIdeal Cert.KernelIdeal.Gen

open Idealize.ShloMosaic
open Idealize.ShloMosaic.SparseCore (S)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.ShareLeaves

theorem join2 {ℓ : Loc nD τ sig} (I : Finset (Idx ℓ)) (f g : Buf (Elt F) ℓ) :
    iprop((ℓ ↦[I]{fullShare} f) ∗ (ℓ ↦[Finset.univ \ I]{fullShare} g)) ⊢ (iprop(∃ h, ℓ ↦{fullShare} h) : sProp 𝕄) := by
  classical
  have e1 : (ℓ ↦[I]{fullShare} f : sProp 𝕄) = ℓ ↦[I]{fullShare} (fun i => if i ∈ I then f i else g i) := pointsTo_congr fun i hi => by simp [hi]
  have e2 : (ℓ ↦[Finset.univ \ I]{fullShare} g : sProp 𝕄) = ℓ ↦[Finset.univ \ I]{fullShare} (fun i => if i ∈ I then f i else g i) :=
    pointsTo_congr fun i hi => by simp [(Finset.mem_sdiff.mp hi).2]
  rw [e1, e2]
  iintro H
  iexists _
  iapply (pointsTo_split_subset (q := fullShare) (S := Finset.univ) (Finset.subset_univ I)).2 $$ H

abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v12Loc (d : Dev nD) : Loc nD τ sig := (SparseCore.T d).loc main_v12
abbrev v13Loc (d : Dev nD) : Loc nD τ sig := (SparseCore.T d).loc main_v13

/-- A tile's share. -/
def shr (L : grid0.Coords) : PosShare TreeShare := leaf 4 (leaf 1 fullShare ⟨(L 0).val, (L 0).isLt⟩) ⟨(L 1).val, (L 1).isLt⟩
def shrH (q : PosShare TreeShare) (c : Fin 2) (i : Fin 16) : PosShare TreeShare := leaf 4 (leaf 1 q c) i

namespace Dispatch

variable (d : Dev nD) (L : grid0.Coords)

theorem mem_iS (s : Fin 2) (x : S2x1x128.Idx) : x ∈ (iS s).view.set ↔ (x 0).val = s.val := by
  have e : (iS s).view.set = (Rect.unit (s := S2x1x128) ![s.val, 0, 0] S1x1x128.size (by revert s; decide)).set :=
    (View.set_reshape _ _).trans (View.set_slice_whole _ _)
  rw [e]
  refine Iff.trans Rect.mem_set_unit ?_
  have h1 : (x 1).val < 1 := (x 1).isLt
  have h2 : (x 2).val < 128 := (x 2).isLt
  constructor
  · intro h
    have : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + 1; omega
    | 2 => show 0 ≤ (x 2).val ∧ (x 2).val < 0 + 128; omega

theorem mem_xS (s : Fin 2) (x : S2x128x2x128.Idx) : x ∈ (xS s).view.set ↔ (x 0).val = s.val := by
  have e : (xS s).view.set = (Rect.unit (s := S2x128x2x128) ![s.val, 0, 0, 0] S1x128x2x128.size (by revert s; decide)).set :=
    (View.set_reshape _ _).trans (View.set_slice_whole _ _)
  rw [e]
  refine Iff.trans Rect.mem_set_unit ?_
  have h1 : (x 1).val < 128 := (x 1).isLt
  have h2 : (x 2).val < 2 := (x 2).isLt
  have h3 : (x 3).val < 128 := (x 3).isLt
  constructor
  · intro h
    have : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + 128; omega
    | 2 => show 0 ≤ (x 2).val ∧ (x 2).val < 0 + 2; omega
    | 3 => show 0 ≤ (x 3).val ∧ (x 3).val < 0 + 128; omega

theorem iS_compl : Finset.univ \ (iS 0).view.set = (iS 1).view.set := by
  ext x
  refine Iff.trans Finset.mem_sdiff ?_
  have h0 : (x 0).val < 2 := (x 0).isLt
  rw [mem_iS 0 x, mem_iS 1 x]
  show _ ∧ ¬ (x 0).val = 0 ↔ (x 0).val = 1
  constructor
  · rintro ⟨_, h⟩; omega
  · intro h; exact ⟨Finset.mem_univ _, by omega⟩
theorem xS_compl : Finset.univ \ (xS 0).view.set = (xS 1).view.set := by
  ext x
  refine Iff.trans Finset.mem_sdiff ?_
  have h0 : (x 0).val < 2 := (x 0).isLt
  rw [mem_xS 0 x, mem_xS 1 x]
  show _ ∧ ¬ (x 0).val = 0 ↔ (x 0).val = 1
  constructor
  · rintro ⟨_, h⟩; omega
  · intro h; exact ⟨Finset.mem_univ _, by omega⟩

theorem iBuf_split (f : Buf (Elt F) ((thr d L).loc cc0_scoped2)) :
    ((thr d L).loc cc0_scoped2 ↦{fullShare} f : sProp 𝕄) ⊢ iprop(iPts d L 0 f ∗ iPts d L 1 f) := by
  refine BIBase.Entails.trans (pointsTo_split_subset (q := fullShare) (f := f) (S := Finset.univ) (Finset.subset_univ (iS 0).view.set)).1 ?_
  rw [iS_compl]
theorem iBuf_join (f g) : iprop(iPts (F := F) d L 0 f ∗ iPts d L 1 g) ⊢ (iprop(∃ h, (thr d L).loc cc0_scoped2 ↦{fullShare} h) : sProp 𝕄) := by
  refine BIBase.Entails.trans ?_ (join2 (ℓ := (thr d L).loc cc0_scoped2) (iS 0).view.set f g)
  rw [iS_compl]
theorem xBuf_split (f : Buf (Elt F) ((thr d L).loc cc0_scoped0)) :
    ((thr d L).loc cc0_scoped0 ↦{fullShare} f : sProp 𝕄) ⊢ iprop(xPts d L 0 f ∗ xPts d L 1 f) := by
  refine BIBase.Entails.trans (pointsTo_split_subset (q := fullShare) (f := f) (S := Finset.univ) (Finset.subset_univ (xS 0).view.set)).1 ?_
  rw [xS_compl]
theorem xBuf_join (f g) : iprop(xPts (F := F) d L 0 f ∗ xPts d L 1 g) ⊢ (iprop(∃ h, (thr d L).loc cc0_scoped0 ↦{fullShare} h) : sProp 𝕄) := by
  refine BIBase.Entails.trans ?_ (join2 (ℓ := (thr d L).loc cc0_scoped0) (xS 0).view.set f g)
  rw [xS_compl]

/-- The call's semaphores. -/
def semT : Finset (SemLoc sig) := {.dma (iSem 0), .dma (iSem 1), .dma (xSem 0), .dma (xSem 1), .dma cc0_scoped4.sem}
def semC : Finset (GSem nD τ sig) := semT.map ⟨fun s => (thr d L, s), fun _ _ h => (Prod.mk.inj h).2⟩

theorem ownSems0_V : (ownSems0 (thr d L) : sProp 𝕄)
    = iprop((semVal (thr d L, .dma (iSem 0)) 0 ∗ semVal (thr d L, .dma (iSem 1)) 0 ∗ semVal (thr d L, .dma (xSem 0)) 0 ∗ semVal (thr d L, .dma (xSem 1)) 0
        ∗ semVal (thr d L, .dma cc0_scoped4.sem) 0) ∗ bigSep (ownCells (thr d L) \ semC d L) fun g => semVal g 0) := by
  unfold SparseCore.Cfg.ownSems0
  have hs : semC d L ⊆ ownCells (thr d L) := by
    intro g hg
    obtain ⟨s, hs, rfl⟩ := Finset.mem_map.mp hg
    refine mem_ownCells.mpr ⟨rfl, ?_⟩
    have : ∀ s ∈ semT, s.isScoped .scVector = true := by decide +kernel
    exact this s hs
  rw [SparseCore.bigSep_sdiff_split' hs]
  congr 1
  unfold semC
  rw [bigSep_map]
  unfold semT
  rw [SparseCore.bigSep_insert' (by decide +kernel), SparseCore.bigSep_insert' (by decide +kernel), SparseCore.bigSep_insert' (by decide +kernel), SparseCore.bigSep_insert' (by decide +kernel), bigSep_singleton]
  rfl

theorem ownBufs_V : (ownBufs (thr d L) : sProp 𝕄)
    = iprop((∃ f, (thr d L).loc cc0_scoped2 ↦{fullShare} f) ∗ (∃ f, (thr d L).loc cc0_scoped0 ↦{fullShare} f)
        ∗ bigSep (((ownRefs (τ := τ) (thr d L).2).erase ((thr d L).2.devRef cc0_scoped2)).erase ((thr d L).2.devRef cc0_scoped0))
            fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scoped2) rfl)).trans ?_
  rw [SparseCore.bigSep_erase' (Finset.mem_erase.mpr ⟨fun e => absurd (Proc.devRef_injective _ e) (show (cc0_scoped0 : Ref sig .scVector) ≠ cc0_scoped2 by decide),
    SparseCore.Cfg.mem_ownRefs_of_owner (p := (thr d L).2) (b := (thr d L).2.devRef cc0_scoped0) rfl⟩)]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_dispatch (coordsV c s)
          (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4) ⟨⟩ c s := rfl

variable (xv : S4096x8x128.Idx → F .f32) (pv : S2x4096.Idx → BitVec 32) (f0 : S10240x8x128.Idx → F .f32)
variable (q qp : PosShare TreeShare)

/-- What the tile is handed. -/
def go : sProp 𝕄 := iprop((v2Loc d ↦{q} xv) ∗ (v1Loc d ↦{qp} pv) ∗ bigSep (Finset.univ : Finset (Fin 8)) fun j => v3Loc d ↦[named L pv j]{fullShare} f0)
/-- What it brings back. -/
def td : sProp 𝕄 := bigSep (Finset.univ : Finset (Fin 8)) fun j => v3Loc d ↦[named L pv j]{fullShare} (dispatched xv pv f0)

/-- The positions' two blocks of the tile, from a share of all of them. -/
theorem iSrc_split : (v1Loc d ↦{qp} pv : sProp 𝕄) ⊢ iprop(iSrc d L pv qp 0 ∗ iSrc d L pv qp 1) := by
  refine BIBase.Entails.trans (pointsTo_share (PosShare.mem_left_op_right qp)).1 ?_
  iintro ⟨H0, H1⟩
  ihave H0 := (pointsTo_split_subset (q := qp.left) (f := pv) (S := Finset.univ) (Finset.subset_univ (iB L 0).view.set)).1 $$ H0
  ihave H1 := (pointsTo_split_subset (q := qp.right) (f := pv) (S := Finset.univ) (Finset.subset_univ (iB L 1).view.set)).1 $$ H1
  icases H0 with ⟨H0, -⟩
  icases H1 with ⟨H1, -⟩
  isplitl [H0]; · iexact H0
  iexact H1

set_option maxHeartbeats 400000 in
theorem tile_body (hF : (K (F := F)).Facts) (hpv : ∀ x, (pv x).toNat < 10240) (hd : ∀ p p', (pv p).toNat = (pv p').toNat → p = p')
    (O : CellTallies nD τ sig (HIx 2)) (W : Waits sig (HIx 2)) (hO : ∀ g, O g none = 0) :
    iprop(levAts (K (F := F)).L (K (F := F)).lev ∗ emp ∗ go d L xv pv f0 q qp
        ∗ scopedBufs (thr d L) ∗ scopedSems0 (thr d L) ∗ owes (thr d L) O W)
      ⊢ wp frame (wpE (defs₀ (F := F)) 𝒱₀ (thr d L) none) Set.univ (cc0_dispatch L (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4)
          fun _ => iprop(td d L xv pv f0 ∗ scopedBufs (thr d L) ∗ scopedSems0 (thr d L) ∗ ∃ W', ⌜∀ p ∈ W', p ∈ W ∨ p.2 = none⌝ ∗ owes (thr d L) O W') := by
  rw [(K (F := F)).scopedBufs_V hF d ((L 0).castLE hcore0) ((L 1).castLE hsub0), SparseCore.Cfg.scopedSems0_V (Val := Elt F) d ((L 0).castLE hcore0) ((L 1).castLE hsub0), ownSems0_V, ownBufs_V]
  unfold go td
  iintro ⟨#Hlv, -, ⟨Hx, Hp, Ho⟩, ⟨⟨%fi, Hi⟩, ⟨%fx, Hxb⟩, Hbufs⟩, ⟨⟨Hs0, Hs1, Hs2, Hs3, Hs4⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hi := (iBuf_split d L fi) $$ Hi
  ihave Hxb := (xBuf_split d L fx) $$ Hxb
  ihave Hp := (iSrc_split d L pv qp) $$ Hp
  ihave Hx := (pointsTo_share (PosShare.mem_left_op_right q)).1 $$ Hx
  icases Hi with ⟨Hi0, Hi1⟩
  icases Hxb with ⟨Hx0, Hx1⟩
  icases Hp with ⟨Hp0, Hp1⟩
  icases Hx with ⟨Hxl, Hxr⟩
  iapply (wp_wand) $$ [Hi0 Hi1 Hx0 Hx1 Hp0 Hp1 Hxl Hxr Ho Hs0 Hs1 Hs2 Hs3 Hs4 HO]
  · iapply (run d L xv pv f0 q qp O W hpv hd)
    isplitl [Hi0 Hi1 Hx0 Hx1 Hp0 Hp1 Hxl Hxr Ho Hs0 Hs1 Hs2 Hs3 Hs4 HO]
    · unfold iFree xFree
      isplitl [Hi0 Hi1 Hs0 Hs1 Hp0 Hp1]
      · isplitl [Hi0 Hs0 Hp0]
        · isplitl [Hi0]; · iexists fi; iexact Hi0
          isplitl [Hs0] <;> iassumption
        · isplitl [Hi1]; · iexists fi; iexact Hi1
          isplitl [Hs1] <;> iassumption
      isplitl [Hx0 Hx1 Hs2 Hs3 Hxl Hxr]
      · isplitl [Hx0 Hs2 Hxl]
        · isplitl [Hx0]; · iexists fx; iexact Hx0
          isplitl [Hs2]; · iexact Hs2
          iexact Hxl
        · isplitl [Hx1]; · iexists fx; iexact Hx1
          isplitl [Hs3]; · iexact Hs3
          iexact Hxr
      isplitl [Ho]; · iexact Ho
      isplitl [Hs4]; · iexact Hs4
      iexists W; isplitr
      · ipureintro; exact fun p hp => .inl hp
      · iexact HO
    · iexact Hmw
  iintro %_ ⟨Ho, ⟨Hi0, Hi1⟩, ⟨Hx0, Hx1⟩, Hs4, HO⟩
  unfold iHeld xFree
  icases Hi0 with ⟨%g0, -, Hi0, Hs0⟩
  icases Hi1 with ⟨%g1, -, Hi1, Hs1⟩
  icases Hx0 with ⟨⟨%h0, Hx0⟩, Hs2, -⟩
  icases Hx1 with ⟨⟨%h1, Hx1⟩, Hs3, -⟩
  isplitl [Ho]; · iexact Ho
  isplitl [Hi0 Hi1 Hx0 Hx1 Hbufs]
  · isplitl [Hi0 Hi1]
    · iapply (iBuf_join d L g0 g1); isplitl [Hi0] <;> iassumption
    isplitl [Hx0 Hx1]
    · iapply (xBuf_join d L h0 h1); isplitl [Hx0] <;> iassumption
    iexact Hbufs
  isplitl [Hs0 Hs1 Hs2 Hs3 Hs4 Hsems]
  · isplitr [Hsems]
    · isplitl [Hs0]; · iexact Hs0
      isplitl [Hs1]; · iexact Hs1
      isplitl [Hs2]; · iexact Hs2
      isplitl [Hs3] <;> iassumption
    · iexact Hsems
  iexact HO

end Dispatch

namespace Collect

variable (d : Dev nD) (L : grid2.Coords)

theorem mem_iS (s : Fin 2) (x : S2x1x128.Idx) : x ∈ (iS s).view.set ↔ (x 0).val = s.val := by
  have e : (iS s).view.set = (Rect.unit (s := S2x1x128) ![s.val, 0, 0] S1x1x128.size (by revert s; decide)).set :=
    (View.set_reshape _ _).trans (View.set_slice_whole _ _)
  rw [e]
  refine Iff.trans Rect.mem_set_unit ?_
  have h1 : (x 1).val < 1 := (x 1).isLt
  have h2 : (x 2).val < 128 := (x 2).isLt
  constructor
  · intro h
    have : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + 1; omega
    | 2 => show 0 ≤ (x 2).val ∧ (x 2).val < 0 + 128; omega

theorem mem_oS (s : Fin 2) (x : S2x128x2x128.Idx) : x ∈ (oS s).view.set ↔ (x 0).val = s.val := by
  have e : (oS s).view.set = (Rect.unit (s := S2x128x2x128) ![s.val, 0, 0, 0] S1x128x2x128.size (by revert s; decide)).set :=
    (View.set_reshape _ _).trans (View.set_slice_whole _ _)
  rw [e]
  refine Iff.trans Rect.mem_set_unit ?_
  have h1 : (x 1).val < 128 := (x 1).isLt
  have h2 : (x 2).val < 2 := (x 2).isLt
  have h3 : (x 3).val < 128 := (x 3).isLt
  constructor
  · intro h
    have : s.val ≤ (x 0).val ∧ (x 0).val < s.val + 1 := h 0
    omega
  · intro h a
    match a with
    | 0 => show s.val ≤ (x 0).val ∧ (x 0).val < s.val + 1; omega
    | 1 => show 0 ≤ (x 1).val ∧ (x 1).val < 0 + 128; omega
    | 2 => show 0 ≤ (x 2).val ∧ (x 2).val < 0 + 2; omega
    | 3 => show 0 ≤ (x 3).val ∧ (x 3).val < 0 + 128; omega

theorem iS_compl : Finset.univ \ (iS 0).view.set = (iS 1).view.set := by
  ext x
  refine Iff.trans Finset.mem_sdiff ?_
  have h0 : (x 0).val < 2 := (x 0).isLt
  rw [mem_iS 0 x, mem_iS 1 x]
  show _ ∧ ¬ (x 0).val = 0 ↔ (x 0).val = 1
  constructor
  · rintro ⟨_, h⟩; omega
  · intro h; exact ⟨Finset.mem_univ _, by omega⟩
theorem oS_compl : Finset.univ \ (oS 0).view.set = (oS 1).view.set := by
  ext x
  refine Iff.trans Finset.mem_sdiff ?_
  have h0 : (x 0).val < 2 := (x 0).isLt
  rw [mem_oS 0 x, mem_oS 1 x]
  show _ ∧ ¬ (x 0).val = 0 ↔ (x 0).val = 1
  constructor
  · rintro ⟨_, h⟩; omega
  · intro h; exact ⟨Finset.mem_univ _, by omega⟩

theorem iBuf_split (f : Buf (Elt F) ((thr d L).loc cc2_scoped0)) :
    ((thr d L).loc cc2_scoped0 ↦{fullShare} f : sProp 𝕄) ⊢ iprop(iPts d L 0 f ∗ iPts d L 1 f) := by
  refine BIBase.Entails.trans (pointsTo_split_subset (q := fullShare) (f := f) (S := Finset.univ) (Finset.subset_univ (iS 0).view.set)).1 ?_
  rw [iS_compl]
theorem iBuf_join (f g) : iprop(iPts (F := F) d L 0 f ∗ iPts d L 1 g) ⊢ (iprop(∃ h, (thr d L).loc cc2_scoped0 ↦{fullShare} h) : sProp 𝕄) := by
  refine BIBase.Entails.trans ?_ (join2 (ℓ := (thr d L).loc cc2_scoped0) (iS 0).view.set f g)
  rw [iS_compl]
theorem oBuf_split (f : Buf (Elt F) ((thr d L).loc cc2_scoped2)) :
    ((thr d L).loc cc2_scoped2 ↦{fullShare} f : sProp 𝕄) ⊢ iprop(oPts d L 0 f ∗ oPts d L 1 f) := by
  refine BIBase.Entails.trans (pointsTo_split_subset (q := fullShare) (f := f) (S := Finset.univ) (Finset.subset_univ (oS 0).view.set)).1 ?_
  rw [oS_compl]
theorem oBuf_join (f g) : iprop(oPts (F := F) d L 0 f ∗ oPts d L 1 g) ⊢ (iprop(∃ h, (thr d L).loc cc2_scoped2 ↦{fullShare} h) : sProp 𝕄) := by
  refine BIBase.Entails.trans ?_ (join2 (ℓ := (thr d L).loc cc2_scoped2) (oS 0).view.set f g)
  rw [oS_compl]

/-- The call's semaphores. -/
def semT : Finset (SemLoc sig) := {.dma (iSem 0), .dma (iSem 1), .dma (oSem 0), .dma (oSem 1), .dma cc2_scoped4.sem}
def semC : Finset (GSem nD τ sig) := semT.map ⟨fun s => (thr d L, s), fun _ _ h => (Prod.mk.inj h).2⟩

theorem ownSems0_V : (ownSems0 (thr d L) : sProp 𝕄)
    = iprop((semVal (thr d L, .dma (iSem 0)) 0 ∗ semVal (thr d L, .dma (iSem 1)) 0 ∗ semVal (thr d L, .dma (oSem 0)) 0 ∗ semVal (thr d L, .dma (oSem 1)) 0
        ∗ semVal (thr d L, .dma cc2_scoped4.sem) 0) ∗ bigSep (ownCells (thr d L) \ semC d L) fun g => semVal g 0) := by
  unfold SparseCore.Cfg.ownSems0
  have hs : semC d L ⊆ ownCells (thr d L) := by
    intro g hg
    obtain ⟨s, hs, rfl⟩ := Finset.mem_map.mp hg
    refine mem_ownCells.mpr ⟨rfl, ?_⟩
    have : ∀ s ∈ semT, s.isScoped .scVector = true := by decide +kernel
    exact this s hs
  rw [SparseCore.bigSep_sdiff_split' hs]
  congr 1
  unfold semC
  rw [bigSep_map]
  unfold semT
  rw [SparseCore.bigSep_insert' (by decide +kernel), SparseCore.bigSep_insert' (by decide +kernel), SparseCore.bigSep_insert' (by decide +kernel), SparseCore.bigSep_insert' (by decide +kernel), bigSep_singleton]
  rfl

theorem ownBufs_V : (ownBufs (thr d L) : sProp 𝕄)
    = iprop((∃ f, (thr d L).loc cc2_scoped0 ↦{fullShare} f) ∗ (∃ f, (thr d L).loc cc2_scoped2 ↦{fullShare} f)
        ∗ bigSep (((ownRefs (τ := τ) (thr d L).2).erase ((thr d L).2.devRef cc2_scoped0)).erase ((thr d L).2.devRef cc2_scoped2))
            fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc2_scoped0) rfl)).trans ?_
  rw [SparseCore.bigSep_erase' (Finset.mem_erase.mpr ⟨fun e => absurd (Proc.devRef_injective _ e) (show (cc2_scoped2 : Ref sig .scVector) ≠ cc2_scoped0 by decide),
    SparseCore.Cfg.mem_ownRefs_of_owner (p := (thr d L).2) (b := (thr d L).2.devRef cc2_scoped2) rfl⟩)]

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_collect (coordsV c s)
          (Memref.whole main_v12_scv) (Memref.isWhole_whole _) (Memref.whole main_v1_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4) ⟨⟩ c s := rfl

variable (rv : S8192x8x128.Idx → F .f32) (pv : S2x4096.Idx → BitVec 32) (ov : S8192x8x128.Idx → F .f32)
variable (q qp : PosShare TreeShare)

/-- What the tile is handed: a share of rows whose gathering gives `rv`. -/
def go : sProp 𝕄 := iprop((∃ yv : S10240x8x128.Idx → F .f32, ⌜collected yv pv = rv⌝ ∗ v12Loc d ↦{q} yv) ∗ (v1Loc d ↦{qp} pv)
  ∗ bigSep (Finset.univ : Finset (Fin 8)) fun j => v13Loc d ↦[(oB L j).view.set]{fullShare} ov)
/-- What it brings back. -/
def td : sProp 𝕄 := bigSep (Finset.univ : Finset (Fin 8)) fun j => v13Loc d ↦[(oB L j).view.set]{fullShare} rv

/-- The positions' two blocks of the tile, from a share of all of them. -/
theorem iSrc_split : (v1Loc d ↦{qp} pv : sProp 𝕄) ⊢ iprop(iSrc d L pv qp 0 ∗ iSrc d L pv qp 1) := by
  refine BIBase.Entails.trans (pointsTo_share (PosShare.mem_left_op_right qp)).1 ?_
  iintro ⟨H0, H1⟩
  ihave H0 := (pointsTo_split_subset (q := qp.left) (f := pv) (S := Finset.univ) (Finset.subset_univ (iB L 0).view.set)).1 $$ H0
  ihave H1 := (pointsTo_split_subset (q := qp.right) (f := pv) (S := Finset.univ) (Finset.subset_univ (iB L 1).view.set)).1 $$ H1
  icases H0 with ⟨H0, -⟩
  icases H1 with ⟨H1, -⟩
  isplitl [H0]; · iexact H0
  iexact H1

set_option maxHeartbeats 400000 in
theorem tile_body (hF : (K (F := F)).Facts) (hpv : ∀ x, (pv x).toNat < 10240)
    (O : CellTallies nD τ sig (HIx 2)) (W : Waits sig (HIx 2)) (hO : ∀ g, O g none = 0) :
    iprop(levAts (K (F := F)).L (K (F := F)).lev ∗ emp ∗ go d L rv pv ov q qp
        ∗ scopedBufs (thr d L) ∗ scopedSems0 (thr d L) ∗ owes (thr d L) O W)
      ⊢ wp frame (wpE (defs₀ (F := F)) 𝒱₀ (thr d L) none) Set.univ (cc2_collect L (Memref.whole main_v12_scv) (Memref.isWhole_whole _) (Memref.whole main_v1_scv) (Memref.isWhole_whole _) (Memref.whole main_v13_scv) (Memref.isWhole_whole _)
          (Memref.whole cc2_scoped0) (Memref.isWhole_whole _) cc2_scoped1 (Memref.whole cc2_scoped2) (Memref.isWhole_whole _) cc2_scoped3 cc2_scoped4)
          fun _ => iprop(td d L rv ∗ scopedBufs (thr d L) ∗ scopedSems0 (thr d L) ∗ ∃ W', ⌜∀ p ∈ W', p ∈ W ∨ p.2 = none⌝ ∗ owes (thr d L) O W') := by
  rw [(K (F := F)).scopedBufs_V hF d ((L 0).castLE hcore2) ((L 1).castLE hsub2), SparseCore.Cfg.scopedSems0_V (Val := Elt F) d ((L 0).castLE hcore2) ((L 1).castLE hsub2), ownSems0_V, ownBufs_V]
  unfold go td
  iintro ⟨#Hlv, -, ⟨⟨%yv, %hy, Hy⟩, Hp, Ho⟩, ⟨⟨%fi, Hi⟩, ⟨%fx, Hxb⟩, Hbufs⟩, ⟨⟨Hs0, Hs1, Hs2, Hs3, Hs4⟩, Hsems⟩, HO⟩
  subst hy
  ihave Hmw := (show levAts (K (F := F)).L (K (F := F)).lev ⊢ Transfers.MayWaits (thr d L) (default : HIx 2) O from
    (K (F := F)).mayWaits_none (thr := thr d L) hO) $$ Hlv
  ihave Hi := (iBuf_split d L fi) $$ Hi
  ihave Hxb := (oBuf_split d L fx) $$ Hxb
  ihave Hp := (iSrc_split d L pv qp) $$ Hp
  icases Hi with ⟨Hi0, Hi1⟩
  icases Hxb with ⟨Hx0, Hx1⟩
  icases Hp with ⟨Hp0, Hp1⟩
  iapply (wp_wand) $$ [Hi0 Hi1 Hx0 Hx1 Hp0 Hp1 Hy Ho Hs0 Hs1 Hs2 Hs3 Hs4 HO]
  · iapply (run d L yv pv ov q qp O W hpv)
    isplitl [Hi0 Hi1 Hx0 Hx1 Hp0 Hp1 Hy Ho Hs0 Hs1 Hs2 Hs3 Hs4 HO]
    · unfold iFree oFree
      isplitl [Hi0 Hi1 Hs0 Hs1 Hp0 Hp1]
      · isplitl [Hi0 Hs0 Hp0]
        · isplitl [Hi0]; · iexists fi; iexact Hi0
          isplitl [Hs0] <;> iassumption
        · isplitl [Hi1]; · iexists fi; iexact Hi1
          isplitl [Hs1] <;> iassumption
      isplitl [Hx0 Hx1 Hs2 Hs3]
      · isplitl [Hx0 Hs2]
        · isplitl [Hx0]; · iexists fx; iexact Hx0
          iexact Hs2
        · isplitl [Hx1]; · iexists fx; iexact Hx1
          iexact Hs3
      isplitl [Ho]; · iexact Ho
      isplitl [Hy]; · iexact Hy
      isplitl [Hs4]; · iexact Hs4
      iexists W; isplitr
      · ipureintro; exact fun p hp => .inl hp
      · iexact HO
    · iexact Hmw
  iintro %_ ⟨Ho, ⟨Hi0, Hi1⟩, ⟨Hx0, Hx1⟩, Hs4, HO⟩
  unfold iHeld oFree
  icases Hi0 with ⟨%g0, -, Hi0, Hs0⟩
  icases Hi1 with ⟨%g1, -, Hi1, Hs1⟩
  icases Hx0 with ⟨⟨%h0, Hx0⟩, Hs2⟩
  icases Hx1 with ⟨⟨%h1, Hx1⟩, Hs3⟩
  isplitl [Ho]; · iexact Ho
  isplitl [Hi0 Hi1 Hx0 Hx1 Hbufs]
  · isplitl [Hi0 Hi1]
    · iapply (iBuf_join d L g0 g1); isplitl [Hi0] <;> iassumption
    isplitl [Hx0 Hx1]
    · iapply (oBuf_join d L h0 h1); isplitl [Hx0] <;> iassumption
    iexact Hbufs
  isplitl [Hs0 Hs1 Hs2 Hs3 Hs4 Hsems]
  · isplitr [Hsems]
    · isplitl [Hs0]; · iexact Hs0
      isplitl [Hs1]; · iexact Hs1
      isplitl [Hs2]; · iexact Hs2
      isplitl [Hs3] <;> iassumption
    · iexact Hsems
  iexact HO

end Collect
end Cert.Proof.Moe
-- ==== Proof.SC.lean ====
/-
  The two SparseCore calls as the launch sees them: what each carries to its tiles and back, the tiles' obligations, and
  how the TensorCore deals the buffers out and puts them together again.
-/
module

public import proofs.«01_k».proof.Proof.Tiles

@[expose] public section

noncomputable section

namespace Cert.Proof.Moe

open Cert.KernelIdeal Cert.KernelIdeal.Gen

open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.ShareLeaves

theorem shares32 {ℓ : Loc nD τ sig} (q : PosShare TreeShare) (f : Buf (Elt F) ℓ) :
    (ℓ ↦{q} f : sProp 𝕄) = bigSep Finset.univ fun c : Fin 2 => bigSep Finset.univ fun i : Fin 16 => ℓ ↦{shrH q c i} f :=
  (pointsTo_leaves (Val := Elt F) Finset.univ f 1 q).trans (bigSep_congr fun c _ => pointsTo_leaves (Val := Elt F) Finset.univ f 4 (leaf 1 q c))

theorem parts {ℓ : Loc nD τ sig} (f : Buf (Elt F) ℓ) (J : Fin 2 → Fin 16 → Fin 8 → Finset (Idx ℓ))
    (h : ∀ c i j c' i' j' o, o ∈ J c i j → o ∈ J c' i' j' → c = c' ∧ i = i' ∧ j = j') :
    (ℓ ↦[(Finset.univ : Finset (Fin 2 × Fin 16 × Fin 8)).biUnion fun t => J t.1 t.2.1 t.2.2]{fullShare} f : sProp 𝕄)
      = bigSep Finset.univ fun c : Fin 2 => bigSep Finset.univ fun i : Fin 16 => bigSep Finset.univ fun j : Fin 8 => ℓ ↦[J c i j]{fullShare} f := by
  rw [pointsTo_biUnion (ℓ := ℓ) (q := fullShare) (f := f) Finset.univ (fun t : Fin 2 × Fin 16 × Fin 8 => J t.1 t.2.1 t.2.2) (fun t _ t' _ hne => ?_)]
  · rw [bigSep_univ_prod]
    exact bigSep_congr fun c _ => bigSep_univ_prod _
  · rw [Finset.disjoint_left]
    intro o ho ho'
    obtain ⟨h1, h2, h3⟩ := h _ _ _ _ _ _ o ho ho'
    exact hne (Prod.ext h1 (Prod.ext h2 h3))

namespace Dispatch

variable (d : Dev nD) (xv : S4096x8x128.Idx → F .f32) (pv : S2x4096.Idx → BitVec 32) (f0 : S10240x8x128.Idx → F .f32)

def nm (c : Fin 2) (i : Fin 16) (j : Fin 8) : Finset (Idx (v3Loc d)) := named (coordsV c i) pv j
def nmAll : Finset (Idx (v3Loc d)) := (Finset.univ : Finset (Fin 2 × Fin 16 × Fin 8)).biUnion fun t => nm d pv t.1 t.2.1 t.2.2

theorem nm_inj (hd : ∀ p p', (pv p).toNat = (pv p').toNat → p = p') : ∀ c i j c' i' j' o, o ∈ nm d pv c i j → o ∈ nm d pv c' i' j' → c = c' ∧ i = i' ∧ j = j' := by
  intro c i j c' i' j' o h h'
  obtain ⟨h1, y, hy⟩ := (Finset.mem_filter.mp h).2
  obtain ⟨h1', y', hy'⟩ := (Finset.mem_filter.mp h').2
  have e := hd _ _ (hy.trans hy'.symm)
  have e0 : j.val / 4 = j'.val / 4 := congrArg (fun p : S2x4096.Idx => (p 0).val) e
  have e1 : 128 * i.val + 2048 * c.val + y.val = 128 * i'.val + 2048 * c'.val + y'.val := congrArg (fun p : S2x4096.Idx => (p 1).val) e
  have := y.isLt; have := y'.isLt; have := i.isLt; have := i'.isLt
  refine ⟨Fin.ext ?_, Fin.ext ?_, Fin.ext ?_⟩ <;> omega

theorem dispatched_off (o : S10240x8x128.Idx) (ho : o ∉ nmAll d pv) : dispatched xv pv f0 o = f0 o := by
  refine dif_neg fun ⟨p, hp⟩ => ho ?_
  have h1 : (p 1).val < 4096 := (p 1).isLt
  have h0 : (p 0).val < 2 := (p 0).isLt
  have ho1 : (o 1).val < 8 := (o 1).isLt
  refine Finset.mem_biUnion.mpr ⟨(⟨(p 1).val / 2048, by omega⟩, ⟨(p 1).val % 2048 / 128, by omega⟩, ⟨4 * (p 0).val + (o 1).val / 2, by omega⟩), Finset.mem_univ _, ?_⟩
  refine Finset.mem_filter.mpr ⟨Finset.mem_univ _, ?_, ⟨(p 1).val % 128, Nat.mod_lt _ (by norm_num)⟩, ?_⟩
  · show (o 1).val / 2 = (4 * (p 0).val + (o 1).val / 2) % 4
    omega
  · rw [← hp]
    congr 2
    funext a
    match a with
    | 0 => exact Fin.ext (show (4 * (p 0).val + (o 1).val / 2) / 4 = (p 0).val by omega)
    | 1 => exact Fin.ext (show 128 * ((p 1).val % 2048 / 128) + 2048 * ((p 1).val / 2048) + (p 1).val % 128 = (p 1).val by omega)

theorem deal (q : PosShare TreeShare) (hd : ∀ p p', (pv p).toNat = (pv p').toNat → p = p') :
    iprop((v2Loc d ↦{fullShare} xv) ∗ (v1Loc d ↦{q} pv) ∗ (v3Loc d ↦{fullShare} f0))
      ⊢ (iprop((bigSep Finset.univ fun c : Fin 2 => bigSep Finset.univ fun i : Fin 16 => go d (coordsV c i) xv pv f0 (shrH fullShare c i) (shrH q c i))
          ∗ (v3Loc d ↦[Finset.univ \ nmAll d pv]{fullShare} f0)) : sProp 𝕄) := by
  rw [shares32 (ℓ := v2Loc d), shares32 (ℓ := v1Loc d)]
  have e : (v3Loc d ↦[nmAll d pv]{fullShare} f0 : sProp 𝕄) = bigSep Finset.univ fun c : Fin 2 => bigSep Finset.univ fun i : Fin 16 => bigSep Finset.univ fun j : Fin 8 => v3Loc d ↦[nm d pv c i j]{fullShare} f0 :=
    parts (ℓ := v3Loc d) f0 (nm d pv) (nm_inj d pv hd)
  iintro ⟨H2, H1, H3⟩
  ihave H3 := (pointsTo_split_subset (q := fullShare) (f := f0) (S := Finset.univ) (Finset.subset_univ (nmAll d pv))).1 $$ H3
  icases H3 with ⟨H3, Hr⟩
  isplitr [Hr]; swap; · iexact Hr
  ihave H3 := (Entails.of_eq e) $$ H3
  unfold go
  simp only [bigSep_sep']
  isplitl [H2]; · iexact H2
  isplitl [H1]; · iexact H1
  iexact H3

theorem regather (hd : ∀ p p', (pv p).toNat = (pv p').toNat → p = p') :
    iprop((bigSep Finset.univ fun c : Fin 2 => bigSep Finset.univ fun i : Fin 16 => td d (coordsV c i) xv pv f0)
          ∗ (v3Loc d ↦[Finset.univ \ nmAll d pv]{fullShare} f0))
      ⊢ (v3Loc d ↦{fullShare} dispatched xv pv f0 : sProp 𝕄) := by
  have e : (v3Loc d ↦[nmAll d pv]{fullShare} (dispatched xv pv f0) : sProp 𝕄) = bigSep Finset.univ fun c : Fin 2 => bigSep Finset.univ fun i : Fin 16 => bigSep Finset.univ fun j : Fin 8 => v3Loc d ↦[nm d pv c i j]{fullShare} (dispatched xv pv f0) :=
    parts (ℓ := v3Loc d) (dispatched xv pv f0) (nm d pv) (nm_inj d pv hd)
  have e2 : (v3Loc d ↦[Finset.univ \ nmAll d pv]{fullShare} f0 : sProp 𝕄) = v3Loc d ↦[Finset.univ \ nmAll d pv]{fullShare} (dispatched xv pv f0) :=
    pointsTo_congr fun o ho => (dispatched_off d xv pv f0 o (Finset.mem_sdiff.mp ho).2).symm
  have e3 : (bigSep Finset.univ fun c : Fin 2 => bigSep Finset.univ fun i : Fin 16 => td d (coordsV c i) xv pv f0 : sProp 𝕄) = v3Loc d ↦[nmAll d pv]{fullShare} (dispatched xv pv f0) := e.symm
  iintro ⟨H, Hr⟩
  ihave H := (Entails.of_eq e3) $$ H
  ihave Hr := (Entails.of_eq e2) $$ Hr
  iapply (pointsTo_split_subset (ℓ := v3Loc d) (q := fullShare) (f := dispatched xv pv f0) (S := Finset.univ) (Finset.subset_univ (nmAll d pv))).2
  isplitl [H]; · iexact H
  iexact Hr

end Dispatch

namespace Collect

variable (d : Dev nD) (rv : S8192x8x128.Idx → F .f32) (pv : S2x4096.Idx → BitVec 32) (ov : S8192x8x128.Idx → F .f32)

def ob (c : Fin 2) (i : Fin 16) (j : Fin 8) : Finset (Idx (v13Loc d)) := (oB (coordsV c i) j).view.set

theorem mem_ob (c : Fin 2) (i : Fin 16) (j : Fin 8) (o : S8192x8x128.Idx) :
    o ∈ ob d c i j ↔ (4096 * (j.val / 4) + (128 * i.val + 2048 * c.val) ≤ (o 0).val ∧ (o 0).val < 4096 * (j.val / 4) + (128 * i.val + 2048 * c.val) + 128)
      ∧ (o 1).val / 2 = j.val % 4 := by
  have h1 : (o 1).val < 8 := (o 1).isLt
  have h2 : (o 2).val < 128 := (o 2).isLt
  have e : (oB (coordsV c i) j).view.set = (Rect.unit (s := S8192x8x128) ![4096 * (j.val / 4) + wid (coordsV c i), 2 * (j.val % 4), 0] S128x2x128.size
    (by have := wid_le (coordsV c i); have := j.isLt; intro a; match a with | 0 => simp; omega | 1 => simp; omega | 2 => simp)).set := View.set_slice_whole _ _
  have e' : (o ∈ ob d c i j) = (o ∈ (oB (coordsV c i) j).view.set) := rfl
  rw [e', e]
  have e2 := Rect.mem_set_unit (s := S8192x8x128) (off := ![4096 * (j.val / 4) + wid (coordsV c i), 2 * (j.val % 4), 0]) (size := S128x2x128.size)
    (inb := (by have := wid_le (coordsV c i); have := j.isLt; intro a; match a with | 0 => simp; omega | 1 => simp; omega | 2 => simp)) (i := o)
  refine e2.trans ⟨fun h => ?_, fun h a => ?_⟩
  · have h0 : 4096 * (j.val / 4) + (128 * i.val + 2048 * c.val) ≤ (o 0).val ∧ (o 0).val < 4096 * (j.val / 4) + (128 * i.val + 2048 * c.val) + 128 := h 0
    have h1' : 2 * (j.val % 4) ≤ (o 1).val ∧ (o 1).val < 2 * (j.val % 4) + 2 := h 1
    exact ⟨h0, by omega⟩
  · match a with
    | 0 => exact h.1
    | 1 => exact (show 2 * (j.val % 4) ≤ (o 1).val ∧ (o 1).val < 2 * (j.val % 4) + 2 by omega)
    | 2 => exact (show 0 ≤ (o 2).val ∧ (o 2).val < 0 + 128 by omega)

theorem ob_inj : ∀ c i j c' i' j' o, o ∈ ob d c i j → o ∈ ob d c' i' j' → c = c' ∧ i = i' ∧ j = j' := by
  intro c i j c' i' j' o h h'
  have h := (mem_ob d c i j o).mp h
  have h' := (mem_ob d c' i' j' o).mp h'
  have := c.isLt; have := c'.isLt; have := i.isLt; have := i'.isLt; have := j.isLt; have := j'.isLt
  refine ⟨Fin.ext ?_, Fin.ext ?_, Fin.ext ?_⟩ <;> omega

theorem ob_all : ((Finset.univ : Finset (Fin 2 × Fin 16 × Fin 8)).biUnion fun t => ob d t.1 t.2.1 t.2.2) = Finset.univ := by
  refine Finset.eq_univ_iff_forall.mpr fun (o : S8192x8x128.Idx) => ?_
  have h0 : (o 0).val < 8192 := (o 0).isLt
  have h1 : (o 1).val < 8 := (o 1).isLt
  refine Finset.mem_biUnion.mpr ⟨(⟨(o 0).val % 4096 / 2048, by omega⟩, ⟨(o 0).val % 2048 / 128, by omega⟩, ⟨4 * ((o 0).val / 4096) + (o 1).val / 2, by omega⟩), Finset.mem_univ _, ?_⟩
  refine (mem_ob d _ _ _ o).mpr ?_
  dsimp only
  omega

theorem deal (q : PosShare TreeShare) (yv : S10240x8x128.Idx → F .f32) (hy : collected yv pv = rv) :
    iprop((v12Loc d ↦{fullShare} yv) ∗ (v1Loc d ↦{q} pv) ∗ (v13Loc d ↦{fullShare} ov))
      ⊢ (bigSep Finset.univ fun c : Fin 2 => bigSep Finset.univ fun i : Fin 16 => go d (coordsV c i) rv pv ov (shrH fullShare c i) (shrH q c i) : sProp 𝕄) := by
  have hgo : ∀ (c : Fin 2) (i : Fin 16), iprop((v12Loc d ↦{shrH fullShare c i} yv) ∗ (v1Loc d ↦{shrH q c i} pv) ∗ bigSep (Finset.univ : Finset (Fin 8)) fun j => v13Loc d ↦[ob d c i j]{fullShare} ov)
      ⊢ (go d (coordsV c i) rv pv ov (shrH fullShare c i) (shrH q c i) : sProp 𝕄) := fun c i => by
    unfold go
    iintro ⟨H1, H2, H3⟩
    isplitl [H1]
    · iexists yv; isplitr; · ipureintro; exact hy
      iexact H1
    isplitl [H2]; · iexact H2
    iexact H3
  refine BIBase.Entails.trans ?_ (bigSep_mono fun c _ => bigSep_mono fun i _ => hgo c i)
  rw [shares32 (ℓ := v12Loc d), shares32 (ℓ := v1Loc d)]
  have e := parts (ℓ := v13Loc d) ov (ob d) (ob_inj d)
  rw [ob_all] at e
  rw [e]
  simp only [bigSep_sep']
  exact BIBase.Entails.refl

theorem regather :
    (bigSep Finset.univ fun c : Fin 2 => bigSep Finset.univ fun i : Fin 16 => td d (coordsV c i) rv)
      ⊢ (v13Loc d ↦{fullShare} rv : sProp 𝕄) := by
  have e := parts (ℓ := v13Loc d) rv (ob d) (ob_inj d)
  rw [ob_all] at e
  exact Entails.of_eq e.symm

end Collect

/-! ## What the calls carry -/

/-- What the two calls are run at, on every device. -/
structure Vals (F : FTy → Type) where
  xv : Dev nD → S4096x8x128.Idx → F .f32
  pv : Dev nD → S2x4096.Idx → BitVec 32
  f0 : Dev nD → S10240x8x128.Idx → F .f32
  rv : Dev nD → S8192x8x128.Idx → F .f32
  ov : Dev nD → S8192x8x128.Idx → F .f32

/-- The shares of the positions: a half for each call. -/
abbrev h0 : PosShare TreeShare := leaf 1 fullShare 0
abbrev h1 : PosShare TreeShare := leaf 1 fullShare 1

variable (v : Vals F)

def goP (q : Fin 2) (d : Dev nD) (c : Fin 2) (i : Fin 16) : sProp 𝕄 :=
  match q with
  | 0 => Dispatch.go d (Dispatch.coordsV c i) (v.xv d) (v.pv d) (v.f0 d) (shrH fullShare c i) (shrH h0 c i)
  | 1 => Collect.go d (Collect.coordsV c i) (v.rv d) (v.pv d) (v.ov d) (shrH fullShare c i) (shrH h1 c i)
def tdP (q : Fin 2) (d : Dev nD) (c : Fin 2) (i : Fin 16) : sProp 𝕄 :=
  match q with
  | 0 => Dispatch.td d (Dispatch.coordsV c i) (v.xv d) (v.pv d) (v.f0 d)
  | 1 => Collect.td d (Collect.coordsV c i) (v.rv d)

instance goP_storable (q : Fin 2) (d : Dev nD) (c : Fin 2) (i : Fin 16) : BI.Storable (upEmb : UEmb _ 𝕄) (goP v q d c i) :=
  match q with
  | 0 => by unfold goP Dispatch.go; infer_instance
  | 1 => by unfold goP Collect.go; infer_instance
instance tdP_storable (q : Fin 2) (d : Dev nD) (c : Fin 2) (i : Fin 16) : BI.Storable (upEmb : UEmb _ 𝕄) (tdP v q d c i) :=
  match q with
  | 0 => by unfold tdP Dispatch.td; infer_instance
  | 1 => by unfold tdP Collect.td; infer_instance

def P : (K (F := F)).Pay (nD := nD) (Val := Elt F) (Name := ℕ) (U := UU) where
  st := fun q d c => bigSep Finset.univ fun i => goP v q d (Fin.cast (nCore_eq q) c) i
  dn := fun q d c => bigSep Finset.univ fun i => tdP v q d (Fin.cast (nCore_eq q) c) i
  go := fun q d c i => goP v q d (Fin.cast (nCore_eq q) c) (Fin.cast (nSub_eq q) i)
  td := fun q d c i => tdP v q d (Fin.cast (nCore_eq q) c) (Fin.cast (nSub_eq q) i)
  x := fun _ _ => iprop(emp)

instance P_storable : (P v).IsStorable where
  st q d c := by unfold P; infer_instance
  dn q d c := by unfold P; infer_instance
  go q d c i := goP_storable v q d _ _
  td q d c i := tdP_storable v q d _ _

theorem bigSep_tasks (q : Fin 2) (Φ : Fin 16 → sProp 𝕄) :
    (bigSep Finset.univ fun i : Fin ((K (F := F)).nSub q) => Φ (Fin.cast (nSub_eq q) i)) = bigSep Finset.univ Φ := by
  revert q; intro q
  fin_cases q <;> exact bigSep_congr fun _ _ => congrArg Φ (Fin.ext rfl)
theorem bigSep_cores (q : Fin 2) (Φ : Fin 2 → sProp 𝕄) :
    (bigSep Finset.univ fun i : Fin ((K (F := F)).nCore q) => Φ (Fin.cast (nCore_eq q) i)) = bigSep Finset.univ Φ := by
  revert q; intro q
  fin_cases q <;> exact bigSep_congr fun _ _ => congrArg Φ (Fin.ext rfl)

theorem vecSplit (q : Fin 2) : (K (F := F)).VecSplit' (P v) q := by
  intro d c
  show (bigSep Finset.univ fun i => goP v q d (Fin.cast (nCore_eq q) c) i) ⊢ |={Set.univ}=> iprop(
      (bigSep Finset.univ fun i : Fin ((K (F := F)).nSub q) => goP v q d (Fin.cast (nCore_eq q) c) (Fin.cast (nSub_eq q) i))
      ∗ ((bigSep Finset.univ fun i : Fin ((K (F := F)).nSub q) => tdP v q d (Fin.cast (nCore_eq q) c) (Fin.cast (nSub_eq q) i))
          -∗ bigSep Finset.univ fun i => tdP v q d (Fin.cast (nCore_eq q) c) i))
  rw [bigSep_tasks q (fun i => goP v q d (Fin.cast (nCore_eq q) c) i), bigSep_tasks q (fun i => tdP v q d (Fin.cast (nCore_eq q) c) i)]
  iintro H; imodintro
  isplitl [H]; · iexact H
  iintro H; iexact H

/-! ## The tiles' obligations -/

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the calls' runs ask of the positions: in range and pairwise different. -/
structure Vals.OK : Prop where
  lt : ∀ d x, (v.pv d x).toNat < 10240
  ne : ∀ d p p', (v.pv d p).toNat = (v.pv d p').toNat → p = p'

set_option maxRecDepth 16384 in
theorem tileObl0 (hv : v.OK) : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [Dispatch.defs₀_vector]; simp only [SparseCore.onTile, hci, and_self, ↓reduceDIte]
  exact (Dispatch.tile_body d (Dispatch.coordsV ⟨_, hci.1⟩ ⟨_, hci.2⟩) (v.xv d) (v.pv d) (v.f0 d) (shrH fullShare ⟨_, hci.1⟩ ⟨_, hci.2⟩) (shrH h0 ⟨_, hci.1⟩ ⟨_, hci.2⟩)
    facts (hv.lt d) (hv.ne d) O W hO).trans (wp_mono frame _ _ fun _ => obl_post)

set_option maxRecDepth 16384 in
theorem tileObl1 (hv : v.OK) : (K (F := F)).TileObl (D (F := F)) 𝒱 (P v) v₀ 1 := by
  intro d c i O W hO _ _
  simp only [show (P v).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [Collect.defs₀_vector]; simp only [SparseCore.onTile, hci, and_self, ↓reduceDIte]
  exact (Collect.tile_body d (Collect.coordsV ⟨_, hci.1⟩ ⟨_, hci.2⟩) (v.rv d) (v.pv d) (v.ov d) (shrH fullShare ⟨_, hci.1⟩ ⟨_, hci.2⟩) (shrH h1 ⟨_, hci.1⟩ ⟨_, hci.2⟩)
    facts (hv.lt d) O W hO).trans (wp_mono frame _ _ fun _ => obl_post)

end Cert.Proof.Moe
-- ==== Proof.Steps.lean ====
/-
  The steps of @main on the TensorCore: each call as a step from the buffers held at one valuation to the buffers held at the next.
-/
module

public import proofs.«01_k».proof.Proof.Blocks
public import proofs.«01_k».proof.Proof.SC

@[expose] public section

noncomputable section

namespace Cert.Proof.Moe

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe
open Idealize.ShloMosaic.ShareLeaves
open Idealize.ShloMosaic.StableHlo (held)

/-! ## The buffers @main holds -/

/-- A TensorCore buffer, as the device names it. -/
abbrev rr (b : Ref sig .tc) : DevRef τ sig := Proc.devRef .tc b

/-- The unscoped buffers; without the SparseCore calls' own operands; and so on. -/
def U0 : Finset (DevRef τ sig) := (StableHlo.tcRefs τ sig).filter fun b => ¬ b.isScoped
def U1 : Finset (DevRef τ sig) := (U0.erase (rr main_v1)).erase (rr main_v2)
def U2 : Finset (DevRef τ sig) := U1.erase (rr main_v12)
/-- The rest beside the buffers a pipelined call only reads. -/
def U1f : Finset (DevRef τ sig) := ((((((U1.erase (rr main_v4)).erase (rr main_v5)).erase (rr main_v7)).erase (rr main_v6)).erase (rr main_v8)).erase (rr main_v9)).erase (rr main_v10)
def U2f : Finset (DevRef τ sig) := (U2.erase (rr main_v14)).erase (rr main_arg1)

theorem held_take {c : Thread nD τ} {S : Finset (DevRef τ sig)} {b : DevRef τ sig} (h : b ∈ S) (W : Valuation τ sig (Elt F)) :
    (held c S W : sProp 𝕄) = iprop((((c.1, b) : Loc nD τ sig) ↦{fullShare} W b) ∗ held c (S.erase b) W) := by
  unfold held; exact SparseCore.bigSep_erase' h

theorem held_put {c : Thread nD τ} {S : Finset (DevRef τ sig)} {b : DevRef τ sig} (h : b ∈ S) (W : Valuation τ sig (Elt F)) (X) :
    (iprop((((c.1, b) : Loc nD τ sig) ↦{fullShare} X) ∗ held c (S.erase b) W) : sProp 𝕄) = held c S (Function.update W b X) := by
  rw [held_take h, Function.update_self, StableHlo.held_congr (V := Function.update W b X) (V' := W) c
    (fun b' hb' => Function.update_of_ne (Finset.ne_of_mem_erase hb') _ _)]

theorem shares2 {ℓ : Loc nD τ sig} (f : Buf (Elt F) ℓ) :
    (ℓ ↦{fullShare} f : sProp 𝕄) = iprop((ℓ ↦{h0} f) ∗ ℓ ↦{h1} f) :=
  (pointsTo_leaves (Val := Elt F) Finset.univ f 1 fullShare).trans (BI.bigSep_fin_two _)
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem unscoped_held (d : Dev nD) (m : (ℓ : Loc nD τ sig) → Buf (Elt F) ℓ) :
    (unscopedBufs d (fun b => m ((SparseCore.T d).loc b)) : sProp 𝕄) = held (SparseCore.T d) U0 (fun b => m (d, b)) := by
  unfold unscopedBufs StableHlo.held U0 StableHlo.tcRefs
  rw [Finset.filter_map, bigSep_map]; rfl

/-! ## The first SparseCore call -/

variable (v : Vals F) (κ : GSem nD τ sig → ℕ) (d : Dev nD)

theorem st_eq (q : Fin 2) : (bigSep Finset.univ fun c : Fin ((K (F := F)).nCore q) => (P v).st q d c)
    = (bigSep Finset.univ fun c : Fin 2 => bigSep Finset.univ fun i => goP v q d c i : sProp 𝕄) := by
  exact bigSep_cores q fun c => bigSep Finset.univ fun i => goP v q d c i
theorem dn_eq (q : Fin 2) : (bigSep Finset.univ fun c : Fin ((K (F := F)).nCore q) => (P v).dn q d c)
    = (bigSep Finset.univ fun c : Fin 2 => bigSep Finset.univ fun i => tdP v q d c i : sProp 𝕄) := by
  exact bigSep_cores q fun c => bigSep Finset.univ fun i => tdP v q d c i

theorem sc0_step (hv : v.OK) (W : Valuation τ sig (Elt F)) (h1 : W (rr main_v1) = v.pv d) (h2 : W (rr main_v2) = v.xv d) (h3 : W (rr main_v3) = v.f0 d)
    {Φ : PUnit → sProp 𝕄} :
    iprop((K (F := F)).ctx EH (P v) κ ∗ (K (F := F)).tcSt EH d 0 ∗ held (SparseCore.T d) U0 W
        ∗ (((K (F := F)).tcSt EH d 1 ∗ held (SparseCore.T d) U1 (Function.update W (rr main_v3) (Dispatch.dispatched (v.xv d) (v.pv d) (v.f0 d)))
            ∗ (v1Loc d ↦{Moe.h1} v.pv d)) -∗ Φ ⟨⟩))
      ⊢ wp frame (wpE ((K (F := F)).defs (D (F := F))) 𝒱 (SparseCore.T d) none) Set.univ ((K (F := F)).run d 0) Φ := by
  rw [held_take (show rr main_v1 ∈ U0 by decide) W, held_take (show rr main_v2 ∈ U0.erase (rr main_v1) by decide) W]
  rw [show (U0.erase (rr main_v1)).erase (rr main_v2) = U1 from rfl, held_take (show rr main_v3 ∈ U1 by decide) W, h1, h2, h3]
  iintro ⟨#Hctx, Hst, ⟨H1, H2, H3, Hr⟩, Hk⟩
  ihave H1 := (Entails.of_eq (shares2 (ℓ := v1Loc d) (v.pv d))) $$ H1
  icases H1 with ⟨H1a, H1b⟩
  ihave HD := (Dispatch.deal d (v.xv d) (v.pv d) (v.f0 d) h0 (hv.ne d)) $$ [H1a H2 H3]
  · isplitl [H2]; · iexact H2
    isplitl [H1a]; · iexact H1a
    iexact H3
  icases HD with ⟨HD, Ho⟩
  iapply ((K (F := F)).wp_run (D (F := F)) 𝒱 (EH := EH) (P := P v) κ d 0) $$ [Hst HD Ho Hr H1b Hk]
  isplitr; · iexact Hctx
  isplitl [Hst]; · iexact Hst
  isplitl [HD]; · rw [st_eq]; iexact HD
  iintro ⟨Hst, Hdn⟩
  ihave Hdn := (Entails.of_eq (dn_eq v d 0)) $$ Hdn
  ihave H3 := (Dispatch.regather d (v.xv d) (v.pv d) (v.f0 d) (hv.ne d)) $$ [Hdn Ho]
  · isplitl [Hdn]; · iexact Hdn
    iexact Ho
  iapply Hk
  isplitl [Hst]; · iexact Hst
  isplitl [H3 Hr]
  · iapply (Entails.of_eq (held_put (c := SparseCore.T d) (show rr main_v3 ∈ U1 by decide) W (Dispatch.dispatched (v.xv d) (v.pv d) (v.f0 d))))
    isplitl [H3]; · iexact H3
    iexact Hr
  iexact H1b

theorem sc1_step (hv : v.OK) (W : Valuation τ sig (Elt F)) (hy : Collect.collected (W (rr main_v12)) (v.pv d) = v.rv d) (h3 : W (rr main_v13) = v.ov d)
    {Φ : PUnit → sProp 𝕄} :
    iprop((K (F := F)).ctx EH (P v) κ ∗ (K (F := F)).tcSt EH d 1 ∗ held (SparseCore.T d) U1 W ∗ (v1Loc d ↦{Moe.h1} v.pv d)
        ∗ (((K (F := F)).tcSt EH d 2 ∗ held (SparseCore.T d) U2 (Function.update W (rr main_v13) (v.rv d))) -∗ Φ ⟨⟩))
      ⊢ wp frame (wpE ((K (F := F)).defs (D (F := F))) 𝒱 (SparseCore.T d) none) Set.univ ((K (F := F)).run d 1) Φ := by
  rw [held_take (show rr main_v12 ∈ U1 by decide) W]
  rw [show U1.erase (rr main_v12) = U2 from rfl, held_take (show rr main_v13 ∈ U2 by decide) W, h3]
  iintro ⟨#Hctx, Hst, ⟨H2, H3, Hr⟩, H1, Hk⟩
  ihave HD := (Collect.deal d (v.rv d) (v.pv d) (v.ov d) Moe.h1 (W (rr main_v12)) hy) $$ [H1 H2 H3]
  · isplitl [H2]; · iexact H2
    isplitl [H1]; · iexact H1
    iexact H3
  iapply ((K (F := F)).wp_run (D (F := F)) 𝒱 (EH := EH) (P := P v) κ d 1) $$ [Hst HD Hr Hk]
  isplitr; · iexact Hctx
  isplitl [Hst]; · iexact Hst
  isplitl [HD]; · rw [st_eq]; iexact HD
  iintro ⟨Hst, Hdn⟩
  ihave Hdn := (Entails.of_eq (dn_eq v d 1)) $$ Hdn
  ihave H3 := (show (bigSep Finset.univ fun c : Fin 2 => bigSep Finset.univ fun i => tdP v 1 d c i : sProp 𝕄) ⊢ (v13Loc d ↦{fullShare} v.rv d) from Collect.regather d (v.rv d)) $$ Hdn
  iapply Hk
  isplitl [Hst]; · iexact Hst
  iapply (Entails.of_eq (held_put (c := SparseCore.T d) (show rr main_v13 ∈ U2 by decide) W (v.rv d)))
  isplitl [H3]; · iexact H3
  iexact Hr

/-! ## The pipelined calls -/

theorem Otc_none (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply, if_neg (fun h => nomatch h.2)]
  · rfl

/-- What a pipelined call's core owes while it runs: what is left of the SparseCore calls. -/
abbrev Ow (n : ℕ) : (c : Dev nD) → CellTallies nD τ sig (HIx 2) := fun c => (K (F := F)).Otc c n
abbrev Bw (n : ℕ) : (c : Dev nD) → Set (SemLoc sig × HIx 2) := fun c => {p | (K (F := F)).lev (SparseCore.T c, p.1) p.2 ≤ 8 * SparseCore.Cfg.Blocks.fst (Q := 2) (N := 2) n}

variable (a : (p : Fin 2) → (pcfgs (F := F) p).Adm) (V : (c : Dev nD) → (b : Ref sig .tc) → Buf (Elt F) ((c : Thread nD τ).loc b))
  (O : Dev nD → CellTallies nD τ sig (HIx 2)) (B : Dev nD → Set (SemLoc sig × HIx 2))

theorem FFN.arrays_eq (c : Dev nD) : ((FFN.rd a V O B c).arrays (FFN.A a V c) : sProp 𝕄)
    = iprop(((c : Thread nD τ).loc main_v4 ↦{fullShare} V c main_v4) ∗ ((c : Thread nD τ).loc main_v5 ↦{fullShare} V c main_v5)
        ∗ ((c : Thread nD τ).loc main_v7 ↦{fullShare} V c main_v7) ∗ ((c : Thread nD τ).loc main_v6 ↦{fullShare} V c main_v6)
        ∗ ((c : Thread nD τ).loc main_v8 ↦{fullShare} V c main_v8) ∗ ((c : Thread nD τ).loc main_v11 ↦{fullShare} V c main_v11)) := by
  unfold Pipeline.RDat.arrays
  refine (bigSep_congr (Ψ := fun w : Fin 6 => ((FFN.cfg a).win w).arr.view.loc (c : Thread nD τ) ↦{(FFN.rd a V O B c).share w} FFN.A a V c w)
    (fun w _ => ?_)).trans (bigSep6 _)
  rw [show ((FFN.cfg a).win w).arr.view.set = Finset.univ from (arr_whole1 w).set_eq_univ]

theorem Combine.arrays_eq (c : Dev nD) : ((Combine.rd a V O B c).arrays (Combine.A a V c) : sProp 𝕄)
    = iprop(((c : Thread nD τ).loc main_v14 ↦{ShareLeaves.leaf 1 fullShare 0} V c main_v14) ∗ ((c : Thread nD τ).loc main_v14 ↦{ShareLeaves.leaf 1 fullShare 1} V c main_v14)
        ∗ ((c : Thread nD τ).loc main_arg1 ↦{fullShare} V c main_arg1) ∗ ((c : Thread nD τ).loc main_v15 ↦{fullShare} V c main_v15)) := by
  unfold Pipeline.RDat.arrays
  refine (bigSep_congr (Ψ := fun w : Fin 4 => ((Combine.cfg a).win w).arr.view.loc (c : Thread nD τ) ↦{(Combine.rd a V O B c).share w} Combine.A a V c w)
    (fun w _ => ?_)).trans (bigSep4 _)
  rw [show ((Combine.cfg a).win w).arr.view.set = Finset.univ from (arr_whole3 w).set_eq_univ]

/-- The input arrays as they were, the output array at some contents its blocks are the body's of. -/
theorem FFN.arraysAt_elim (c : Dev nD) : ((FFN.rd a V O B c).arraysAt grid1.N : sProp 𝕄)
    ⊢ iprop(((c : Thread nD τ).loc main_v4 ↦{fullShare} V c main_v4) ∗ ((c : Thread nD τ).loc main_v5 ↦{fullShare} V c main_v5)
        ∗ ((c : Thread nD τ).loc main_v7 ↦{fullShare} V c main_v7) ∗ ((c : Thread nD τ).loc main_v6 ↦{fullShare} V c main_v6)
        ∗ ((c : Thread nD τ).loc main_v8 ↦{fullShare} V c main_v8)
        ∗ ∃ Y : Buf (Elt F) ((c : Thread nD τ).loc main_v11), ⌜∀ t : Fin grid1.N, FFN.live a t → (((FFN.cfg a).win (5 : Fin 6)).blk t).view.read (Elt F) Y = FFN.outv a V c t⌝
            ∗ ((c : Thread nD τ).loc main_v11 ↦{fullShare} Y)) := by
  have e : ((FFN.rd a V O B c).arraysAt grid1.N : sProp 𝕄) = iprop((∃ G, ⌜(FFN.rd a V O B c).ArrAt (0 : Fin 6) grid1.N G⌝ ∗ ((FFN.cfg a).win (0 : Fin 6)).arr.view.loc (c : Thread nD τ) ↦{(FFN.rd a V O B c).share (0 : Fin 6)} G)
      ∗ (∃ G, ⌜(FFN.rd a V O B c).ArrAt (1 : Fin 6) grid1.N G⌝ ∗ ((FFN.cfg a).win (1 : Fin 6)).arr.view.loc (c : Thread nD τ) ↦{(FFN.rd a V O B c).share (1 : Fin 6)} G)
      ∗ (∃ G, ⌜(FFN.rd a V O B c).ArrAt (2 : Fin 6) grid1.N G⌝ ∗ ((FFN.cfg a).win (2 : Fin 6)).arr.view.loc (c : Thread nD τ) ↦{(FFN.rd a V O B c).share (2 : Fin 6)} G)
      ∗ (∃ G, ⌜(FFN.rd a V O B c).ArrAt (3 : Fin 6) grid1.N G⌝ ∗ ((FFN.cfg a).win (3 : Fin 6)).arr.view.loc (c : Thread nD τ) ↦{(FFN.rd a V O B c).share (3 : Fin 6)} G)
      ∗ (∃ G, ⌜(FFN.rd a V O B c).ArrAt (4 : Fin 6) grid1.N G⌝ ∗ ((FFN.cfg a).win (4 : Fin 6)).arr.view.loc (c : Thread nD τ) ↦{(FFN.rd a V O B c).share (4 : Fin 6)} G)
      ∗ (∃ G, ⌜(FFN.rd a V O B c).ArrAt (5 : Fin 6) grid1.N G⌝ ∗ ((FFN.cfg a).win (5 : Fin 6)).arr.view.loc (c : Thread nD τ) ↦{(FFN.rd a V O B c).share (5 : Fin 6)} G)) := by
    unfold Pipeline.RDat.arraysAt
    refine (bigSep_congr (Ψ := fun w : Fin 6 => iprop(∃ G, ⌜(FFN.rd a V O B c).ArrAt w grid1.N G⌝
        ∗ ((FFN.cfg a).win w).arr.view.loc (c : Thread nD τ) ↦{(FFN.rd a V O B c).share w} G))
      (fun w _ => ?_)).trans (bigSep6 _)
    rw [show ((FFN.cfg a).win w).arr.view.set = Finset.univ from (arr_whole1 w).set_eq_univ]
  rw [e]
  have hin : ∀ (w : Fin 6) (hw : ((FFN.cfg a).win w).isOut = false) (G), (FFN.rd a V O B c).ArrAt w grid1.N G → G = FFN.A a V c w := fun w hw G h => by
    rw [(FFN.rd a V O B c).ArrAt_in w hw] at h; exact h
  iintro ⟨⟨%G0, %h0, H0⟩, ⟨%G1, %h1, H1⟩, ⟨%G2, %h2, H2⟩, ⟨%G3, %h3, H3⟩, ⟨%G4, %h4, H4⟩, ⟨%G5, %h5, H5⟩⟩
  obtain rfl := hin 0 rfl _ h0
  obtain rfl := hin 1 rfl _ h1
  obtain rfl := hin 2 rfl _ h2
  obtain rfl := hin 3 rfl _ h3
  obtain rfl := hin 4 rfl _ h4
  isplitl [H0]; · iexact H0
  isplitl [H1]; · iexact H1
  isplitl [H2]; · iexact H2
  isplitl [H3]; · iexact H3
  isplitl [H4]; · iexact H4
  iexists G5
  isplitr; · ipureintro; exact fun t ht => FFN.out_block a V O B c G5 h5 t ht
  iexact H5

theorem Combine.arraysAt_elim (c : Dev nD) : ((Combine.rd a V O B c).arraysAt grid3.N : sProp 𝕄)
    ⊢ iprop(((c : Thread nD τ).loc main_v14 ↦{ShareLeaves.leaf 1 fullShare 0} V c main_v14) ∗ ((c : Thread nD τ).loc main_v14 ↦{ShareLeaves.leaf 1 fullShare 1} V c main_v14)
        ∗ ((c : Thread nD τ).loc main_arg1 ↦{fullShare} V c main_arg1)
        ∗ ∃ Z : Buf (Elt F) ((c : Thread nD τ).loc main_v15), ⌜∀ t : Fin grid3.N, (((Combine.cfg a).win (3 : Fin 4)).blk t).view.read (Elt F) Z = Combine.outv a V c t⌝
            ∗ ((c : Thread nD τ).loc main_v15 ↦{fullShare} Z)) := by
  have e : ((Combine.rd a V O B c).arraysAt grid3.N : sProp 𝕄) = iprop((∃ G, ⌜(Combine.rd a V O B c).ArrAt (0 : Fin 4) grid3.N G⌝ ∗ ((Combine.cfg a).win (0 : Fin 4)).arr.view.loc (c : Thread nD τ) ↦{(Combine.rd a V O B c).share (0 : Fin 4)} G)
      ∗ (∃ G, ⌜(Combine.rd a V O B c).ArrAt (1 : Fin 4) grid3.N G⌝ ∗ ((Combine.cfg a).win (1 : Fin 4)).arr.view.loc (c : Thread nD τ) ↦{(Combine.rd a V O B c).share (1 : Fin 4)} G)
      ∗ (∃ G, ⌜(Combine.rd a V O B c).ArrAt (2 : Fin 4) grid3.N G⌝ ∗ ((Combine.cfg a).win (2 : Fin 4)).arr.view.loc (c : Thread nD τ) ↦{(Combine.rd a V O B c).share (2 : Fin 4)} G)
      ∗ (∃ G, ⌜(Combine.rd a V O B c).ArrAt (3 : Fin 4) grid3.N G⌝ ∗ ((Combine.cfg a).win (3 : Fin 4)).arr.view.loc (c : Thread nD τ) ↦{(Combine.rd a V O B c).share (3 : Fin 4)} G)) := by
    unfold Pipeline.RDat.arraysAt
    refine (bigSep_congr (Ψ := fun w : Fin 4 => iprop(∃ G, ⌜(Combine.rd a V O B c).ArrAt w grid3.N G⌝
        ∗ ((Combine.cfg a).win w).arr.view.loc (c : Thread nD τ) ↦{(Combine.rd a V O B c).share w} G))
      (fun w _ => ?_)).trans (bigSep4 _)
    rw [show ((Combine.cfg a).win w).arr.view.set = Finset.univ from (arr_whole3 w).set_eq_univ]
  rw [e]
  have hin : ∀ (w : Fin 4) (hw : ((Combine.cfg a).win w).isOut = false) (G), (Combine.rd a V O B c).ArrAt w grid3.N G → G = Combine.A a V c w := fun w hw G h => by
    rw [(Combine.rd a V O B c).ArrAt_in w hw] at h; exact h
  iintro ⟨⟨%G0, %h0, H0⟩, ⟨%G1, %h1, H1⟩, ⟨%G2, %h2, H2⟩, ⟨%G3, %h3, H3⟩⟩
  obtain rfl := hin 0 rfl _ h0
  obtain rfl := hin 1 rfl _ h1
  obtain rfl := hin 2 rfl _ h2
  isplitl [H0]; · iexact H0
  isplitl [H1]; · iexact H1
  isplitl [H2]; · iexact H2
  iexists G3
  isplitr; · ipureintro; exact fun t => Combine.out_block a V O B c G3 h3 t
  iexact H3

end Cert.Proof.Moe
-- ==== Proof.StepsTC.lean ====
/-
  The pipelined calls as steps of @main.
-/
module

public import proofs.«01_k».proof.Proof.Steps

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe
open Idealize.ShloMosaic.ShareLeaves
open Idealize.ShloMosaic.StableHlo (held)

variable (v : Vals F) (κ : GSem nD τ sig → ℕ) (d : Dev nD)
variable (a : (p : Fin 2) → (pcfgs (F := F) p).Adm)

def Vof (W : Valuation τ sig (Elt F)) : (c : Dev nD) → (b : Ref sig .tc) → Buf (Elt F) ((c : Thread nD τ).loc b) := fun _ b => W (rr b)

/-- The set of recorded pairs within which the pipelined call leaves what its core owes. -/
theorem bound_lev {p : Fin 2} (n : ℕ) (q : SemLoc sig × HIx 2) (hq : q ∈ Bw (F := F) n d ∪ (Pipeline.pin (pcfgs (F := F)) a p).waitPairs none) :
    (K (F := F)).lev (SparseCore.T d, q.1) q.2 ≤ 8 * SparseCore.Cfg.Blocks.fst (Q := 2) (N := 2) n := by
  rcases hq with h | ⟨w, s, rfl⟩
  · exact h
  · exact Nat.zero_le _

abbrev callP (p : Fin 2) : Prog (TpuEff nD τ sig (Elt F) (ΛP (F := F)) .tc) PUnit := .op (.customCall (Pipeline.entry p) ()) fun _ => .ret ⟨⟩

theorem lift_callP (p : Fin 2) : SparseCore.liftProg (Q := 2) (callP (F := F) p) = Prog.lift (.customCall (SparseCore.inner (Pipeline.entry p)) ()) := rfl

theorem lift_call0 (p : Fin 2) {Φ : PUnit → sProp 𝕄} :
    wp frame (wpE (D (F := F)) 𝒱 (SparseCore.T d) none) Set.univ (callP p) Φ
      ⊢ wp frame (wpE ((K (F := F)).defs (D (F := F))) 𝒱 (SparseCore.T d) none) Set.univ (SparseCore.liftProg (callP p)) Φ :=
  (K (F := F)).wp_liftProg (D (F := F)) 𝒱 (SparseCore.T d) Set.univ none (callP p) Φ

theorem lift_call (p : Fin 2) {Φ : PUnit → sProp 𝕄} :
    wp frame (wpE (D (F := F)) 𝒱 (SparseCore.T d) none) Set.univ (callP p) Φ
      ⊢ wp frame (wpE ((K (F := F)).defs (D (F := F))) 𝒱 (SparseCore.T d) none) Set.univ (Prog.lift (.customCall (SparseCore.inner (Pipeline.entry p)) ())) Φ := by
  rw [← lift_callP]; exact lift_call0 d p

theorem FFN.held_eq (W : Valuation τ sig (Elt F)) : (held (SparseCore.T d) U1 W : sProp 𝕄)
      = iprop((((SparseCore.T d).loc main_v4) ↦{fullShare} W (rr main_v4)) ∗ (((SparseCore.T d).loc main_v5) ↦{fullShare} W (rr main_v5))
          ∗ (((SparseCore.T d).loc main_v7) ↦{fullShare} W (rr main_v7)) ∗ (((SparseCore.T d).loc main_v6) ↦{fullShare} W (rr main_v6))
          ∗ (((SparseCore.T d).loc main_v8) ↦{fullShare} W (rr main_v8)) ∗ (((SparseCore.T d).loc main_v9) ↦{fullShare} W (rr main_v9))
          ∗ (((SparseCore.T d).loc main_v10) ↦{fullShare} W (rr main_v10)) ∗ held (SparseCore.T d) U1f W) := by
    rw [held_take (show rr main_v4 ∈ U1 by decide) W, held_take (show rr main_v5 ∈ U1.erase (rr main_v4) by decide) W,
      held_take (show rr main_v7 ∈ (U1.erase (rr main_v4)).erase (rr main_v5) by decide) W,
      held_take (show rr main_v6 ∈ ((U1.erase (rr main_v4)).erase (rr main_v5)).erase (rr main_v7) by decide) W,
      held_take (show rr main_v8 ∈ (((U1.erase (rr main_v4)).erase (rr main_v5)).erase (rr main_v7)).erase (rr main_v6) by decide) W,
      held_take (show rr main_v9 ∈ ((((U1.erase (rr main_v4)).erase (rr main_v5)).erase (rr main_v7)).erase (rr main_v6)).erase (rr main_v8) by decide) W,
      held_take (show rr main_v10 ∈ (((((U1.erase (rr main_v4)).erase (rr main_v5)).erase (rr main_v7)).erase (rr main_v6)).erase (rr main_v8)).erase (rr main_v9) by decide) W]
    rfl

set_option maxHeartbeats 400000 in
theorem FFN.region_wp (W : Valuation τ sig (Elt F)) (n : ℕ) {Φ : PUnit → sProp 𝕄} :
    iprop((iprop(boundary (SparseCore.T d) ∗ (FFN.rd a (Vof W) (Ow (F := F) n) (Bw (F := F) n) d).arraysAt grid1.N ∗ Pipeline.prefHeld pre1 d (fun _ => fullShare) (a 0).1 ∗ (FFN.rd a (Vof W) (Ow (F := F) n) (Bw (F := F) n) d).owesAt none (Fin.last _)) -∗ Φ ⟨⟩)
        ∗ boundary (SparseCore.T d) ∗ ((FFN.rd a (Vof W) (Ow (F := F) n) (Bw (F := F) n) d).arrays (FFN.A a (Vof W) d) ∗ Pipeline.prefHeld pre1 d (fun _ => fullShare) (a 0).1 ∗ (FFN.rd a (Vof W) (Ow (F := F) n) (Bw (F := F) n) d).owesAt none 0) ∗ levAts (K (F := F)).L (K (F := F)).lev
        ∗ Pipeline.cellsGhost (Pipeline.pin (pcfgs (F := F)) a) EP 0 d ∗ Pipeline.toksInit (Pipeline.pin (pcfgs (F := F)) a) EP 0 d)
      ⊢ wp frame (wpE ((K (F := F)).defs (D (F := F))) 𝒱 (SparseCore.T d) none) Set.univ (Prog.lift (.customCall (SparseCore.inner (Pipeline.entry 0)) ())) Φ := by
  refine BIBase.Entails.trans ?_ (lift_call d 0)
  have h := Pipeline.RDat.RegionSeg.wp (pcfgs (F := F)) a (fam a (Vof W) (Ow (F := F) n) (Bw (F := F) n)) none (cellOf_inj a) EP defs₀ 𝒱₀ (K (F := F)).L (K (F := F)).lev
    (FFN.reg a (Vof W) (Ow (F := F) n) (Bw (F := F) n) fun c g => Otc_none (F := F) c n g) d none (fun u hu => nomatch hu) (fun _ => .ret ⟨⟩) Φ
  rw [show (FFN.reg a (Vof W) (Ow (F := F) n) (Bw (F := F) n) fun c g => Otc_none (F := F) c n g).post d = iprop((FFN.rd a (Vof W) (Ow (F := F) n) (Bw (F := F) n) d).arraysAt grid1.N ∗ Pipeline.prefHeld pre1 d (fun _ => fullShare) (a 0).1 ∗ (FFN.rd a (Vof W) (Ow (F := F) n) (Bw (F := F) n) d).owesAt none (Fin.last _)) from rfl, show (FFN.reg a (Vof W) (Ow (F := F) n) (Bw (F := F) n) fun c g => Otc_none (F := F) c n g).pre d = iprop((FFN.rd a (Vof W) (Ow (F := F) n) (Bw (F := F) n) d).arrays (FFN.A a (Vof W) d) ∗ Pipeline.prefHeld pre1 d (fun _ => fullShare) (a 0).1 ∗ (FFN.rd a (Vof W) (Ow (F := F) n) (Bw (F := F) n) d).owesAt none 0) from rfl] at h
  refine BIBase.Entails.trans ?_ h
  refine sep_mono_left ?_
  iintro H HP
  simp only [wp_ret]
  imodintro
  iapply H
  iexact HP

set_option maxHeartbeats 400000 in
theorem ffn_step (n : ℕ) (W : Valuation τ sig (Elt F)) (h9 : (a 0).1 (0 : Fin 2) = W (rr main_v9)) (h10 : (a 0).1 (1 : Fin 2) = W (rr main_v10))
    {Φ : PUnit → sProp 𝕄} :
    iprop((K (F := F)).ctx EH (P v) κ ∗ (K (F := F)).tcSt EH d n ∗ boundary (SparseCore.T d) ∗ held (SparseCore.T d) U1 W
        ∗ Pipeline.cellsGhost (Pipeline.pin (pcfgs (F := F)) a) EP 0 d ∗ Pipeline.toksInit (Pipeline.pin (pcfgs (F := F)) a) EP 0 d
        ∗ (∀ Y, ⌜∀ t : Fin grid1.N, FFN.live a t → (((FFN.cfg a).win (5 : Fin 6)).blk t).view.read (Elt F) Y = FFN.outv a (Vof W) d t⌝
            -∗ ((K (F := F)).tcSt EH d n ∗ boundary (SparseCore.T d) ∗ held (SparseCore.T d) U1 (Function.update W (rr main_v11) Y)) -∗ Φ ⟨⟩))
      ⊢ wp frame (wpE ((K (F := F)).defs (D (F := F))) 𝒱 (SparseCore.T d) none) Set.univ (Prog.lift (.customCall (SparseCore.inner (Pipeline.entry 0)) ())) Φ := by
  rw [FFN.held_eq d W, held_take (show rr main_v11 ∈ U1f by decide) W]
  refine BIBase.Entails.trans ?_ (FFN.region_wp d a W n)
  unfold SparseCore.Cfg.tcSt
  iintro ⟨#Hctx, ⟨⟨%X, %hX, HO⟩, Hst⟩, Hb, ⟨H4, H5, H7, H6, H8, H9, H10, H11, Hr⟩, Hcg, Htk, Hk⟩
  ihave #Hlev := (SparseCore.Cfg.ctx_levAts (K := K (F := F)) (EH := EH) (P := P v) κ) $$ Hctx
  isplitl [Hr Hst Hk]
  · iintro ⟨Hb, Hpost⟩
    icases Hpost with ⟨Ha, Hp, HO⟩
    ihave Ha := (FFN.arraysAt_elim a (Vof W) (Ow (F := F) n) (Bw (F := F) n) d) $$ Ha
    icases Ha with ⟨H4, H5, H7, H6, H8, ⟨%Y, %hY, H11⟩⟩
    ihave Hp := (Entails.of_eq (FFN.prefHeld_eq d (a 0).1)) $$ Hp
    icases Hp with ⟨H9, H10⟩
    ihave HO := (show (FFN.rd a (Vof W) (Ow (F := F) n) (Bw (F := F) n) d).owesAt none (Fin.last _) ⊢ (iprop(∃ X, ⌜(K (F := F)).WBelow (SparseCore.T d) X (8 * SparseCore.Cfg.Blocks.fst (Q := 2) (N := 2) n)⌝ ∗ owes (SparseCore.T d) ((K (F := F)).Otc d n) X) : sProp 𝕄) from by
      iintro ⟨%X, %hX, HO⟩
      iexists X; isplitr; · ipureintro; exact fun p hp => bound_lev d a n p (hX hp)
      iexact HO) $$ HO
    ihave Hk := Hk $$ %Y
    ihave Hk := Hk $$ %hY
    iapply Hk
    isplitl [HO Hst]; · isplitl [HO]; · iexact HO
                        iexact Hst
    isplitl [Hb]; · iexact Hb
    rw [FFN.held_eq d (Function.update W (rr main_v11) Y), ← held_put (show rr main_v11 ∈ U1f by decide) W Y]
    rw [Function.update_of_ne (show rr main_v4 ≠ rr main_v11 by decide), Function.update_of_ne (show rr main_v5 ≠ rr main_v11 by decide),
      Function.update_of_ne (show rr main_v7 ≠ rr main_v11 by decide), Function.update_of_ne (show rr main_v6 ≠ rr main_v11 by decide),
      Function.update_of_ne (show rr main_v8 ≠ rr main_v11 by decide), Function.update_of_ne (show rr main_v9 ≠ rr main_v11 by decide),
      Function.update_of_ne (show rr main_v10 ≠ rr main_v11 by decide), ← h9, ← h10]
    isplitl [H4]; · iexact H4
    isplitl [H5]; · iexact H5
    isplitl [H7]; · iexact H7
    isplitl [H6]; · iexact H6
    isplitl [H8]; · iexact H8
    isplitl [H9]; · iexact H9
    isplitl [H10]; · iexact H10
    isplitl [H11]; · iexact H11
    iexact Hr
  isplitl [Hb]; · iexact Hb
  isplitl [HO H4 H5 H7 H6 H8 H9 H10 H11]
  · rw [FFN.arrays_eq, FFN.prefHeld_eq, h9, h10]
    isplitl [H4 H5 H7 H6 H8 H11]
    · isplitl [H4]; · iexact H4
      isplitl [H5]; · iexact H5
      isplitl [H7]; · iexact H7
      isplitl [H6]; · iexact H6
      isplitl [H8]; · iexact H8
      iexact H11
    isplitl [H9 H10]
    · isplitl [H9]; · iexact H9
      iexact H10
    iexists X; isplitr; · ipureintro; exact fun p hp => Or.inl (hX p hp)
    iexact HO
  isplitr; · iexact Hlev
  isplitl [Hcg]; · iexact Hcg
  iexact Htk

theorem Combine.held_eq (W : Valuation τ sig (Elt F)) : (held (SparseCore.T d) U2 W : sProp 𝕄)
      = iprop((((SparseCore.T d).loc main_v14) ↦{fullShare} W (rr main_v14)) ∗ (((SparseCore.T d).loc main_arg1) ↦{fullShare} W (rr main_arg1))
          ∗ held (SparseCore.T d) U2f W) := by
    rw [held_take (show rr main_v14 ∈ U2 by decide) W, held_take (show rr main_arg1 ∈ U2.erase (rr main_v14) by decide) W]
    rfl

set_option maxHeartbeats 400000 in
theorem Combine.region_wp (W : Valuation τ sig (Elt F)) (n : ℕ) {Φ : PUnit → sProp 𝕄} :
    iprop((iprop(boundary (SparseCore.T d) ∗ (Combine.rd a (Vof W) (Ow (F := F) n) (Bw (F := F) n) d).arraysAt grid3.N ∗ (Combine.rd a (Vof W) (Ow (F := F) n) (Bw (F := F) n) d).owesAt none (Fin.last _)) -∗ Φ ⟨⟩)
        ∗ boundary (SparseCore.T d) ∗ ((Combine.rd a (Vof W) (Ow (F := F) n) (Bw (F := F) n) d).arrays (Combine.A a (Vof W) d) ∗ (Combine.rd a (Vof W) (Ow (F := F) n) (Bw (F := F) n) d).owesAt none 0) ∗ levAts (K (F := F)).L (K (F := F)).lev
        ∗ Pipeline.cellsGhost (Pipeline.pin (pcfgs (F := F)) a) EP 1 d ∗ Pipeline.toksInit (Pipeline.pin (pcfgs (F := F)) a) EP 1 d)
      ⊢ wp frame (wpE ((K (F := F)).defs (D (F := F))) 𝒱 (SparseCore.T d) none) Set.univ (Prog.lift (.customCall (SparseCore.inner (Pipeline.entry 1)) ())) Φ := by
  refine BIBase.Entails.trans ?_ (lift_call d 1)
  have h := Pipeline.RDat.RegionSeg.wp (pcfgs (F := F)) a (fam a (Vof W) (Ow (F := F) n) (Bw (F := F) n)) none (cellOf_inj a) EP defs₀ 𝒱₀ (K (F := F)).L (K (F := F)).lev
    (Combine.reg a (Vof W) (Ow (F := F) n) (Bw (F := F) n) fun c g => Otc_none (F := F) c n g) d none (fun u hu => nomatch hu) (fun _ => .ret ⟨⟩) Φ
  rw [show (Combine.reg a (Vof W) (Ow (F := F) n) (Bw (F := F) n) fun c g => Otc_none (F := F) c n g).post d = iprop((Combine.rd a (Vof W) (Ow (F := F) n) (Bw (F := F) n) d).arraysAt grid3.N ∗ (Combine.rd a (Vof W) (Ow (F := F) n) (Bw (F := F) n) d).owesAt none (Fin.last _)) from rfl, show (Combine.reg a (Vof W) (Ow (F := F) n) (Bw (F := F) n) fun c g => Otc_none (F := F) c n g).pre d = iprop((Combine.rd a (Vof W) (Ow (F := F) n) (Bw (F := F) n) d).arrays (Combine.A a (Vof W) d) ∗ (Combine.rd a (Vof W) (Ow (F := F) n) (Bw (F := F) n) d).owesAt none 0) from rfl] at h
  refine BIBase.Entails.trans ?_ h
  refine sep_mono_left ?_
  iintro H HP
  simp only [wp_ret]
  imodintro
  iapply H
  iexact HP

set_option maxHeartbeats 400000 in
theorem combine_step (n : ℕ) (W W' : Valuation τ sig (Elt F)) (h14 : W (rr main_v14) = W' (rr main_v14)) (h1 : W (rr main_arg1) = W' (rr main_arg1)) (h15 : W (rr main_v15) = W' (rr main_v15))
    {Φ : PUnit → sProp 𝕄} :
    iprop((K (F := F)).ctx EH (P v) κ ∗ (K (F := F)).tcSt EH d n ∗ boundary (SparseCore.T d) ∗ held (SparseCore.T d) U2 W
        ∗ Pipeline.cellsGhost (Pipeline.pin (pcfgs (F := F)) a) EP 1 d ∗ Pipeline.toksInit (Pipeline.pin (pcfgs (F := F)) a) EP 1 d
        ∗ (∀ Y, ⌜∀ t : Fin grid3.N, (((Combine.cfg a).win (3 : Fin 4)).blk t).view.read (Elt F) Y = Combine.outv a (Vof W') d t⌝
            -∗ ((K (F := F)).tcSt EH d n ∗ boundary (SparseCore.T d) ∗ held (SparseCore.T d) U2 (Function.update W (rr main_v15) Y)) -∗ Φ ⟨⟩))
      ⊢ wp frame (wpE ((K (F := F)).defs (D (F := F))) 𝒱 (SparseCore.T d) none) Set.univ (Prog.lift (.customCall (SparseCore.inner (Pipeline.entry 1)) ())) Φ := by
  rw [Combine.held_eq d W, held_take (show rr main_v15 ∈ U2f by decide) W]
  refine BIBase.Entails.trans ?_ (Combine.region_wp d a W' n)
  unfold SparseCore.Cfg.tcSt
  iintro ⟨#Hctx, ⟨⟨%X, %hX, HO⟩, Hst⟩, Hb, ⟨H14, H1, H15, Hr⟩, Hcg, Htk, Hk⟩
  ihave #Hlev := (SparseCore.Cfg.ctx_levAts (K := K (F := F)) (EH := EH) (P := P v) κ) $$ Hctx
  isplitl [Hr Hst Hk]
  · iintro ⟨Hb, Hpost⟩
    icases Hpost with ⟨Ha, HO⟩
    ihave Ha := (Combine.arraysAt_elim a (Vof W') (Ow (F := F) n) (Bw (F := F) n) d) $$ Ha
    icases Ha with ⟨H14a, H14b, H1, ⟨%Y, %hY, H15⟩⟩
    ihave HO := (show (Combine.rd a (Vof W') (Ow (F := F) n) (Bw (F := F) n) d).owesAt none (Fin.last _) ⊢ (iprop(∃ X, ⌜(K (F := F)).WBelow (SparseCore.T d) X (8 * SparseCore.Cfg.Blocks.fst (Q := 2) (N := 2) n)⌝ ∗ owes (SparseCore.T d) ((K (F := F)).Otc d n) X) : sProp 𝕄) from by
      iintro ⟨%X, %hX, HO⟩
      iexists X; isplitr; · ipureintro; exact fun p hp => bound_lev d a n p (hX hp)
      iexact HO) $$ HO
    ihave Hk := Hk $$ %Y
    ihave Hk := Hk $$ %hY
    iapply Hk
    isplitl [HO Hst]; · isplitl [HO]; · iexact HO
                        iexact Hst
    isplitl [Hb]; · iexact Hb
    rw [Combine.held_eq d (Function.update W (rr main_v15) Y), ← held_put (show rr main_v15 ∈ U2f by decide) W Y]
    rw [Function.update_of_ne (show rr main_v14 ≠ rr main_v15 by decide), Function.update_of_ne (show rr main_arg1 ≠ rr main_v15 by decide), h14, h1]
    isplitl [H14a H14b]
    · iapply (Entails.of_eq (shares2 (ℓ := (SparseCore.T d).loc main_v14) (W' (rr main_v14))).symm)
      isplitl [H14a]; · iexact H14a
      iexact H14b
    isplitl [H1]; · iexact H1
    isplitl [H15]; · iexact H15
    iexact Hr
  isplitl [Hb]; · iexact Hb
  isplitl [HO H14 H1 H15]
  · rw [Combine.arrays_eq, h14, h1, h15]
    ihave H14 := (Entails.of_eq (shares2 (ℓ := (SparseCore.T d).loc main_v14) (W' (rr main_v14)))) $$ H14
    icases H14 with ⟨H14a, H14b⟩
    isplitl [H14a H14b H1 H15]
    · isplitl [H14a]; · iexact H14a
      isplitl [H14b]; · iexact H14b
      isplitl [H1]; · iexact H1
      iexact H15
    iexists X; isplitr; · ipureintro; exact fun p hp => Or.inl (hX p hp)
    iexact HO
  isplitr; · iexact Hlev
  isplitl [Hcg]; · iexact Hcg
  iexact Htk

end Cert.Proof.Moe
-- ==== Proof.Outputs.lean ====
/-
  The outputs of the pipelined calls as whole arrays, from their blocks.
-/
module

public import proofs.«01_k».proof.Proof.Blocks
public import proofs.«01_k».proof.Proof.SC
public import proofs.«01_k».proof.Proof.StepsTC
public import Idealize.ShloMosaic.Lib.Pipeline.Value

@[expose] public section

noncomputable section

namespace Cert.Proof.Moe

open Cert.KernelIdeal Cert.KernelIdeal.Gen

open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe
open Idealize.ShloMosaic.ShareLeaves

variable (a : (p : Fin 2) → (pcfgs (F := F) p).Adm)

theorem FFN.emb5 (t : Fin grid1.N) (y : S256x1024.Idx) : (((FFN.cfg a).win (5 : Fin 6)).blk t).view.emb y
    = (fun | 0 => ⟨t.val * 256 + (y 0).val, by have h0 : t.val < 40 := t.isLt; have h1 : (y 0).val < 256 := (y 0).isLt; show _ < 10240; omega⟩ | 1 => y 1 : S10240x1024.Idx) := by
  have e : cc1_transform_5 (grid1.coords t) 0 = t.val := by revert t; decide +kernel
  have e1 : cc1_transform_5 (grid1.coords t) 1 = 0 := by revert t; decide +kernel
  funext k
  match k with
  | 0 =>
    apply Fin.ext
    refine (Pipeline.Window.rect_emb_val ((FFN.cfg a).win (5 : Fin 6)) t y (0 : Fin 2)).trans ?_
    show cc1_transform_5 (grid1.coords t) 0 * 256 + (y 0).val = t.val * 256 + (y 0).val
    rw [e]
  | 1 =>
    apply Fin.ext
    refine (Pipeline.Window.rect_emb_val ((FFN.cfg a).win (5 : Fin 6)) t y (1 : Fin 2)).trans ?_
    show cc1_transform_5 (grid1.coords t) 1 * 1024 + (y 1).val = (y 1).val
    rw [e1, Nat.zero_mul, Nat.zero_add]

theorem Combine.emb3 (t : Fin grid3.N) (y : S1024x1024.Idx) : (((Combine.cfg a).win (3 : Fin 4)).blk t).view.emb y
    = (fun | 0 => ⟨t.val * 1024 + (y 0).val, by have h0 : t.val < 4 := t.isLt; have h1 : (y 0).val < 1024 := (y 0).isLt; show _ < 4096; omega⟩ | 1 => y 1 : S4096x1024.Idx) := by
  have e : cc3_transform_3 (grid3.coords t) 0 = t.val := by revert t; decide +kernel
  have e1 : cc3_transform_3 (grid3.coords t) 1 = 0 := by revert t; decide +kernel
  funext k
  match k with
  | 0 =>
    apply Fin.ext
    refine (Pipeline.Window.rect_emb_val ((Combine.cfg a).win (3 : Fin 4)) t y (0 : Fin 2)).trans ?_
    show cc3_transform_3 (grid3.coords t) 0 * 1024 + (y 0).val = t.val * 1024 + (y 0).val
    rw [e]
  | 1 =>
    apply Fin.ext
    refine (Pipeline.Window.rect_emb_val ((Combine.cfg a).win (3 : Fin 4)) t y (1 : Fin 2)).trans ?_
    show cc3_transform_3 (grid3.coords t) 1 * 1024 + (y 1).val = (y 1).val
    rw [e1, Nat.zero_mul, Nat.zero_add]

/-! ## The whole outputs from their blocks -/

abbrev ix10240 (r : ℕ) (hr : r < 10240) (j : Fin 1024) : S10240x1024.Idx := fun | 0 => ⟨r, hr⟩ | 1 => j
abbrev ix256 (r : ℕ) (j : Fin 1024) : S256x1024.Idx := fun | 0 => ⟨r % 256, Nat.mod_lt _ (by norm_num)⟩ | 1 => j
abbrev ix1024 (r : ℕ) (j : Fin 1024) : S1024x1024.Idx := fun | 0 => ⟨r % 1024, Nat.mod_lt _ (by norm_num)⟩ | 1 => j
/-- The block a row lies in. -/
abbrev blkOf (r : ℕ) (hr : r < 10240) : Fin grid1.N := ⟨r / 256, by show _ < 40; omega⟩
abbrev blkOf3 (r : ℕ) (hr : r < 4096) : Fin grid3.N := ⟨r / 1024, by show _ < 4; omega⟩

variable (V : (c : Dev nD) → (b : Ref sig .tc) → Buf (Elt F) ((c : Thread nD τ).loc b)) (d : Dev nD)

/-- The feed-forward output where every row is computed. -/
def Ydet : S10240x1024.Idx → F .f32 := fun x => FFN.outv a V d (blkOf (x 0).val (x 0).isLt) (ix256 (x 0).val (x 1))
/-- The combine's output. -/
def Zdet : S4096x1024.Idx → F .f32 := fun x => Combine.outv a V d (blkOf3 (x 0).val (x 0).isLt) (ix1024 (x 0).val (x 1))

theorem Y_of_live (Y : S10240x1024.Idx → F .f32)
    (hY : ∀ t : Fin grid1.N, FFN.live a t → (((FFN.cfg a).win (5 : Fin 6)).blk t).view.read (Elt F) Y = FFN.outv a V d t)
    (x : S10240x1024.Idx) (hl : FFN.live a (blkOf (x 0).val (x 0).isLt)) : Y x = Ydet a V d x := by
  have h := congrFun (hY _ hl) (ix256 (x 0).val (x 1))
  rw [View.read_apply] at h
  unfold Ydet
  refine Eq.trans ?_ h
  refine congrArg Y ?_
  refine Eq.trans ?_ (FFN.emb5 a (blkOf (x 0).val (x 0).isLt) (ix256 (x 0).val (x 1))).symm
  funext k
  match k with
  | 0 => exact Fin.ext (by show (x 0).val = (x 0).val / 256 * 256 + (x 0).val % 256; omega)
  | 1 => rfl

theorem Z_eq (Z : S4096x1024.Idx → F .f32)
    (hZ : ∀ t : Fin grid3.N, (((Combine.cfg a).win (3 : Fin 4)).blk t).view.read (Elt F) Z = Combine.outv a V d t) : Z = Zdet a V d := by
  funext x
  have h := congrFun (hZ (blkOf3 (x 0).val (x 0).isLt)) (ix1024 (x 0).val (x 1))
  rw [View.read_apply] at h
  unfold Zdet
  refine Eq.trans ?_ h
  refine congrArg Z ?_
  refine Eq.trans ?_ (Combine.emb3 a (blkOf3 (x 0).val (x 0).isLt) (ix1024 (x 0).val (x 1))).symm
  funext k
  match k with
  | 0 => exact Fin.ext (by show (x 0).val = (x 0).val / 1024 * 1024 + (x 0).val % 1024; omega)
  | 1 => rfl

/-- The collected rows are the same over any output that agrees where the plan points. -/
theorem reshape_at (Y : S10240x1024.Idx → F .f32) (x : S10240x8x128.Idx) :
    shapeCast S10240x8x128 Y shapeCasts_S10240x1024_S10240x8x128 x
      = Y (ix10240 (x 0).val (x 0).isLt ⟨(x 1).val * 128 + (x 2).val, by
          have h1 : (x 1).val < 8 := (x 1).isLt
          have h2 : (x 2).val < 128 := (x 2).isLt
          omega⟩) := by
  refine shapeCast_apply Y _ x _ ?_
  rw [Shape.rowMajor_val_two, Shape.rowMajor_val_three]
  show (x 0).val * 1024 + ((x 1).val * 128 + (x 2).val) = ((x 0).val * 8 + (x 1).val) * 128 + (x 2).val
  omega

end Cert.Proof.Moe
-- ==== Proof.Plan.lean ====
/-
  What @main computes between its calls, as valuations of its buffers, and what the plan has to say about them.
-/
module

public import proofs.«01_k».proof.Proof.Blocks
public import proofs.«01_k».proof.Proof.SC
public import proofs.«01_k».proof.Proof.Outputs
public import Idealize.ShloMosaic.Lib.StableHlo.RunRead

@[expose] public section

noncomputable section

namespace Cert.Proof.Moe

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe
open Idealize.ShloMosaic.ShareLeaves

/-! ## The host operations between the calls -/

def ops1 : List (HloOp τ sig (Elt F)) :=
  [StableHlo.reshape main_arg0 main_v0 (rfl : (.f32 : EltTy) = .f32) shapeCasts_S2x2048x1024_S4096x1024,
   StableHlo.unary main_arg3 main_v1 ((transpose S2x4096 [1, 0] · transposes_S4096x2_S2x4096_1_0) : (⟨S4096x2, .i32⟩ : BufTy).Contents (Elt F) → (⟨S2x4096, .i32⟩ : BufTy).Contents (Elt F)),
   StableHlo.reshape main_v0 main_v2 (rfl : (.f32 : EltTy) = .f32) shapeCasts_S4096x1024_S4096x8x128]
def ops2 : List (HloOp τ sig (Elt F)) :=
  [StableHlo.reshape main_v3 main_v4 (rfl : (.f32 : EltTy) = .f32) shapeCasts_S10240x8x128_S10240x1024,
   StableHlo.unary main_arg6 main_v5 ((truncf .bf16 · bitsLt_bf16_f32) : (⟨S8x4096x1024, .f32⟩ : BufTy).Contents (Elt F) → (⟨S8x4096x1024, .bf16⟩ : BufTy).Contents (Elt F)),
   StableHlo.unary main_arg8 main_v6 ((truncf .bf16 · bitsLt_bf16_f32) : (⟨S8x1024x4096, .f32⟩ : BufTy).Contents (Elt F) → (⟨S8x1024x4096, .bf16⟩ : BufTy).Contents (Elt F)),
   StableHlo.reshape main_arg7 main_v7 (rfl : (.f32 : EltTy) = .f32) shapeCasts_S8x4096_S8x1x4096,
   StableHlo.reshape main_arg9 main_v8 (rfl : (.f32 : EltTy) = .f32) shapeCasts_S8x1024_S8x1x1024,
   StableHlo.reshape main_arg4 main_v9 (rfl : (.i32 : EltTy) = .i32) shapeCasts_S1x40_S40,
   StableHlo.reshape main_arg5 main_v10 (rfl : (.i32 : EltTy) = .i32) shapeCasts_S1x1_S1]
def ops3 : List (HloOp τ sig (Elt F)) :=
  [StableHlo.reshape main_v11 main_v12 (rfl : (.f32 : EltTy) = .f32) shapeCasts_S10240x1024_S10240x8x128]
def ops4 : List (HloOp τ sig (Elt F)) :=
  [StableHlo.reshape main_v13 main_v14 (rfl : (.f32 : EltTy) = .f32) shapeCasts_S8192x8x128_S8192x1024]
def ops5 : List (HloOp τ sig (Elt F)) :=
  [StableHlo.reshape main_v15 main_v16 (rfl : (.f32 : EltTy) = .f32) shapeCasts_S4096x1024_S2x2048x1024]

abbrev callP' (p : Fin 2) : Prog (TpuEff nD τ sig (Elt F) (SparseCore.Sig (ΛP (F := F)) 2) .tc) PUnit :=
  Prog.lift (.customCall (SparseCore.inner (Pipeline.entry p)) ())

theorem main_eq (d : Dev nD) : main (F := F) d = (StableHlo.seq ops1 >>= fun _ => (K (F := F)).run d 0 >>= fun _ => StableHlo.seq ops2 >>= fun _ => callP' 0 >>= fun _ =>
    StableHlo.seq ops3 >>= fun _ => (K (F := F)).run d 1 >>= fun _ => StableHlo.seq ops4 >>= fun _ => callP' 1 >>= fun _ => StableHlo.seq ops5 >>= fun _ => pure ⟨⟩) := by
  simp only [StableHlo.seq_bind_seqK]
  rfl

/-! ## The plan -/

/-- What the plan's arrays satisfy: every copy of a token has its own row, every block its expert, every used block comes before the end. -/
structure PlanOK (tidx pos : S4096x2.Idx → BitVec 32) (be : S1x40.Idx → BitVec 32) (nu : S1x1.Idx → BitVec 32) : Prop where
  lt : ∀ x, (pos x).toNat < 10240
  ne : ∀ x x', (pos x).toNat = (pos x').toNat → x = x'
  be8 : ∀ j, (be j).toNat < 8
  right : ∀ x (j : S1x40.Idx), (j 1).val = (pos x).toNat / 256 → be j = tidx x
  live : ∀ x (n : S1x1.Idx), (BitVec.ofNat 32 ((pos x).toNat / 256)).slt (nu n) = true
  dist : ∀ x x' : S4096x2.Idx, (x 0).val = (x' 0).val → (x 1).val ≠ (x' 1).val → tidx x ≠ tidx x'

variable (m : (ℓ : Loc nD τ sig) → Buf (Elt F) ℓ)

abbrev d0 : Dev nD := 0
def Vm : Valuation τ sig (Elt F) := fun b => m (d0, b)

def tidxOf : S4096x2.Idx → BitVec 32 := m (d0, rr main_arg2)
def posOf : S4096x2.Idx → BitVec 32 := m (d0, rr main_arg3)
def beOf : S1x40.Idx → BitVec 32 := m (d0, rr main_arg4)
def nuOf : S1x1.Idx → BitVec 32 := m (d0, rr main_arg5)

def POK : Prop := PlanOK (tidxOf m) (posOf m) (beOf m) (nuOf m)

def V1 : Valuation τ sig (Elt F) := StableHlo.after ops1 (Vm m)
abbrev xv : S4096x8x128.Idx → F .f32 := V1 m (rr main_v2)
abbrev pv : S2x4096.Idx → BitVec 32 := V1 m (rr main_v1)
abbrev f0 : S10240x8x128.Idx → F .f32 := V1 m (rr main_v3)
def V2 : Valuation τ sig (Elt F) := Function.update (V1 m) (rr main_v3) (Dispatch.dispatched (xv m) (pv m) (f0 m))
def V3 : Valuation τ sig (Elt F) := StableHlo.after ops2 (V2 m)
def V4 (Y : S10240x1024.Idx → F .f32) : Valuation τ sig (Elt F) := Function.update (V3 m) (rr main_v11) Y
def V5 (Y : S10240x1024.Idx → F .f32) : Valuation τ sig (Elt F) := StableHlo.after ops3 (V4 m Y)

/-- The block tables. -/
def pf : pre1.Contents (Elt F) := fun
  | (0 : Fin 2) => V3 m (rr main_v9)
  | (1 : Fin 2) => V3 m (rr main_v10)

theorem V1_v1 : V1 m (rr main_v1) = transpose S2x4096 [1, 0] (posOf m) transposes_S4096x2_S2x4096_1_0 := by
  show StableHlo.after ops1 (Vm m) (Proc.devRef .tc _) = _
  after_reads_simp
  rfl
theorem V3_v9 : V3 m (rr main_v9) = shapeCast S40 (beOf m) shapeCasts_S1x40_S40 := by
  show StableHlo.after ops2 (V2 m) (Proc.devRef .tc _) = _
  after_reads_simp
  rfl
theorem V3_v10 : V3 m (rr main_v10) = shapeCast S1 (nuOf m) shapeCasts_S1x1_S1 := by
  show StableHlo.after ops2 (V2 m) (Proc.devRef .tc _) = _
  after_reads_simp
  rfl
theorem V5_v12 (Y) : V5 m Y (rr main_v12) = shapeCast S10240x8x128 Y shapeCasts_S10240x1024_S10240x8x128 := by
  show StableHlo.after ops3 (V4 m Y) (Proc.devRef .tc main_v12) = _
  after_reads_simp
  rfl
theorem V5_v13 (Y) : V5 m Y (rr main_v13) = m (d0, rr main_v13) := by
  show StableHlo.after ops3 (V4 m Y) (Proc.devRef .tc main_v13) = _
  after_reads_simp
  rfl

end Cert.Proof.Moe
-- ==== Proof.Pre.lean ====
/-
  What the precondition says: its computation, all ones, gives the plan's properties.
-/
module

public import proofs.«01_k».proof.Pre_plan_ok
public import proofs.«01_k».proof.Proof.Plan
public import Idealize.ShloMosaic.Lib.ReduceAll
public import Idealize.ShloMosaic.Lib.PointwiseCore
public import Idealize.ShloMosaic.Lib.Pointwise.Reshape

@[expose] public section

noncomputable section

namespace Cert.Pre_plan_ok

open Idealize.ShloMosaic

instance facts : Facts where
  shapeCasts_S4096x2_S8192 := by decide
  bcast_S8192_S8192x1_0 := by decide
  bcast_S8192_S1x8192_1 := by decide
  bcast_S8192x1_S8192x8192_0_1 := by decide
  bcast_S1x8192_S8192x8192_0_1 := by decide
  bcast_S40_S1x40_1 := by decide
  bcast_S_S1x40 := by decide
  bcast_S1x40_S8192x40_0_1 := by decide
  bcast_S8192x1_S8192x40_0_1 := by decide
  bcast_S1x1_S1x40_0_1 := by decide
  bcast_S_S8192 := by decide
  reducesTo_S8192_S_d0 := by decide
  h_S_ := by decide
  reducesTo_S8192x8192_S_d0_1 := by decide
  reducesTo_S1x40_S_d0_1 := by decide
  slices_S4096x2_S4096x1_0_0 := by decide
  shapeCasts_S4096x1_S4096 := by decide
  slices_S4096x2_S4096x1_0_1 := by decide
  reducesTo_S4096_S_d0 := by decide
  bcast_S_S8192x40 := by decide
  reducesTo_S8192x40_S_d0_1 := by decide

variable {F : FTy → Type} [FloatOps F]

theorem inside_one (v : BitVec 32) (b : ℕ) (hb : b < 40) (h0 : (0#32).toInt ≤ v.toInt) (lo : 256 * b ≤ v.toNat) (hi : v.toNat < 256 * b + 256) :
    IntOp.andi (IntOp.cmpi CmpIPredicate.sle (IntOp.muli (BitVec.ofNat 32 b) 256#32) v)
      (IntOp.cmpi CmpIPredicate.slt v (IntOp.addi (IntOp.muli (BitVec.ofNat 32 b) 256#32) 256#32)) = 1#1 := by
  have e : (BitVec.ofNat 32 b * 256#32).toNat = 256 * b := by
    rw [BitVec.toNat_mul, BitVec.toNat_ofNat, BitVec.toNat_ofNat]; omega
  have e2 : (BitVec.ofNat 32 b * 256#32 + 256#32).toNat = 256 * b + 256 := by
    rw [BitVec.toNat_add, e, BitVec.toNat_ofNat]; omega
  rw [IntOp.andi_eq_one, IntOp.cmpi_sle, IntOp.cmpi_slt]
  show (BitVec.ofNat 32 b * 256#32).toInt ≤ v.toInt ∧ v.toInt < (BitVec.ofNat 32 b * 256#32 + 256#32).toInt
  rw [BitVec.toInt_eq_toNat_cond, BitVec.toInt_eq_toNat_cond v, BitVec.toInt_eq_toNat_cond, e, e2]
  omega

/-- The five tests, each a reduction that is one. -/
theorem tests (a0 : FVec F S2x2048x1024 .f32) (a1 : FVec F S4096x2 .f32) (a2 a3 : IVec S4096x2 32) (a4 : IVec S1x40 32) (a5 : IVec S1x1 32)
    (a6 : FVec F S8x4096x1024 .f32) (a7 : FVec F S8x4096 .f32) (a8 : FVec F S8x1024x4096 .f32) (a9 : FVec F S8x1024 .f32) (j : S_.Idx)
    (h : fn (F := F) a0 a1 a2 a3 a4 a5 a6 a7 a8 a9 j = 1#1) :
    (∀ r : Fin 8192, 0 ≤ (shapeCast S8192 a3 facts.shapeCasts_S4096x2_S8192 (ix1 r)).toInt ∧ (shapeCast S8192 a3 facts.shapeCasts_S4096x2_S8192 (ix1 r)).toInt < 10240)
    ∧ (∀ r r' : Fin 8192, IntOp.cmpi .eq (shapeCast S8192 a3 facts.shapeCasts_S4096x2_S8192 (ix1 r)) (shapeCast S8192 a3 facts.shapeCasts_S4096x2_S8192 (ix1 r')) = IntOp.cmpi .eq (BitVec.ofNat 32 r.val) (BitVec.ofNat 32 r'.val))
    ∧ (∀ b : Fin 40, 0 ≤ (a4 (ix2 0 b)).toInt ∧ (a4 (ix2 0 b)).toInt < 8)
    ∧ (∀ t : Fin 4096, a2 (ix2 t 0) ≠ a2 (ix2 t 1))
    ∧ (∀ (r : Fin 8192) (b : Fin 40), 256 * b.val ≤ (shapeCast S8192 a3 facts.shapeCasts_S4096x2_S8192 (ix1 r)).toNat → (shapeCast S8192 a3 facts.shapeCasts_S4096x2_S8192 (ix1 r)).toNat < 256 * b.val + 256 →
        a4 (ix2 0 b) = shapeCast S8192 a2 facts.shapeCasts_S4096x2_S8192 (ix1 r) ∧ (BitVec.ofNat 32 b.val).slt (a5 (ix2 0 0)) = true) := by
  dsimp only [fn, fn_part1, fn_part2, fn_part3, fn_where] at h
  simp only [andi, IntOp.andi_eq_one] at h
  obtain ⟨⟨⟨⟨h1, h2⟩, h3⟩, h4⟩, h5⟩ := h
  have h1 := Host.reduce_andi_all _ _ _ _ _ h1
  have h2 := Host.reduce_andi_all _ _ _ _ _ h2
  have h3 := Host.reduce_andi_all _ _ _ _ _ h3
  have h4 := Host.reduce_andi_all _ _ _ _ _ h4
  have h5 := Host.reduce_andi_all _ _ _ _ _ h5
  generalize hp : shapeCast S8192 a3 facts.shapeCasts_S4096x2_S8192 = p at *
  generalize ht : shapeCast S8192 a2 facts.shapeCasts_S4096x2_S8192 = tt at *
  refine ⟨fun r => ?_, fun r r' => ?_, fun b => ?_, fun t => ?_, fun r b hb hb' => ?_⟩
  · have e := h1 (ix1 r)
    pointwise at e
    rw [IntOp.andi_eq_one, IntOp.cmpi_sge, IntOp.cmpi_slt] at e
    exact e
  · have e := h2 (ix2 r r')
    pointwise at e
    rw [IntOp.cmpi_eq] at e
    exact e
  · have e := h3 (ix2 0 b)
    pointwise at e
    rw [IntOp.andi_eq_one, IntOp.cmpi_sge, IntOp.cmpi_slt] at e
    exact e
  · have e := h4 (ix1 t)
    pointwise at e
    rw [IntOp.cmpi_ne] at e
    exact e
  · have e := h5 (ix2 r b)
    pointwise at e
    have e1 := h1 (ix1 r)
    pointwise at e1
    rw [IntOp.andi_eq_one, IntOp.cmpi_sge, IntOp.cmpi_slt] at e1
    rw [inside_one (p (ix1 r)) b.val b.isLt e1.1 hb hb'] at e
    have e' : IntOp.andi (IntOp.cmpi CmpIPredicate.eq (a4 (ix2 0 b)) (tt (ix1 r))) (IntOp.cmpi CmpIPredicate.slt (BitVec.ofNat 32 b.val) (a5 (ix2 0 0))) = 1#1 := e
    rw [IntOp.andi_eq_one, IntOp.cmpi_eq, IntOp.cmpi_slt] at e'
    exact ⟨e'.1, BitVec.slt_iff_toInt_lt.2 e'.2⟩

abbrev flatIx (x : S4096x2.Idx) : Fin 8192 := ⟨2 * (x 0).val + (x 1).val, by
  have h0 : (x 0).val < 4096 := (x 0).isLt
  have h1 : (x 1).val < 2 := (x 1).isLt
  omega⟩

theorem flat_at (a : S4096x2.Idx → BitVec 32) (x : S4096x2.Idx) : shapeCast S8192 a facts.shapeCasts_S4096x2_S8192 (ix1 (flatIx x)) = a x := by
  refine shapeCast_apply _ _ _ _ ?_
  rw [Shape.rowMajor_val_two, Shape.rowMajor_val_one]
  show (x 0).val * 2 + (x 1).val = 2 * (x 0).val + (x 1).val
  omega

theorem nat_of_int (v : BitVec 32) (n : ℕ) (h0 : 0 ≤ v.toInt) (h : v.toInt < n) : v.toNat < n := by
  rw [BitVec.toInt_eq_toNat_cond] at h0 h
  omega

theorem plan (a0 : FVec F S2x2048x1024 .f32) (a1 : FVec F S4096x2 .f32) (a2 a3 : IVec S4096x2 32) (a4 : IVec S1x40 32) (a5 : IVec S1x1 32)
    (a6 : FVec F S8x4096x1024 .f32) (a7 : FVec F S8x4096 .f32) (a8 : FVec F S8x1024x4096 .f32) (a9 : FVec F S8x1024 .f32)
    (h : fn (F := F) a0 a1 a2 a3 a4 a5 a6 a7 a8 a9 = fun _ => 1#1) : Cert.Proof.Moe.PlanOK a2 a3 a4 a5 := by
  obtain ⟨h1, h2, h3, h4, h5⟩ := tests a0 a1 a2 a3 a4 a5 a6 a7 a8 a9 (fun k => k.elim0) (congrFun h _)
  have lt : ∀ x, (a3 x).toNat < 10240 := fun x => by
    have e := h1 (flatIx x)
    rw [flat_at] at e
    exact nat_of_int _ _ e.1 e.2
  have both : ∀ x (b : Fin 40), b.val = (a3 x).toNat / 256 → a4 (ix2 0 b) = a2 x ∧ (BitVec.ofNat 32 b.val).slt (a5 (ix2 0 0)) = true := fun x b hb => by
    have e := h5 (flatIx x) b
    rw [flat_at, flat_at] at e
    exact e (by omega) (by omega)
  refine ⟨lt, fun x x' e => ?_, fun j => ?_, fun x j hj => ?_, fun x n => ?_, fun x x' e0 e1 => ?_⟩
  · have e' := h2 (flatIx x) (flatIx x')
    rw [flat_at, flat_at, BitVec.eq_of_toNat_eq e, IntOp.cmpi_eq.2 rfl] at e'
    have e3 := congrArg BitVec.toNat (IntOp.cmpi_eq.1 e'.symm)
    have l0 : (x 0).val < 4096 := (x 0).isLt
    have l1 : (x 1).val < 2 := (x 1).isLt
    have l0' : (x' 0).val < 4096 := (x' 0).isLt
    have l1' : (x' 1).val < 2 := (x' 1).isLt
    rw [BitVec.toNat_ofNat, BitVec.toNat_ofNat] at e3
    have e4 : (2 * (x 0).val + (x 1).val) % 2 ^ 32 = (2 * (x' 0).val + (x' 1).val) % 2 ^ 32 := e3
    funext k
    match k with
    | 0 => exact Fin.ext (by omega)
    | 1 => exact Fin.ext (by omega)
  · have e := h3 (j 1)
    have ej : j = ix2 0 (j 1) := by
      funext k
      match k with
      | 0 => exact Fin.ext (by have : (j 0).val < 1 := (j 0).isLt; show (j 0).val = 0; omega)
      | 1 => rfl
    rw [ej]
    exact nat_of_int _ _ e.1 e.2
  · have ej : j = ix2 0 (j 1) := by
      funext k
      match k with
      | 0 => exact Fin.ext (by have : (j 0).val < 1 := (j 0).isLt; show (j 0).val = 0; omega)
      | 1 => rfl
    rw [ej]
    exact (both x (j 1) hj).1
  · have en : n = ix2 0 0 := by
      funext k
      match k with
      | 0 => exact Fin.ext (by have : (n 0).val < 1 := (n 0).isLt; show (n 0).val = 0; omega)
      | 1 => exact Fin.ext (by have : (n 1).val < 1 := (n 1).isLt; show (n 1).val = 0; omega)
    rw [en]
    have hlt := lt x
    exact (both x ⟨(a3 x).toNat / 256, by omega⟩ rfl).2
  · have e := h4 (x 0)
    have l1 : (x 1).val < 2 := (x 1).isLt
    have l1' : (x' 1).val < 2 := (x' 1).isLt
    have hx : ∀ y : S4096x2.Idx, (y 0).val = (x 0).val → (y 1).val = 0 → y = ix2 (x 0) 0 := fun y h h' => by
      funext k
      match k with
      | 0 => exact Fin.ext h
      | 1 => exact Fin.ext h'
    have hx' : ∀ y : S4096x2.Idx, (y 0).val = (x 0).val → (y 1).val = 1 → y = ix2 (x 0) 1 := fun y h h' => by
      funext k
      match k with
      | 0 => exact Fin.ext h
      | 1 => exact Fin.ext h'
    rcases (by omega : (x 1).val = 0 ∧ (x' 1).val = 1 ∨ (x 1).val = 1 ∧ (x' 1).val = 0) with ⟨a, b⟩ | ⟨a, b⟩
    · rw [hx x rfl a, hx' x' e0.symm b]; exact e
    · rw [hx' x rfl a, hx x' e0.symm b]; exact e.symm

end Cert.Pre_plan_ok
-- ==== Proof.Values.lean ====
/-
  The values the program leaves, under the plan.
-/
module

public import proofs.«01_k».proof.Proof.Blocks
public import proofs.«01_k».proof.Proof.SC
public import proofs.«01_k».proof.Proof.Plan

@[expose] public section

noncomputable section

namespace Cert.Proof.Moe

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.TcCoe
open Idealize.ShloMosaic.ShareLeaves

variable (m : (ℓ : Loc nD τ sig) → Buf (Elt F) ℓ)

theorem pv_at (x : S2x4096.Idx) : pv m x = posOf m (fun | 0 => x 1 | 1 => x 0) := by
  refine (congrFun (V1_v1 m) x).trans ?_
  refine transpose_apply _ _ _ _ _ fun b => ?_
  match b with
  | 0 => rfl
  | 1 => rfl

theorem pf0_at (j : S40.Idx) : (pf m (0 : Fin 2) : S40.Idx → BitVec 32) j = beOf m (fun | 0 => ⟨0, Nat.zero_lt_one⟩ | 1 => j 0) := by
  refine (congrFun (V3_v9 m) j).trans ?_
  refine shapeCast_apply _ _ _ _ ?_
  rw [Shape.rowMajor_val_two, Shape.rowMajor_val_one]
  show 0 * 40 + (j 0).val = (j 0).val
  omega

theorem pf1_at : FFN.nuW (pf m (1 : Fin 2)) = nuOf m (fun | 0 => ⟨0, Nat.zero_lt_one⟩ | 1 => ⟨0, Nat.zero_lt_one⟩) := by
  refine (congrFun (V3_v10 m) _).trans ?_
  refine shapeCast_apply _ _ _ _ ?_
  rw [Shape.rowMajor_val_two, Shape.rowMajor_val_one]
  rfl

variable (hp : POK m)

theorem pv_lt (hp : POK m) (x : S2x4096.Idx) : (pv m x).toNat < 10240 := by rw [pv_at]; exact hp.lt _

def aa : (p : Fin 2) → (pcfgs (F := F) p).Adm := adm (pf m) (ok1_of _ fun j => by rw [pf0_at]; exact hp.be8 _)

theorem aa_0 : (aa m hp 0).1 (0 : Fin 2) = V3 m (rr main_v9) := rfl
theorem aa_1 : (aa m hp 0).1 (1 : Fin 2) = V3 m (rr main_v10) := rfl

theorem cond1_of (t : Fin grid1.N) (n : BitVec 32) (h : (BitVec.ofNat 32 t.val).slt n = true) : k1_cond1 (grid1.coords t) n = 1#1 := by
  have e : (grid1.coords t 0).val = t.val := by clear h; revert t; decide +kernel
  have e1 : Scalar.cmpi .slt (BitVec.ofNat 32 (grid1.coords t 0).val) n = 1#1 := by
    rw [e]
    show BitVec.ofBool ((BitVec.ofNat 32 t.val).slt n) = 1#1
    rw [h]; rfl
  unfold k1_cond1
  dsimp only
  rw [e1]
  decide

theorem live_of (x : S2x4096.Idx) (r : ℕ) (hr : r < 10240) (h : r = (pv m x).toNat) : FFN.live (aa m hp) (blkOf r hr) := by
  refine cond1_of _ _ ?_
  rw [show (aa m hp 0).1 (1 : Fin 2) = pf m (1 : Fin 2) from rfl, pf1_at]
  subst h
  rw [show (blkOf (pv m x).toNat hr).val = (pv m x).toNat / 256 from rfl, pv_at]
  exact hp.live _ _

/-- The feed-forward rows and the collected rows. -/
abbrev Yd : S10240x1024.Idx → F .f32 := Ydet (aa m hp) (Vof (V3 m)) d0
def rv : S8192x8x128.Idx → F .f32 := Collect.collected (shapeCast S10240x8x128 (Yd m hp) shapeCasts_S10240x1024_S10240x8x128) (pv m)

theorem rv_of (Y : S10240x1024.Idx → F .f32)
    (hY : ∀ t : Fin grid1.N, FFN.live (aa m hp) t → (((FFN.cfg (aa m hp)).win (5 : Fin 6)).blk t).view.read (Elt F) Y = FFN.outv (aa m hp) (Vof (V3 m)) d0 t) :
    Collect.collected (V5 m Y (rr main_v12)) (pv m) = rv m hp := by
  rw [V5_v12]
  funext x
  show shapeCast S10240x8x128 Y _ (Collect.yIdx (pv m) x) = shapeCast S10240x8x128 (Yd m hp) _ (Collect.yIdx (pv m) x)
  rw [reshape_at, reshape_at]
  refine Y_of_live (aa m hp) (Vof (V3 m)) d0 Y hY _ ?_
  exact live_of m hp (Collect.pIdx x) _ _ (Nat.mod_eq_of_lt (pv_lt m hp _))

def vals : Vals F := ⟨fun _ => xv m, fun _ => pv m, fun _ => f0 m, fun _ => rv m hp, fun _ => m (d0, rr main_v13)⟩

theorem vals_ok : (vals m hp).OK where
  lt := fun _ x => pv_lt m hp x
  ne := fun _ p p' h => by
    have h' : (pv m p).toNat = (pv m p').toNat := h
    rw [pv_at, pv_at] at h'
    have e := hp.ne _ _ h'
    funext k
    match k with
    | 0 => exact congrFun e 1
    | 1 => exact congrFun e 0

def V6 (Y : S10240x1024.Idx → F .f32) : Valuation τ sig (Elt F) := Function.update (V5 m Y) (rr main_v13) (rv m hp)
def V7 (Y : S10240x1024.Idx → F .f32) : Valuation τ sig (Elt F) := StableHlo.after ops4 (V6 m hp Y)
abbrev Zd : S4096x1024.Idx → F .f32 := Zdet (aa m hp) (Vof (V7 m hp (Yd m hp))) d0
def V8 (Y : S10240x1024.Idx → F .f32) (Z : S4096x1024.Idx → F .f32) : Valuation τ sig (Elt F) := Function.update (V7 m hp Y) (rr main_v15) Z
def V9 (Y : S10240x1024.Idx → F .f32) (Z : S4096x1024.Idx → F .f32) : Valuation τ sig (Elt F) := StableHlo.after ops5 (V8 m hp Y Z)

theorem V7_v14 (Y) : V7 m hp Y (rr main_v14) = shapeCast S8192x1024 (rv m hp) shapeCasts_S8192x8x128_S8192x1024 := by
  show StableHlo.after ops4 (V6 m hp Y) (Proc.devRef .tc _) = _
  after_reads_simp
  rfl

theorem V7_v15 (Y) : V7 m hp Y (rr main_v15) = m (d0, rr main_v15) := by
  show StableHlo.after ops4 (V6 m hp Y) (Proc.devRef .tc _) = _
  after_reads_simp
  rfl
theorem V9_v16 (Y Z) : V9 m hp Y Z (rr main_v16) = shapeCast S2x2048x1024 Z shapeCasts_S4096x1024_S2x2048x1024 := by
  show StableHlo.after ops5 (V8 m hp Y Z) (Proc.devRef .tc _) = _
  after_reads_simp
  rfl
theorem V7_arg1 (Y) : V7 m hp Y (rr main_arg1) = m (d0, rr main_arg1) := by
  show StableHlo.after ops4 (V6 m hp Y) (Proc.devRef .tc _) = _
  after_reads_simp
  rfl
theorem V9_arg0 (Y Z) : V9 m hp Y Z (rr main_arg0) = m (d0, rr main_arg0) := by
  show StableHlo.after ops5 (V8 m hp Y Z) (Proc.devRef .tc _) = _
  after_reads_simp
  rfl
theorem V9_arg1 (Y Z) : V9 m hp Y Z (rr main_arg1) = m (d0, rr main_arg1) := by
  show StableHlo.after ops5 (V8 m hp Y Z) (Proc.devRef .tc _) = _
  after_reads_simp
  rfl
theorem V9_arg2 (Y Z) : V9 m hp Y Z (rr main_arg2) = m (d0, rr main_arg2) := by
  show StableHlo.after ops5 (V8 m hp Y Z) (Proc.devRef .tc _) = _
  after_reads_simp
  rfl
theorem V9_arg3 (Y Z) : V9 m hp Y Z (rr main_arg3) = m (d0, rr main_arg3) := by
  show StableHlo.after ops5 (V8 m hp Y Z) (Proc.devRef .tc _) = _
  after_reads_simp
  rfl
theorem V9_arg4 (Y Z) : V9 m hp Y Z (rr main_arg4) = m (d0, rr main_arg4) := by
  show StableHlo.after ops5 (V8 m hp Y Z) (Proc.devRef .tc _) = _
  after_reads_simp
  rfl
theorem V9_arg5 (Y Z) : V9 m hp Y Z (rr main_arg5) = m (d0, rr main_arg5) := by
  show StableHlo.after ops5 (V8 m hp Y Z) (Proc.devRef .tc _) = _
  after_reads_simp
  rfl
theorem V9_arg6 (Y Z) : V9 m hp Y Z (rr main_arg6) = m (d0, rr main_arg6) := by
  show StableHlo.after ops5 (V8 m hp Y Z) (Proc.devRef .tc _) = _
  after_reads_simp
  rfl
theorem V9_arg7 (Y Z) : V9 m hp Y Z (rr main_arg7) = m (d0, rr main_arg7) := by
  show StableHlo.after ops5 (V8 m hp Y Z) (Proc.devRef .tc _) = _
  after_reads_simp
  rfl
theorem V9_arg8 (Y Z) : V9 m hp Y Z (rr main_arg8) = m (d0, rr main_arg8) := by
  show StableHlo.after ops5 (V8 m hp Y Z) (Proc.devRef .tc _) = _
  after_reads_simp
  rfl
theorem V9_arg9 (Y Z) : V9 m hp Y Z (rr main_arg9) = m (d0, rr main_arg9) := by
  show StableHlo.after ops5 (V8 m hp Y Z) (Proc.devRef .tc _) = _
  after_reads_simp
  rfl

end Cert.Proof.Moe
-- ==== Proof.Main.lean ====
/-
  @main on the TensorCore, under the plan.
-/
module

public import proofs.«01_k».proof.Proof.Blocks
public import proofs.«01_k».proof.Proof.SC
public import proofs.«01_k».proof.Proof.Values

@[expose] public section

noncomputable section

namespace Cert.Proof.Moe

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe
open Idealize.ShloMosaic.ShareLeaves
open Idealize.ShloMosaic.StableHlo (held)

theorem ops1_bufs : ∀ op ∈ ops1 (F := F), op.bufs ⊆ U0 := by
  intro op h
  simp only [ops1, List.mem_cons, List.not_mem_nil, or_false] at h
  rcases h with rfl|rfl|rfl
  all_goals first | (rw [StableHlo.reshape_bufs]; decide) | (rw [StableHlo.unary_bufs]; decide)
theorem ops1_fresh : ∀ op ∈ ops1 (F := F), op.fresh = ∅ := by
  intro op h
  simp only [ops1, List.mem_cons, List.not_mem_nil, or_false] at h
  rcases h with rfl|rfl|rfl
  all_goals rfl

theorem ops2_bufs : ∀ op ∈ ops2 (F := F), op.bufs ⊆ U1 := by
  intro op h
  simp only [ops2, List.mem_cons, List.not_mem_nil, or_false] at h
  rcases h with rfl|rfl|rfl|rfl|rfl|rfl|rfl
  all_goals first | (rw [StableHlo.reshape_bufs]; decide) | (rw [StableHlo.unary_bufs]; decide)
theorem ops2_fresh : ∀ op ∈ ops2 (F := F), op.fresh = ∅ := by
  intro op h
  simp only [ops2, List.mem_cons, List.not_mem_nil, or_false] at h
  rcases h with rfl|rfl|rfl|rfl|rfl|rfl|rfl
  all_goals rfl

theorem ops3_bufs : ∀ op ∈ ops3 (F := F), op.bufs ⊆ U1 := by
  intro op h
  simp only [ops3, List.mem_cons, List.not_mem_nil, or_false] at h
  rcases h with rfl
  all_goals first | (rw [StableHlo.reshape_bufs]; decide) | (rw [StableHlo.unary_bufs]; decide)
theorem ops3_fresh : ∀ op ∈ ops3 (F := F), op.fresh = ∅ := by
  intro op h
  simp only [ops3, List.mem_cons, List.not_mem_nil, or_false] at h
  rcases h with rfl
  all_goals rfl

theorem ops4_bufs : ∀ op ∈ ops4 (F := F), op.bufs ⊆ U2 := by
  intro op h
  simp only [ops4, List.mem_cons, List.not_mem_nil, or_false] at h
  rcases h with rfl
  all_goals first | (rw [StableHlo.reshape_bufs]; decide) | (rw [StableHlo.unary_bufs]; decide)
theorem ops4_fresh : ∀ op ∈ ops4 (F := F), op.fresh = ∅ := by
  intro op h
  simp only [ops4, List.mem_cons, List.not_mem_nil, or_false] at h
  rcases h with rfl
  all_goals rfl

theorem ops5_bufs : ∀ op ∈ ops5 (F := F), op.bufs ⊆ U2 := by
  intro op h
  simp only [ops5, List.mem_cons, List.not_mem_nil, or_false] at h
  rcases h with rfl
  all_goals first | (rw [StableHlo.reshape_bufs]; decide) | (rw [StableHlo.unary_bufs]; decide)
theorem ops5_fresh : ∀ op ∈ ops5 (F := F), op.fresh = ∅ := by
  intro op h
  simp only [ops5, List.mem_cons, List.not_mem_nil, or_false] at h
  rcases h with rfl
  all_goals rfl

variable (m : (ℓ : Loc nD τ sig) → Buf (Elt F) ℓ) (hp : POK m)

/-- What the program leaves in its arguments and its result. -/
def Sfin : Finset (DevRef τ sig) :=
  {rr main_arg0, rr main_arg1, rr main_arg2, rr main_arg3, rr main_arg4, rr main_arg5, rr main_arg6, rr main_arg7, rr main_arg8, rr main_arg9, rr main_v16}
def Wfin : Valuation τ sig (Elt F) := V9 m hp (Yd m hp) (Zd m hp)

def FIN (d : Dev nD) : sProp 𝕄 := held (SparseCore.T d) Sfin (Wfin m hp)

theorem FIN_of (Y : S10240x1024.Idx → F .f32) : (held (SparseCore.T d0) U2 (V9 m hp Y (Zd m hp)) : sProp 𝕄) ⊢ FIN m hp d0 := by
  rw [StableHlo.held_sub_split _ (show Sfin ⊆ U2 by decide)]
  unfold FIN
  rw [StableHlo.held_congr (V := V9 m hp Y (Zd m hp)) (V' := Wfin m hp) (S := Sfin)]
  · exact sep_elim_left
  · intro b hb
    simp only [Sfin, Finset.mem_insert, Finset.mem_singleton] at hb
    unfold Wfin
    rcases hb with rfl|rfl|rfl|rfl|rfl|rfl|rfl|rfl|rfl|rfl|rfl
    · rw [V9_arg0, V9_arg0]
    · rw [V9_arg1, V9_arg1]
    · rw [V9_arg2, V9_arg2]
    · rw [V9_arg3, V9_arg3]
    · rw [V9_arg4, V9_arg4]
    · rw [V9_arg5, V9_arg5]
    · rw [V9_arg6, V9_arg6]
    · rw [V9_arg7, V9_arg7]
    · rw [V9_arg8, V9_arg8]
    · rw [V9_arg9, V9_arg9]
    · rw [V9_v16, V9_v16]

def Gd (d : Dev nD) : sProp 𝕄 :=
  iprop((Pipeline.cellsGhost (Pipeline.pin (pcfgs (F := F)) (aa m hp)) EP 0 d ∗ Pipeline.cellsGhost (Pipeline.pin (pcfgs (F := F)) (aa m hp)) EP 1 d)
    ∗ (Pipeline.toksInit (Pipeline.pin (pcfgs (F := F)) (aa m hp)) EP 0 d ∗ Pipeline.toksInit (Pipeline.pin (pcfgs (F := F)) (aa m hp)) EP 1 d))

abbrev wpm (d : Dev nD) (p : Prog (TpuEff nD τ sig (Elt F) (SparseCore.Sig (ΛP (F := F)) 2) .tc) PUnit) (Φ : PUnit → sProp 𝕄) : sProp 𝕄 :=
  wp frame (wpE ((K (F := F)).defs (D (F := F))) 𝒱 (SparseCore.T d) none) Set.univ p Φ

/-- Host operations as a step. -/
theorem host_step (S : Finset (DevRef τ sig)) (ops : List (HloOp τ sig (Elt F))) (hS : ∀ op ∈ ops, op.bufs ⊆ S) (hf : ∀ op ∈ ops, op.fresh = ∅) (W : Valuation τ sig (Elt F))
    (k : PUnit → Prog (TpuEff nD τ sig (Elt F) (SparseCore.Sig (ΛP (F := F)) 2) .tc) PUnit) (Φ : PUnit → sProp 𝕄) :
    iprop(boundary (SparseCore.T d0) ∗ held (SparseCore.T d0) S W
      ∗ ((boundary (SparseCore.T d0) ∗ held (SparseCore.T d0) S (StableHlo.after ops W)) -∗ wpm d0 (k ⟨⟩) Φ)) ⊢ wpm d0 (StableHlo.seq ops >>= k) Φ := by
  iintro ⟨Hb, Hh, Hk⟩
  iapply (StableHlo.wp_seq (defs := (K (F := F)).defs (D (F := F))) (𝒱 := 𝒱) (bd := none) (E := Set.univ) d0 S k ops hS hf W) $$ [Hb Hh]
  · isplitl [Hb] <;> iassumption
  iexact Hk

variable (κ : GSem nD τ sig → ℕ)

abbrev Post : PUnit → sProp 𝕄 := fun _ => iprop((K (F := F)).tcSt EH d0 2 ∗ FIN m hp d0 ∗ boundary (SparseCore.T d0))

theorem main5 (Y) : iprop((K (F := F)).tcSt EH d0 2 ∗ boundary (SparseCore.T d0) ∗ held (SparseCore.T d0) U2 (V8 m hp Y (Zd m hp)))
    ⊢ wpm d0 (StableHlo.seq ops5 >>= fun _ => pure ⟨⟩) (Post m hp) := by
  iintro ⟨Hst, Hb, Hh⟩
  iapply host_step U2 ops5 ops5_bufs ops5_fresh (V8 m hp Y (Zd m hp))
  isplitl [Hb]; · iexact Hb
  isplitl [Hh]; · iexact Hh
  iintro ⟨Hb, Hh⟩
  simp only [wpm, wp_pure]
  imodintro
  isplitl [Hst]; · iexact Hst
  isplitl [Hh]
  · iapply (FIN_of m hp Y)
    iexact Hh
  iexact Hb

theorem main4 (Y) : iprop((K (F := F)).ctx EH (P (vals m hp)) κ ∗ (K (F := F)).tcSt EH d0 2 ∗ boundary (SparseCore.T d0) ∗ held (SparseCore.T d0) U2 (V6 m hp Y)
      ∗ Pipeline.cellsGhost (Pipeline.pin (pcfgs (F := F)) (aa m hp)) EP 1 d0 ∗ Pipeline.toksInit (Pipeline.pin (pcfgs (F := F)) (aa m hp)) EP 1 d0)
    ⊢ wpm d0 (StableHlo.seq ops4 >>= fun _ => callP' 1 >>= fun _ => StableHlo.seq ops5 >>= fun _ => pure ⟨⟩) (Post m hp) := by
  iintro ⟨Hctx, Hst, Hb, Hh, Hg, Ht⟩
  iapply host_step U2 ops4 ops4_bufs ops4_fresh (V6 m hp Y)
  isplitl [Hb]; · iexact Hb
  isplitl [Hh]; · iexact Hh
  iintro ⟨Hb, Hh⟩
  simp only [wpm]
  rw [wp_bind]
  iapply (combine_step (vals m hp) κ d0 (aa m hp) 2 (V7 m hp Y) (V7 m hp (Yd m hp)) ((V7_v14 m hp Y).trans (V7_v14 m hp (Yd m hp)).symm)
    ((V7_arg1 m hp Y).trans (V7_arg1 m hp (Yd m hp)).symm) ((V7_v15 m hp Y).trans (V7_v15 m hp (Yd m hp)).symm))
  isplitl [Hctx]; · iexact Hctx
  isplitl [Hst]; · iexact Hst
  isplitl [Hb]; · iexact Hb
  isplitl [Hh]; · iexact Hh
  isplitl [Hg]; · iexact Hg
  isplitl [Ht]; · iexact Ht
  iintro %Z %hZ ⟨Hst, Hb, Hh⟩
  have e : Z = Zd m hp := Z_eq (aa m hp) (Vof (V7 m hp (Yd m hp))) d0 Z hZ
  subst e
  iapply (main5 m hp Y)
  isplitl [Hst]; · iexact Hst
  isplitl [Hb]; · iexact Hb
  iexact Hh

theorem main3 (Y) (hY : ∀ t : Fin grid1.N, FFN.live (aa m hp) t → (((FFN.cfg (aa m hp)).win (5 : Fin 6)).blk t).view.read (Elt F) Y = FFN.outv (aa m hp) (Vof (V3 m)) d0 t) :
    iprop((K (F := F)).ctx EH (P (vals m hp)) κ ∗ (K (F := F)).tcSt EH d0 1 ∗ boundary (SparseCore.T d0) ∗ held (SparseCore.T d0) U1 (V4 m Y)
      ∗ (v1Loc d0 ↦{Moe.h1} pv m)
      ∗ Pipeline.cellsGhost (Pipeline.pin (pcfgs (F := F)) (aa m hp)) EP 1 d0 ∗ Pipeline.toksInit (Pipeline.pin (pcfgs (F := F)) (aa m hp)) EP 1 d0)
    ⊢ wpm d0 (StableHlo.seq ops3 >>= fun _ => (K (F := F)).run d0 1 >>= fun _ => StableHlo.seq ops4 >>= fun _ => callP' 1 >>= fun _ => StableHlo.seq ops5 >>= fun _ => pure ⟨⟩) (Post m hp) := by
  iintro ⟨#Hctx, Hst, Hb, Hh, Hv1, Hg, Ht⟩
  iapply host_step U1 ops3 ops3_bufs ops3_fresh (V4 m Y)
  isplitl [Hb]; · iexact Hb
  isplitl [Hh]; · iexact Hh
  iintro ⟨Hb, Hh⟩
  simp only [wpm]
  rw [wp_bind]
  iapply (sc1_step (vals m hp) κ d0 (vals_ok m hp) (V5 m Y) (rv_of m hp Y hY) (V5_v13 m Y))
  isplitr; · iexact Hctx
  isplitl [Hst]; · iexact Hst
  isplitl [Hh]; · iexact Hh
  isplitl [Hv1]; · iexact Hv1
  iintro ⟨Hst, Hh⟩
  iapply (main4 m hp κ Y)
  isplitr; · iexact Hctx
  isplitl [Hst]; · iexact Hst
  isplitl [Hb]; · iexact Hb
  isplitl [Hh]; · iexact Hh
  isplitl [Hg]; · iexact Hg
  iexact Ht

theorem main2 :
    iprop((K (F := F)).ctx EH (P (vals m hp)) κ ∗ (K (F := F)).tcSt EH d0 1 ∗ boundary (SparseCore.T d0) ∗ held (SparseCore.T d0) U1 (V2 m)
      ∗ (v1Loc d0 ↦{Moe.h1} pv m) ∗ Gd m hp d0)
    ⊢ wpm d0 (StableHlo.seq ops2 >>= fun _ => callP' 0 >>= fun _ => StableHlo.seq ops3 >>= fun _ => (K (F := F)).run d0 1 >>= fun _ => StableHlo.seq ops4 >>= fun _ => callP' 1 >>= fun _ => StableHlo.seq ops5 >>= fun _ => pure ⟨⟩) (Post m hp) := by
  unfold Gd
  iintro ⟨#Hctx, Hst, Hb, Hh, Hv1, ⟨⟨Hg0, Hg1⟩, Ht0, Ht1⟩⟩
  iapply host_step U1 ops2 ops2_bufs ops2_fresh (V2 m)
  isplitl [Hb]; · iexact Hb
  isplitl [Hh]; · iexact Hh
  iintro ⟨Hb, Hh⟩
  simp only [wpm]
  rw [wp_bind]
  iapply (ffn_step (vals m hp) κ d0 (aa m hp) 1 (V3 m) (aa_0 m hp) (aa_1 m hp))
  isplitr; · iexact Hctx
  isplitl [Hst]; · iexact Hst
  isplitl [Hb]; · iexact Hb
  isplitl [Hh]; · iexact Hh
  isplitl [Hg0]; · iexact Hg0
  isplitl [Ht0]; · iexact Ht0
  iintro %Y %hY ⟨Hst, Hb, Hh⟩
  iapply (main3 m hp κ Y hY)
  isplitr; · iexact Hctx
  isplitl [Hst]; · iexact Hst
  isplitl [Hb]; · iexact Hb
  isplitl [Hh]; · iexact Hh
  isplitl [Hv1]; · iexact Hv1
  isplitl [Hg1]; · iexact Hg1
  iexact Ht1

theorem main1 :
    iprop((K (F := F)).ctx EH (P (vals m hp)) κ ∗ (K (F := F)).tcSt EH d0 0 ∗ boundary (SparseCore.T d0) ∗ held (SparseCore.T d0) U0 (Vm m) ∗ Gd m hp d0)
    ⊢ wpm d0 (main d0) (Post m hp) := by
  rw [main_eq]
  iintro ⟨#Hctx, Hst, Hb, Hh, Hg⟩
  iapply host_step U0 ops1 ops1_bufs ops1_fresh (Vm m)
  isplitl [Hb]; · iexact Hb
  isplitl [Hh]; · iexact Hh
  iintro ⟨Hb, Hh⟩
  simp only [wpm]
  rw [wp_bind]
  iapply (sc0_step (vals m hp) κ d0 (vals_ok m hp) (V1 m) rfl rfl rfl)
  isplitr; · iexact Hctx
  isplitl [Hst]; · iexact Hst
  isplitl [Hh]; · iexact Hh
  iintro ⟨Hst, Hh, Hv1⟩
  iapply (main2 m hp κ)
  isplitr; · iexact Hctx
  isplitl [Hst]; · iexact Hst
  isplitl [Hb]; · iexact Hb
  isplitl [Hh]; · iexact Hh
  isplitl [Hv1]; · iexact Hv1
  iexact Hg

variable (ρ : Dev nD → PrngReg)

theorem hmain (d : Dev nD) : iprop((K (F := F)).ctx EH (P (vals m hp)) κ ∗ (K (F := F)).tcSt EH d 0 ∗ (K (F := F)).tcRes m ρ d ∗ Gd m hp d)
    ⊢ wp frame (wpE ((K (F := F)).defs (D (F := F))) 𝒱 (SparseCore.T d) none) Set.univ (main d)
        fun _ => iprop((K (F := F)).tcSt EH d 2 ∗ FIN m hp d ∗ (K (F := F)).tcEnd d) := by
  obtain rfl : d = d0 := Subsingleton.elim _ _
  unfold SparseCore.Cfg.tcRes SparseCore.Cfg.tcEnd
  rw [unscoped_held]
  iintro ⟨Hctx, Hst, ⟨Hb, Hh, Hts, -⟩, Hg⟩
  iapply (wp_wand_r frame _ Set.univ)
  isplitl [Hctx Hst Hb Hh Hg]
  · iapply (main1 m hp κ)
    isplitl [Hctx]; · iexact Hctx
    isplitl [Hst]; · iexact Hst
    isplitl [Hb]; · iexact Hb
    isplitl [Hh]; · iexact Hh
    iexact Hg
  iintro %_ ⟨Hst, Hf, Hb⟩
  isplitl [Hst]; · iexact Hst
  isplitl [Hf]; · iexact Hf
  isplitl [Hb] <;> iassumption

end Cert.Proof.Moe
-- ==== Proof.Run.lean ====
/-
  The program's run, from the launch.
-/
module

public import proofs.«01_k».proof.Proof.Blocks
public import proofs.«01_k».proof.Proof.SC
public import proofs.«01_k».proof.Proof.Main

@[expose] public section

noncomputable section

namespace Cert.Proof.Moe

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.TcCoe
open Idealize.ShloMosaic.ShareLeaves

variable (m : (ℓ : Loc nD τ sig) → Buf (Elt F) ℓ) (hp : POK m) (ρ : Dev nD → PrngReg)

abbrev upipe : UP := initOf (Pipeline.cells (Pipeline.pin (pcfgs (F := F)) (aa m hp)) (cellOf_inj (aa m hp))) (Pipeline.launchToks (Pipeline.pin (pcfgs (F := F)) (aa m hp)) (cellOf_inj (aa m hp)))
def u₀ : UU := (initOf (K (F := F)).hsCells (K (F := F)).hsToks, (upipe m hp, 1))

omit [FloatOps F] in
theorem ownU_split3 (x : UH) (y : UP) (z : Counters) : (ownU ((x, (y, z)) : UU) : sProp 𝕄) ⊢ iprop(BI.own (EH x) ∗ BI.own (EP y)) := by
  refine BIBase.Entails.trans (BI.own_op_elim ((uEmb (nD := nD) (τ := τ) (sig := sig) (Ix := HIx 2) (Val := Elt F) (Name := ℕ) (U := UU) (Lvl := ℕ)).toEmb.op_of_mem
    (Prod.mk_mem_op (URA.mem_op_one x) (URA.mem_one_op (y, z))))) ?_
  refine sep_mono_right (BIBase.Entails.trans (BI.own_op_elim ((uEmb (nD := nD) (τ := τ) (sig := sig) (Ix := HIx 2) (Val := Elt F) (Name := ℕ) (U := UU) (Lvl := ℕ)).toEmb.op_of_mem
    (Prod.mk_mem_op (URA.mem_one_op (1 : UH)) (Prod.mk_mem_op (URA.mem_op_one y) (URA.mem_one_op z))))) ?_)
  exact sep_elim_left

omit [FloatOps F] in
theorem bigSep_emp' {I : Type} (s : Finset I) : (bigSep s fun _ => iprop(emp)) = (iprop(emp) : sProp 𝕄) := bigSep_emp_const s

theorem one_dev (Φ : Dev nD → sProp 𝕄) : (bigSep Finset.univ Φ) = Φ d0 := bigSep_univ_of_subsingleton d0

theorem deal : (iprop((bigSep Finset.univ fun c : Dev nD => bigSep Finset.univ fun p : Fin 2 => Pipeline.cellsGhost (Pipeline.pin (pcfgs (F := F)) (aa m hp)) EP p c)
      ∗ (bigSep Finset.univ fun c : Dev nD => bigSep Finset.univ fun p : Fin 2 => Pipeline.toksInit (Pipeline.pin (pcfgs (F := F)) (aa m hp)) EP p c)) : sProp 𝕄)
    ⊢ bigSep Finset.univ fun d : Dev nD => Gd m hp d := by
  rw [one_dev, one_dev, one_dev, bigSep_univ_two, bigSep_univ_two]
  unfold Gd
  exact BI.Entails.refl _

theorem hu₀ : (ownU (u₀ m hp) : sProp 𝕄)
    ⊢ |={Set.univ}=> iprop(BI.own (EH (initOf (K (F := F)).hsCells (K (F := F)).hsToks)) ∗ (bigSep Finset.univ fun d : Dev nD => Gd m hp d)
        ∗ bigSep Finset.univ fun thr : Thread nD τ => bigSep Finset.univ fun q : Fin 2 => (P (vals m hp)).x q thr) := by
  unfold u₀
  iintro Hu
  ihave H := (ownU_split3 (F := F) (initOf (K (F := F)).hsCells (K (F := F)).hsToks) (upipe m hp) (1 : Counters)) $$ Hu
  icases H with ⟨HH, HP⟩
  imod (Pipeline.fund_ghost (Pipeline.pin (pcfgs (F := F)) (aa m hp)) EP (cellOf_inj (aa m hp))) $$ HP with ⟨Hg, Ht⟩
  imodintro
  isplitl [HH]; · iexact HH
  isplitl [Hg Ht]
  · iapply (deal m hp)
    isplitl [Hg] <;> iassumption
  rw [show (bigSep Finset.univ fun thr : Thread nD τ => bigSep Finset.univ fun q : Fin 2 => (P (vals m hp)).x q thr) = bigSep Finset.univ fun _ => iprop(emp) from
    bigSep_congr fun _ _ => bigSep_emp_const _, bigSep_emp']
  iempintro

def fq (d : Dev nD) (s' : Phys nD τ sig (Elt F)) : Prop := ∀ b ∈ Sfin, s'.mem.mem (d, b) = Wfin m hp b

theorem hfin1 (d : Dev nD) (s' : Phys nD τ sig (Elt F)) (b : DevRef τ sig) (hb : b ∈ Sfin) :
    iprop(FIN m hp d ∗ SI s') ⊢ (⌜s'.mem.mem (d, b) = Wfin m hp b⌝ : sProp 𝕄) := by
  unfold FIN
  rw [held_take hb]
  iintro ⟨⟨Hb, -⟩, HSI⟩
  ihave H := (SI_pointsTo_agree (st := s') (ℓ := (d, b)) (I := Finset.univ) (q := fullShare) (f := Wfin m hp b)) $$ [HSI Hb]
  · isplitl [HSI] <;> iassumption
  icases H with %h2
  ipureintro; exact funext fun i => h2 i (Finset.mem_univ i)

theorem hfin (d : Dev nD) (s' : Phys nD τ sig (Elt F)) : iprop(FIN m hp d ∗ SI s') ⊢ (⌜fq m hp d s'⌝ : sProp 𝕄) := by
  by_cases h : fq m hp d s'
  · iintro -; ipureintro; exact h
  · unfold fq at h
    push Not at h
    obtain ⟨b, hb, hne⟩ := h
    refine BIBase.Entails.trans (hfin1 m hp d s' b hb) ?_
    iintro %h; exact absurd h hne

def QC : PUnit × MemSt nD τ sig (Elt F) → Prop := fun r => (∀ c : Dev nD, ∀ b ∈ Sfin, r.2.mem (c, b) = Wfin m hp b) ∧ r.2.sem = fun _ => 0

theorem run_main [∀ e, Nonempty (Elt F e)] :
    θ_run (Cert.KernelIdeal.defs (F := F)) (Cert.KernelIdeal.threads (F := F)) ⟨m, fun _ => 0, ρ⟩ (QC m hp) :=
  SparseCore.Cfg.θ_run_sc_quiescent (K := K (F := F)) (D := D (F := F)) (𝒱 := 𝒱) (EH := EH) (P := P (vals m hp)) (A := ∅) facts v₀
    (fun q hq => match q with | 0 => nomatch hq | 1 => nomatch hq)
    (fun q _ => match q with | 0 => tileObl0 (vals m hp) (vals_ok m hp) | 1 => tileObl1 (vals m hp) (vals_ok m hp))
    (fun q _ => SparseCore.Cfg.VecSplit.of_plain (vecSplit (vals m hp) q))
    m ρ main (fun d => Gd m hp d) (FIN m hp) (u₀ m hp) (sep_elim_left.trans (hu₀ m hp)) (fun κ d => hmain m hp κ ρ d) (fq m hp) (hfin m hp) (QC m hp) (fun _ h hz => ⟨h, hz⟩)

end Cert.Proof.Moe
-- ==== Proof.Frames.lean ====
/-
  The frames of the two programs: every run ends with the arguments as they were and every counter at zero.
-/
module

public import proofs.«01_k».proof.Proof.Run

@[expose] public section

noncomputable section

namespace Cert.Proof.Moe

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.ShareLeaves

variable {F : FTy → Type} [FloatOps F]
variable (m : (ℓ : Loc nD τ sig) → Buf (Elt F) ℓ)

/-- The argument arrays are as the launch left them, on every device. -/
def Kept (m m' : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

theorem kept_of (hp : POK m) (m' : (ℓ : Loc nD τ sig) → Buf (Elt F) ℓ) (h : ∀ c : Dev nD, ∀ b ∈ Sfin, m' (c, b) = Wfin m hp b) (c : Dev nD) :
    Kept m m' c := by
  obtain rfl : c = d0 := Subsingleton.elim _ _
  exact ⟨(h d0 (rr main_arg0) (by decide)).trans (V9_arg0 m hp _ _),
    (h d0 (rr main_arg1) (by decide)).trans (V9_arg1 m hp _ _),
    (h d0 (rr main_arg2) (by decide)).trans (V9_arg2 m hp _ _),
    (h d0 (rr main_arg3) (by decide)).trans (V9_arg3 m hp _ _),
    (h d0 (rr main_arg4) (by decide)).trans (V9_arg4 m hp _ _),
    (h d0 (rr main_arg5) (by decide)).trans (V9_arg5 m hp _ _),
    (h d0 (rr main_arg6) (by decide)).trans (V9_arg6 m hp _ _),
    (h d0 (rr main_arg7) (by decide)).trans (V9_arg7 m hp _ _),
    (h d0 (rr main_arg8) (by decide)).trans (V9_arg8 m hp _ _),
    (h d0 (rr main_arg9) (by decide)).trans (V9_arg9 m hp _ _)⟩

/-- The program's run, with its result and its arguments. -/
theorem value_run [∀ e, Nonempty (Elt F e)] (hp : POK m) (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_v16) = shapeCast S2x2048x1024 (Zd m hp) shapeCasts_S4096x1024_S2x2048x1024 ∧ Kept m r.2.mem c)
      ∧ r.2.sem = fun _ => 0) :=
  (θ_run Cert.KernelIdeal.defs _ _).mono (fun r h => ⟨fun c => ⟨(h.1 c (rr main_v16) (by decide)).trans (V9_v16 m hp _ _), kept_of m hp r.2.mem h.1 c⟩, h.2⟩)
    (run_main m hp ρ)

/-- The program's frame. -/
theorem frame_run [∀ e, Nonempty (Elt F e)] (hp : POK m) (ρ : Dev nD → PrngReg) :
    θ_run (Cert.KernelIdeal.defs (F := F)) (Cert.KernelIdeal.threads (F := F)) ⟨m, fun _ => 0, ρ⟩ (fun r => (∀ c : Dev nD, Kept m r.2.mem c) ∧ r.2.sem = fun _ => 0) :=
  (θ_run Cert.KernelIdeal.defs _ _).mono (fun _ h => ⟨fun c => (h.1 c).2, h.2⟩) (value_run m hp ρ)

end Cert.Proof.Moe

end
-- ==== Proof.Top.lean ====
/-
  The frames claimed: every run of each program ends with the arguments as they were and every counter at zero.
-/
module

public import proofs.«01_k».proof.Defs
public import proofs.«01_k».proof.Proof.Pre
public import proofs.«01_k».proof.Proof.Frames
public import proofs.«01_k».proof.Proof.KFrames
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_KernelIdeal : Cert.quiescent_KernelIdeal := fun m g h =>
  Moe.frame_run m (Cert.Pre_plan_ok.plan _ _ _ _ _ _ _ _ _ _ (h Moe.d0)) g

theorem frame_Kernel : Cert.quiescent_Kernel := fun m g h =>
  have hp := Cert.Pre_plan_ok.plan _ _ _ _ _ _ _ _ _ _ (h MoeK.d0)
  MoeK.frame_run m ⟨hp.lt, hp.ne, hp.be8, hp.right, hp.live, hp.dist⟩ g

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ReferenceIdeal_plan : Cert.quiescent_ReferenceIdeal_pre_plan_ok := fun m g _ =>
  frame_ReferenceIdeal m g trivial

end Cert.Proof

end
-- ==== Proof.AlgFFN.lean ====
/-
  One block of the feed-forward at an index: the eight pieces of the hidden axis add up to the whole sum.
-/
module

public import proofs.«01_k».proof.Proof.FFNRun
public import proofs.«01_k».proof.Proof.CombineRun
public import Idealize.ShloMosaic.Lib.Pointwise

@[expose] public section

noncomputable section

namespace Cert.Proof.Moe

open Cert.KernelIdeal Cert.KernelIdeal.Gen
open Idealize.ShloMosaic

/-! ## The mathematics -/

/-- The two constants of the activation. -/
def half : EReal := (Scalar.ofBits .f32 0x3F000000#32 : Ideal .f32)
def root : EReal := (Scalar.ofBits .f32 0x3F3504F3#32 : Ideal .f32)
/-- The exact Gaussian error linear unit. -/
def act (p : EReal) : EReal := half * p * (1 + Ideal.erf (p * root))
/-- One hidden unit of a row. -/
def hid (x : Fin 1024 → EReal) (w1 : Fin 4096 → Fin 1024 → EReal) (b1 : Fin 4096 → EReal) (h : Fin 4096) : EReal :=
  act ((∑ k, x k * w1 h k) + b1 h)
/-- One output of a row. -/
def ffn (x : Fin 1024 → EReal) (w1 : Fin 4096 → Fin 1024 → EReal) (b1 : Fin 4096 → EReal) (w2 : Fin 1024 → Fin 4096 → EReal) (b2 : Fin 1024 → EReal)
    (j : Fin 1024) : EReal := (∑ h, hid x w1 b1 h * w2 j h) + b2 j

/-! ## The block's value as eight pieces -/

section Pieces
variable {F : FTy → Type} [FloatOps F]

def pre (X : FVec F S256x1024 .bf16) (w1 : Vec F S1x512x1024 .bf16) (b1 : Vec F S1x1x512 .f32) : FVec F S256x512 .f32 :=
  addf (matmul dot_S256x1024_S512x1024_S256x512_1_1_0_0_n_n none X (shapeCast S512x1024 w1 shapeCasts_S1x512x1024_S512x1024) (constant S256x512 .f32 0x00000000#32))
    (broadcastTo S256x512 (shapeCast S1x512 (shapeCast S512 b1 shapeCasts_S1x1x512_S512) shapeCasts_S512_S1x512) broadcasts_S1x512_S256x512)
def gel (p : FVec F S256x512 .f32) : FVec F S256x512 .f32 :=
  mulf (mulf (broadcast S256x512 (Scalar.ofBits .f32 0x3F000000#32)) p)
    (addf (broadcast S256x512 (Scalar.ofBits .f32 0x3F800000#32)) (erf (mulf p (broadcast S256x512 (Scalar.ofBits .f32 0x3F3504F3#32)))))
/-- One piece of the hidden axis, added to what the pieces before it gave. -/
def chunk (X : FVec F S256x1024 .bf16) (acc : FVec F S256x1024 .f32) (w1 : Vec F S1x512x1024 .bf16) (b1 : Vec F S1x1x512 .f32) (w2 : Vec F S1x1024x512 .bf16) : FVec F S256x1024 .f32 :=
  addf acc (matmul dot_S256x512_S1024x512_S256x1024_1_1_0_0_n_n none (truncf .bf16 (gel (pre X w1 b1)) bitsLt_bf16_f32)
    (shapeCast S1024x512 w2 shapeCasts_S1x1024x512_S1024x512) (constant S256x1024 .f32 0x00000000#32))
def lastAdd (acc : FVec F S256x1024 .f32) (b2 : Vec F S1x1x1024 .f32) : FVec F S256x1024 .f32 :=
  addf acc (broadcastTo S256x1024 (shapeCast S1x1024 b2 shapeCasts_S1x1x1024_S1x1024) broadcasts_S1x1024_S256x1024)

theorem pay_chunks (X0 : S256x1024.Idx → Elt F .f32) (X1 : S1x4096x1024.Idx → Elt F .bf16) (X2 : S1x1x4096.Idx → Elt F .f32) (X3 : S1x1024x4096.Idx → Elt F .bf16) (X4 : S1x1x1024.Idx → Elt F .f32) :
    FFN.pay X0 X1 X2 X3 X4 = lastAdd
      (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (chunk (k1_pay1 (FFN.ld (Rect.unit (s := S256x1024) ![0, 0] ![256, 1024] inb_S256x1024_S256x1024_0_0).toLoadRect X0)) (broadcast S256x1024 (Scalar.ofBits .f32 0x00000000#32))
      (FFN.ld (Rect.unit (s := S1x4096x1024) ![0, 0, 0] ![1, 512, 1024] inb_S1x4096x1024_S1x512x1024_0_0_0).toLoadRect X1) (FFN.ld (Rect.unit (s := S1x1x4096) ![0, 0, 0] ![1, 1, 512] inb_S1x1x4096_S1x1x512_0_0_0).toLoadRect X2) (FFN.ld (Rect.unit (s := S1x1024x4096) ![0, 0, 0] ![1, 1024, 512] inb_S1x1024x4096_S1x1024x512_0_0_0).toLoadRect X3))
      (FFN.ld (Rect.unit (s := S1x4096x1024) ![0, 512, 0] ![1, 512, 1024] inb_S1x4096x1024_S1x512x1024_0_512_0).toLoadRect X1) (FFN.ld (Rect.unit (s := S1x1x4096) ![0, 0, 512] ![1, 1, 512] inb_S1x1x4096_S1x1x512_0_0_512).toLoadRect X2) (FFN.ld (Rect.unit (s := S1x1024x4096) ![0, 0, 512] ![1, 1024, 512] inb_S1x1024x4096_S1x1024x512_0_0_512).toLoadRect X3))
      (FFN.ld (Rect.unit (s := S1x4096x1024) ![0, 1024, 0] ![1, 512, 1024] inb_S1x4096x1024_S1x512x1024_0_1024_0).toLoadRect X1) (FFN.ld (Rect.unit (s := S1x1x4096) ![0, 0, 1024] ![1, 1, 512] inb_S1x1x4096_S1x1x512_0_0_1024).toLoadRect X2) (FFN.ld (Rect.unit (s := S1x1024x4096) ![0, 0, 1024] ![1, 1024, 512] inb_S1x1024x4096_S1x1024x512_0_0_1024).toLoadRect X3))
      (FFN.ld (Rect.unit (s := S1x4096x1024) ![0, 1536, 0] ![1, 512, 1024] inb_S1x4096x1024_S1x512x1024_0_1536_0).toLoadRect X1) (FFN.ld (Rect.unit (s := S1x1x4096) ![0, 0, 1536] ![1, 1, 512] inb_S1x1x4096_S1x1x512_0_0_1536).toLoadRect X2) (FFN.ld (Rect.unit (s := S1x1024x4096) ![0, 0, 1536] ![1, 1024, 512] inb_S1x1024x4096_S1x1024x512_0_0_1536).toLoadRect X3))
      (FFN.ld (Rect.unit (s := S1x4096x1024) ![0, 2048, 0] ![1, 512, 1024] inb_S1x4096x1024_S1x512x1024_0_2048_0).toLoadRect X1) (FFN.ld (Rect.unit (s := S1x1x4096) ![0, 0, 2048] ![1, 1, 512] inb_S1x1x4096_S1x1x512_0_0_2048).toLoadRect X2) (FFN.ld (Rect.unit (s := S1x1024x4096) ![0, 0, 2048] ![1, 1024, 512] inb_S1x1024x4096_S1x1024x512_0_0_2048).toLoadRect X3))
      (FFN.ld (Rect.unit (s := S1x4096x1024) ![0, 2560, 0] ![1, 512, 1024] inb_S1x4096x1024_S1x512x1024_0_2560_0).toLoadRect X1) (FFN.ld (Rect.unit (s := S1x1x4096) ![0, 0, 2560] ![1, 1, 512] inb_S1x1x4096_S1x1x512_0_0_2560).toLoadRect X2) (FFN.ld (Rect.unit (s := S1x1024x4096) ![0, 0, 2560] ![1, 1024, 512] inb_S1x1024x4096_S1x1024x512_0_0_2560).toLoadRect X3))
      (FFN.ld (Rect.unit (s := S1x4096x1024) ![0, 3072, 0] ![1, 512, 1024] inb_S1x4096x1024_S1x512x1024_0_3072_0).toLoadRect X1) (FFN.ld (Rect.unit (s := S1x1x4096) ![0, 0, 3072] ![1, 1, 512] inb_S1x1x4096_S1x1x512_0_0_3072).toLoadRect X2) (FFN.ld (Rect.unit (s := S1x1024x4096) ![0, 0, 3072] ![1, 1024, 512] inb_S1x1024x4096_S1x1024x512_0_0_3072).toLoadRect X3))
      (FFN.ld (Rect.unit (s := S1x4096x1024) ![0, 3584, 0] ![1, 512, 1024] inb_S1x4096x1024_S1x512x1024_0_3584_0).toLoadRect X1) (FFN.ld (Rect.unit (s := S1x1x4096) ![0, 0, 3584] ![1, 1, 512] inb_S1x1x4096_S1x1x512_0_0_3584).toLoadRect X2) (FFN.ld (Rect.unit (s := S1x1024x4096) ![0, 0, 3584] ![1, 1024, 512] inb_S1x1024x4096_S1x1024x512_0_0_3584).toLoadRect X3))
      (FFN.ld (Rect.unit (s := S1x1x1024) ![0, 0, 0] ![1, 1, 1024] inb_S1x1x1024_S1x1x1024_0_0_0).toLoadRect X4) := rfl

end Pieces

theorem pre_at (X : FVec Ideal S256x1024 .bf16) (w1 : Vec Ideal S1x512x1024 .bf16) (b1 : Vec Ideal S1x1x512 .f32) (r : Fin 256) (h : Fin 512) :
    pre X w1 b1 (ix2 r h) = (∑ k : Fin 1024, X (ix2 r k) * w1 (ix3 0 h k)) + b1 (ix3 0 0 h) := by
  pointwise [pre]

theorem gel_at (p : FVec Ideal S256x512 .f32) (i : S256x512.Idx) : gel p i = act (p i) := by
  unfold act half root
  pointwise [gel]
  rfl

theorem chunk_at (X : FVec Ideal S256x1024 .bf16) (acc : FVec Ideal S256x1024 .f32) (w1 : Vec Ideal S1x512x1024 .bf16) (b1 : Vec Ideal S1x1x512 .f32) (w2 : Vec Ideal S1x1024x512 .bf16)
    (r : Fin 256) (j : Fin 1024) :
    chunk X acc w1 b1 w2 (ix2 r j)
      = acc (ix2 r j) + ∑ h : Fin 512, act ((∑ k : Fin 1024, X (ix2 r k) * w1 (ix3 0 h k)) + b1 (ix3 0 0 h)) * w2 (ix3 0 j h) := by
  pointwise [chunk]
  simp only [gel_at, pre_at]

theorem lastAdd_at (acc : FVec Ideal S256x1024 .f32) (b2 : Vec Ideal S1x1x1024 .f32) (r : Fin 256) (j : Fin 1024) :
    lastAdd acc b2 (ix2 r j) = acc (ix2 r j) + b2 (ix3 0 0 j) := by
  pointwise [lastAdd]

section Whole
variable (X0 : S256x1024.Idx → Elt Ideal .f32) (X1 : S1x4096x1024.Idx → Elt Ideal .bf16) (X2 : S1x1x4096.Idx → Elt Ideal .f32) (X3 : S1x1024x4096.Idx → Elt Ideal .bf16)
  (X4 : S1x1x1024.Idx → Elt Ideal .f32) (acc : FVec Ideal S256x1024 .f32) (r : Fin 256) (j : Fin 1024)

/-- The summand of the second product. -/
def term (h : Fin 4096) : EReal :=
  hid (fun k => X0 (ix2 r k)) (fun h k => X1 (ix3 0 h k)) (fun h => X2 (ix3 0 0 h)) h * X3 (ix3 0 j h)

theorem piece_at (c : ℕ) (hc : c * 512 + 512 ≤ 4096) (i1 i2 i3)
    : chunk (F := Ideal) (k1_pay1 (FFN.ld (Rect.unit (s := S256x1024) ![0, 0] ![256, 1024] inb_S256x1024_S256x1024_0_0).toLoadRect X0)) acc
      (FFN.ld (Rect.unit (s := S1x4096x1024) ![0, c * 512, 0] ![1, 512, 1024] i1).toLoadRect X1)
      (FFN.ld (Rect.unit (s := S1x1x4096) ![0, 0, c * 512] ![1, 1, 512] i2).toLoadRect X2)
      (FFN.ld (Rect.unit (s := S1x1024x4096) ![0, 0, c * 512] ![1, 1024, 512] i3).toLoadRect X3) (ix2 r j)
      = acc (ix2 r j) + ∑ h : Fin 512, term X0 X1 X2 X3 r j ⟨c * 512 + h.val, by have := h.isLt; omega⟩ := by
  rw [chunk_at]
  pointwise [k1_pay1, FFN.ld, term, hid]

theorem pay_at : FFN.pay X0 X1 X2 X3 X4 (ix2 r j)
    = ffn (fun k => X0 (ix2 r k)) (fun h k => X1 (ix3 0 h k)) (fun h => X2 (ix3 0 0 h)) (fun j h => X3 (ix3 0 j h)) (fun j => X4 (ix3 0 0 j)) j := by
  rw [pay_chunks, lastAdd_at]
  rw [piece_at _ _ _ _ _ _ _ 7 (by norm_num), piece_at _ _ _ _ _ _ _ 6 (by norm_num), piece_at _ _ _ _ _ _ _ 5 (by norm_num), piece_at _ _ _ _ _ _ _ 4 (by norm_num), piece_at _ _ _ _ _ _ _ 3 (by norm_num), piece_at _ _ _ _ _ _ _ 2 (by norm_num), piece_at _ _ _ _ _ _ _ 1 (by norm_num), piece_at _ _ _ _ _ _ _ 0 (by norm_num)]
  unfold ffn
  rw [Fin.sum_univ_tiles 8 512 rfl, Fin.sum_univ_eight]
  pointwise [FFN.ld, term]

end Whole

theorem combine_at (X0 X1 : S1024x1024.Idx → Elt Ideal .f32) (X2 : S1024x2.Idx → Elt Ideal .f32) (r : Fin 1024) (j : Fin 1024) :
    Combine.pay X0 X1 X2 (ix2 r j) = X2 (ix2 r 0) * X0 (ix2 r j) + X2 (ix2 r 1) * X1 (ix2 r j) := by
  pointwise [Combine.pay, k3_pay1, FFN.ld]

end Cert.Proof.Moe

end
-- ==== Proof.AlgKer.lean ====
/-
  The kernel's result at an index: the dispatched rows, the feed-forward of each, the collected rows and their weighted sum.
-/
module

public import proofs.«01_k».proof.Proof.AlgFFN
public import proofs.«01_k».proof.Proof.Values
public import Idealize.ShloMosaic.Lib.Pointwise
public import Idealize.ShloMosaic.Lib.Pipeline.Value

@[expose] public section

noncomputable section

namespace Cert.Proof.Moe

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.ShareLeaves

variable {F : FTy → Type} [FloatOps F]

/-! ## The blocks the windows name -/

section Windows
variable (a : (p : Fin 2) → (pcfgs (F := F) p).Adm)

theorem at_eq (pf : pre1.Contents (Elt F)) (t : Fin grid1.N) (inb : ∀ a, (k1_off1 (grid1.coords t)) a + S1.size a ≤ S40.size a) :
    pf.at 0 (Rect.unit (s := S40) (k1_off1 (grid1.coords t)) S1.size inb) numel1_S1 = (pf (0 : Fin 2) : S40.Idx → BitVec 32) (ix1 ⟨t.val, t.isLt⟩) := by
  refine congrArg (pf (0 : Fin 2) : S40.Idx → BitVec 32) ?_
  refine funext fun (k : Fin 1) => ?_
  obtain rfl : k = 0 := Subsingleton.elim _ _
  apply Fin.ext
  show k1_off1 (grid1.coords t) (0 : Fin 1) + 1 * 0 = t.val
  have e : ∀ t : Fin grid1.N, k1_off1 (grid1.coords t) (0 : Fin 1) + 1 * 0 = t.val := by decide +kernel
  exact e t

theorem FFN.emb0 (t : Fin grid1.N) (y : S256x1024.Idx) : (((FFN.cfg a).win (0 : Fin 6)).blk t).view.emb y
    = (ix2 ⟨t.val * 256 + (y 0).val, by have h0 : t.val < 40 := t.isLt; have h1 : (y 0).val < 256 := (y 0).isLt; omega⟩ (y 1) : S10240x1024.Idx) := by
  have e : cc1_transform_0 (grid1.coords t) 0 = t.val := by revert t; decide +kernel
  have e1 : cc1_transform_0 (grid1.coords t) 1 = 0 := by revert t; decide +kernel
  funext k
  match k with
  | 0 =>
    apply Fin.ext
    refine (Pipeline.Window.rect_emb_val ((FFN.cfg a).win (0 : Fin 6)) t y (0 : Fin 2)).trans ?_
    show cc1_transform_0 (grid1.coords t) 0 * 256 + (y 0).val = t.val * 256 + (y 0).val
    rw [e]
  | 1 =>
    apply Fin.ext
    refine (Pipeline.Window.rect_emb_val ((FFN.cfg a).win (0 : Fin 6)) t y (1 : Fin 2)).trans ?_
    show cc1_transform_0 (grid1.coords t) 1 * 1024 + (y 1).val = (y 1).val
    rw [e1, Nat.zero_mul, Nat.zero_add]

theorem FFN.emb1 (t : Fin grid1.N) (e : Fin 8) (he : ((a 0).1 (0 : Fin 2) (ix1 ⟨t.val, t.isLt⟩) : BitVec 32).toNat = e.val) (y : S1x4096x1024.Idx) :
    (((FFN.cfg a).win (1 : Fin 6)).blk t).view.emb y = (ix3 e (y 1) (y 2) : S8x4096x1024.Idx) := by
  have h0 : cc1_transform_1 k1_off1_inb numel1_S1 (a 0).1 (grid1.coords t) 0 = e.val :=
    (congrArg BitVec.toNat (at_eq (a 0).1 t (k1_off1_inb (grid1.coords t)))).trans he
  funext k
  match k with
  | 0 =>
    apply Fin.ext
    refine (Pipeline.Window.rect_emb_val ((FFN.cfg a).win (1 : Fin 6)) t y (0 : Fin 3)).trans ?_
    show cc1_transform_1 k1_off1_inb numel1_S1 (a 0).1 (grid1.coords t) 0 * 1 + (y 0).val = e.val
    have hy : (y 0).val < 1 := (y 0).isLt
    rw [h0]; omega
  | 1 =>
    apply Fin.ext
    refine (Pipeline.Window.rect_emb_val ((FFN.cfg a).win (1 : Fin 6)) t y (1 : Fin 3)).trans ?_
    show 0 * 4096 + (y 1).val = (y 1).val
    rw [Nat.zero_mul, Nat.zero_add]
  | 2 =>
    apply Fin.ext
    refine (Pipeline.Window.rect_emb_val ((FFN.cfg a).win (1 : Fin 6)) t y (2 : Fin 3)).trans ?_
    show 0 * 1024 + (y 2).val = (y 2).val
    rw [Nat.zero_mul, Nat.zero_add]

theorem FFN.emb2 (t : Fin grid1.N) (e : Fin 8) (he : ((a 0).1 (0 : Fin 2) (ix1 ⟨t.val, t.isLt⟩) : BitVec 32).toNat = e.val) (y : S1x1x4096.Idx) :
    (((FFN.cfg a).win (2 : Fin 6)).blk t).view.emb y = (ix3 e (y 1) (y 2) : S8x1x4096.Idx) := by
  have h0 : cc1_transform_2 k1_off1_inb numel1_S1 (a 0).1 (grid1.coords t) 0 = e.val :=
    (congrArg BitVec.toNat (at_eq (a 0).1 t (k1_off1_inb (grid1.coords t)))).trans he
  funext k
  match k with
  | 0 =>
    apply Fin.ext
    refine (Pipeline.Window.rect_emb_val ((FFN.cfg a).win (2 : Fin 6)) t y (0 : Fin 3)).trans ?_
    show cc1_transform_2 k1_off1_inb numel1_S1 (a 0).1 (grid1.coords t) 0 * 1 + (y 0).val = e.val
    have hy : (y 0).val < 1 := (y 0).isLt
    rw [h0]; omega
  | 1 =>
    apply Fin.ext
    refine (Pipeline.Window.rect_emb_val ((FFN.cfg a).win (2 : Fin 6)) t y (1 : Fin 3)).trans ?_
    show 0 * 1 + (y 1).val = (y 1).val
    rw [Nat.zero_mul, Nat.zero_add]
  | 2 =>
    apply Fin.ext
    refine (Pipeline.Window.rect_emb_val ((FFN.cfg a).win (2 : Fin 6)) t y (2 : Fin 3)).trans ?_
    show 0 * 4096 + (y 2).val = (y 2).val
    rw [Nat.zero_mul, Nat.zero_add]

theorem FFN.emb3 (t : Fin grid1.N) (e : Fin 8) (he : ((a 0).1 (0 : Fin 2) (ix1 ⟨t.val, t.isLt⟩) : BitVec 32).toNat = e.val) (y : S1x1024x4096.Idx) :
    (((FFN.cfg a).win (3 : Fin 6)).blk t).view.emb y = (ix3 e (y 1) (y 2) : S8x1024x4096.Idx) := by
  have h0 : cc1_transform_3 k1_off1_inb numel1_S1 (a 0).1 (grid1.coords t) 0 = e.val :=
    (congrArg BitVec.toNat (at_eq (a 0).1 t (k1_off1_inb (grid1.coords t)))).trans he
  funext k
  match k with
  | 0 =>
    apply Fin.ext
    refine (Pipeline.Window.rect_emb_val ((FFN.cfg a).win (3 : Fin 6)) t y (0 : Fin 3)).trans ?_
    show cc1_transform_3 k1_off1_inb numel1_S1 (a 0).1 (grid1.coords t) 0 * 1 + (y 0).val = e.val
    have hy : (y 0).val < 1 := (y 0).isLt
    rw [h0]; omega
  | 1 =>
    apply Fin.ext
    refine (Pipeline.Window.rect_emb_val ((FFN.cfg a).win (3 : Fin 6)) t y (1 : Fin 3)).trans ?_
    show 0 * 1024 + (y 1).val = (y 1).val
    rw [Nat.zero_mul, Nat.zero_add]
  | 2 =>
    apply Fin.ext
    refine (Pipeline.Window.rect_emb_val ((FFN.cfg a).win (3 : Fin 6)) t y (2 : Fin 3)).trans ?_
    show 0 * 4096 + (y 2).val = (y 2).val
    rw [Nat.zero_mul, Nat.zero_add]

theorem FFN.emb4 (t : Fin grid1.N) (e : Fin 8) (he : ((a 0).1 (0 : Fin 2) (ix1 ⟨t.val, t.isLt⟩) : BitVec 32).toNat = e.val) (y : S1x1x1024.Idx) :
    (((FFN.cfg a).win (4 : Fin 6)).blk t).view.emb y = (ix3 e (y 1) (y 2) : S8x1x1024.Idx) := by
  have h0 : cc1_transform_4 k1_off1_inb numel1_S1 (a 0).1 (grid1.coords t) 0 = e.val :=
    (congrArg BitVec.toNat (at_eq (a 0).1 t (k1_off1_inb (grid1.coords t)))).trans he
  funext k
  match k with
  | 0 =>
    apply Fin.ext
    refine (Pipeline.Window.rect_emb_val ((FFN.cfg a).win (4 : Fin 6)) t y (0 : Fin 3)).trans ?_
    show cc1_transform_4 k1_off1_inb numel1_S1 (a 0).1 (grid1.coords t) 0 * 1 + (y 0).val = e.val
    have hy : (y 0).val < 1 := (y 0).isLt
    rw [h0]; omega
  | 1 =>
    apply Fin.ext
    refine (Pipeline.Window.rect_emb_val ((FFN.cfg a).win (4 : Fin 6)) t y (1 : Fin 3)).trans ?_
    show 0 * 1 + (y 1).val = (y 1).val
    rw [Nat.zero_mul, Nat.zero_add]
  | 2 =>
    apply Fin.ext
    refine (Pipeline.Window.rect_emb_val ((FFN.cfg a).win (4 : Fin 6)) t y (2 : Fin 3)).trans ?_
    show 0 * 1024 + (y 2).val = (y 2).val
    rw [Nat.zero_mul, Nat.zero_add]

theorem Combine.emb0 (t : Fin grid3.N) (y : S1024x1024.Idx) : (((Combine.cfg a).win (0 : Fin 4)).blk t).view.emb y
    = (ix2 ⟨(0 + t.val) * 1024 + (y 0).val, by have h0 : t.val < 4 := t.isLt; have h1 : (y 0).val < 1024 := (y 0).isLt; omega⟩ (y 1) : S8192x1024.Idx) := by
  have e : cc3_transform_0 (grid3.coords t) 0 = 0 + t.val := by revert t; decide +kernel
  have e1 : cc3_transform_0 (grid3.coords t) 1 = 0 := by revert t; decide +kernel
  funext k
  match k with
  | 0 =>
    apply Fin.ext
    refine (Pipeline.Window.rect_emb_val ((Combine.cfg a).win (0 : Fin 4)) t y (0 : Fin 2)).trans ?_
    show cc3_transform_0 (grid3.coords t) 0 * 1024 + (y 0).val = (0 + t.val) * 1024 + (y 0).val
    rw [e]
  | 1 =>
    apply Fin.ext
    refine (Pipeline.Window.rect_emb_val ((Combine.cfg a).win (0 : Fin 4)) t y (1 : Fin 2)).trans ?_
    show cc3_transform_0 (grid3.coords t) 1 * 1024 + (y 1).val = (y 1).val
    rw [e1, Nat.zero_mul, Nat.zero_add]

theorem Combine.emb1 (t : Fin grid3.N) (y : S1024x1024.Idx) : (((Combine.cfg a).win (1 : Fin 4)).blk t).view.emb y
    = (ix2 ⟨(4 + t.val) * 1024 + (y 0).val, by have h0 : t.val < 4 := t.isLt; have h1 : (y 0).val < 1024 := (y 0).isLt; omega⟩ (y 1) : S8192x1024.Idx) := by
  have e : cc3_transform_1 (grid3.coords t) 0 = 4 + t.val := by revert t; decide +kernel
  have e1 : cc3_transform_1 (grid3.coords t) 1 = 0 := by revert t; decide +kernel
  funext k
  match k with
  | 0 =>
    apply Fin.ext
    refine (Pipeline.Window.rect_emb_val ((Combine.cfg a).win (1 : Fin 4)) t y (0 : Fin 2)).trans ?_
    show cc3_transform_1 (grid3.coords t) 0 * 1024 + (y 0).val = (4 + t.val) * 1024 + (y 0).val
    rw [e]
  | 1 =>
    apply Fin.ext
    refine (Pipeline.Window.rect_emb_val ((Combine.cfg a).win (1 : Fin 4)) t y (1 : Fin 2)).trans ?_
    show cc3_transform_1 (grid3.coords t) 1 * 1024 + (y 1).val = (y 1).val
    rw [e1, Nat.zero_mul, Nat.zero_add]

theorem Combine.emb2 (t : Fin grid3.N) (y : S1024x2.Idx) : (((Combine.cfg a).win (2 : Fin 4)).blk t).view.emb y
    = (ix2 ⟨(0 + t.val) * 1024 + (y 0).val, by have h0 : t.val < 4 := t.isLt; have h1 : (y 0).val < 1024 := (y 0).isLt; omega⟩ (y 1) : S4096x2.Idx) := by
  have e : cc3_transform_2 (grid3.coords t) 0 = 0 + t.val := by revert t; decide +kernel
  have e1 : cc3_transform_2 (grid3.coords t) 1 = 0 := by revert t; decide +kernel
  funext k
  match k with
  | 0 =>
    apply Fin.ext
    refine (Pipeline.Window.rect_emb_val ((Combine.cfg a).win (2 : Fin 4)) t y (0 : Fin 2)).trans ?_
    show cc3_transform_2 (grid3.coords t) 0 * 1024 + (y 0).val = (0 + t.val) * 1024 + (y 0).val
    rw [e]
  | 1 =>
    apply Fin.ext
    refine (Pipeline.Window.rect_emb_val ((Combine.cfg a).win (2 : Fin 4)) t y (1 : Fin 2)).trans ?_
    show cc3_transform_2 (grid3.coords t) 1 * 2 + (y 1).val = (y 1).val
    rw [e1, Nat.zero_mul, Nat.zero_add]

end Windows

/-! ## What the host puts between the calls -/

section Host
variable (m : (ℓ : Loc nD τ sig) → Buf (Elt F) ℓ)

def a0Of : FVec F S2x2048x1024 .f32 := m (d0, rr main_arg0)
def a1Of : FVec F S4096x2 .f32 := m (d0, rr main_arg1)
def a6Of : FVec F S8x4096x1024 .f32 := m (d0, rr main_arg6)
def a7Of : FVec F S8x4096 .f32 := m (d0, rr main_arg7)
def a8Of : FVec F S8x1024x4096 .f32 := m (d0, rr main_arg8)
def a9Of : FVec F S8x1024 .f32 := m (d0, rr main_arg9)

theorem V1_v2 : V1 m (rr main_v2) = shapeCast S4096x8x128 (shapeCast S4096x1024 (a0Of m) shapeCasts_S2x2048x1024_S4096x1024) shapeCasts_S4096x1024_S4096x8x128 := by
  show StableHlo.after ops1 (Vm m) (Proc.devRef .tc _) = _
  after_reads_simp
  rfl
theorem V3_v4 : V3 m (rr main_v4) = shapeCast S10240x1024 (Dispatch.dispatched (xv m) (pv m) (f0 m)) shapeCasts_S10240x8x128_S10240x1024 := by
  show StableHlo.after ops2 (V2 m) (Proc.devRef .tc _) = _
  after_reads_simp
  exact congrArg (fun X : S10240x8x128.Idx → F .f32 => shapeCast S10240x1024 X shapeCasts_S10240x8x128_S10240x1024) (Function.update_self (rr main_v3) _ (V1 m))
theorem V3_v5 : V3 m (rr main_v5) = truncf .bf16 (a6Of m) bitsLt_bf16_f32 := by
  show StableHlo.after ops2 (V2 m) (Proc.devRef .tc _) = _
  after_reads_simp
  rfl
theorem V3_v6 : V3 m (rr main_v6) = truncf .bf16 (a8Of m) bitsLt_bf16_f32 := by
  show StableHlo.after ops2 (V2 m) (Proc.devRef .tc _) = _
  after_reads_simp
  rfl
theorem V3_v7 : V3 m (rr main_v7) = shapeCast S8x1x4096 (a7Of m) shapeCasts_S8x4096_S8x1x4096 := by
  show StableHlo.after ops2 (V2 m) (Proc.devRef .tc _) = _
  after_reads_simp
  rfl
theorem V3_v8 : V3 m (rr main_v8) = shapeCast S8x1x1024 (a9Of m) shapeCasts_S8x1024_S8x1x1024 := by
  show StableHlo.after ops2 (V2 m) (Proc.devRef .tc _) = _
  after_reads_simp
  rfl

/-- Token `t`'s row. -/
def flatX : FVec F S4096x1024 .f32 := shapeCast S4096x1024 (a0Of m) shapeCasts_S2x2048x1024_S4096x1024

theorem v4_at (hp : POK m) (p : S2x4096.Idx) (r : Fin 10240) (hr : (pv m p).toNat = r.val) (k : Fin 1024) :
    (V3 m (rr main_v4) : S10240x1024.Idx → F .f32) (ix2 r k) = flatX m (ix2 (p 1) k) := by
  refine (congrFun (V3_v4 m) _).trans ?_
  let o : S10240x8x128.Idx := ix3 r ⟨k.val / 128, by have := k.isLt; omega⟩ ⟨k.val % 128, Nat.mod_lt _ (by norm_num)⟩
  refine (shapeCast_apply _ _ _ o ?_).trans ?_
  · rw [Shape.rowMajor_val_two, Shape.rowMajor_val_three]
    show (r.val * 8 + k.val / 128) * 128 + k.val % 128 = r.val * 1024 + k.val
    omega
  · have hx : ∃ p, (pv m p).toNat = (o 0).val := ⟨p, hr⟩
    unfold Dispatch.dispatched
    rw [dif_pos hx]
    have hc : hx.choose = p := by
      have h' : (pv m hx.choose).toNat = (pv m p).toNat := hx.choose_spec.trans hr.symm
      rw [pv_at, pv_at] at h'
      have e := hp.ne _ _ h'
      funext k
      match k with
      | 0 => exact congrFun e 1
      | 1 => exact congrFun e 0
    rw [hc]
    refine (congrFun (V1_v2 m) _).trans ?_
    refine shapeCast_apply _ _ _ _ ?_
    rw [Shape.rowMajor_val_two, Shape.rowMajor_val_three]
    show (p 1).val * 1024 + k.val = ((p 1).val * 8 + k.val / 128) * 128 + k.val % 128
    omega

theorem be_at (j : Fin 40) : (pf m (0 : Fin 2) : S40.Idx → BitVec 32) (ix1 j) = beOf m (ix2 0 j) := by
  refine (pf0_at m _).trans (congrArg (beOf m) ?_)
  funext k
  match k with
  | 0 => rfl
  | 1 => rfl

theorem rv_at (hp : POK m) (p : Fin 8192) (j : Fin 1024) :
    shapeCast S8192x1024 (rv m hp) shapeCasts_S8192x8x128_S8192x1024 (ix2 p j)
      = Yd m hp (ix2 ⟨(pv m (ix2 ⟨p.val / 4096, by have := p.isLt; omega⟩ ⟨p.val % 4096, Nat.mod_lt _ (by norm_num)⟩)).toNat, pv_lt m hp _⟩ j) := by
  let o : S8192x8x128.Idx := ix3 p ⟨j.val / 128, by have := j.isLt; omega⟩ ⟨j.val % 128, Nat.mod_lt _ (by norm_num)⟩
  refine (shapeCast_apply _ _ _ o ?_).trans ?_
  · rw [Shape.rowMajor_val_two, Shape.rowMajor_val_three]
    show (p.val * 8 + j.val / 128) * 128 + j.val % 128 = p.val * 1024 + j.val
    omega
  · show shapeCast S10240x8x128 (Yd m hp) _ (Collect.yIdx (pv m) o) = _
    rw [reshape_at]
    refine congrArg (Yd m hp) ?_
    have hi : Collect.pIdx o = (ix2 ⟨p.val / 4096, by have := p.isLt; omega⟩ ⟨p.val % 4096, Nat.mod_lt _ (by norm_num)⟩ : S2x4096.Idx) := by
      funext k
      match k with
      | 0 => rfl
      | 1 => rfl
    funext k
    match k with
    | 0 =>
      apply Fin.ext
      show (pv m (Collect.pIdx o)).toNat % 10240 = _
      rw [hi]
      exact Nat.mod_eq_of_lt (pv_lt m hp _)
    | 1 =>
      apply Fin.ext
      show j.val / 128 * 128 + j.val % 128 = j.val
      omega

end Host

/-! ## At the ideal instance -/

variable (m : (ℓ : Loc nD τ sig) → Buf (Elt Ideal) ℓ)

theorem Yd_at (hp : POK m) (r : Fin 10240) (j : Fin 1024) (e : Fin 8) (he : (beOf m (ix2 0 ⟨r.val / 256, by have := r.isLt; omega⟩)).toNat = e.val) :
    Yd m hp (ix2 r j) = ffn (fun k => (V3 m (rr main_v4) : S10240x1024.Idx → EReal) (ix2 r k)) (fun h k => a6Of m (ix3 e h k)) (fun h => a7Of m (ix2 e h)) (fun j h => a8Of m (ix3 e j h))
      (fun j => a9Of m (ix2 e j)) j := by
  have he' : ((aa m hp 0).1 (0 : Fin 2) (ix1 ⟨(blkOf r.val r.isLt).val, (blkOf r.val r.isLt).isLt⟩) : BitVec 32).toNat = e.val :=
    (congrArg BitVec.toNat (be_at m ⟨r.val / 256, by have := r.isLt; omega⟩)).trans he
  show FFN.outv (aa m hp) (Vof (V3 m)) d0 (blkOf r.val r.isLt) (ix256 r.val j) = _
  unfold FFN.outv
  rw [show ix256 r.val j = (ix2 ⟨r.val % 256, Nat.mod_lt _ (by norm_num)⟩ j : S256x1024.Idx) from by
    funext k
    match k with
    | 0 => rfl
    | 1 => rfl]
  refine (pay_at _ _ _ _ _ _ _).trans ?_
  have h0 : ∀ k : Fin 1024, FFN.blkv (aa m hp) (Vof (V3 m)) d0 (0 : Fin 6) (blkOf r.val r.isLt) (ix2 ⟨r.val % 256, Nat.mod_lt _ (by norm_num)⟩ k : S256x1024.Idx)
      = (V3 m (rr main_v4) : S10240x1024.Idx → EReal) (ix2 r k) := fun k => by
    refine (congrArg (V3 m (rr main_v4) : S10240x1024.Idx → EReal) (FFN.emb0 (aa m hp) _ _)).trans ?_
    refine congrArg (V3 m (rr main_v4) : S10240x1024.Idx → EReal) ?_
    funext q
    match q with
    | 0 => exact Fin.ext (by show r.val / 256 * 256 + r.val % 256 = r.val; omega)
    | 1 => rfl
  have h1 : ∀ (i : Fin 4096) (k : Fin 1024), FFN.blkv (aa m hp) (Vof (V3 m)) d0 (1 : Fin 6) (blkOf r.val r.isLt) (ix3 0 i k : S1x4096x1024.Idx) = a6Of m (ix3 e i k) := fun i k => by
    refine (congrArg (V3 m (rr main_v5) : S8x4096x1024.Idx → EReal) (FFN.emb1 (aa m hp) _ e he' _)).trans ?_
    refine (congrFun (V3_v5 m) _).trans ?_
    rfl
  have h2 : ∀ (k : Fin 4096), FFN.blkv (aa m hp) (Vof (V3 m)) d0 (2 : Fin 6) (blkOf r.val r.isLt) (ix3 0 0 k : S1x1x4096.Idx) = a7Of m (ix2 e k) := fun k => by
    refine (congrArg (V3 m (rr main_v7) : S8x1x4096.Idx → EReal) (FFN.emb2 (aa m hp) _ e he' _)).trans ?_
    refine (congrFun (V3_v7 m) _).trans ?_
    refine shapeCast_apply _ _ _ _ ?_
    rw [Shape.rowMajor_val_two, Shape.rowMajor_val_three]
    show e.val * 4096 + k.val = (e.val * 1 + 0) * 4096 + k.val
    omega
  have h3 : ∀ (i : Fin 1024) (k : Fin 4096), FFN.blkv (aa m hp) (Vof (V3 m)) d0 (3 : Fin 6) (blkOf r.val r.isLt) (ix3 0 i k : S1x1024x4096.Idx) = a8Of m (ix3 e i k) := fun i k => by
    refine (congrArg (V3 m (rr main_v6) : S8x1024x4096.Idx → EReal) (FFN.emb3 (aa m hp) _ e he' _)).trans ?_
    refine (congrFun (V3_v6 m) _).trans ?_
    rfl
  have h4 : ∀ (k : Fin 1024), FFN.blkv (aa m hp) (Vof (V3 m)) d0 (4 : Fin 6) (blkOf r.val r.isLt) (ix3 0 0 k : S1x1x1024.Idx) = a9Of m (ix2 e k) := fun k => by
    refine (congrArg (V3 m (rr main_v8) : S8x1x1024.Idx → EReal) (FFN.emb4 (aa m hp) _ e he' _)).trans ?_
    refine (congrFun (V3_v8 m) _).trans ?_
    refine shapeCast_apply _ _ _ _ ?_
    rw [Shape.rowMajor_val_two, Shape.rowMajor_val_three]
    show e.val * 1024 + k.val = (e.val * 1 + 0) * 1024 + k.val
    omega
  simp only [h0, h1, h2, h3, h4]

/-- One copy's row of the feed-forward: its token's row through its expert. -/
theorem Yd_pos (hp : POK m) (c : Fin 2) (t : Fin 4096) (j : Fin 1024) (e : Fin 8) (he : (tidxOf m (ix2 t c)).toNat = e.val) (h) :
    Yd m hp (ix2 ⟨(pv m (ix2 c t)).toNat, h⟩ j) = ffn (fun k => flatX m (ix2 t k)) (fun h k => a6Of m (ix3 e h k)) (fun h => a7Of m (ix2 e h)) (fun j h => a8Of m (ix3 e j h))
      (fun j => a9Of m (ix2 e j)) j := by
  have hpv : pv m (ix2 c t) = posOf m (ix2 t c) := (pv_at m _).trans (congrArg (posOf m) (by
    funext k
    match k with
    | 0 => rfl
    | 1 => rfl))
  refine (Yd_at m hp _ j e ?_).trans ?_
  · rw [hp.right (ix2 t c) _ (by show (pv m (ix2 c t)).toNat / 256 = _; rw [hpv])]
    exact he
  · simp only [v4_at m hp (ix2 c t) ⟨(pv m (ix2 c t)).toNat, h⟩ rfl]
    rfl

theorem Zd_at (hp : POK m) (t : Fin 4096) (j : Fin 1024) (e0 e1 : Fin 8) (h0 : (tidxOf m (ix2 t 0)).toNat = e0.val) (h1 : (tidxOf m (ix2 t 1)).toNat = e1.val) :
    Zd m hp (ix2 t j)
      = a1Of m (ix2 t 0) * ffn (fun k => flatX m (ix2 t k)) (fun h k => a6Of m (ix3 e0 h k)) (fun h => a7Of m (ix2 e0 h)) (fun j h => a8Of m (ix3 e0 j h)) (fun j => a9Of m (ix2 e0 j)) j
        + a1Of m (ix2 t 1) * ffn (fun k => flatX m (ix2 t k)) (fun h k => a6Of m (ix3 e1 h k)) (fun h => a7Of m (ix2 e1 h)) (fun j h => a8Of m (ix3 e1 j h)) (fun j => a9Of m (ix2 e1 j)) j := by
  have ht := t.isLt
  show Combine.outv (aa m hp) (Vof (V7 m hp (Yd m hp))) d0 (blkOf3 t.val t.isLt) (ix1024 t.val j) = _
  unfold Combine.outv
  rw [show ix1024 t.val j = (ix2 ⟨t.val % 1024, Nat.mod_lt _ (by norm_num)⟩ j : S1024x1024.Idx) from by
    funext k
    match k with
    | 0 => rfl
    | 1 => rfl]
  refine (combine_at _ _ _ _ _).trans ?_
  have r0 : Combine.blkv (aa m hp) (Vof (V7 m hp (Yd m hp))) d0 (0 : Fin 4) (blkOf3 t.val t.isLt) (ix2 ⟨t.val % 1024, Nat.mod_lt _ (by norm_num)⟩ j : S1024x1024.Idx)
      = Yd m hp (ix2 ⟨(pv m (ix2 0 t)).toNat, pv_lt m hp _⟩ j) := by
    refine (congrArg (V7 m hp (Yd m hp) (rr main_v14) : S8192x1024.Idx → EReal) (Combine.emb0 (aa m hp) _ _)).trans ?_
    refine (congrFun (V7_v14 m hp _) _).trans ((rv_at m hp _ _).trans ?_)
    have hi : (ix2 ⟨((0 + (blkOf3 t.val t.isLt).val) * 1024 + t.val % 1024) / 4096, by show ((0 + t.val / 1024) * 1024 + t.val % 1024) / 4096 < 2; omega⟩
        ⟨((0 + (blkOf3 t.val t.isLt).val) * 1024 + t.val % 1024) % 4096, Nat.mod_lt _ (by norm_num)⟩ : S2x4096.Idx) = ix2 0 t := by
      funext k
      match k with
      | 0 => exact Fin.ext (by show ((0 + t.val / 1024) * 1024 + t.val % 1024) / 4096 = 0; omega)
      | 1 => exact Fin.ext (by show ((0 + t.val / 1024) * 1024 + t.val % 1024) % 4096 = t.val; omega)
    refine congrArg (Yd m hp) ?_
    funext k
    match k with
    | 0 => exact Fin.ext (congrArg (fun i => (pv m i).toNat) hi)
    | 1 => rfl
  have r1 : Combine.blkv (aa m hp) (Vof (V7 m hp (Yd m hp))) d0 (1 : Fin 4) (blkOf3 t.val t.isLt) (ix2 ⟨t.val % 1024, Nat.mod_lt _ (by norm_num)⟩ j : S1024x1024.Idx)
      = Yd m hp (ix2 ⟨(pv m (ix2 1 t)).toNat, pv_lt m hp _⟩ j) := by
    refine (congrArg (V7 m hp (Yd m hp) (rr main_v14) : S8192x1024.Idx → EReal) (Combine.emb1 (aa m hp) _ _)).trans ?_
    refine (congrFun (V7_v14 m hp _) _).trans ((rv_at m hp _ _).trans ?_)
    have hi : (ix2 ⟨((4 + (blkOf3 t.val t.isLt).val) * 1024 + t.val % 1024) / 4096, by show ((4 + t.val / 1024) * 1024 + t.val % 1024) / 4096 < 2; omega⟩
        ⟨((4 + (blkOf3 t.val t.isLt).val) * 1024 + t.val % 1024) % 4096, Nat.mod_lt _ (by norm_num)⟩ : S2x4096.Idx) = ix2 1 t := by
      funext k
      match k with
      | 0 => exact Fin.ext (by show ((4 + t.val / 1024) * 1024 + t.val % 1024) / 4096 = 1; omega)
      | 1 => exact Fin.ext (by show ((4 + t.val / 1024) * 1024 + t.val % 1024) % 4096 = t.val; omega)
    refine congrArg (Yd m hp) ?_
    funext k
    match k with
    | 0 => exact Fin.ext (congrArg (fun i => (pv m i).toNat) hi)
    | 1 => rfl
  have r2 : ∀ c : Fin 2, Combine.blkv (aa m hp) (Vof (V7 m hp (Yd m hp))) d0 (2 : Fin 4) (blkOf3 t.val t.isLt) (ix2 ⟨t.val % 1024, Nat.mod_lt _ (by norm_num)⟩ c : S1024x2.Idx)
      = a1Of m (ix2 t c) := fun c => by
    refine (congrArg (V7 m hp (Yd m hp) (rr main_arg1) : S4096x2.Idx → EReal) (Combine.emb2 (aa m hp) _ _)).trans ?_
    refine (congrFun (V7_arg1 m hp _) _).trans (congrArg (a1Of m) ?_)
    funext k
    match k with
    | 0 => exact Fin.ext (by show (0 + t.val / 1024) * 1024 + t.val % 1024 = t.val; omega)
    | 1 => rfl
  rw [r0, r1, r2, r2, Yd_pos m hp 0 t j e0 h0, Yd_pos m hp 1 t j e1 h1]

end Cert.Proof.Moe

end
-- ==== Proof.AlgRef.lean ====
/-
  The reference's result at an index: every expert's output of the token, weighted.
-/
module

public import proofs.«01_k».proof.Proof.AlgFFN
public import proofs.«01_k».proof.Proof.Gen.ReferenceIdeal
public import proofs.«01_k».proof.Proof.Gen.ReferenceIdeal.Run
public import Idealize.ShloMosaic.Lib.Pointwise

@[expose] public section

noncomputable section

namespace Cert.Proof.MoeR

open Cert.ReferenceIdeal Cert.ReferenceIdeal.Gen Cert.ReferenceIdeal.Value
open Idealize.ShloMosaic
open Cert.Proof.Moe (half root act hid ffn)

section Terms
variable {F : FTy → Type} [FloatOps F]

/-- The hidden layer of one expert before its activation. -/
def hre (X : FVec F S4096x1024 .f32) (W1 : FVec F S1x4096x1024 .f32) (B1 : FVec F S1x4096 .f32) : FVec F S4096x4096 .f32 :=
  addf (Host.dotGeneral dot_S4096x1024_S1024x4096_S4096x4096_1_0_0_1_n_n none X (transpose S1024x4096 [1, 0] (shapeCast S4096x1024 W1 shapeCasts_S1x4096x1024_S4096x1024) transposes_S4096x1024_S1024x4096_1_0))
    (broadcastInDim S4096x4096 ![0, 1] bcast_S1x4096_S4096x4096_0_1 (broadcastInDim S1x4096 ![1] bcast_S4096_S1x4096_1 (shapeCast S4096 B1 shapeCasts_S1x4096_S4096)))
/-- The activation. -/
def gelr (H : FVec F S4096x4096 .f32) : FVec F S4096x4096 .f32 :=
  mulf (mulf (broadcastInDim S4096x4096 ![] bcast_S_S4096x4096 (constant S_ .f32 0x3F000000#32)) H)
    (Host.erfc (mulf (Host.negf H) (broadcastInDim S4096x4096 ![] bcast_S_S4096x4096 (constant S_ .f32 0x3F3504F3#32))))
/-- The weight every token gives one expert. -/
def wtok (e : BitVec 32) (TI : IVec S4096x2 32) (TV : FVec F S4096x2 .f32) : FVec F S4096 .f32 :=
  Host.reduceAdd (select (cmpi .eq TI (broadcastInDim S4096x2 ![] bcast_S_S4096x2 (constantI S_ 32 e))) TV (broadcastInDim S4096x2 ![] bcast_S_S4096x2 (id (constant S_ .f32 0x00000000#32))))
    (constant S_ .f32 0x00000000#32) reducesTo_S4096x2_S4096_d1 h_S_
/-- The output layer of one expert. -/
def outr (H : FVec F S4096x4096 .f32) (W2 : FVec F S1x1024x4096 .f32) (B2 : FVec F S1x1024 .f32) : FVec F S4096x1024 .f32 :=
  addf (Host.dotGeneral dot_S4096x4096_S4096x1024_S4096x1024_1_0_0_1_n_n none H (transpose S4096x1024 [1, 0] (shapeCast S1024x4096 W2 shapeCasts_S1x1024x4096_S1024x4096) transposes_S1024x4096_S4096x1024_1_0))
    (broadcastInDim S4096x1024 ![0, 1] bcast_S1x1024_S4096x1024_0_1 (broadcastInDim S1x1024 ![1] bcast_S1024_S1x1024_1 (shapeCast S1024 B2 shapeCasts_S1x1024_S1024)))
/-- One expert's share of the result. -/
def expert (e : BitVec 32) (TI : IVec S4096x2 32) (TV : FVec F S4096x2 .f32) (H : FVec F S4096x4096 .f32) (W2 : FVec F S1x1024x4096 .f32) (B2 : FVec F S1x1024 .f32) : FVec F S4096x1024 .f32 :=
  mulf (broadcastInDim S4096x1024 ![0, 1] bcast_S4096x1_S4096x1024_0_1 (broadcastInDim S4096x1 ![0] bcast_S4096_S4096x1_0 (wtok e TI TV))) (outr (gelr H) W2 B2)

def flat (A0 : FVec F S2x2048x1024 .f32) : FVec F S4096x1024 .f32 := shapeCast S4096x1024 A0 shapeCasts_S2x2048x1024_S4096x1024

def total (A0 : FVec F S2x2048x1024 .f32) (TV : FVec F S4096x2 .f32) (TI : IVec S4096x2 32) (A6 : FVec F S8x4096x1024 .f32) (A7 : FVec F S8x4096 .f32) (A8 : FVec F S8x1024x4096 .f32) (A9 : FVec F S8x1024 .f32) : FVec F S4096x1024 .f32 :=
    (addf (addf (addf (addf (addf (addf (addf (addf (broadcastInDim S4096x1024 ![] bcast_S_S4096x1024 (constant S_ .f32 0x00000000#32))
      (expert 0#32 TI TV (hre (flat A0) (extractStridedSlice S1x4096x1024 ![0, 0, 0] A6 slices_S8x4096x1024_S1x4096x1024_0_0_0) (extractStridedSlice S1x4096 ![0, 0] A7 slices_S8x4096_S1x4096_0_0)) (extractStridedSlice S1x1024x4096 ![0, 0, 0] A8 slices_S8x1024x4096_S1x1024x4096_0_0_0) (extractStridedSlice S1x1024 ![0, 0] A9 slices_S8x1024_S1x1024_0_0)))
      (expert 1#32 TI TV (hre (flat A0) (extractStridedSlice S1x4096x1024 ![1, 0, 0] A6 slices_S8x4096x1024_S1x4096x1024_1_0_0) (extractStridedSlice S1x4096 ![1, 0] A7 slices_S8x4096_S1x4096_1_0)) (extractStridedSlice S1x1024x4096 ![1, 0, 0] A8 slices_S8x1024x4096_S1x1024x4096_1_0_0) (extractStridedSlice S1x1024 ![1, 0] A9 slices_S8x1024_S1x1024_1_0)))
      (expert 2#32 TI TV (hre (flat A0) (extractStridedSlice S1x4096x1024 ![2, 0, 0] A6 slices_S8x4096x1024_S1x4096x1024_2_0_0) (extractStridedSlice S1x4096 ![2, 0] A7 slices_S8x4096_S1x4096_2_0)) (extractStridedSlice S1x1024x4096 ![2, 0, 0] A8 slices_S8x1024x4096_S1x1024x4096_2_0_0) (extractStridedSlice S1x1024 ![2, 0] A9 slices_S8x1024_S1x1024_2_0)))
      (expert 3#32 TI TV (hre (flat A0) (extractStridedSlice S1x4096x1024 ![3, 0, 0] A6 slices_S8x4096x1024_S1x4096x1024_3_0_0) (extractStridedSlice S1x4096 ![3, 0] A7 slices_S8x4096_S1x4096_3_0)) (extractStridedSlice S1x1024x4096 ![3, 0, 0] A8 slices_S8x1024x4096_S1x1024x4096_3_0_0) (extractStridedSlice S1x1024 ![3, 0] A9 slices_S8x1024_S1x1024_3_0)))
      (expert 4#32 TI TV (hre (flat A0) (extractStridedSlice S1x4096x1024 ![4, 0, 0] A6 slices_S8x4096x1024_S1x4096x1024_4_0_0) (extractStridedSlice S1x4096 ![4, 0] A7 slices_S8x4096_S1x4096_4_0)) (extractStridedSlice S1x1024x4096 ![4, 0, 0] A8 slices_S8x1024x4096_S1x1024x4096_4_0_0) (extractStridedSlice S1x1024 ![4, 0] A9 slices_S8x1024_S1x1024_4_0)))
      (expert 5#32 TI TV (hre (flat A0) (extractStridedSlice S1x4096x1024 ![5, 0, 0] A6 slices_S8x4096x1024_S1x4096x1024_5_0_0) (extractStridedSlice S1x4096 ![5, 0] A7 slices_S8x4096_S1x4096_5_0)) (extractStridedSlice S1x1024x4096 ![5, 0, 0] A8 slices_S8x1024x4096_S1x1024x4096_5_0_0) (extractStridedSlice S1x1024 ![5, 0] A9 slices_S8x1024_S1x1024_5_0)))
      (expert 6#32 TI TV (hre (flat A0) (extractStridedSlice S1x4096x1024 ![6, 0, 0] A6 slices_S8x4096x1024_S1x4096x1024_6_0_0) (extractStridedSlice S1x4096 ![6, 0] A7 slices_S8x4096_S1x4096_6_0)) (extractStridedSlice S1x1024x4096 ![6, 0, 0] A8 slices_S8x1024x4096_S1x1024x4096_6_0_0) (extractStridedSlice S1x1024 ![6, 0] A9 slices_S8x1024_S1x1024_6_0)))
      (expert 7#32 TI TV (hre (flat A0) (extractStridedSlice S1x4096x1024 ![7, 0, 0] A6 slices_S8x4096x1024_S1x4096x1024_7_0_0) (extractStridedSlice S1x4096 ![7, 0] A7 slices_S8x4096_S1x4096_7_0)) (extractStridedSlice S1x1024x4096 ![7, 0, 0] A8 slices_S8x1024x4096_S1x1024x4096_7_0_0) (extractStridedSlice S1x1024 ![7, 0] A9 slices_S8x1024_S1x1024_7_0)))

theorem result_eq (V : Valuation τ sig (Elt F)) : res_main_v265 V
    = total (V (Proc.devRef .tc main_arg0)) (V (Proc.devRef .tc main_arg1)) (V (Proc.devRef .tc main_arg2)) (V (Proc.devRef .tc main_arg6)) (V (Proc.devRef .tc main_arg7))
      (V (Proc.devRef .tc main_arg8)) (V (Proc.devRef .tc main_arg9)) := rfl

end Terms

theorem hre_at (X : FVec Ideal S4096x1024 .f32) (W1 : FVec Ideal S1x4096x1024 .f32) (B1 : FVec Ideal S1x4096 .f32) (t : Fin 4096) (h : Fin 4096) :
    hre X W1 B1 (ix2 t h) = (∑ k : Fin 1024, X (ix2 t k) * W1 (ix3 0 h k)) + B1 (ix2 0 h) := by
  pointwise [hre]

theorem gelr_at (H : FVec Ideal S4096x4096 .f32) (i : S4096x4096.Idx) : gelr H i = act (H i) := by
  unfold act half root
  pointwise [gelr]
  simp only [neg_mul, Ideal.erfc_neg]

theorem wtok_at (e : BitVec 32) (TI : IVec S4096x2 32) (TV : FVec Ideal S4096x2 .f32) (t : Fin 4096) :
    wtok e TI TV (ix1 t) = (if TI (ix2 t 0) = e then TV (ix2 t 0) else 0) + (if TI (ix2 t 1) = e then TV (ix2 t 1) else 0) := by
  have sel : ∀ (a : BitVec 32) (b c : EReal), Scalar.select (IntOp.cmpi CmpIPredicate.eq a e) b c = if a = e then b else c := fun a b c => by
    by_cases h : a = e
    · rw [if_pos h, IntOp.cmpi_eq.2 h]; rfl
    · rw [if_neg h]
      have h0 : IntOp.cmpi CmpIPredicate.eq a e = 0#1 := by
        rcases BitVec.eq_zero_or_eq_one (IntOp.cmpi CmpIPredicate.eq a e) with h1 | h1
        · exact h1
        · exact absurd (IntOp.cmpi_eq.1 h1) h
      rw [h0]; rfl
  have z : (id (constant (F := Ideal) S_ FTy.f32 0#32) ix0 : EReal) = 0 := by
    show (constant (F := Ideal) S_ FTy.f32 0#32) ix0 = (0 : EReal)
    pointwise
  pointwise [wtok]
  rw [Fin.sum_univ_two, z, sel, sel]

theorem outr_at (H : FVec Ideal S4096x4096 .f32) (W2 : FVec Ideal S1x1024x4096 .f32) (B2 : FVec Ideal S1x1024 .f32) (t : Fin 4096) (j : Fin 1024) :
    outr H W2 B2 (ix2 t j) = (∑ h : Fin 4096, H (ix2 t h) * W2 (ix3 0 j h)) + B2 (ix2 0 j) := by
  pointwise [outr]

theorem expert_at (e : BitVec 32) (TI : IVec S4096x2 32) (TV : FVec Ideal S4096x2 .f32) (X : FVec Ideal S4096x1024 .f32) (W1 : FVec Ideal S1x4096x1024 .f32) (B1 : FVec Ideal S1x4096 .f32)
    (W2 : FVec Ideal S1x1024x4096 .f32) (B2 : FVec Ideal S1x1024 .f32) (t : Fin 4096) (j : Fin 1024) :
    expert e TI TV (hre X W1 B1) W2 B2 (ix2 t j)
      = ((if TI (ix2 t 0) = e then TV (ix2 t 0) else 0) + (if TI (ix2 t 1) = e then TV (ix2 t 1) else 0))
        * ffn (fun k => X (ix2 t k)) (fun h k => W1 (ix3 0 h k)) (fun h => B1 (ix2 0 h)) (fun j h => W2 (ix3 0 j h)) (fun j => B2 (ix2 0 j)) j := by
  pointwise [expert]
  rw [wtok_at, outr_at]
  simp only [gelr_at, hre_at]
  rfl

/-- Expert `e`'s output `j` for token `t`. -/
def ffo (A0 : FVec Ideal S2x2048x1024 .f32) (A6 : FVec Ideal S8x4096x1024 .f32) (A7 : FVec Ideal S8x4096 .f32) (A8 : FVec Ideal S8x1024x4096 .f32) (A9 : FVec Ideal S8x1024 .f32)
    (t : Fin 4096) (e : Fin 8) (j : Fin 1024) : EReal :=
  ffn (fun k => flat A0 (ix2 t k)) (fun h k => A6 (ix3 e h k)) (fun h => A7 (ix2 e h)) (fun j h => A8 (ix3 e j h)) (fun j => A9 (ix2 e j)) j

theorem total_at (A0 : FVec Ideal S2x2048x1024 .f32) (TV : FVec Ideal S4096x2 .f32) (TI : IVec S4096x2 32) (A6 : FVec Ideal S8x4096x1024 .f32) (A7 : FVec Ideal S8x4096 .f32) (A8 : FVec Ideal S8x1024x4096 .f32) (A9 : FVec Ideal S8x1024 .f32) (t : Fin 4096) (j : Fin 1024) :
    total A0 TV TI A6 A7 A8 A9 (ix2 t j)
      = ((if TI (ix2 t 0) = 0#32 then TV (ix2 t 0) else 0) + (if TI (ix2 t 1) = 0#32 then TV (ix2 t 1) else 0)) * ffo A0 A6 A7 A8 A9 t 0 j
        + ((if TI (ix2 t 0) = 1#32 then TV (ix2 t 0) else 0) + (if TI (ix2 t 1) = 1#32 then TV (ix2 t 1) else 0)) * ffo A0 A6 A7 A8 A9 t 1 j
        + ((if TI (ix2 t 0) = 2#32 then TV (ix2 t 0) else 0) + (if TI (ix2 t 1) = 2#32 then TV (ix2 t 1) else 0)) * ffo A0 A6 A7 A8 A9 t 2 j
        + ((if TI (ix2 t 0) = 3#32 then TV (ix2 t 0) else 0) + (if TI (ix2 t 1) = 3#32 then TV (ix2 t 1) else 0)) * ffo A0 A6 A7 A8 A9 t 3 j
        + ((if TI (ix2 t 0) = 4#32 then TV (ix2 t 0) else 0) + (if TI (ix2 t 1) = 4#32 then TV (ix2 t 1) else 0)) * ffo A0 A6 A7 A8 A9 t 4 j
        + ((if TI (ix2 t 0) = 5#32 then TV (ix2 t 0) else 0) + (if TI (ix2 t 1) = 5#32 then TV (ix2 t 1) else 0)) * ffo A0 A6 A7 A8 A9 t 5 j
        + ((if TI (ix2 t 0) = 6#32 then TV (ix2 t 0) else 0) + (if TI (ix2 t 1) = 6#32 then TV (ix2 t 1) else 0)) * ffo A0 A6 A7 A8 A9 t 6 j
        + ((if TI (ix2 t 0) = 7#32 then TV (ix2 t 0) else 0) + (if TI (ix2 t 1) = 7#32 then TV (ix2 t 1) else 0)) * ffo A0 A6 A7 A8 A9 t 7 j := by
  pointwise [total]
  simp only [expert_at]
  pointwise [ffo]

end Cert.Proof.MoeR

end
-- ==== Proof.Alg.lean ====
/-
  The value claim: over the extended reals both programs compute the same result.
-/
module

public import proofs.«01_k».proof.Defs
public import proofs.«01_k».proof.Proof.Pre
public import proofs.«01_k».proof.Proof.Frames
public import proofs.«01_k».proof.Proof.AlgKer
public import proofs.«01_k».proof.Proof.AlgRef
public import proofs.«01_k».proof.Proof.Gen.ReferenceIdeal.Run

@[expose] public section

noncomputable section

namespace Cert.Proof

open Idealize.ShloMosaic Idealize.SL.Sem

/-- Of the sum over all experts the two chosen ones remain. -/
theorem sum_experts (f : Fin 8 → EReal) (a0 a1 : EReal) (b0 b1 : BitVec 32) (e0 e1 : Fin 8) (h0 : b0.toNat = e0.val) (h1 : b1.toNat = e1.val) (hne : b0 ≠ b1) :
    ((if b0 = 0#32 then a0 else 0) + (if b1 = 0#32 then a1 else 0)) * f 0
      + ((if b0 = 1#32 then a0 else 0) + (if b1 = 1#32 then a1 else 0)) * f 1
      + ((if b0 = 2#32 then a0 else 0) + (if b1 = 2#32 then a1 else 0)) * f 2
      + ((if b0 = 3#32 then a0 else 0) + (if b1 = 3#32 then a1 else 0)) * f 3
      + ((if b0 = 4#32 then a0 else 0) + (if b1 = 4#32 then a1 else 0)) * f 4
      + ((if b0 = 5#32 then a0 else 0) + (if b1 = 5#32 then a1 else 0)) * f 5
      + ((if b0 = 6#32 then a0 else 0) + (if b1 = 6#32 then a1 else 0)) * f 6
      + ((if b0 = 7#32 then a0 else 0) + (if b1 = 7#32 then a1 else 0)) * f 7
      = a0 * f e0 + a1 * f e1 := by
  obtain rfl : b0 = BitVec.ofNat 32 e0.val := BitVec.eq_of_toNat_eq (h0.trans (by rw [BitVec.toNat_ofNat, Nat.mod_eq_of_lt (by omega)]))
  obtain rfl : b1 = BitVec.ofNat 32 e1.val := BitVec.eq_of_toNat_eq (h1.trans (by rw [BitVec.toNat_ofNat, Nat.mod_eq_of_lt (by omega)]))
  clear h0 h1
  fin_cases e0 <;> fin_cases e1 <;> first | exact absurd rfl hne | (simp; done) | (simp; exact add_comm _ _)

variable (m : (ℓ : Loc Cert.KernelIdeal.nD Cert.KernelIdeal.τ Cert.KernelIdeal.sig) → Buf (Elt Ideal) ℓ)

theorem expert_lt (hp : Moe.POK m) (x : Cert.KernelIdeal.S4096x2.Idx) : (Moe.tidxOf m x).toNat < 8 := by
  rw [← hp.right x (ix2 0 ⟨(Moe.posOf m x).toNat / 256, by have := hp.lt x; change (Moe.posOf m x).toNat < 10240 at this; omega⟩) rfl]
  exact hp.be8 _

/-- The kernel's result is the sum over the experts. -/
theorem Zd_total (hp : Moe.POK m) :
    Moe.Zd m hp = MoeR.total (F := Ideal) (Moe.a0Of m) (Moe.a1Of m) (Moe.tidxOf m) (Moe.a6Of m) (Moe.a7Of m) (Moe.a8Of m) (Moe.a9Of m) := by
  funext x
  obtain ⟨t, j, rfl⟩ : ∃ (t : Fin 4096) (j : Fin 1024), x = ix2 t j := ⟨x 0, x 1, by
    funext k
    match k with
    | 0 => rfl
    | 1 => rfl⟩
  refine (Moe.Zd_at m hp t j ⟨_, expert_lt m hp (ix2 t 0)⟩ ⟨_, expert_lt m hp (ix2 t 1)⟩ rfl rfl).trans ?_
  refine Eq.trans ?_ (MoeR.total_at _ _ _ _ _ _ _ t j).symm
  refine Eq.trans ?_ (sum_experts (fun e => MoeR.ffo (Moe.a0Of m) (Moe.a6Of m) (Moe.a7Of m) (Moe.a8Of m) (Moe.a9Of m) t e j) _ _ _ _
    ⟨_, expert_lt m hp (ix2 t 0)⟩ ⟨_, expert_lt m hp (ix2 t 1)⟩ rfl rfl (hp.dist (ix2 t 0) (ix2 t 1) rfl (by show (0 : Fin 2).val ≠ (1 : Fin 2).val; decide))).symm
  rfl

theorem algebraic : Cert.algebraic_KernelIdeal_ReferenceIdeal := fun m g m' g' h hm => by
  have hp : Moe.POK m := Cert.Pre_plan_ok.plan _ _ _ _ _ _ _ _ _ _ (h Moe.d0)
  refine ⟨fun _ => shapeCast Cert.KernelIdeal.S2x2048x1024 (Moe.Zd m hp) Cert.KernelIdeal.Gen.shapeCasts_S4096x1024_S2x2048x1024,
    (θ_run Cert.KernelIdeal.defs _ _).mono (fun r hr => hr.1) (Moe.value_run m hp g),
    (θ_run Cert.ReferenceIdeal.defs _ _).mono (fun r hr => fun c => ⟨(hr c).1.trans ?_, (hr c).2⟩) (Cert.ReferenceIdeal.Value.run (F := Ideal) m' g')⟩
  obtain rfl : c = Moe.d0 := Subsingleton.elim _ _
  obtain ⟨h0, h1, h2, -, -, -, h6, h7, h8, h9⟩ := hm Moe.d0
  rw [Zd_total, MoeR.result_eq]
  refine congrArg (fun X => shapeCast Cert.KernelIdeal.S2x2048x1024 X _) ?_
  exact congr (congr (congr (congr (congr (congr (congrArg (MoeR.total (F := Ideal)) h0) h1) h2) h6) h7) h8) h9

end Cert.Proof

end
-- ==== Proof.RouteTop.lean ====
/-
  The two greatest of eight, ties by the lower position: what a stable descending sort puts first, and what a maximum and
  the first position that attains it find.
-/
module

public import Idealize.ShloMosaic.Lib.SortFacts
public import Idealize.ShloMosaic.Lib.Pointwise

@[expose] public section

noncomputable section

namespace Cert.Proof.Route

open Idealize.ShloMosaic

/-- Position `k` comes before `j`: greater, or equal and lower. -/
def Ahead (p : Fin 8 → EReal) (k j : Fin 8) : Prop := p j < p k ∨ (p j = p k ∧ k < j)

theorem Ahead.trans {p : Fin 8 → EReal} {a b c : Fin 8} (h : Ahead p a b) (h' : Ahead p b c) : Ahead p a c := by
  rcases h with h | ⟨h, i⟩ <;> rcases h' with h' | ⟨h', i'⟩
  · exact .inl (h'.trans h)
  · exact .inl (h'.trans_lt h)
  · exact .inl (h'.trans_eq h)
  · exact .inr ⟨h'.trans h, i.trans i'⟩

theorem pairwise_insert (p : Fin 8 → EReal) (a : Fin 8) (l : List (Fin 8)) (hl : l.Pairwise (Ahead p)) (ha : ∀ b ∈ l, a < b) :
    (insertBefore (fun k j => decide (p j < p k)) a l).Pairwise (Ahead p) := by
  induction l with
  | nil => exact List.pairwise_singleton _ _
  | cons b l ih =>
    have hb := List.pairwise_cons.mp hl
    unfold insertBefore
    split
    · rename_i h
      refine List.pairwise_cons.mpr ⟨fun c hc => ?_, ih hb.2 fun c hc => ha c (List.mem_cons_of_mem _ hc)⟩
      rcases List.mem_cons.mp ((perm_insertBefore _ a l).mem_iff.mp hc) with rfl | hc
      · exact .inl (of_decide_eq_true h)
      · exact hb.1 c hc
    · rename_i h
      have hba : Ahead p a b := by
        rcases lt_or_eq_of_le (not_lt.mp fun h' => h (decide_eq_true h')) with h' | h'
        · exact .inl h'
        · exact .inr ⟨h', ha b List.mem_cons_self⟩
      refine List.pairwise_cons.mpr ⟨fun c hc => ?_, hl⟩
      rcases List.mem_cons.mp hc with rfl | hc
      · exact hba
      · exact hba.trans (hb.1 c hc)

theorem pairwise_sort (p : Fin 8 → EReal) (l : List (Fin 8)) (hl : l.Pairwise (· < ·)) :
    (stableSort (fun k j => decide (p j < p k)) l).Pairwise (Ahead p) := by
  induction l with
  | nil => exact List.Pairwise.nil
  | cons a l ih =>
    have ha := List.pairwise_cons.mp hl
    unfold stableSort
    exact pairwise_insert p a _ (ih ha.2) fun b hb => ha.1 b ((perm_stableSort _ l).mem_iff.mp hb)

/-- What the sort puts at place `k`. -/
def top (p : Fin 8 → EReal) (k : Fin 8) : Fin 8 := sortedFrom (fun k j => decide (p j < p k)) k

theorem top_ahead (p : Fin 8 → EReal) (i j : Fin 8) (h : i < j) : Ahead p (top p i) (top p j) :=
  List.pairwise_iff_get.mp (pairwise_sort p (List.finRange 8) (List.pairwise_lt_finRange 8)) _ _ h

theorem top_first (p : Fin 8 → EReal) (j : Fin 8) (h : j ≠ top p 0) : Ahead p (top p 0) j := by
  obtain ⟨k, rfl⟩ := sortedFrom_surjective (fun k j => decide (p j < p k)) j
  refine top_ahead p 0 k (Fin.pos_of_ne_zero fun hk => h ?_)
  rw [hk]; rfl

theorem top_second (p : Fin 8 → EReal) (j : Fin 8) (h : j ≠ top p 0) (h' : j ≠ top p 1) : Ahead p (top p 1) j := by
  obtain ⟨k, rfl⟩ := sortedFrom_surjective (fun k j => decide (p j < p k)) j
  refine top_ahead p 1 k ?_
  have h0 : k ≠ 0 := fun hk => h (by rw [hk]; rfl)
  have h1 : k ≠ 1 := fun hk => h' (by rw [hk]; rfl)
  clear h h'
  revert k; decide

theorem top_ne (p : Fin 8 → EReal) : top p 1 ≠ top p 0 := fun h => absurd (sortedFrom_injective _ h) (by decide)

/-- The maximum over the eight is the value ahead of all others. -/
theorem fold_max (p : Fin 8 → EReal) (k : Fin 8) (h : ∀ j, j ≠ k → Ahead p k j) :
    Finset.fold max (Ideal.ofBits .f32 0xFF800000#32) p Finset.univ = p k := by
  have hb : Ideal.ofBits .f32 0xFF800000#32 = ⊥ := by simp [Ideal.ofBits, Ideal.ieee]
  rw [hb]
  refine le_antisymm (Finset.fold_max_le _ |>.mpr ⟨bot_le, fun j _ => ?_⟩) (Finset.le_fold_max _ |>.mpr (.inr ⟨k, Finset.mem_univ _, le_rfl⟩))
  by_cases hj : j = k
  · rw [hj]
  · rcases h j hj with h | ⟨h, _⟩
    · exact h.le
    · exact h.le

/-- The least marked position, by words. -/
theorem fold_min (c : Fin 8 → Prop) [DecidablePred c] (k : Fin 8) (hk : c k) (hj : ∀ j, j < k → ¬ c j) :
    Finset.fold IntOp.minsi 2147483647#32 (fun x : Fin 8 => if c x then BitVec.ofNat 32 x.val else 8#32) Finset.univ = BitVec.ofNat 32 k.val := by
  have key : ∀ (b0 b1 b2 b3 b4 b5 b6 b7 : Bool) (k : Fin 8), (![b0, b1, b2, b3, b4, b5, b6, b7] : Fin 8 → Bool) k = true →
      (∀ j, j < k → (![b0, b1, b2, b3, b4, b5, b6, b7] : Fin 8 → Bool) j = false) →
      Finset.fold IntOp.minsi 2147483647#32 (fun x : Fin 8 => if (![b0, b1, b2, b3, b4, b5, b6, b7] : Fin 8 → Bool) x = true then BitVec.ofNat 32 x.val else 8#32) Finset.univ
        = BitVec.ofNat 32 k.val := by decide +kernel
  have e : ∀ x : Fin 8, (![decide (c 0), decide (c 1), decide (c 2), decide (c 3), decide (c 4), decide (c 5), decide (c 6), decide (c 7)] : Fin 8 → Bool) x = decide (c x) := by
    intro x; fin_cases x <;> rfl
  have h := key (decide (c 0)) (decide (c 1)) (decide (c 2)) (decide (c 3)) (decide (c 4)) (decide (c 5)) (decide (c 6)) (decide (c 7)) k
    ((e k).trans (decide_eq_true hk)) (fun j hjk => (e j).trans (decide_eq_false (hj j hjk)))
  simp only [e, decide_eq_true_eq] at h
  exact h

theorem fold_first (p : Fin 8 → EReal) (k : Fin 8) (h : ∀ j, j ≠ k → Ahead p k j) :
    Finset.fold IntOp.minsi 2147483647#32 (fun x : Fin 8 => if p x = p k then BitVec.ofNat 32 x.val else 8#32) Finset.univ = BitVec.ofNat 32 k.val := by
  refine fold_min (fun x => p x = p k) k rfl fun j hj he => ?_
  rcases h j hj.ne with h | ⟨_, h⟩
  · exact h.ne he
  · exact (hj.trans h).false

/-- With the first one overwritten by something lower than all, the second one is ahead. -/
theorem second_ahead (p : Fin 8 → EReal) (b : EReal) (hb : ∀ e, b < p e) (j : Fin 8) (hj : j ≠ top p 1) :
    Ahead (fun e => if e = top p 0 then b else p e) (top p 1) j := by
  unfold Ahead
  simp only [if_neg (top_ne p)]
  by_cases h : j = top p 0
  · rw [if_pos h]; exact .inl (hb _)
  · rw [if_neg h]; exact top_second p j h hj

/-- The softmax of a row. -/
def prob (l : Fin 8 → EReal) (e : Fin 8) : EReal :=
  Ideal.div (Ideal.exp (l e - Finset.fold max (Ideal.ofBits .f32 0xFF800000#32) l Finset.univ))
    (∑ x, Ideal.exp (l x - Finset.fold max (Ideal.ofBits .f32 0xFF800000#32) l Finset.univ))

/-- A row of finite logits has positive probabilities. -/
theorem prob_pos (l : Fin 8 → ℝ) (e : Fin 8) : 0 < prob (fun x => (l x : EReal)) e := by
  unfold prob
  rw [fold_max _ (top (fun x => (l x : EReal)) 0) fun j hj => top_first _ j hj]
  generalize top (fun x => (l x : EReal)) 0 = k
  have he : ∀ x, Ideal.exp ((l x : EReal) - (l k : EReal)) = ((Real.exp (l x - l k) : ℝ) : EReal) := fun x => by
    rw [← EReal.coe_sub]; rfl
  simp only [he]
  have hs : (∑ x : Fin 8, ((Real.exp (l x - l k) : ℝ) : EReal)) = ((∑ x : Fin 8, Real.exp (l x - l k) : ℝ) : EReal) := by
    simp only [Fin.sum_univ_eight, EReal.coe_add]
  have hp : 0 < ∑ x : Fin 8, Real.exp (l x - l k) := Finset.sum_pos (fun x _ => Real.exp_pos _) Finset.univ_nonempty
  rw [hs]
  unfold Ideal.div
  rw [if_neg (by exact_mod_cast hp.ne'), ← EReal.coe_inv, ← EReal.coe_mul]
  exact_mod_cast mul_pos (Real.exp_pos _) (inv_pos.mpr hp)

end Cert.Proof.Route

end
-- ==== Proof.RoutePay.lean ====
/-
  The router's blocks at an index: each token's two greatest probabilities, divided by their sum, and their positions.
-/
module
public import proofs.«01_k».proof.Proof.Gen.RouterIdeal.Value
public import proofs.«01_k».proof.Proof.RouteTop
public import Idealize.ShloMosaic.Lib.Pointwise

@[expose] public section

noncomputable section

namespace Cert.Proof.Route

open Cert.RouterIdeal Cert.RouterIdeal.Gen Cert.RouterIdeal.Value
open Idealize.ShloMosaic Idealize.ShloMosaic.TcCoe

section Blocks
variable (X : Vec Ideal S1024x1024 .f32) (R : Vec Ideal S8x1024 .f32) (r : Fin 1024)

/-- A token's logits. -/
abbrev row (e : Fin 8) : EReal := ∑ k : Fin 1024, (X : S1024x1024.Idx → EReal) (ix2 r k) * (R : S8x1024.Idx → EReal) (ix2 e k)

theorem pay6_at (e : Fin 8) : k0_pay6 (F := Ideal) X R (ix2 r e) = prob (row X R r) e := by
  unfold prob row
  pointwise [k0_pay6]

theorem pay7_at : k0_pay7 (F := Ideal) X R (ix2 r 0) = prob (row X R r) (top (prob (row X R r)) 0) := by
  pointwise [k0_pay7]
  simp only [pay6_at]
  exact fold_max _ _ fun j hj => top_first _ j hj

theorem pay8_at : k0_pay8 (F := Ideal) X R (ix2 r 0) = BitVec.ofNat 32 (top (prob (row X R r)) 0).val := by
  pointwise [k0_pay8]
  simp only [pay6_at, pay7_at]
  exact fold_first _ _ fun j hj => top_first _ j hj

theorem minus_one : Ideal.ofBits .f32 0xBF800000#32 = ((-1 : ℝ) : EReal) := by
  simp only [Ideal.ofBits, Ideal.ieee]
  have h : 3212836864 >>> 23 % 256 = 127 := by decide
  have h' : BitVec.extractLsb' 31 1 3212836864#32 = 1#1 := by decide
  norm_num [h, h']

theorem pay9_at (e : Fin 8) : k0_pay9 (F := Ideal) X R (ix2 r e)
    = if e = top (prob (row X R r)) 0 then ((-1 : ℝ) : EReal) else prob (row X R r) e := by
  pointwise [k0_pay9]
  rw [pay6_at, pay8_at, minus_one]
  generalize top (prob (row X R r)) 0 = k
  have h : IntOp.cmpi CmpIPredicate.eq (BitVec.ofNat 32 e.val) (BitVec.ofNat 32 k.val) = if e = k then 1#1 else 0#1 := by
    revert e k; decide +kernel
  rw [h]
  by_cases he : e = k
  · rw [if_pos he, if_pos he]; rfl
  · rw [if_neg he, if_neg he]; rfl

variable (hpos : ∀ e, ((-1 : ℝ) : EReal) < prob (row X R r) e)
include hpos

theorem pay10_at : k0_pay10 (F := Ideal) X R (ix2 r 0) = prob (row X R r) (top (prob (row X R r)) 1) := by
  pointwise [k0_pay10]
  simp only [pay9_at]
  exact (fold_max _ _ fun j hj => second_ahead _ _ hpos j hj).trans (if_neg (top_ne _))

theorem pay11_at : k0_pay11 (F := Ideal) X R (ix2 r 0) = BitVec.ofNat 32 (top (prob (row X R r)) 1).val := by
  pointwise [k0_pay11]
  simp only [pay9_at, pay10_at X R r hpos]
  have h := fold_first _ _ fun j hj => second_ahead (prob (row X R r)) _ hpos j hj
  simp only [if_neg (top_ne (prob (row X R r)))] at h
  exact h

theorem pay12_at (k : Fin 2) : k0_pay12 (F := Ideal) X R (ix2 r k)
    = Ideal.div (prob (row X R r) (top (prob (row X R r)) ⟨k.val, by omega⟩)) (prob (row X R r) (top (prob (row X R r)) 0) + prob (row X R r) (top (prob (row X R r)) 1)) := by
  match k with
  | 0 =>
    have h : k0_pay12 (F := Ideal) X R (ix2 r 0) = Ideal.div (k0_pay7 (F := Ideal) X R (ix2 r 0)) (k0_pay7 (F := Ideal) X R (ix2 r 0) + k0_pay10 (F := Ideal) X R (ix2 r 0)) := by
      pointwise [k0_pay12]
    rw [pay7_at, pay10_at X R r hpos] at h
    exact h
  | 1 =>
    have h : k0_pay12 (F := Ideal) X R (ix2 r 1) = Ideal.div (k0_pay10 (F := Ideal) X R (ix2 r 0)) (k0_pay7 (F := Ideal) X R (ix2 r 0) + k0_pay10 (F := Ideal) X R (ix2 r 0)) := by
      pointwise [k0_pay12]
    rw [pay7_at, pay10_at X R r hpos] at h
    exact h

theorem pay13_at (k : Fin 2) : k0_pay13 (F := Ideal) X R (ix2 r k) = BitVec.ofNat 32 (top (prob (row X R r)) ⟨k.val, by omega⟩).val := by
  match k with
  | 0 =>
    have h : k0_pay13 (F := Ideal) X R (ix2 r 0) = k0_pay8 (F := Ideal) X R (ix2 r 0) := by
      pointwise [k0_pay13]
    rw [pay8_at] at h
    exact h
  | 1 =>
    have h : k0_pay13 (F := Ideal) X R (ix2 r 1) = k0_pay11 (F := Ideal) X R (ix2 r 0) := by
      pointwise [k0_pay13]
    rw [pay11_at X R r hpos] at h
    exact h

end Blocks

section Arrays
variable {F : FTy → Type} [FloatOps F]

theorem hz : (![0, 0] : Fin 2 → Nat) = fun _ => 0 := funext fun a => by fin_cases a <;> rfl

/- Both cases of a block store the same two results. -/
section Stored
variable (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S1024x2 .f32) (harg3 : arg3.IsWhole) (arg4 : Memref sig .tc .vmem S1024x2 .i32) (harg4 : arg4.IsWhole) (arg5 : Memref sig .tc .vmem S1024x8 .f32) (harg5 : arg5.IsWhole) (arg6 : Memref sig .tc .vmem S1x8 .f32) (harg6 : arg6.IsWhole) (arg7 : Memref sig .tc .vmem S1x8 .f32) (harg7 : arg7.IsWhole)

theorem stored_A_2 (h : cond0_0 i) (x0 : Vec F S1024x1024 .f32) (x1 : Vec F S8x1024 .f32) :
    out0_A_2 c i arg1 harg1 arg2 harg2 arg3 harg3 arg4 harg4 arg5 harg5 arg6 harg6 arg7 harg7 h x0 x1 = k0_pay12 x0 x1 := by
  unfold out0_A_2
  rw [View.read_writes_junk_eq_canon]
  show View.canon ([⟨Rect.unit ![0, 0] S1024x2.size inb_S1024x2_S1024x2_0_0,
      k0_pay12 (View.readAt (Elt F) arg1.view (Rect.unit ![0, 0] S1024x1024.size inb_S1024x1024_S1024x1024_0_0).toLoadRect (harg1.unread x0))
        (View.readAt (Elt F) arg2.view (Rect.unit ![0, 0] S8x1024.size inb_S8x1024_S8x1024_0_0).toLoadRect (harg2.unread x1))⟩] :
      List (View.Piece (Elt F) S1024x2 .f32)) = _
  rw [View.canon_unit_zero hz, View.readAt_eq_ld, View.readAt_eq_ld, harg1.read_unread, harg2.read_unread, View.ld_unit_zero hz, View.ld_unit_zero hz]

theorem stored_A_3 (h : cond0_0 i) (x0 : Vec F S1024x1024 .f32) (x1 : Vec F S8x1024 .f32) :
    out0_A_3 c i arg1 harg1 arg2 harg2 arg3 harg3 arg4 harg4 arg5 harg5 arg6 harg6 arg7 harg7 h x0 x1 = k0_pay13 x0 x1 := by
  unfold out0_A_3
  rw [View.read_writes_junk_eq_canon]
  show View.canon ([⟨Rect.unit ![0, 0] S1024x2.size inb_S1024x2_S1024x2_0_0,
      k0_pay13 (View.readAt (Elt F) arg1.view (Rect.unit ![0, 0] S1024x1024.size inb_S1024x1024_S1024x1024_0_0).toLoadRect (harg1.unread x0))
        (View.readAt (Elt F) arg2.view (Rect.unit ![0, 0] S8x1024.size inb_S8x1024_S8x1024_0_0).toLoadRect (harg2.unread x1))⟩] :
      List (View.Piece (Elt F) S1024x2 .i32)) = _
  rw [View.canon_unit_zero hz, View.readAt_eq_ld, View.readAt_eq_ld, harg1.read_unread, harg2.read_unread, View.ld_unit_zero hz, View.ld_unit_zero hz]

theorem stored_B_2 (h : ¬cond0_0 i) (x0 : Vec F S1024x1024 .f32) (x1 : Vec F S8x1024 .f32) (xs0 : Vec F S1x8 .f32) :
    out0_B_2 c i arg1 harg1 arg2 harg2 arg3 harg3 arg4 harg4 arg5 harg5 arg6 harg6 arg7 harg7 h x0 x1 xs0 = k0_pay12 x0 x1 := by
  unfold out0_B_2
  rw [View.read_writes_junk_eq_canon]
  show View.canon ([⟨Rect.unit ![0, 0] S1024x2.size inb_S1024x2_S1024x2_0_0,
      k0_pay12 (View.readAt (Elt F) arg1.view (Rect.unit ![0, 0] S1024x1024.size inb_S1024x1024_S1024x1024_0_0).toLoadRect (harg1.unread x0))
        (View.readAt (Elt F) arg2.view (Rect.unit ![0, 0] S8x1024.size inb_S8x1024_S8x1024_0_0).toLoadRect (harg2.unread x1))⟩] :
      List (View.Piece (Elt F) S1024x2 .f32)) = _
  rw [View.canon_unit_zero hz, View.readAt_eq_ld, View.readAt_eq_ld, harg1.read_unread, harg2.read_unread, View.ld_unit_zero hz, View.ld_unit_zero hz]

theorem stored_B_3 (h : ¬cond0_0 i) (x0 : Vec F S1024x1024 .f32) (x1 : Vec F S8x1024 .f32) (xs0 : Vec F S1x8 .f32) :
    out0_B_3 c i arg1 harg1 arg2 harg2 arg3 harg3 arg4 harg4 arg5 harg5 arg6 harg6 arg7 harg7 h x0 x1 xs0 = k0_pay13 x0 x1 := by
  unfold out0_B_3
  rw [View.read_writes_junk_eq_canon]
  show View.canon ([⟨Rect.unit ![0, 0] S1024x2.size inb_S1024x2_S1024x2_0_0,
      k0_pay13 (View.readAt (Elt F) arg1.view (Rect.unit ![0, 0] S1024x1024.size inb_S1024x1024_S1024x1024_0_0).toLoadRect (harg1.unread x0))
        (View.readAt (Elt F) arg2.view (Rect.unit ![0, 0] S8x1024.size inb_S8x1024_S8x1024_0_0).toLoadRect (harg2.unread x1))⟩] :
      List (View.Piece (Elt F) S1024x2 .i32)) = _
  rw [View.canon_unit_zero hz, View.readAt_eq_ld, View.readAt_eq_ld, harg1.read_unread, harg2.read_unread, View.ld_unit_zero hz, View.ld_unit_zero hz]

end Stored

variable (m : (ℓ : Loc nD τ sig) → Buf (Elt F) ℓ) (c : Dev nD)

theorem block_out (n : ℕ) (hn : n < cfg0.N) :
    (outsAt0 m c n hn).1 = k0_pay12 (iblk m c 0 ⟨n, hn⟩) (iblk m c 1 ⟨n, hn⟩)
    ∧ (outsAt0 m c n hn).2.1 = k0_pay13 (iblk m c 0 ⟨n, hn⟩) (iblk m c 1 ⟨n, hn⟩) := by
  by_cases h0 : n % 4 = 0
  · have h := outsAt0_A m c ⟨n, hn⟩ h0
    exact ⟨(congrArg (fun q => q.1) h).trans (by dsimp only; rw [stored_A_2]), (congrArg (fun q => q.2.1) h).trans (by dsimp only; rw [stored_A_3])⟩
  · have h := outsAt0_B m c ⟨n, hn⟩ h0
    exact ⟨(congrArg (fun q => q.1) h).trans (by dsimp only; rw [stored_B_2]), (congrArg (fun q => q.2.1) h).trans (by dsimp only; rw [stored_B_3])⟩

/-- The two output arrays, token by token. -/
theorem G2_at (t : Fin 4096) (k : Fin 2) (hn : t.val / 1024 < cfg0.N) :
    G2 m c (ix2 t k) = k0_pay12 (iblk m c 0 ⟨t.val / 1024, hn⟩) (iblk m c 1 ⟨t.val / 1024, hn⟩) (ix2 (⟨t.val % 1024, by omega⟩ : Fin 1024) k) := by
  have hp : pt2Of (ix2 t k) = t.val / 1024 := by
    show 1 * (t.val / 1024 - 0) + 1 * (k.val / 2 - 0) = _
    omega
  have hl : loc2Of (ix2 t k) = ix2 (⟨t.val % 1024, by omega⟩ : Fin 1024) k := funext fun a => by
    match a with
    | ⟨0, _⟩ => rfl
    | ⟨1, _⟩ => exact Fin.ext (Nat.mod_eq_of_lt k.isLt)
  unfold G2
  rw [dif_pos (show pt2Of (ix2 t k) < cfg0.N from hp ▸ hn), hl]
  have key : ∀ n (h : n < cfg0.N), n = t.val / 1024 →
      (Pipeline.accAt (fun n h => stAt0 m c n h junk0) (stAt0 m c) 0 n (by omega)).1 = k0_pay12 (iblk m c 0 ⟨t.val / 1024, hn⟩) (iblk m c 1 ⟨t.val / 1024, hn⟩) := by
    intro n h e
    subst e
    rw [← outsAt0_sweep m c _ h]
    exact (block_out m c _ h).1
  exact congrFun (key _ (hp ▸ hn) hp) _

theorem G3_at (t : Fin 4096) (k : Fin 2) (hn : t.val / 1024 < cfg0.N) :
    G3 m c (ix2 t k) = k0_pay13 (iblk m c 0 ⟨t.val / 1024, hn⟩) (iblk m c 1 ⟨t.val / 1024, hn⟩) (ix2 (⟨t.val % 1024, by omega⟩ : Fin 1024) k) := by
  have hp : pt3Of (ix2 t k) = t.val / 1024 := by
    show 1 * (t.val / 1024 - 0) + 1 * (k.val / 2 - 0) = _
    omega
  have hl : loc3Of (ix2 t k) = ix2 (⟨t.val % 1024, by omega⟩ : Fin 1024) k := funext fun a => by
    match a with
    | ⟨0, _⟩ => rfl
    | ⟨1, _⟩ => exact Fin.ext (Nat.mod_eq_of_lt k.isLt)
  unfold G3
  rw [dif_pos (show pt3Of (ix2 t k) < cfg0.N from hp ▸ hn), hl]
  have key : ∀ n (h : n < cfg0.N), n = t.val / 1024 →
      (Pipeline.accAt (fun n h => stAt0 m c n h junk0) (stAt0 m c) 0 n (by omega)).2.1 = k0_pay13 (iblk m c 0 ⟨t.val / 1024, hn⟩) (iblk m c 1 ⟨t.val / 1024, hn⟩) := by
    intro n h e
    subst e
    rw [← outsAt0_sweep m c _ h]
    exact (block_out m c _ h).2
  exact congrFun (key _ (hp ▸ hn) hp) _

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = 0 ∧ win0_1.index t (1 : Fin 2) = 0 := (by decide +kernel : ∀ t : Fin grid0.N, _)

theorem iblk0_at (n : Fin cfg0.N) (r k : Fin 1024) (t : Fin 4096) (ht : t.val = n.val * 1024 + r.val) :
    (iblk m c 0 n : Vec F S1024x1024 .f32) (ix2 r k) = (shapeCast S4096x1024 (m ((c : Thread nD τ).loc main_arg0) : Vec F S2x2048x1024 .f32) shapeCasts_S2x2048x1024_S4096x1024 : Vec F S4096x1024 .f32) (ix2 t k) := by
  have e : ((cfg0.win 0).blk n).view.emb (ix2 r k) = ix2 t k := by
    funext a
    match a with
    | 0 => exact Fin.ext ((Pipeline.Window.rect_emb_val (cfg0.win 0) n _ 0).trans (by
        show win0_0.index n (0 : Fin 2) * 1024 + r.val = t.val
        rw [(index_0 n).1, ht]))
    | 1 => exact Fin.ext ((Pipeline.Window.rect_emb_val (cfg0.win 0) n _ 1).trans (by
        show win0_0.index n (1 : Fin 2) * 1024 + k.val = k.val
        rw [(index_0 n).2]; omega))
  have hV : V m c main_v0 = shapeCast S4096x1024 (m ((c : Thread nD τ).loc main_arg0) : Vec F S2x2048x1024 .f32) shapeCasts_S2x2048x1024_S4096x1024 := by
    unfold V
    after_results
    rfl
  show V m c main_v0 (((cfg0.win 0).blk n).view.emb (ix2 r k)) = _
  rw [e, hV]

theorem iblk1_at (n : Fin cfg0.N) (e : Fin 8) (k : Fin 1024) :
    (iblk m c 1 n : Vec F S8x1024 .f32) (ix2 e k) = (m ((c : Thread nD τ).loc main_arg1) : Vec F S8x1024 .f32) (ix2 e k) := by
  have he : ((cfg0.win 1).blk n).view.emb (ix2 e k) = ix2 e k := by
    funext a
    match a with
    | 0 => exact Fin.ext ((Pipeline.Window.rect_emb_val (cfg0.win 1) n _ 0).trans (by
        show win0_1.index n (0 : Fin 2) * 8 + e.val = e.val
        rw [(index_1 n).1]; omega))
    | 1 => exact Fin.ext ((Pipeline.Window.rect_emb_val (cfg0.win 1) n _ 1).trans (by
        show win0_1.index n (1 : Fin 2) * 1024 + k.val = k.val
        rw [(index_1 n).2]; omega))
  have hV : V m c main_arg1 = m ((c : Thread nD τ).loc main_arg1) := by
    unfold V
    after_results
  show V m c main_arg1 (((cfg0.win 1).blk n).view.emb (ix2 e k)) = _
  rw [he, hV]

end Arrays

end Cert.Proof.Route

end
-- ==== Proof.RouteRef.lean ====
/-
  The reference's routing at an index, and what the precondition says.
-/
module
public import proofs.«01_k».proof.Proof.Gen.RoutingIdeal.Run
public import proofs.«01_k».proof.Pre_finite
public import proofs.«01_k».proof.Proof.RouteTop
public import Idealize.ShloMosaic.Lib.Pointwise
public import Idealize.ShloMosaic.Lib.ReduceAll

@[expose] public section

noncomputable section

namespace Cert.Pre_finite

open Idealize.ShloMosaic

instance facts : Facts where
  bcast_S_S2x2048x1024 := by decide
  reducesTo_S2x2048x1024_S_d0_1_2 := by decide
  h_S_ := by decide
  bcast_S_S8x1024 := by decide
  reducesTo_S8x1024_S_d0_1 := by decide

theorem real_of (x : EReal) (h : Ideal.cmp .olt (max x (-x)) (Ideal.ofBits .f32 0x7F800000#32) = 1#1) : ∃ y : ℝ, x = (y : EReal) := by
  have ht : Ideal.ofBits .f32 0x7F800000#32 = ⊤ := by simp [Ideal.ofBits, Ideal.ieee]
  rw [ht] at h
  induction x with
  | bot => simp [Ideal.cmp] at h
  | coe y => exact ⟨y, rfl⟩
  | top => simp [Ideal.cmp] at h

theorem reals (x : FVec Ideal S2x2048x1024 .f32) (w : FVec Ideal S8x1024 .f32) (h : fn x w = fun _ => 1#1) :
    (∀ i, ∃ y : ℝ, (x i : EReal) = (y : EReal)) ∧ (∀ i, ∃ y : ℝ, (w i : EReal) = (y : EReal)) := by
  have h := congrFun h (fun a => a.elim0)
  dsimp only [fn] at h
  simp only [andi, IntOp.andi_eq_one] at h
  exact ⟨fun i => real_of _ (Host.reduce_andi_all _ _ _ _ _ h.1 i), fun i => real_of _ (Host.reduce_andi_all _ _ _ _ _ h.2 i)⟩

end Cert.Pre_finite

namespace Cert.Proof.Route

open Cert.RoutingIdeal Cert.RoutingIdeal.Gen Cert.RoutingIdeal.Value
open Idealize.ShloMosaic Idealize.ShloMosaic.TcCoe

/-- The position the sort puts at a place of a row. -/
theorem sorted_row (P : FVec Ideal S4096x8 .f32) (t : Fin 4096) (k : Fin 8) :
    sortedFrom (fun x x' : Fin 8 => FloatOps.cmpfTotal (F := Ideal) (φ := .f32) .gt (P (ix2 t x)) (P (ix2 t x')) == 1#1) k
      = top (fun e => (P (ix2 t e) : EReal)) k := by
  unfold top
  congr 1
  funext x x'
  show (Ideal.cmp .ogt (P (ix2 t x)) (P (ix2 t x')) == 1#1) = _
  unfold Ideal.cmp
  by_cases h : (P (ix2 t x') : EReal) < P (ix2 t x)
  · simp [h]
  · simp [h]

theorem topK_at (P : FVec Ideal S4096x8 .f32) (h : S4096x8.Slices (fun _ => 0) S4096x2) (t : Fin 4096) (k : Fin 2) :
    (Host.topK S4096x2 1 (FloatOps.cmpfTotal (F := Ideal) (φ := .f32) .gt) P h).1 (ix2 t k) = P (ix2 t (top (fun e => (P (ix2 t e) : EReal)) ⟨k.val, by omega⟩))
    ∧ (Host.topK S4096x2 1 (FloatOps.cmpfTotal (F := Ideal) (φ := .f32) .gt) P h).2 (ix2 t k) = BitVec.ofNat 32 (top (fun e => (P (ix2 t e) : EReal)) ⟨k.val, by omega⟩).val := by
  have al : ∀ (h : 1 < S4096x8.rank) (q : Fin 8) (x : Fin (S4096x8.size ⟨1, h⟩)), (ix2 t q : S4096x8.Idx).along ⟨1, h⟩ x = ix2 t (x : Fin 8) := fun h q x => by
    funext a
    match a with
    | ⟨0, _⟩ => rfl
    | ⟨1, _⟩ => rfl
  have hk : k.val < 8 := by omega
  have hk' : (⟨0 + k.val, by omega⟩ : Fin 8) = ⟨k.val, hk⟩ := Fin.ext (Nat.zero_add _)
  have hs := (sorted_row P t ⟨0 + k.val, by omega⟩).trans (congrArg (top fun e => (P (ix2 t e) : EReal)) hk')
  unfold Host.topK Host.sort2 extractStridedSlice
  simp only [dif_pos (show 1 < S4096x8.rank from by decide)]
  have ei : (fun a => ⟨0 + ((ix2 t k : S4096x2.Idx) (a.cast h.1.symm)).val, Nat.lt_of_lt_of_le (Nat.add_lt_add_left ((ix2 t k : S4096x2.Idx) _).isLt _) (h.2 a)⟩ : S4096x8.Idx)
      = ix2 t (⟨0 + k.val, by omega⟩ : Fin 8) := funext fun a => by
    match a with
    | ⟨0, _⟩ => exact Fin.ext (Nat.zero_add _)
    | ⟨1, _⟩ => rfl
  rw [ei]
  simp only [al]
  exact ⟨congrArg (fun q : Fin 8 => P (ix2 t q)) hs, congrArg (fun q : Fin 8 => BitVec.ofNat 32 q.val) hs⟩

theorem coe_total {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- A token's logits, as the reference has them. -/
abbrev logits (X : FVec Ideal S4096x1024 .f32) (R : FVec Ideal S8x1024 .f32) (t : Fin 4096) (e : Fin 8) : EReal :=
  ∑ k : Fin 1024, (X (ix2 t k) : EReal) * R (ix2 e k)

/-- The softmax of every row. -/
abbrev soft (L : FVec Ideal S4096x8 .f32) : FVec Ideal S4096x8 .f32 :=
  Host.divf (Host.exp (subf L (broadcastInDim S4096x8 ![0,1] bcast_S4096x1_S4096x8_0_1 (broadcastInDim S4096x1 ![0] bcast_S4096_S4096x1_0 (maximumf (broadcastInDim S4096 ![] bcast_S_S4096 (constant S_ .f32 0xFF800000#32)) (Host.reduce FloatOps.maximumf L (constant S_ .f32 0xFF800000#32) reducesTo_S4096x8_S4096_d1 h_S_))))))
    (broadcastInDim S4096x8 ![0,1] bcast_S4096x1_S4096x8_0_1 (broadcastInDim S4096x1 ![0] bcast_S4096_S4096x1_0 (Host.reduceAdd (Host.exp (subf L (broadcastInDim S4096x8 ![0,1] bcast_S4096x1_S4096x8_0_1 (broadcastInDim S4096x1 ![0] bcast_S4096_S4096x1_0 (maximumf (broadcastInDim S4096 ![] bcast_S_S4096 (constant S_ .f32 0xFF800000#32)) (Host.reduce FloatOps.maximumf L (constant S_ .f32 0xFF800000#32) reducesTo_S4096x8_S4096_d1 h_S_)))))) (constant S_ .f32 0x00000000#32) reducesTo_S4096x8_S4096_d1 h_S_)))

abbrev dots (X : FVec Ideal S4096x1024 .f32) (R : FVec Ideal S8x1024 .f32) : FVec Ideal S4096x8 .f32 :=
  Host.dotGeneral dot_S4096x1024_S1024x8_S4096x8_1_0_0_1_n_n none X (transpose S1024x8 [1, 0] R transposes_S8x1024_S1024x8_1_0)

theorem soft_at (X : FVec Ideal S4096x1024 .f32) (R : FVec Ideal S8x1024 .f32) (t : Fin 4096) (e : Fin 8) :
    soft (dots X R) (ix2 t e) = prob (logits X R t) e := by
  have hb : Ideal.ofBits .f32 4286578688#32 = ⊥ := by simp [Ideal.ofBits, Ideal.ieee]
  unfold prob logits
  pointwise
  simp only [hb, bot_le, max_eq_right]

/-- Each row of two over its sum. -/
abbrev normed (T : FVec Ideal S4096x2 .f32) : FVec Ideal S4096x2 .f32 :=
  Host.divf T (broadcastInDim S4096x2 ![0,1] bcast_S4096x1_S4096x2_0_1 (broadcastInDim S4096x1 ![0] bcast_S4096_S4096x1_0 (Host.reduceAdd T (constant S_ .f32 0x00000000#32) reducesTo_S4096x2_S4096_d1 h_S_)))

theorem norm_at (T : FVec Ideal S4096x2 .f32) (t : Fin 4096) (k : Fin 2) :
    normed T (ix2 t k)
      = Ideal.div (T (ix2 t k)) (T (ix2 t 0) + T (ix2 t 1)) := by
  pointwise
  rw [Fin.sum_univ_two]

/-- The logits of finite arguments are real, so their softmax is positive. -/
theorem soft_pos (X : FVec Ideal S4096x1024 .f32) (R : FVec Ideal S8x1024 .f32) (hX : ∀ i, ∃ y : ℝ, (X i : EReal) = (y : EReal))
    (hR : ∀ i, ∃ y : ℝ, (R i : EReal) = (y : EReal)) (t : Fin 4096) (e : Fin 8) : ((-1 : ℝ) : EReal) < prob (logits X R t) e := by
  choose f hf using hX
  choose g hg using hR
  have h : logits X R t = fun e => ((∑ k : Fin 1024, f (ix2 t k) * g (ix2 e k) : ℝ) : EReal) := by
    funext e
    unfold logits
    simp only [hf, hg]
    rw [← coe_total]
    simp only [EReal.coe_mul]
  rw [h]
  exact lt_trans (by exact_mod_cast (by norm_num : (-1 : ℝ) < 0)) (prob_pos _ e)

end Cert.Proof.Route

end
-- ==== Proof.Route.lean ====
/-
  The router: its frames, and its two results against the reference's.
-/
module
public import proofs.«01_k».proof.Defs
public import proofs.«01_k».proof.Proof.Gen.Router.Frame
public import proofs.«01_k».proof.Proof.RoutePay
public import proofs.«01_k».proof.Proof.RouteRef

@[expose] public section

noncomputable section

namespace Cert.Proof

open Idealize.ShloMosaic Idealize.ShloMosaic.TcCoe Idealize.SL.Sem

theorem frame_Router : Cert.quiescent_Router := fun m g _ => Router.Gen.frame m g

theorem frame_RouterIdeal : Cert.quiescent_RouterIdeal := fun m g _ => RouterIdeal.Gen.frame m g

theorem frame_RouterIdeal_finite : Cert.quiescent_RouterIdeal_pre_finite := fun m g _ => frame_RouterIdeal m g ⟨⟩

theorem frame_RoutingIdeal : Cert.quiescent_RoutingIdeal := fun m g _ =>
  (θ_run RoutingIdeal.defs _ _).mono (fun r h => ⟨fun c => (h c).2.2, sem_eq_zero_of_no_sems (by decide) r.2⟩)
    (RoutingIdeal.Value.run (F := Ideal) m g)

theorem frame_RoutingIdeal_finite : Cert.quiescent_RoutingIdeal_pre_finite := fun m g _ => frame_RoutingIdeal m g trivial

namespace Route

/-- The tokens in one axis. -/
abbrev flat (x : FVec Ideal RoutingIdeal.S2x2048x1024 .f32) : FVec Ideal RoutingIdeal.S4096x1024 .f32 :=
  shapeCast RoutingIdeal.S4096x1024 x RoutingIdeal.Gen.shapeCasts_S2x2048x1024_S4096x1024

variable (m : (ℓ : Loc RouterIdeal.nD RouterIdeal.τ RouterIdeal.sig) → Buf (Elt Ideal) ℓ) (c : Dev RouterIdeal.nD)

abbrev X0 : FVec Ideal RoutingIdeal.S2x2048x1024 .f32 := m (c.tc.loc RouterIdeal.main_arg0)
abbrev R0 : FVec Ideal RoutingIdeal.S8x1024 .f32 := m (c.tc.loc RouterIdeal.main_arg1)

/-- A token's probabilities. -/
abbrev pr (t : Fin 4096) : Fin 8 → EReal := prob (logits (flat (X0 m c)) (R0 m c) t)

theorem row_eq (t : Fin 4096) (hn : t.val / 1024 < RouterIdeal.cfg0.N) :
    row (RouterIdeal.Gen.iblk m c 0 ⟨t.val / 1024, hn⟩) (RouterIdeal.Gen.iblk m c 1 ⟨t.val / 1024, hn⟩) ⟨t.val % 1024, Nat.mod_lt _ (by decide)⟩
      = logits (flat (X0 m c)) (R0 m c) t := by
  funext e
  refine Finset.sum_congr rfl fun k _ => ?_
  rw [iblk0_at m c ⟨t.val / 1024, hn⟩ ⟨t.val % 1024, Nat.mod_lt _ (by decide)⟩ k t (Nat.div_add_mod' t.val 1024).symm, iblk1_at]

variable (hX : ∀ i, ∃ y : ℝ, (X0 m c i : EReal) = (y : EReal)) (hR : ∀ i, ∃ y : ℝ, (R0 m c i : EReal) = (y : EReal))
include hX hR

theorem weights (t : Fin 4096) (k : Fin 2) :
    (RouterIdeal.Value.G2 m c (ix2 t k) : EReal)
      = Ideal.div (pr m c t (top (pr m c t) ⟨k.val, lt_trans k.isLt (by decide)⟩))
        (pr m c t (top (pr m c t) 0)
          + pr m c t (top (pr m c t) 1)) := by
  have hn : t.val / 1024 < RouterIdeal.cfg0.N := by
    exact (Nat.div_lt_of_lt_mul t.isLt : t.val / 1024 < 4)
  rw [G2_at m c t k hn]
  have h := pay12_at (RouterIdeal.Gen.iblk m c 0 ⟨t.val / 1024, hn⟩) (RouterIdeal.Gen.iblk m c 1 ⟨t.val / 1024, hn⟩) ⟨t.val % 1024, Nat.mod_lt _ (by decide)⟩
    (by rw [row_eq]; exact soft_pos _ _ (fun i => hX _) hR t) k
  rw [row_eq] at h
  exact h

theorem places (t : Fin 4096) (k : Fin 2) :
    (RouterIdeal.Value.G3 m c (ix2 t k) : BitVec 32) = BitVec.ofNat 32 (top (pr m c t) ⟨k.val, lt_trans k.isLt (by decide)⟩).val := by
  have hn : t.val / 1024 < RouterIdeal.cfg0.N := by
    exact (Nat.div_lt_of_lt_mul t.isLt : t.val / 1024 < 4)
  rw [G3_at m c t k hn]
  have h := pay13_at (RouterIdeal.Gen.iblk m c 0 ⟨t.val / 1024, hn⟩) (RouterIdeal.Gen.iblk m c 1 ⟨t.val / 1024, hn⟩) ⟨t.val % 1024, Nat.mod_lt _ (by decide)⟩
    (by rw [row_eq]; exact soft_pos _ _ (fun i => hX _) hR t) k
  rw [row_eq] at h
  exact h

end Route

open Route in
theorem routing : Cert.algebraic_RouterIdeal_RoutingIdeal_pre_finite := fun m g m' g' h hm => by
  refine ⟨RouterIdeal.Value.G2 m, RouterIdeal.Value.G3 m,
    (θ_run RouterIdeal.defs _ _).mono (fun r hr c => ⟨(hr c).1, (hr c).2.1, (hr c).2.2.2.2⟩) (RouterIdeal.Value.run (F := Ideal) m g),
    (θ_run RoutingIdeal.defs _ _).mono (fun r hr c => ⟨(hr c).1.trans ?_, (hr c).2.1.trans ?_, (hr c).2.2⟩) (RoutingIdeal.Value.run (F := Ideal) m' g')⟩
  all_goals
    obtain ⟨hX, hR⟩ := Pre_finite.reals (X0 m c) (R0 m c) (h c)
    have h0 : (m' (c.tc.loc RoutingIdeal.main_arg0) : FVec Ideal RoutingIdeal.S2x2048x1024 .f32) = X0 m c := (hm c).1
    have h1 : (m' (c.tc.loc RoutingIdeal.main_arg1) : FVec Ideal RoutingIdeal.S8x1024 .f32) = R0 m c := (hm c).2
    have hs : ∀ t, (fun e => (soft (dots (flat (X0 m c)) (R0 m c)) (ix2 t e) : EReal)) = pr m c t := fun t => funext fun e => soft_at _ _ t e
  · have hv : RoutingIdeal.Value.res_main_v17 m' c = normed (Host.topK RoutingIdeal.S4096x2 1 (FloatOps.cmpfTotal .gt) (soft (dots (flat (X0 m c)) (R0 m c))) RoutingIdeal.Gen.sliceFits_S4096x8_S4096x2).1 := by
      unfold RoutingIdeal.Value.res_main_v17
      rw [h0, h1]
    rw [hv]
    funext i
    obtain ⟨t, k, rfl⟩ : ∃ (t : Fin 4096) (k : Fin 2), i = ix2 t k := ⟨i 0, i 1, funext fun a => by match a with | ⟨0, _⟩ => rfl | ⟨1, _⟩ => rfl⟩
    refine (norm_at _ t k).trans ?_
    rw [(topK_at _ _ t k).1, (topK_at _ _ t 0).1, (topK_at _ _ t 1).1, hs, soft_at, soft_at, soft_at, weights m c hX hR]
    rfl
  · rw [h0, h1]
    funext i
    obtain ⟨t, k, rfl⟩ : ∃ (t : Fin 4096) (k : Fin 2), i = ix2 t k := ⟨i 0, i 1, funext fun a => by match a with | ⟨0, _⟩ => rfl | ⟨1, _⟩ => rfl⟩
    refine (topK_at (soft (dots (flat (X0 m c)) (R0 m c))) _ t k).2.trans ?_
    rw [hs, places m c hX hR]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.Router.Value
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RoutingIdeal
public import proofs.«01_k».proof.Proof.Gen.RoutingIdeal.Run
public import proofs.«01_k».proof.Proof.Top
public import proofs.«01_k».proof.Proof.Alg
public import proofs.«01_k».proof.Proof.Route

@[expose] public section

noncomputable section

namespace Cert.Proof

open Idealize.ShloMosaic Idealize.SL.Sem

theorem claim : Cert.Claim :=
  ⟨inferInstance, inferInstance, inferInstance, inferInstance, inferInstance, inferInstance, inferInstance, inferInstance,
    frame_Kernel, frame_KernelIdeal, frame_ReferenceIdeal, frame_ReferenceIdeal_plan, frame_Router, frame_RouterIdeal, frame_RouterIdeal_finite,
    frame_RoutingIdeal, frame_RoutingIdeal_finite, trivial, algebraic, trivial, routing⟩

end Cert.Proof

end
